-- ==== Defs.lean ====
def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkRefIdeal (m : (ℓ : Loc Cert.TopkRefIdeal.nD Cert.TopkRefIdeal.τ Cert.TopkRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite [hPre_finite : Cert.Pre_finite.Facts] (m : (ℓ : Loc Cert.PoolIdeal.nD Cert.PoolIdeal.τ Cert.PoolIdeal.sig) → Buf (Elt Ideal) ℓ) : Prop :=
  ∀ c : Dev Cert.PoolIdeal.nD,
    (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite [hPre_finite : Cert.Pre_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSIdeal_finite_rows [hPre_finite_rows : Cert.Pre_finite_rows.Facts] (m : (ℓ : Loc Cert.PoolSIdeal.nD Cert.PoolSIdeal.τ Cert.PoolSIdeal.sig) → Buf (Elt Ideal) ℓ) : Prop :=
  ∀ c : Dev Cert.PoolSIdeal.nD,
    (Cert.Pre_finite_rows.fn (F := Ideal) (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1)) (m ((c.tc : Thread Cert.PoolSIdeal.nD Cert.PoolSIdeal.τ).loc Cert.PoolSIdeal.main_arg2)) (m ((c.tc : Thread Cert.PoolSIdeal.nD Cert.PoolSIdeal.τ).loc Cert.PoolSIdeal.main_arg3))) = (fun _ => 1#1)

def Pre_PoolSRefIdeal (m : (ℓ : Loc Cert.PoolSRefIdeal.nD Cert.PoolSRefIdeal.τ Cert.PoolSRefIdeal.sig) → Buf (Elt Ideal) ℓ) : Prop :=
  True

def Pre_PoolSRefIdeal_finite_rows [hPre_finite_rows : Cert.Pre_finite_rows.Facts] (m : (ℓ : Loc Cert.PoolSRefIdeal.nD Cert.PoolSRefIdeal.τ Cert.PoolSRefIdeal.sig) → Buf (Elt Ideal) ℓ) : Prop :=
  ∀ c : Dev Cert.PoolSRefIdeal.nD,
    (Cert.Pre_finite_rows.fn (F := Ideal) (m ((c.tc : Thread Cert.PoolSRefIdeal.nD Cert.PoolSRefIdeal.τ).loc Cert.PoolSRefIdeal.main_arg0)) (m ((c.tc : Thread Cert.PoolSRefIdeal.nD Cert.PoolSRefIdeal.τ).loc Cert.PoolSRefIdeal.main_arg1)) (m ((c.tc : Thread Cert.PoolSRefIdeal.nD Cert.PoolSRefIdeal.τ).loc Cert.PoolSRefIdeal.main_arg2)) (m ((c.tc : Thread Cert.PoolSRefIdeal.nD Cert.PoolSRefIdeal.τ).loc Cert.PoolSRefIdeal.main_arg3))) = (fun _ => 1#1)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkRefIdeal [hTopkRefIdeal : Cert.TopkRefIdeal.Facts] : Prop :=
  ∀ (m : (ℓ : Loc Cert.TopkRefIdeal.nD Cert.TopkRefIdeal.τ Cert.TopkRefIdeal.sig) → Buf (Elt Ideal) ℓ) (g : Dev Cert.TopkRefIdeal.nD → PrngReg), Pre_TopkRefIdeal m →
    θ_run (Cert.TopkRefIdeal.defs (F := Ideal)) (onTc (τ := Cert.TopkRefIdeal.τ) (Cert.TopkRefIdeal.main (F := Ideal))) ⟨m, fun _ => 0, g⟩ (fun r => (∀ c : Dev Cert.TopkRefIdeal.nD,
      r.2.mem ((c.tc : Thread Cert.TopkRefIdeal.nD Cert.TopkRefIdeal.τ).loc Cert.TopkRefIdeal.main_arg0) = m ((c.tc : Thread Cert.TopkRefIdeal.nD Cert.TopkRefIdeal.τ).loc Cert.TopkRefIdeal.main_arg0)
      ∧ r.2.mem ((c.tc : Thread Cert.TopkRefIdeal.nD Cert.TopkRefIdeal.τ).loc Cert.TopkRefIdeal.main_arg1) = m ((c.tc : Thread Cert.TopkRefIdeal.nD Cert.TopkRefIdeal.τ).loc Cert.TopkRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite [hPoolIdeal : Cert.PoolIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_finite [hPoolRefIdeal : Cert.PoolRefIdeal.Facts] [hPre_finite : Cert.Pre_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_PoolSIdeal_pre_finite_rows [hPoolSIdeal : Cert.PoolSIdeal.Facts] [hPre_finite_rows : Cert.Pre_finite_rows.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal_finite_rows m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3))
      ∧ r.2.sem = fun _ => 0)

def quiescent_PoolSRefIdeal_pre_finite_rows [hPoolSRefIdeal : Cert.PoolSRefIdeal.Facts] [hPre_finite_rows : Cert.Pre_finite_rows.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal_finite_rows m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3))
      ∧ r.2.sem = fun _ => 0)

def preserves_Topk_TopkIdeal : Prop :=
  True

def algebraic_TopkIdeal_TopkRefIdeal_on_selected [hTopkIdeal : Cert.TopkIdeal.Facts] [hTopkRefIdeal : Cert.TopkRefIdeal.Facts] [hOn_selected : Cert.On_selected.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkRefIdeal.nD Cert.TopkRefIdeal.τ Cert.TopkRefIdeal.sig) → Buf (Elt Ideal) ℓ) (g' : Dev Cert.TopkRefIdeal.nD → PrngReg), Pre_TopkIdeal m →
    (∀ c : Dev Cert.TopkIdeal.nD,
      m' ((c.tc : Thread Cert.TopkRefIdeal.nD Cert.TopkRefIdeal.τ).loc Cert.TopkRefIdeal.main_arg0) = m ((c.tc : Thread Cert.TopkIdeal.nD Cert.TopkIdeal.τ).loc Cert.TopkIdeal.main_arg0)
      ∧ m' ((c.tc : Thread Cert.TopkRefIdeal.nD Cert.TopkRefIdeal.τ).loc Cert.TopkRefIdeal.main_arg1) = m ((c.tc : Thread Cert.TopkIdeal.nD Cert.TopkIdeal.τ).loc Cert.TopkIdeal.main_arg1)) →
    ∃ (v0 : (c : Dev Cert.TopkIdeal.nD) → Buf (Elt Ideal) ((c.tc : Thread Cert.TopkIdeal.nD Cert.TopkIdeal.τ).loc Cert.TopkIdeal.main_v2)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          (∀ i : (⟨3, ![128, 16, 128]⟩ : Shape).Idx, (Cert.On_selected.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1))) i = 1#1 → r.2.mem ((c.tc : Thread Cert.TopkIdeal.nD Cert.TopkIdeal.τ).loc Cert.TopkIdeal.main_v2) i = v0 c i)
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ θ_run (Cert.TopkRefIdeal.defs (F := Ideal)) (onTc (τ := Cert.TopkRefIdeal.τ) (Cert.TopkRefIdeal.main (F := Ideal))) ⟨m', fun _ => 0, g'⟩ (fun r => ∀ c : Dev Cert.TopkRefIdeal.nD,
          (∀ i : (⟨3, ![128, 16, 128]⟩ : Shape).Idx, (Cert.On_selected.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1))) i = 1#1 → r.2.mem ((c.tc : Thread Cert.TopkRefIdeal.nD Cert.TopkRefIdeal.τ).loc Cert.TopkRefIdeal.main_v4) i = v0 c i)
          ∧ r.2.mem ((c.tc : Thread Cert.TopkRefIdeal.nD Cert.TopkRefIdeal.τ).loc Cert.TopkRefIdeal.main_arg0) = m' ((c.tc : Thread Cert.TopkRefIdeal.nD Cert.TopkRefIdeal.τ).loc Cert.TopkRefIdeal.main_arg0)
          ∧ r.2.mem ((c.tc : Thread Cert.TopkRefIdeal.nD Cert.TopkRefIdeal.τ).loc Cert.TopkRefIdeal.main_arg1) = m' ((c.tc : Thread Cert.TopkRefIdeal.nD Cert.TopkRefIdeal.τ).loc Cert.TopkRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v21_0)) (v1 : (c : Dev Cert.ProjIdeal.nD) → Buf (Elt Ideal) ((c.tc : Thread Cert.ProjIdeal.nD Cert.ProjIdeal.τ).loc Cert.ProjIdeal.main_v21_1)) (v2 : (c : Dev Cert.ProjIdeal.nD) → Buf (Elt Ideal) ((c.tc : Thread Cert.ProjIdeal.nD Cert.ProjIdeal.τ).loc Cert.ProjIdeal.main_v21_2)) (v3 : (c : Dev Cert.ProjIdeal.nD) → Buf (Elt Ideal) ((c.tc : Thread Cert.ProjIdeal.nD Cert.ProjIdeal.τ).loc Cert.ProjIdeal.main_v21_3)) (v4 : (c : Dev Cert.ProjIdeal.nD) → Buf (Elt Ideal) ((c.tc : Thread Cert.ProjIdeal.nD Cert.ProjIdeal.τ).loc Cert.ProjIdeal.main_v21_4)) (v5 : (c : Dev Cert.ProjIdeal.nD) → Buf (Elt Ideal) ((c.tc : Thread Cert.ProjIdeal.nD Cert.ProjIdeal.τ).loc Cert.ProjIdeal.main_v21_5)) (v6 : (c : Dev Cert.ProjIdeal.nD) → Buf (Elt Ideal) ((c.tc : Thread Cert.ProjIdeal.nD Cert.ProjIdeal.τ).loc Cert.ProjIdeal.main_v21_6)) (v7 : (c : Dev Cert.ProjIdeal.nD) → Buf (Elt Ideal) ((c.tc : Thread Cert.ProjIdeal.nD Cert.ProjIdeal.τ).loc Cert.ProjIdeal.main_v21_7)) (v8 : (c : Dev Cert.ProjIdeal.nD) → Buf (Elt Ideal) ((c.tc : Thread Cert.ProjIdeal.nD Cert.ProjIdeal.τ).loc Cert.ProjIdeal.main_v21_8)) (v9 : (c : Dev Cert.ProjIdeal.nD) → Buf (Elt Ideal) ((c.tc : Thread Cert.ProjIdeal.nD Cert.ProjIdeal.τ).loc Cert.ProjIdeal.main_v23)) (v10 : (c : Dev Cert.ProjIdeal.nD) → Buf (Elt Ideal) ((c.tc : Thread Cert.ProjIdeal.nD Cert.ProjIdeal.τ).loc Cert.ProjIdeal.main_v25)) (v11 : (c : Dev Cert.ProjIdeal.nD) → Buf (Elt Ideal) ((c.tc : Thread Cert.ProjIdeal.nD Cert.ProjIdeal.τ).loc Cert.ProjIdeal.main_v28)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21_0) = v0 c
          ∧ r.2.mem ((c.tc : Thread Cert.ProjIdeal.nD Cert.ProjIdeal.τ).loc Cert.ProjIdeal.main_v21_1) = v1 c
          ∧ r.2.mem ((c.tc : Thread Cert.ProjIdeal.nD Cert.ProjIdeal.τ).loc Cert.ProjIdeal.main_v21_2) = v2 c
          ∧ r.2.mem ((c.tc : Thread Cert.ProjIdeal.nD Cert.ProjIdeal.τ).loc Cert.ProjIdeal.main_v21_3) = v3 c
          ∧ r.2.mem ((c.tc : Thread Cert.ProjIdeal.nD Cert.ProjIdeal.τ).loc Cert.ProjIdeal.main_v21_4) = v4 c
          ∧ r.2.mem ((c.tc : Thread Cert.ProjIdeal.nD Cert.ProjIdeal.τ).loc Cert.ProjIdeal.main_v21_5) = v5 c
          ∧ r.2.mem ((c.tc : Thread Cert.ProjIdeal.nD Cert.ProjIdeal.τ).loc Cert.ProjIdeal.main_v21_6) = v6 c
          ∧ r.2.mem ((c.tc : Thread Cert.ProjIdeal.nD Cert.ProjIdeal.τ).loc Cert.ProjIdeal.main_v21_7) = v7 c
          ∧ r.2.mem ((c.tc : Thread Cert.ProjIdeal.nD Cert.ProjIdeal.τ).loc Cert.ProjIdeal.main_v21_8) = v8 c
          ∧ r.2.mem ((c.tc : Thread Cert.ProjIdeal.nD Cert.ProjIdeal.τ).loc Cert.ProjIdeal.main_v23) = v9 c
          ∧ r.2.mem ((c.tc : Thread Cert.ProjIdeal.nD Cert.ProjIdeal.τ).loc Cert.ProjIdeal.main_v25) = v10 c
          ∧ r.2.mem ((c.tc : Thread Cert.ProjIdeal.nD Cert.ProjIdeal.τ).loc Cert.ProjIdeal.main_v28) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v75) = v0 c
          ∧ r.2.mem ((c.tc : Thread Cert.ProjRefIdeal.nD Cert.ProjRefIdeal.τ).loc Cert.ProjRefIdeal.main_v79) = v1 c
          ∧ r.2.mem ((c.tc : Thread Cert.ProjRefIdeal.nD Cert.ProjRefIdeal.τ).loc Cert.ProjRefIdeal.main_v73) = v2 c
          ∧ r.2.mem ((c.tc : Thread Cert.ProjRefIdeal.nD Cert.ProjRefIdeal.τ).loc Cert.ProjRefIdeal.main_v80) = v3 c
          ∧ r.2.mem ((c.tc : Thread Cert.ProjRefIdeal.nD Cert.ProjRefIdeal.τ).loc Cert.ProjRefIdeal.main_v74) = v4 c
          ∧ r.2.mem ((c.tc : Thread Cert.ProjRefIdeal.nD Cert.ProjRefIdeal.τ).loc Cert.ProjRefIdeal.main_v81) = v5 c
          ∧ r.2.mem ((c.tc : Thread Cert.ProjRefIdeal.nD Cert.ProjRefIdeal.τ).loc Cert.ProjRefIdeal.main_v82) = v6 c
          ∧ r.2.mem ((c.tc : Thread Cert.ProjRefIdeal.nD Cert.ProjRefIdeal.τ).loc Cert.ProjRefIdeal.main_v83) = v7 c
          ∧ r.2.mem ((c.tc : Thread Cert.ProjRefIdeal.nD Cert.ProjRefIdeal.τ).loc Cert.ProjRefIdeal.main_v84) = v8 c
          ∧ r.2.mem ((c.tc : Thread Cert.ProjRefIdeal.nD Cert.ProjRefIdeal.τ).loc Cert.ProjRefIdeal.main_v85) = v9 c
          ∧ r.2.mem ((c.tc : Thread Cert.ProjRefIdeal.nD Cert.ProjRefIdeal.τ).loc Cert.ProjRefIdeal.main_v87) = v10 c
          ∧ r.2.mem ((c.tc : Thread Cert.ProjRefIdeal.nD Cert.ProjRefIdeal.τ).loc Cert.ProjRefIdeal.main_v89) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Pool_PoolIdeal : Prop :=
  True

def algebraic_PoolIdeal_PoolRefIdeal_pre_finite [hPoolIdeal : Cert.PoolIdeal.Facts] [hPoolRefIdeal : Cert.PoolRefIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v70) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v11)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v11) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v37) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)) →
    ∃ (v0 : (c : Dev Cert.MergeSIdeal.nD) → Buf (Elt Ideal) ((c.tc : Thread Cert.MergeSIdeal.nD Cert.MergeSIdeal.τ).loc Cert.MergeSIdeal.main_v16)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v16) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v50) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v24_0)) (v1 : (c : Dev Cert.ProjSIdeal.nD) → Buf (Elt Ideal) ((c.tc : Thread Cert.ProjSIdeal.nD Cert.ProjSIdeal.τ).loc Cert.ProjSIdeal.main_v24_1)) (v2 : (c : Dev Cert.ProjSIdeal.nD) → Buf (Elt Ideal) ((c.tc : Thread Cert.ProjSIdeal.nD Cert.ProjSIdeal.τ).loc Cert.ProjSIdeal.main_v24_2)) (v3 : (c : Dev Cert.ProjSIdeal.nD) → Buf (Elt Ideal) ((c.tc : Thread Cert.ProjSIdeal.nD Cert.ProjSIdeal.τ).loc Cert.ProjSIdeal.main_v24_3)) (v4 : (c : Dev Cert.ProjSIdeal.nD) → Buf (Elt Ideal) ((c.tc : Thread Cert.ProjSIdeal.nD Cert.ProjSIdeal.τ).loc Cert.ProjSIdeal.main_v24_4)) (v5 : (c : Dev Cert.ProjSIdeal.nD) → Buf (Elt Ideal) ((c.tc : Thread Cert.ProjSIdeal.nD Cert.ProjSIdeal.τ).loc Cert.ProjSIdeal.main_v24_5)) (v6 : (c : Dev Cert.ProjSIdeal.nD) → Buf (Elt Ideal) ((c.tc : Thread Cert.ProjSIdeal.nD Cert.ProjSIdeal.τ).loc Cert.ProjSIdeal.main_v24_6)) (v7 : (c : Dev Cert.ProjSIdeal.nD) → Buf (Elt Ideal) ((c.tc : Thread Cert.ProjSIdeal.nD Cert.ProjSIdeal.τ).loc Cert.ProjSIdeal.main_v24_7)) (v8 : (c : Dev Cert.ProjSIdeal.nD) → Buf (Elt Ideal) ((c.tc : Thread Cert.ProjSIdeal.nD Cert.ProjSIdeal.τ).loc Cert.ProjSIdeal.main_v29)) (v9 : (c : Dev Cert.ProjSIdeal.nD) → Buf (Elt Ideal) ((c.tc : Thread Cert.ProjSIdeal.nD Cert.ProjSIdeal.τ).loc Cert.ProjSIdeal.main_v31)) (v10 : (c : Dev Cert.ProjSIdeal.nD) → Buf (Elt Ideal) ((c.tc : Thread Cert.ProjSIdeal.nD Cert.ProjSIdeal.τ).loc Cert.ProjSIdeal.main_v35)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v24_0) = v0 c
          ∧ r.2.mem ((c.tc : Thread Cert.ProjSIdeal.nD Cert.ProjSIdeal.τ).loc Cert.ProjSIdeal.main_v24_1) = v1 c
          ∧ r.2.mem ((c.tc : Thread Cert.ProjSIdeal.nD Cert.ProjSIdeal.τ).loc Cert.ProjSIdeal.main_v24_2) = v2 c
          ∧ r.2.mem ((c.tc : Thread Cert.ProjSIdeal.nD Cert.ProjSIdeal.τ).loc Cert.ProjSIdeal.main_v24_3) = v3 c
          ∧ r.2.mem ((c.tc : Thread Cert.ProjSIdeal.nD Cert.ProjSIdeal.τ).loc Cert.ProjSIdeal.main_v24_4) = v4 c
          ∧ r.2.mem ((c.tc : Thread Cert.ProjSIdeal.nD Cert.ProjSIdeal.τ).loc Cert.ProjSIdeal.main_v24_5) = v5 c
          ∧ r.2.mem ((c.tc : Thread Cert.ProjSIdeal.nD Cert.ProjSIdeal.τ).loc Cert.ProjSIdeal.main_v24_6) = v6 c
          ∧ r.2.mem ((c.tc : Thread Cert.ProjSIdeal.nD Cert.ProjSIdeal.τ).loc Cert.ProjSIdeal.main_v24_7) = v7 c
          ∧ r.2.mem ((c.tc : Thread Cert.ProjSIdeal.nD Cert.ProjSIdeal.τ).loc Cert.ProjSIdeal.main_v29) = v8 c
          ∧ r.2.mem ((c.tc : Thread Cert.ProjSIdeal.nD Cert.ProjSIdeal.τ).loc Cert.ProjSIdeal.main_v31) = v9 c
          ∧ r.2.mem ((c.tc : Thread Cert.ProjSIdeal.nD Cert.ProjSIdeal.τ).loc Cert.ProjSIdeal.main_v35) = v10 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v73) = v0 c
          ∧ r.2.mem ((c.tc : Thread Cert.ProjSRefIdeal.nD Cert.ProjSRefIdeal.τ).loc Cert.ProjSRefIdeal.main_v74) = v1 c
          ∧ r.2.mem ((c.tc : Thread Cert.ProjSRefIdeal.nD Cert.ProjSRefIdeal.τ).loc Cert.ProjSRefIdeal.main_v71) = v2 c
          ∧ r.2.mem ((c.tc : Thread Cert.ProjSRefIdeal.nD Cert.ProjSRefIdeal.τ).loc Cert.ProjSRefIdeal.main_v75) = v3 c
          ∧ r.2.mem ((c.tc : Thread Cert.ProjSRefIdeal.nD Cert.ProjSRefIdeal.τ).loc Cert.ProjSRefIdeal.main_v72) = v4 c
          ∧ r.2.mem ((c.tc : Thread Cert.ProjSRefIdeal.nD Cert.ProjSRefIdeal.τ).loc Cert.ProjSRefIdeal.main_v76) = v5 c
          ∧ r.2.mem ((c.tc : Thread Cert.ProjSRefIdeal.nD Cert.ProjSRefIdeal.τ).loc Cert.ProjSRefIdeal.main_v77) = v6 c
          ∧ r.2.mem ((c.tc : Thread Cert.ProjSRefIdeal.nD Cert.ProjSRefIdeal.τ).loc Cert.ProjSRefIdeal.main_v78) = v7 c
          ∧ r.2.mem ((c.tc : Thread Cert.ProjSRefIdeal.nD Cert.ProjSRefIdeal.τ).loc Cert.ProjSRefIdeal.main_v79) = v8 c
          ∧ r.2.mem ((c.tc : Thread Cert.ProjSRefIdeal.nD Cert.ProjSRefIdeal.τ).loc Cert.ProjSRefIdeal.main_v81) = v9 c
          ∧ r.2.mem ((c.tc : Thread Cert.ProjSRefIdeal.nD Cert.ProjSRefIdeal.τ).loc Cert.ProjSRefIdeal.main_v85) = v10 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_PoolS_PoolSIdeal : Prop :=
  True

def algebraic_PoolSIdeal_PoolSRefIdeal_pre_finite_rows [hPoolSIdeal : Cert.PoolSIdeal.Facts] [hPoolSRefIdeal : Cert.PoolSRefIdeal.Facts] [hPre_finite_rows : Cert.Pre_finite_rows.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal_finite_rows m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)) →
    ∃ (v0 : (c : Dev Cert.PoolSIdeal.nD) → Buf (Elt Ideal) ((c.tc : Thread Cert.PoolSIdeal.nD Cert.PoolSIdeal.τ).loc Cert.PoolSIdeal.main_v10)) (v1 : (c : Dev Cert.PoolSIdeal.nD) → Buf (Elt Ideal) ((c.tc : Thread Cert.PoolSIdeal.nD Cert.PoolSIdeal.τ).loc Cert.PoolSIdeal.main_v2)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v10) = v0 c
          ∧ r.2.mem ((c.tc : Thread Cert.PoolSIdeal.nD Cert.PoolSIdeal.τ).loc Cert.PoolSIdeal.main_v2) = v1 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v73) = v0 c
          ∧ r.2.mem ((c.tc : Thread Cert.PoolSRefIdeal.nD Cert.PoolSRefIdeal.τ).loc Cert.PoolSRefIdeal.main_v74) = v1 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3))

def Claim : Prop :=
  ∃ (hTopk : Cert.Topk.Facts) (hTopkIdeal : Cert.TopkIdeal.Facts) (hTopkRefIdeal : Cert.TopkRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPool : Cert.Pool.Facts) (hPoolIdeal : Cert.PoolIdeal.Facts) (hPoolRefIdeal : Cert.PoolRefIdeal.Facts) (hFfnS : Cert.FfnS.Facts) (hFfnSIdeal : Cert.FfnSIdeal.Facts) (hFfnSRefIdeal : Cert.FfnSRefIdeal.Facts) (hMergeS : Cert.MergeS.Facts) (hMergeSIdeal : Cert.MergeSIdeal.Facts) (hMergeSRefIdeal : Cert.MergeSRefIdeal.Facts) (hProjS : Cert.ProjS.Facts) (hProjSIdeal : Cert.ProjSIdeal.Facts) (hProjSRefIdeal : Cert.ProjSRefIdeal.Facts) (hPoolS : Cert.PoolS.Facts) (hPoolSIdeal : Cert.PoolSIdeal.Facts) (hPoolSRefIdeal : Cert.PoolSRefIdeal.Facts) (hPre_finite : Cert.Pre_finite.Facts) (hPre_finite_rows : Cert.Pre_finite_rows.Facts) (hOn_selected : Cert.On_selected.Facts),
    quiescent_Topk (hTopk := hTopk)
    ∧ quiescent_TopkIdeal (hTopkIdeal := hTopkIdeal)
    ∧ quiescent_TopkRefIdeal (hTopkRefIdeal := hTopkRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Pool (hPool := hPool)
    ∧ quiescent_PoolIdeal (hPoolIdeal := hPoolIdeal)
    ∧ quiescent_PoolIdeal_pre_finite (hPoolIdeal := hPoolIdeal) (hPre_finite := hPre_finite)
    ∧ quiescent_PoolRefIdeal (hPoolRefIdeal := hPoolRefIdeal)
    ∧ quiescent_PoolRefIdeal_pre_finite (hPoolRefIdeal := hPoolRefIdeal) (hPre_finite := hPre_finite)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_PoolS (hPoolS := hPoolS)
    ∧ quiescent_PoolSIdeal (hPoolSIdeal := hPoolSIdeal)
    ∧ quiescent_PoolSIdeal_pre_finite_rows (hPoolSIdeal := hPoolSIdeal) (hPre_finite_rows := hPre_finite_rows)
    ∧ quiescent_PoolSRefIdeal (hPoolSRefIdeal := hPoolSRefIdeal)
    ∧ quiescent_PoolSRefIdeal_pre_finite_rows (hPoolSRefIdeal := hPoolSRefIdeal) (hPre_finite_rows := hPre_finite_rows)
    ∧ preserves_Topk_TopkIdeal
    ∧ algebraic_TopkIdeal_TopkRefIdeal_on_selected (hTopkIdeal := hTopkIdeal) (hTopkRefIdeal := hTopkRefIdeal) (hOn_selected := hOn_selected)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Pool_PoolIdeal
    ∧ algebraic_PoolIdeal_PoolRefIdeal_pre_finite (hPoolIdeal := hPoolIdeal) (hPoolRefIdeal := hPoolRefIdeal) (hPre_finite := hPre_finite)
    ∧ preserves_FfnS_FfnSIdeal
    ∧ algebraic_FfnSIdeal_FfnSRefIdeal (hFfnSIdeal := hFfnSIdeal) (hFfnSRefIdeal := hFfnSRefIdeal)
    ∧ preserves_MergeS_MergeSIdeal
    ∧ algebraic_MergeSIdeal_MergeSRefIdeal (hMergeSIdeal := hMergeSIdeal) (hMergeSRefIdeal := hMergeSRefIdeal)
    ∧ preserves_ProjS_ProjSIdeal
    ∧ algebraic_ProjSIdeal_ProjSRefIdeal (hProjSIdeal := hProjSIdeal) (hProjSRefIdeal := hProjSRefIdeal)
    ∧ preserves_PoolS_PoolSIdeal
    ∧ algebraic_PoolSIdeal_PoolSRefIdeal_pre_finite_rows (hPoolSIdeal := hPoolSIdeal) (hPoolSRefIdeal := hPoolSRefIdeal) (hPre_finite_rows := hPre_finite_rows)
-- ==== On_selected.lean ====
abbrev S128x4x8x128 : Shape := ⟨4, ![128, 4, 8, 128]⟩
abbrev S128x32x8x128 : Shape := ⟨4, ![128, 32, 8, 128]⟩
abbrev S128x16x128 : Shape := ⟨3, ![128, 16, 128]⟩
abbrev S_ : Shape := ⟨0, ![]⟩

class Facts : Prop where
  bcast_S_S128x16x128 : S_.BroadcastsInDim S128x16x128 (![] : Fin 0 → Fin S128x16x128.rank)

variable [Facts]

def fn {F : FTy → Type} [FloatOps F] (main_arg0 : FVec F S128x4x8x128 .f32) (main_arg1 : FVec F S128x32x8x128 .f32) : IVec S128x16x128 1 :=
  let main_v0 : IVec S128x16x128 32 := iotaInDim S128x16x128 32 1
  let main_v1 : IVec S128x16x128 32 := iotaInDim S128x16x128 32 2
  let main_c : IVec S_ 32 := constantI S_ 32 12#32
  let main_v2 : IVec S128x16x128 32 := broadcastInDim S128x16x128 ![] bcast_S_S128x16x128 main_c
  let main_v3 : IVec S128x16x128 1 := cmpi .slt main_v0 main_v2
  let main_c_0 : IVec S_ 32 := constantI S_ 32 8#32
  let main_v4 : IVec S128x16x128 32 := broadcastInDim S128x16x128 ![] bcast_S_S128x16x128 main_c_0
  let main_v5 : IVec S128x16x128 1 := cmpi .slt main_v1 main_v4
  let main_v6 : IVec S128x16x128 1 := andi main_v3 main_v5
  main_v6
-- ==== Pre_finite.lean ====
abbrev S2x8192x512 : Shape := ⟨3, ![2, 8192, 512]⟩
abbrev S1x4x128x128 : Shape := ⟨4, ![1, 4, 128, 128]⟩
abbrev S1x512 : Shape := ⟨2, ![1, 512]⟩
abbrev S_ : Shape := ⟨0, ![]⟩

class Facts : Prop where
  bcast_S_S2x8192x512 : S_.BroadcastsInDim S2x8192x512 (![] : Fin 0 → Fin S2x8192x512.rank)

variable [Facts]

def fn {F : FTy → Type} [FloatOps F] (main_arg0 : FVec F S2x8192x512 .f32) (main_arg1 : FVec F S1x4x128x128 .f32) (main_arg2 : FVec F S1x512 .f32) : IVec S2x8192x512 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  main_v2
-- ==== Pre_finite_rows.lean ====
abbrev S1x128x15x512 : Shape := ⟨4, ![1, 128, 15, 512]⟩
abbrev S128x4x512 : Shape := ⟨3, ![128, 4, 512]⟩
abbrev S1x4x128x128 : Shape := ⟨4, ![1, 4, 128, 128]⟩
abbrev S1x512 : Shape := ⟨2, ![1, 512]⟩
abbrev S128x15x512 : Shape := ⟨3, ![128, 15, 512]⟩
abbrev S128x19x512 : Shape := ⟨3, ![128, 19, 512]⟩
abbrev S_ : Shape := ⟨0, ![]⟩

class Facts : Prop where
  shapeCasts_S1x128x15x512_S128x15x512 : S1x128x15x512.ShapeCasts S128x15x512
  concatenates_S128x15x512_S128x4x512_S128x19x512_d1 : Shape.Concatenates [S128x15x512, S128x4x512] S128x19x512 1
  bcast_S_S128x19x512 : S_.BroadcastsInDim S128x19x512 (![] : Fin 0 → Fin S128x19x512.rank)

variable [Facts]

def fn {F : FTy → Type} [FloatOps F] (main_arg0 : FVec F S1x128x15x512 .f32) (main_arg1 : FVec F S128x4x512 .f32) (main_arg2 : FVec F S1x4x128x128 .f32) (main_arg3 : FVec F S1x512 .f32) : IVec S128x19x512 1 :=
  let main_v0 : FVec F S128x15x512 .f32 := shapeCast S128x15x512 main_arg0 shapeCasts_S1x128x15x512_S128x15x512
  let main_v1 : FVec F S128x19x512 .f32 := (fun a b => concatenate S128x19x512 1 [⟨S128x15x512, a⟩, ⟨S128x4x512, b⟩] concatenates_S128x15x512_S128x4x512_S128x19x512_d1) main_v0 main_arg1
  let main_v2 : FVec F S128x19x512 .f32 := Host.absf main_v1
  let main_cst : FVec F S_ .f32 := constant S_ .f32 0x7F800000#32
  let main_v3 : FVec F S128x19x512 .f32 := broadcastInDim S128x19x512 ![] bcast_S_S128x19x512 main_cst
  let main_v4 : IVec S128x19x512 1 := cmpf .olt main_v2 main_v3
  main_v4
-- ==== Topk.lean ====
abbrev S128x4x8x128 : Shape := ⟨4, ![128, 4, 8, 128]⟩
abbrev S128x32x8x128 : Shape := ⟨4, ![128, 32, 8, 128]⟩
abbrev S128x4x1024 : Shape := ⟨3, ![128, 4, 1024]⟩
abbrev S128x32x1024 : Shape := ⟨3, ![128, 32, 1024]⟩
abbrev S128x16x128 : Shape := ⟨3, ![128, 16, 128]⟩
abbrev S1x4x1024 : Shape := ⟨3, ![1, 4, 1024]⟩
abbrev S1x32x1024 : Shape := ⟨3, ![1, 32, 1024]⟩
abbrev S1x16x128 : Shape := ⟨3, ![1, 16, 128]⟩
abbrev S4x1024 : Shape := ⟨2, ![4, 1024]⟩
abbrev S32x1024 : Shape := ⟨2, ![32, 1024]⟩
abbrev S32x128 : Shape := ⟨2, ![32, 128]⟩
abbrev S1x1024 : Shape := ⟨2, ![1, 1024]⟩
abbrev S32 : Shape := ⟨1, ![32]⟩
abbrev S32x1 : Shape := ⟨2, ![32, 1]⟩
abbrev S1x128 : Shape := ⟨2, ![1, 128]⟩
abbrev S128 : Shape := ⟨1, ![128]⟩
abbrev S1x1x128 : Shape := ⟨3, ![1, 1, 128]⟩

abbrev nBuf : Space → Nat
  | .hbm => 5
  | .vmem => 6
  | .smem => 0
  | _ => 0

abbrev bufTy : (tb : Table) → Fin (tcTables nBuf tb) → BufTy
  | .hbm, ⟨0, _⟩ => ⟨S128x4x8x128, .f32⟩
  | .hbm, ⟨1, _⟩ => ⟨S128x32x8x128, .f32⟩
  | .hbm, ⟨2, _⟩ => ⟨S128x4x1024, .f32⟩
  | .hbm, ⟨3, _⟩ => ⟨S128x32x1024, .f32⟩
  | .hbm, ⟨4, _⟩ => ⟨S128x16x128, .i32⟩
  | .local _ .vmem, ⟨0, _⟩ => ⟨S1x4x1024, .f32⟩
  | .local _ .vmem, ⟨1, _⟩ => ⟨S1x4x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x16x128, .i32⟩
  | .local _ .vmem, ⟨5, _⟩ => ⟨S1x16x128, .i32⟩
  | _, _ => ⟨S128x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TopkRefIdeal.lean ====
abbrev S128x4x8x128 : Shape := ⟨4, ![128, 4, 8, 128]⟩
abbrev S128x32x8x128 : Shape := ⟨4, ![128, 32, 8, 128]⟩
abbrev S128x8x4x128 : Shape := ⟨4, ![128, 8, 4, 128]⟩
abbrev S128x8x4x32 : Shape := ⟨4, ![128, 8, 4, 32]⟩
abbrev S128x8x4x3 : Shape := ⟨4, ![128, 8, 4, 3]⟩
abbrev S128x4x3x8 : Shape := ⟨4, ![128, 4, 3, 8]⟩
abbrev S128x12x8 : Shape := ⟨3, ![128, 12, 8]⟩
abbrev S_ : Shape := ⟨0, ![]⟩
abbrev S128x16x128 : Shape := ⟨3, ![128, 16, 128]⟩

abbrev nBuf : Space → Nat
  | .hbm => 11
  | .vmem => 0
  | .smem => 0
  | _ => 0

abbrev bufTy : (tb : Table) → Fin (tcTables nBuf tb) → BufTy
  | .hbm, ⟨0, _⟩ => ⟨S128x4x8x128, .f32⟩
  | .hbm, ⟨1, _⟩ => ⟨S128x32x8x128, .f32⟩
  | .hbm, ⟨2, _⟩ => ⟨S128x8x4x128, .f32⟩
  | .hbm, ⟨3, _⟩ => ⟨S128x8x4x32, .f32⟩
  | .hbm, ⟨4, _⟩ => ⟨S128x8x4x3, .f32⟩
  | .hbm, ⟨5, _⟩ => ⟨S128x8x4x3, .i32⟩
  | .hbm, ⟨6, _⟩ => ⟨S128x4x3x8, .i32⟩
  | .hbm, ⟨7, _⟩ => ⟨S128x12x8, .i32⟩
  | .hbm, ⟨8, _⟩ => ⟨S_, .i32⟩
  | .hbm, ⟨9, _⟩ => ⟨S_, .i32⟩
  | .hbm, ⟨10, _⟩ => ⟨S128x16x128, .i32⟩
  | _, _ => ⟨S128x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Ffn.lean ====
abbrev S2x8192x1024 : Shape := ⟨3, ![2, 8192, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 18
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S2x8192x1024 : Shape := ⟨3, ![2, 8192, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2x8192x2816 : Shape := ⟨3, ![2, 8192, 2816]⟩
abbrev S_ : Shape := ⟨0, ![]⟩
abbrev S2816x1024 : Shape := ⟨2, ![2816, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S2x8192x2816, .f32⟩
  | .hbm, ⟨8, _⟩ => ⟨S2x8192x2816, .f32⟩
  | .hbm, ⟨9, _⟩ => ⟨S2x8192x2816, .f32⟩
  | .hbm, ⟨10, _⟩ => ⟨S_, .f32⟩
  | .hbm, ⟨11, _⟩ => ⟨S2x8192x2816, .f32⟩
  | .hbm, ⟨12, _⟩ => ⟨S2x8192x2816, .f32⟩
  | .hbm, ⟨13, _⟩ => ⟨S_, .f32⟩
  | .hbm, ⟨14, _⟩ => ⟨S2x8192x2816, .f32⟩
  | .hbm, ⟨15, _⟩ => ⟨S2x8192x2816, .f32⟩
  | .hbm, ⟨16, _⟩ => ⟨S2x8192x2816, .f32⟩
  | .hbm, ⟨17, _⟩ => ⟨S1024x2816, .f32⟩
  | .hbm, ⟨18, _⟩ => ⟨S2x8192x2816, .f32⟩
  | .hbm, ⟨19, _⟩ => ⟨S2x8192x2816, .f32⟩
  | .hbm, ⟨20, _⟩ => ⟨S2816x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S1x1x1024, .f32⟩
  | .hbm, ⟨55, _⟩ => ⟨S2x8192x1024, .f32⟩
  | .hbm, ⟨56, _⟩ => ⟨S2x8192x1024, .f32⟩
  | .hbm, ⟨57, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x512 : Shape := ⟨3, ![2, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 28
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S2x8192x512, .bf16⟩
  | .hbm, ⟨12, _⟩ => ⟨S16384x512, .bf16⟩
  | .hbm, ⟨13, _⟩ => ⟨S2x8192x1024, .bf16⟩
  | .hbm, ⟨14, _⟩ => ⟨S16384x1024, .bf16⟩
  | .hbm, ⟨15, _⟩ => ⟨S16384x1024, .f32⟩
  | .hbm, ⟨16, _⟩ => ⟨S16384x1024, .f32⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S2x8192x1024 : Shape := ⟨3, ![2, 8192, 1024]⟩
abbrev S2x8192x512 : Shape := ⟨3, ![2, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192x1024, .f32⟩
  | .hbm, ⟨17, _⟩ => ⟨S2x8192x1024, .f32⟩
  | .hbm, ⟨18, _⟩ => ⟨S512x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192x1024, .f32⟩
  | .hbm, ⟨28, _⟩ => ⟨S2x8192x1024, .f32⟩
  | .hbm, ⟨29, _⟩ => ⟨S1024x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192x1024, .f32⟩
  | .hbm, ⟨35, _⟩ => ⟨S2x8192x1024, .f32⟩
  | .hbm, ⟨36, _⟩ => ⟨S1024x1024, .f32⟩
  | .hbm, ⟨37, _⟩ => ⟨S2x8192x1024, .f32⟩
  | .hbm, ⟨38, _⟩ => ⟨S2x8192x1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | .hbm, ⟨70, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024x5632 : Shape := ⟨3, ![1, 1024, 5632]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S16384x1024 : Shape := ⟨2, ![16384, 1024]⟩
abbrev S1024x5632 : Shape := ⟨2, ![1024, 5632]⟩
abbrev S16384x512 : Shape := ⟨2, ![16384, 512]⟩
abbrev S64x1x1024 : Shape := ⟨3, ![64, 1, 1024]⟩
abbrev S256x1024 : Shape := ⟨2, ![256, 1024]⟩
abbrev S256x128 : Shape := ⟨2, ![256, 128]⟩
abbrev S256x512 : Shape := ⟨2, ![256, 512]⟩
abbrev S1x1x1024 : Shape := ⟨3, ![1, 1, 1024]⟩
abbrev S1024x512 : Shape := ⟨2, ![1024, 512]⟩
abbrev S128 : Shape := ⟨1, ![128]⟩
abbrev S1x128 : Shape := ⟨2, ![1, 128]⟩
abbrev S1x1x128 : Shape := ⟨3, ![1, 1, 128]⟩
abbrev S2x8192x8x128 : Shape := ⟨4, ![2, 8192, 8, 128]⟩
abbrev S1x2x8192x8x128 : Shape := ⟨5, ![1, 2, 8192, 8, 128]⟩
abbrev S2x8192x512 : Shape := ⟨3, ![2, 8192, 512]⟩
abbrev S2x15x512 : Shape := ⟨3, ![2, 15, 512]⟩
abbrev S1x2x15x512 : Shape := ⟨4, ![1, 2, 15, 512]⟩

abbrev nBuf : Space → Nat
  | .hbm => 41
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5632, .f32⟩
  | .hbm, ⟨2, _⟩ => ⟨S8192, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x128, .f32⟩
  | .hbm, ⟨22, _⟩ => ⟨S16384x1024, .f32⟩
  | .hbm, ⟨23, _⟩ => ⟨S1024x5632, .f32⟩
  | .hbm, ⟨24, _⟩ => ⟨S1024x5632, .bf16⟩
  | .hbm, ⟨25, _⟩ => ⟨S16384x512, .f32⟩
  | .hbm, ⟨26, _⟩ => ⟨S16384x1024, .bf16⟩
  | .hbm, ⟨27, _⟩ => ⟨S16384x1024, .f32⟩
  | .hbm, ⟨28, _⟩ => ⟨S16384x1024, .bf16⟩
  | .hbm, ⟨29, _⟩ => ⟨S16384x1024, .f32⟩
  | .hbm, ⟨30, _⟩ => ⟨S16384x1024, .bf16⟩
  | .hbm, ⟨31, _⟩ => ⟨S16384x1024, .f32⟩
  | .hbm, ⟨32, _⟩ => ⟨S16384x1024, .f32⟩
  | .hbm, ⟨33, _⟩ => ⟨S64x1x1024, .f32⟩
  | .hbm, ⟨34, _⟩ => ⟨S2x8192x8x128, .f32⟩
  | .hbm, ⟨35, _⟩ => ⟨S1x2x8192x8x128, .f32⟩
  | .hbm, ⟨36, _⟩ => ⟨S2x8192x8x128, .f32⟩
  | .hbm, ⟨37, _⟩ => ⟨S1x2x8192x8x128, .f32⟩
  | .hbm, ⟨38, _⟩ => ⟨S2x8192x512, .f32⟩
  | .hbm, ⟨39, _⟩ => ⟨S2x15x512, .f32⟩
  | .hbm, ⟨40, _⟩ => ⟨S1x2x15x512, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x512, .f32⟩
  | .local _ .vmem, ⟨8, _⟩ => ⟨S256x512, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S1x1x1024, .f32⟩
  | .local _ .vmem, ⟨24, _⟩ => ⟨S1x1x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev main_v21_2 : Ref sig .tc := ⟨.hbm, 27, rfl⟩
abbrev main_v21_3 : Ref sig .tc := ⟨.hbm, 28, rfl⟩
abbrev main_v21_4 : Ref sig .tc := ⟨.hbm, 29, rfl⟩
abbrev main_v21_5 : Ref sig .tc := ⟨.hbm, 30, rfl⟩
abbrev main_v21_6 : Ref sig .tc := ⟨.hbm, 31, rfl⟩
abbrev main_v21_7 : Ref sig .tc := ⟨.hbm, 32, rfl⟩
abbrev main_v21_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S2x8192x1024 : Shape := ⟨3, ![2, 8192, 1024]⟩
abbrev S1x1024x5632 : Shape := ⟨3, ![1, 1024, 5632]⟩
abbrev S8192 : Shape := ⟨1, ![8192]⟩
abbrev S1024x5632 : Shape := ⟨2, ![1024, 5632]⟩
abbrev S2x8192x5632 : Shape := ⟨3, ![2, 8192, 5632]⟩
abbrev S2x8192x512 : Shape := ⟨3, ![2, 8192, 512]⟩
abbrev S2x8192x8x128 : Shape := ⟨4, ![2, 8192, 8, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x8x64 : Shape := ⟨4, ![2, 8192, 8, 64]⟩
abbrev S2x32x256x8x128 : Shape := ⟨5, ![2, 32, 256, 8, 128]⟩
abbrev S2x32x8x128 : Shape := ⟨4, ![2, 32, 8, 128]⟩
abbrev S16384x1024 : Shape := ⟨2, ![16384, 1024]⟩
abbrev S16384x512 : Shape := ⟨2, ![16384, 512]⟩
abbrev S64x1x1024 : Shape := ⟨3, ![64, 1, 1024]⟩
abbrev S1x2x8192x8x128 : Shape := ⟨5, ![1, 2, 8192, 8, 128]⟩
abbrev S2x15x512 : Shape := ⟨3, ![2, 15, 512]⟩
abbrev S1x2x15x512 : Shape := ⟨4, ![1, 2, 15, 512]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5632, .f32⟩
  | .hbm, ⟨2, _⟩ => ⟨S8192, .i32⟩
  | .hbm, ⟨3, _⟩ => ⟨S1024x5632, .f32⟩
  | .hbm, ⟨4, _⟩ => ⟨S2x8192x5632, .f32⟩
  | .hbm, ⟨5, _⟩ => ⟨S2x8192x512, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x8x128, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S8192, .f32⟩
  | .hbm, ⟨21, _⟩ => ⟨S8192x1, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S1x8192x1x64, .f32⟩
  | .hbm, ⟨28, _⟩ => ⟨S8192x64, .f32⟩
  | .hbm, ⟨29, _⟩ => ⟨S1x8192x1x64, .f32⟩
  | .hbm, ⟨30, _⟩ => ⟨S2x8192x8x64, .f32⟩
  | .hbm, ⟨31, _⟩ => ⟨S2x8192x8x64, .f32⟩
  | .hbm, ⟨32, _⟩ => ⟨S2x8192x8x64, .f32⟩
  | .hbm, ⟨33, _⟩ => ⟨S2x8192x8x64, .f32⟩
  | .hbm, ⟨34, _⟩ => ⟨S2x8192x8x64, .f32⟩
  | .hbm, ⟨35, _⟩ => ⟨S2x8192x8x64, .f32⟩
  | .hbm, ⟨36, _⟩ => ⟨S2x8192x8x64, .f32⟩
  | .hbm, ⟨37, _⟩ => ⟨S2x8192x8x64, .f32⟩
  | .hbm, ⟨38, _⟩ => ⟨S2x8192x8x64, .f32⟩
  | .hbm, ⟨39, _⟩ => ⟨S2x8192x8x64, .f32⟩
  | .hbm, ⟨40, _⟩ => ⟨S2x8192x8x64, .f32⟩
  | .hbm, ⟨41, _⟩ => ⟨S2x8192x8x64, .f32⟩
  | .hbm, ⟨42, _⟩ => ⟨S2x8192x8x128, .f32⟩
  | .hbm, ⟨43, _⟩ => ⟨S2x8192x8x128, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S8192, .f32⟩
  | .hbm, ⟨53, _⟩ => ⟨S8192x1, .f32⟩
  | .hbm, ⟨54, _⟩ => ⟨S1x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S1x8192x1x64, .f32⟩
  | .hbm, ⟨60, _⟩ => ⟨S8192x64, .f32⟩
  | .hbm, ⟨61, _⟩ => ⟨S1x8192x1x64, .f32⟩
  | .hbm, ⟨62, _⟩ => ⟨S2x8192x8x64, .f32⟩
  | .hbm, ⟨63, _⟩ => ⟨S2x8192x8x64, .f32⟩
  | .hbm, ⟨64, _⟩ => ⟨S2x8192x8x64, .f32⟩
  | .hbm, ⟨65, _⟩ => ⟨S2x8192x8x64, .f32⟩
  | .hbm, ⟨66, _⟩ => ⟨S2x8192x8x64, .f32⟩
  | .hbm, ⟨67, _⟩ => ⟨S2x8192x8x64, .f32⟩
  | .hbm, ⟨68, _⟩ => ⟨S2x8192x8x64, .f32⟩
  | .hbm, ⟨69, _⟩ => ⟨S2x8192x8x64, .f32⟩
  | .hbm, ⟨70, _⟩ => ⟨S2x8192x8x64, .f32⟩
  | .hbm, ⟨71, _⟩ => ⟨S2x8192x8x64, .f32⟩
  | .hbm, ⟨72, _⟩ => ⟨S2x8192x8x64, .f32⟩
  | .hbm, ⟨73, _⟩ => ⟨S2x8192x8x64, .f32⟩
  | .hbm, ⟨74, _⟩ => ⟨S2x8192x8x128, .f32⟩
  | .hbm, ⟨75, _⟩ => ⟨S2x32x256x8x128, .f32⟩
  | .hbm, ⟨76, _⟩ => ⟨S_, .f32⟩
  | .hbm, ⟨77, _⟩ => ⟨S2x32x8x128, .f32⟩
  | .hbm, ⟨78, _⟩ => ⟨S_, .f32⟩
  | .hbm, ⟨79, _⟩ => ⟨S2x32x8x128, .f32⟩
  | .hbm, ⟨80, _⟩ => ⟨S2x32x8x128, .f32⟩
  | .hbm, ⟨81, _⟩ => ⟨S16384x1024, .f32⟩
  | .hbm, ⟨82, _⟩ => ⟨S16384x1024, .f32⟩
  | .hbm, ⟨83, _⟩ => ⟨S16384x512, .f32⟩
  | .hbm, ⟨84, _⟩ => ⟨S_, .f32⟩
  | .hbm, ⟨85, _⟩ => ⟨S2x8192x8x128, .f32⟩
  | .hbm, ⟨86, _⟩ => ⟨S2x8192x8x128, .f32⟩
  | .hbm, ⟨87, _⟩ => ⟨S2x8192x8x128, .bf16⟩
  | .hbm, ⟨88, _⟩ => ⟨S16384x1024, .bf16⟩
  | .hbm, ⟨89, _⟩ => ⟨S16384x1024, .bf16⟩
  | .hbm, ⟨90, _⟩ => ⟨S16384x1024, .bf16⟩
  | .hbm, ⟨91, _⟩ => ⟨S16384x1024, .f32⟩
  | .hbm, ⟨92, _⟩ => ⟨S16384x1024, .f32⟩
  | .hbm, ⟨93, _⟩ => ⟨S64x1x1024, .f32⟩
  | .hbm, ⟨94, _⟩ => ⟨S1x2x8192x8x128, .f32⟩
  | .hbm, ⟨95, _⟩ => ⟨S2x8192x8x128, .f32⟩
  | .hbm, ⟨96, _⟩ => ⟨S1x2x8192x8x128, .f32⟩
  | .hbm, ⟨97, _⟩ => ⟨S2x15x512, .f32⟩
  | .hbm, ⟨98, _⟩ => ⟨S1x2x15x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_3 : Ref sig .tc := ⟨.hbm, 76, rfl⟩
abbrev main_v70 : Ref sig .tc := ⟨.hbm, 77, rfl⟩
abbrev main_cst_4 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩

abbrev nD : Nat := 1
abbrev τ : Topo := Topo.v7x

variable {F : FTy → Type} [FloatOps F]
-- ==== Pool.lean ====
abbrev S2x8192x512 : Shape := ⟨3, ![2, 8192, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S1x512x512 : Shape := ⟨3, ![1, 512, 512]⟩
abbrev S1x16x512 : Shape := ⟨3, ![1, 16, 512]⟩
abbrev S528x512 : Shape := ⟨2, ![528, 512]⟩
abbrev S16x512 : Shape := ⟨2, ![16, 512]⟩
abbrev S512x512 : Shape := ⟨2, ![512, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x512, .f32⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S4x128x128, .bf16⟩
  | .hbm, ⟨5, _⟩ => ⟨S512, .f32⟩
  | .hbm, ⟨6, _⟩ => ⟨S1x512, .f32⟩
  | .hbm, ⟨7, _⟩ => ⟨S2x8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S4x128x128, .bf16⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S528x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S2x8192x512 : Shape := ⟨3, ![2, 8192, 512]⟩
abbrev S1x4x128x128 : Shape := ⟨4, ![1, 4, 128, 128]⟩
abbrev S1x512 : Shape := ⟨2, ![1, 512]⟩
abbrev S8192 : Shape := ⟨1, ![8192]⟩
abbrev S_ : Shape := ⟨0, ![]⟩
abbrev S2x15x512 : Shape := ⟨3, ![2, 15, 512]⟩
abbrev S2x8207x512 : Shape := ⟨3, ![2, 8207, 512]⟩
abbrev S2x8208x512 : Shape := ⟨3, ![2, 8208, 512]⟩
abbrev S2x8192x128 : Shape := ⟨3, ![2, 8192, 128]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x128 : Shape := ⟨3, ![4, 128, 128]⟩
abbrev S4x128x2x8192 : Shape := ⟨4, ![4, 128, 2, 8192]⟩
abbrev S512 : Shape := ⟨1, ![512]⟩
abbrev S1x1x512 : Shape := ⟨3, ![1, 1, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S1x4x128x128, .f32⟩
  | .hbm, ⟨2, _⟩ => ⟨S1x512, .f32⟩
  | .hbm, ⟨3, _⟩ => ⟨S8192, .i32⟩
  | .hbm, ⟨4, _⟩ => ⟨S_, .f32⟩
  | .hbm, ⟨5, _⟩ => ⟨S2x15x512, .f32⟩
  | .hbm, ⟨6, _⟩ => ⟨S2x8207x512, .f32⟩
  | .hbm, ⟨7, _⟩ => ⟨S_, .f32⟩
  | .hbm, ⟨8, _⟩ => ⟨S_, .f32⟩
  | .hbm, ⟨9, _⟩ => ⟨S2x8207x512, .f32⟩
  | .hbm, ⟨10, _⟩ => ⟨S_, .i32⟩
  | .hbm, ⟨11, _⟩ => ⟨S_, .f32⟩
  | .hbm, ⟨12, _⟩ => ⟨S2x8208x512, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S1x8192x1, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S2x8192x128, .f32⟩
  | .hbm, ⟨28, _⟩ => ⟨S2x8192x128, .f32⟩
  | .hbm, ⟨29, _⟩ => ⟨S2x8192x128, .f32⟩
  | .hbm, ⟨30, _⟩ => ⟨S2x8192x128, .f32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S1x8192x1, .f32⟩
  | .hbm, ⟨39, _⟩ => ⟨S2x8192x128, .f32⟩
  | .hbm, ⟨40, _⟩ => ⟨S2x8192x128, .f32⟩
  | .hbm, ⟨41, _⟩ => ⟨S2x8192x128, .f32⟩
  | .hbm, ⟨42, _⟩ => ⟨S2x8192x128, .f32⟩
  | .hbm, ⟨43, _⟩ => ⟨S2x8192x128, .f32⟩
  | .hbm, ⟨44, _⟩ => ⟨S2x8192x128, .f32⟩
  | .hbm, ⟨45, _⟩ => ⟨S2x8192x128, .f32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .f32⟩
  | .hbm, ⟨53, _⟩ => ⟨S1x8192x1, .f32⟩
  | .hbm, ⟨54, _⟩ => ⟨S2x8192x128, .f32⟩
  | .hbm, ⟨55, _⟩ => ⟨S2x8192x128, .f32⟩
  | .hbm, ⟨56, _⟩ => ⟨S2x8192x128, .f32⟩
  | .hbm, ⟨57, _⟩ => ⟨S2x8192x128, .f32⟩
  | .hbm, ⟨58, _⟩ => ⟨S2x8192x128, .f32⟩
  | .hbm, ⟨59, _⟩ => ⟨S2x8192x128, .f32⟩
  | .hbm, ⟨60, _⟩ => ⟨S2x8192x128, .f32⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S1x8192x1, .f32⟩
  | .hbm, ⟨69, _⟩ => ⟨S2x8192x128, .f32⟩
  | .hbm, ⟨70, _⟩ => ⟨S2x8192x128, .f32⟩
  | .hbm, ⟨71, _⟩ => ⟨S2x8192x128, .f32⟩
  | .hbm, ⟨72, _⟩ => ⟨S2x8192x128, .f32⟩
  | .hbm, ⟨73, _⟩ => ⟨S2x8192x1x128, .f32⟩
  | .hbm, ⟨74, _⟩ => ⟨S2x8192x1x128, .f32⟩
  | .hbm, ⟨75, _⟩ => ⟨S2x8192x1x128, .f32⟩
  | .hbm, ⟨76, _⟩ => ⟨S2x8192x1x128, .f32⟩
  | .hbm, ⟨77, _⟩ => ⟨S2x8192x4x128, .f32⟩
  | .hbm, ⟨78, _⟩ => ⟨S4x128x128, .f32⟩
  | .hbm, ⟨79, _⟩ => ⟨S4x128x2x8192, .f32⟩
  | .hbm, ⟨80, _⟩ => ⟨S2x8192x4x128, .f32⟩
  | .hbm, ⟨81, _⟩ => ⟨S2x8192x512, .f32⟩
  | .hbm, ⟨82, _⟩ => ⟨S512, .f32⟩
  | .hbm, ⟨83, _⟩ => ⟨S1x1x512, .f32⟩
  | .hbm, ⟨84, _⟩ => ⟨S2x8192x512, .f32⟩
  | .hbm, ⟨85, _⟩ => ⟨S2x8192x512, .f32⟩
  | .hbm, ⟨86, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== FfnS.lean ====
abbrev S128x4x1024 : Shape := ⟨3, ![128, 4, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1024x2816 : Shape := ⟨2, ![1024, 2816]⟩
abbrev S2816x1024 : Shape := ⟨2, ![2816, 1024]⟩
abbrev S1024 : Shape := ⟨1, ![1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 18
  | .vmem => 9
  | .smem => 0
  | _ => 0

abbrev bufTy : (tb : Table) → Fin (tcTables nBuf tb) → BufTy
  | .hbm, ⟨0, _⟩ => ⟨S128x4x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S512x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnSRefIdeal.lean ====
abbrev S128x4x1024 : Shape := ⟨3, ![128, 4, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S128x4x2816 : Shape := ⟨3, ![128, 4, 2816]⟩
abbrev S_ : Shape := ⟨0, ![]⟩
abbrev S2816x1024 : Shape := ⟨2, ![2816, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S128x4x2816, .f32⟩
  | .hbm, ⟨8, _⟩ => ⟨S128x4x2816, .f32⟩
  | .hbm, ⟨9, _⟩ => ⟨S128x4x2816, .f32⟩
  | .hbm, ⟨10, _⟩ => ⟨S_, .f32⟩
  | .hbm, ⟨11, _⟩ => ⟨S128x4x2816, .f32⟩
  | .hbm, ⟨12, _⟩ => ⟨S128x4x2816, .f32⟩
  | .hbm, ⟨13, _⟩ => ⟨S_, .f32⟩
  | .hbm, ⟨14, _⟩ => ⟨S128x4x2816, .f32⟩
  | .hbm, ⟨15, _⟩ => ⟨S128x4x2816, .f32⟩
  | .hbm, ⟨16, _⟩ => ⟨S128x4x2816, .f32⟩
  | .hbm, ⟨17, _⟩ => ⟨S1024x2816, .f32⟩
  | .hbm, ⟨18, _⟩ => ⟨S128x4x2816, .f32⟩
  | .hbm, ⟨19, _⟩ => ⟨S128x4x2816, .f32⟩
  | .hbm, ⟨20, _⟩ => ⟨S2816x1024, .f32⟩
  | .hbm, ⟨21, _⟩ => ⟨S128x4x1024, .f32⟩
  | .hbm, ⟨22, _⟩ => ⟨S_, .f32⟩
  | .hbm, ⟨23, _⟩ => ⟨S128x4x1024, .f32⟩
  | .hbm, ⟨24, _⟩ => ⟨S128x4x1024, .f32⟩
  | .hbm, ⟨25, _⟩ => ⟨S128x4x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S128x4, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S_, .f32⟩
  | .hbm, ⟨38, _⟩ => ⟨S128x4, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S128x4x1024, .f32⟩
  | .hbm, ⟨44, _⟩ => ⟨S128x4x1024, .f32⟩
  | .hbm, ⟨45, _⟩ => ⟨S_, .f32⟩
  | .hbm, ⟨46, _⟩ => ⟨S128x4x1, .f32⟩
  | .hbm, ⟨47, _⟩ => ⟨S128x4x1, .f32⟩
  | .hbm, ⟨48, _⟩ => ⟨S128x4x1, .f32⟩
  | .hbm, ⟨49, _⟩ => ⟨S128x4x1024, .f32⟩
  | .hbm, ⟨50, _⟩ => ⟨S128x4x1024, .f32⟩
  | .hbm, ⟨51, _⟩ => ⟨S1x1x1024, .f32⟩
  | .hbm, ⟨52, _⟩ => ⟨S128x4x1024, .f32⟩
  | .hbm, ⟨53, _⟩ => ⟨S128x4x1024, .f32⟩
  | .hbm, ⟨54, _⟩ => ⟨S1x1x1024, .f32⟩
  | .hbm, ⟨55, _⟩ => ⟨S128x4x1024, .f32⟩
  | .hbm, ⟨56, _⟩ => ⟨S128x4x1024, .f32⟩
  | .hbm, ⟨57, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== MergeS.lean ====
abbrev S128x4x1024 : Shape := ⟨3, ![128, 4, 1024]⟩
abbrev S128x4x512 : Shape := ⟨3, ![128, 4, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S1024 : Shape := ⟨1, ![1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 27
  | .vmem => 17
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .f32⟩
  | .hbm, ⟨2, _⟩ => ⟨S128x4x1024, .f32⟩
  | .hbm, ⟨3, _⟩ => ⟨S128x4x1024, .f32⟩
  | .hbm, ⟨4, _⟩ => ⟨S128x4x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S128x4x512, .bf16⟩
  | .hbm, ⟨12, _⟩ => ⟨S512x512, .bf16⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeSRefIdeal.lean ====
abbrev S128x4x1024 : Shape := ⟨3, ![128, 4, 1024]⟩
abbrev S128x4x512 : Shape := ⟨3, ![128, 4, 512]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .f32⟩
  | .hbm, ⟨2, _⟩ => ⟨S128x4x1024, .f32⟩
  | .hbm, ⟨3, _⟩ => ⟨S128x4x1024, .f32⟩
  | .hbm, ⟨4, _⟩ => ⟨S128x4x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S128x4x1024, .f32⟩
  | .hbm, ⟨11, _⟩ => ⟨S128x4x1024, .f32⟩
  | .hbm, ⟨12, _⟩ => ⟨S_, .f32⟩
  | .hbm, ⟨13, _⟩ => ⟨S128x4x1024, .f32⟩
  | .hbm, ⟨14, _⟩ => ⟨S128x4x1024, .f32⟩
  | .hbm, ⟨15, _⟩ => ⟨S_, .f32⟩
  | .hbm, ⟨16, _⟩ => ⟨S128x4x1024, .f32⟩
  | .hbm, ⟨17, _⟩ => ⟨S128x4x1024, .f32⟩
  | .hbm, ⟨18, _⟩ => ⟨S512x1024, .f32⟩
  | .hbm, ⟨19, _⟩ => ⟨S128x4x1024, .f32⟩
  | .hbm, ⟨20, _⟩ => ⟨S128x4x1024, .f32⟩
  | .hbm, ⟨21, _⟩ => ⟨S128x4x1024, .f32⟩
  | .hbm, ⟨22, _⟩ => ⟨S128x4x1024, .f32⟩
  | .hbm, ⟨23, _⟩ => ⟨S_, .f32⟩
  | .hbm, ⟨24, _⟩ => ⟨S128x4x1024, .f32⟩
  | .hbm, ⟨25, _⟩ => ⟨S128x4x1024, .f32⟩
  | .hbm, ⟨26, _⟩ => ⟨S_, .f32⟩
  | .hbm, ⟨27, _⟩ => ⟨S128x4x1024, .f32⟩
  | .hbm, ⟨28, _⟩ => ⟨S128x4x1024, .f32⟩
  | .hbm, ⟨29, _⟩ => ⟨S1024x1024, .f32⟩
  | .hbm, ⟨30, _⟩ => ⟨S128x4x1024, .f32⟩
  | .hbm, ⟨31, _⟩ => ⟨S128x4x1024, .f32⟩
  | .hbm, ⟨32, _⟩ => ⟨S128x4x1024, .f32⟩
  | .hbm, ⟨33, _⟩ => ⟨S_, .f32⟩
  | .hbm, ⟨34, _⟩ => ⟨S128x4x1024, .f32⟩
  | .hbm, ⟨35, _⟩ => ⟨S128x4x1024, .f32⟩
  | .hbm, ⟨36, _⟩ => ⟨S1024x1024, .f32⟩
  | .hbm, ⟨37, _⟩ => ⟨S128x4x1024, .f32⟩
  | .hbm, ⟨38, _⟩ => ⟨S128x4x1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S128x4x1024, .f32⟩
  | .hbm, ⟨48, _⟩ => ⟨S128x4x1024, .f32⟩
  | .hbm, ⟨49, _⟩ => ⟨S128x4x1024, .f32⟩
  | .hbm, ⟨50, _⟩ => ⟨S_, .f32⟩
  | .hbm, ⟨51, _⟩ => ⟨S128x4, .f32⟩
  | .hbm, ⟨52, _⟩ => ⟨S128x4x1, .f32⟩
  | .hbm, ⟨53, _⟩ => ⟨S_, .f32⟩
  | .hbm, ⟨54, _⟩ => ⟨S128x4x1, .f32⟩
  | .hbm, ⟨55, _⟩ => ⟨S128x4x1, .f32⟩
  | .hbm, ⟨56, _⟩ => ⟨S128x4x1024, .f32⟩
  | .hbm, ⟨57, _⟩ => ⟨S128x4x1024, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S128x4x1, .f32⟩
  | .hbm, ⟨62, _⟩ => ⟨S128x4x1024, .f32⟩
  | .hbm, ⟨63, _⟩ => ⟨S128x4x1024, .f32⟩
  | .hbm, ⟨64, _⟩ => ⟨S1x1x1024, .f32⟩
  | .hbm, ⟨65, _⟩ => ⟨S128x4x1024, .f32⟩
  | .hbm, ⟨66, _⟩ => ⟨S128x4x1024, .f32⟩
  | .hbm, ⟨67, _⟩ => ⟨S1x1x1024, .f32⟩
  | .hbm, ⟨68, _⟩ => ⟨S128x4x1024, .f32⟩
  | .hbm, ⟨69, _⟩ => ⟨S128x4x1024, .f32⟩
  | .hbm, ⟨70, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== ProjS.lean ====
abbrev S128x4x1024 : Shape := ⟨3, ![128, 4, 1024]⟩
abbrev S1x1024x5632 : Shape := ⟨3, ![1, 1024, 5632]⟩
abbrev S1x128x15x512 : Shape := ⟨4, ![1, 128, 15, 512]⟩
abbrev S512 : Shape := ⟨1, ![512]⟩
abbrev S_ : Shape := ⟨0, ![]⟩
abbrev S64 : Shape := ⟨1, ![64]⟩
abbrev S512x1 : Shape := ⟨2, ![512, 1]⟩
abbrev S1x64 : Shape := ⟨2, ![1, 64]⟩
abbrev S512x64 : Shape := ⟨2, ![512, 64]⟩
abbrev S512x128 : Shape := ⟨2, ![512, 128]⟩
abbrev S512x1024 : Shape := ⟨2, ![512, 1024]⟩
abbrev S1024x5632 : Shape := ⟨2, ![1024, 5632]⟩
abbrev S512x512 : Shape := ⟨2, ![512, 512]⟩
abbrev S256x1024 : Shape := ⟨2, ![256, 1024]⟩
abbrev S256x128 : Shape := ⟨2, ![256, 128]⟩
abbrev S256x512 : Shape := ⟨2, ![256, 512]⟩
abbrev S1024x512 : Shape := ⟨2, ![1024, 512]⟩
abbrev S128x4x512 : Shape := ⟨3, ![128, 4, 512]⟩
abbrev S128x4x8x128 : Shape := ⟨4, ![128, 4, 8, 128]⟩
abbrev S1x128x4x8x128 : Shape := ⟨5, ![1, 128, 4, 8, 128]⟩
abbrev S128x15x512 : Shape := ⟨3, ![128, 15, 512]⟩
abbrev S128x19x512 : Shape := ⟨3, ![128, 19, 512]⟩

abbrev nBuf : Space → Nat
  | .hbm => 70
  | .vmem => 23
  | .smem => 0
  | _ => 0

abbrev bufTy : (tb : Table) → Fin (tcTables nBuf tb) → BufTy
  | .hbm, ⟨0, _⟩ => ⟨S128x4x1024, .f32⟩
  | .hbm, ⟨1, _⟩ => ⟨S1x1024x5632, .f32⟩
  | .hbm, ⟨2, _⟩ => ⟨S1x128x15x512, .f32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S512, .f32⟩
  | .hbm, ⟨38, _⟩ => ⟨S512x1, .f32⟩
  | .hbm, ⟨39, _⟩ => ⟨S1x64, .f32⟩
  | .hbm, ⟨40, _⟩ => ⟨S512x64, .f32⟩
  | .hbm, ⟨41, _⟩ => ⟨S512x64, .f32⟩
  | .hbm, ⟨42, _⟩ => ⟨S512x64, .f32⟩
  | .hbm, ⟨43, _⟩ => ⟨S512x64, .f32⟩
  | .hbm, ⟨44, _⟩ => ⟨S512x64, .f32⟩
  | .hbm, ⟨45, _⟩ => ⟨S512x128, .f32⟩
  | .hbm, ⟨46, _⟩ => ⟨S512x64, .f32⟩
  | .hbm, ⟨47, _⟩ => ⟨S512x128, .f32⟩
  | .hbm, ⟨48, _⟩ => ⟨S512x1024, .f32⟩
  | .hbm, ⟨49, _⟩ => ⟨S1024x5632, .f32⟩
  | .hbm, ⟨50, _⟩ => ⟨S1024x5632, .bf16⟩
  | .hbm, ⟨51, _⟩ => ⟨S512x512, .f32⟩
  | .hbm, ⟨52, _⟩ => ⟨S512x1024, .f32⟩
  | .hbm, ⟨53, _⟩ => ⟨S512x1024, .f32⟩
  | .hbm, ⟨54, _⟩ => ⟨S512x1024, .bf16⟩
  | .hbm, ⟨55, _⟩ => ⟨S512x1024, .f32⟩
  | .hbm, ⟨56, _⟩ => ⟨S512x1024, .bf16⟩
  | .hbm, ⟨57, _⟩ => ⟨S512x1024, .f32⟩
  | .hbm, ⟨58, _⟩ => ⟨S512x1024, .f32⟩
  | .hbm, ⟨59, _⟩ => ⟨S128x4x512, .f32⟩
  | .hbm, ⟨60, _⟩ => ⟨S128x4x1024, .f32⟩
  | .hbm, ⟨61, _⟩ => ⟨S128x4x1024, .f32⟩
  | .hbm, ⟨62, _⟩ => ⟨S128x4x8x128, .f32⟩
  | .hbm, ⟨63, _⟩ => ⟨S1x128x4x8x128, .f32⟩
  | .hbm, ⟨64, _⟩ => ⟨S128x4x8x128, .f32⟩
  | .hbm, ⟨65, _⟩ => ⟨S1x128x4x8x128, .f32⟩
  | .hbm, ⟨66, _⟩ => ⟨S128x15x512, .f32⟩
  | .hbm, ⟨67, _⟩ => ⟨S128x19x512, .f32⟩
  | .hbm, ⟨68, _⟩ => ⟨S128x15x512, .f32⟩
  | .hbm, ⟨69, _⟩ => ⟨S1x128x15x512, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24_0 : Ref sig .tc := ⟨.hbm, 51, rfl⟩
abbrev main_v24_1 : Ref sig .tc := ⟨.hbm, 52, rfl⟩
abbrev main_v24_2 : Ref sig .tc := ⟨.hbm, 53, rfl⟩
abbrev main_v24_3 : Ref sig .tc := ⟨.hbm, 54, rfl⟩
abbrev main_v24_4 : Ref sig .tc := ⟨.hbm, 55, rfl⟩
abbrev main_v24_5 : Ref sig .tc := ⟨.hbm, 56, rfl⟩
abbrev main_v24_6 : Ref sig .tc := ⟨.hbm, 57, rfl⟩
abbrev main_v24_7 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjSRefIdeal.lean ====
abbrev S128x4x1024 : Shape := ⟨3, ![128, 4, 1024]⟩
abbrev S1x1024x5632 : Shape := ⟨3, ![1, 1024, 5632]⟩
abbrev S1x128x15x512 : Shape := ⟨4, ![1, 128, 15, 512]⟩
abbrev S4 : Shape := ⟨1, ![4]⟩
abbrev S_ : Shape := ⟨0, ![]⟩
abbrev S1024x5632 : Shape := ⟨2, ![1024, 5632]⟩
abbrev S128x4x5632 : Shape := ⟨3, ![128, 4, 5632]⟩
abbrev S128x4x512 : Shape := ⟨3, ![128, 4, 512]⟩
abbrev S128x4x8x128 : Shape := ⟨4, ![128, 4, 8, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S128x4x8x64 : Shape := ⟨4, ![128, 4, 8, 64]⟩
abbrev S512x1024 : Shape := ⟨2, ![512, 1024]⟩
abbrev S512x512 : Shape := ⟨2, ![512, 512]⟩
abbrev S1x128x4x8x128 : Shape := ⟨5, ![1, 128, 4, 8, 128]⟩
abbrev S128x15x512 : Shape := ⟨3, ![128, 15, 512]⟩
abbrev S128x19x512 : Shape := ⟨3, ![128, 19, 512]⟩

abbrev nBuf : Space → Nat
  | .hbm => 94
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024x5632, .f32⟩
  | .hbm, ⟨2, _⟩ => ⟨S1x128x15x512, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1024x5632, .f32⟩
  | .hbm, ⟨8, _⟩ => ⟨S128x4x5632, .f32⟩
  | .hbm, ⟨9, _⟩ => ⟨S128x4x512, .f32⟩
  | .hbm, ⟨10, _⟩ => ⟨S128x4x1024, .f32⟩
  | .hbm, ⟨11, _⟩ => ⟨S128x4x1024, .f32⟩
  | .hbm, ⟨12, _⟩ => ⟨S128x4x1024, .f32⟩
  | .hbm, ⟨13, _⟩ => ⟨S128x4x1024, .f32⟩
  | .hbm, ⟨14, _⟩ => ⟨S128x4x1024, .f32⟩
  | .hbm, ⟨15, _⟩ => ⟨S128x4x8x128, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S4, .f32⟩
  | .hbm, ⟨25, _⟩ => ⟨S4x1, .f32⟩
  | .hbm, ⟨26, _⟩ => ⟨S1x64, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S4x64, .f32⟩
  | .hbm, ⟨31, _⟩ => ⟨S1x4x1x64, .f32⟩
  | .hbm, ⟨32, _⟩ => ⟨S4x64, .f32⟩
  | .hbm, ⟨33, _⟩ => ⟨S1x4x1x64, .f32⟩
  | .hbm, ⟨34, _⟩ => ⟨S128x4x8x64, .f32⟩
  | .hbm, ⟨35, _⟩ => ⟨S128x4x8x64, .f32⟩
  | .hbm, ⟨36, _⟩ => ⟨S128x4x8x64, .f32⟩
  | .hbm, ⟨37, _⟩ => ⟨S128x4x8x64, .f32⟩
  | .hbm, ⟨38, _⟩ => ⟨S128x4x8x64, .f32⟩
  | .hbm, ⟨39, _⟩ => ⟨S128x4x8x64, .f32⟩
  | .hbm, ⟨40, _⟩ => ⟨S128x4x8x64, .f32⟩
  | .hbm, ⟨41, _⟩ => ⟨S128x4x8x64, .f32⟩
  | .hbm, ⟨42, _⟩ => ⟨S128x4x8x64, .f32⟩
  | .hbm, ⟨43, _⟩ => ⟨S128x4x8x64, .f32⟩
  | .hbm, ⟨44, _⟩ => ⟨S128x4x8x64, .f32⟩
  | .hbm, ⟨45, _⟩ => ⟨S128x4x8x64, .f32⟩
  | .hbm, ⟨46, _⟩ => ⟨S128x4x8x128, .f32⟩
  | .hbm, ⟨47, _⟩ => ⟨S128x4x8x128, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S4, .f32⟩
  | .hbm, ⟨57, _⟩ => ⟨S4x1, .f32⟩
  | .hbm, ⟨58, _⟩ => ⟨S1x64, .f32⟩
  | .hbm, ⟨59, _⟩ => ⟨S4x64, .f32⟩
  | .hbm, ⟨60, _⟩ => ⟨S4x64, .f32⟩
  | .hbm, ⟨61, _⟩ => ⟨S4x64, .f32⟩
  | .hbm, ⟨62, _⟩ => ⟨S4x64, .f32⟩
  | .hbm, ⟨63, _⟩ => ⟨S1x4x1x64, .f32⟩
  | .hbm, ⟨64, _⟩ => ⟨S4x64, .f32⟩
  | .hbm, ⟨65, _⟩ => ⟨S1x4x1x64, .f32⟩
  | .hbm, ⟨66, _⟩ => ⟨S128x4x8x64, .f32⟩
  | .hbm, ⟨67, _⟩ => ⟨S128x4x8x64, .f32⟩
  | .hbm, ⟨68, _⟩ => ⟨S128x4x8x64, .f32⟩
  | .hbm, ⟨69, _⟩ => ⟨S128x4x8x64, .f32⟩
  | .hbm, ⟨70, _⟩ => ⟨S128x4x8x64, .f32⟩
  | .hbm, ⟨71, _⟩ => ⟨S128x4x8x64, .f32⟩
  | .hbm, ⟨72, _⟩ => ⟨S128x4x8x64, .f32⟩
  | .hbm, ⟨73, _⟩ => ⟨S128x4x8x64, .f32⟩
  | .hbm, ⟨74, _⟩ => ⟨S128x4x8x64, .f32⟩
  | .hbm, ⟨75, _⟩ => ⟨S128x4x8x64, .f32⟩
  | .hbm, ⟨76, _⟩ => ⟨S128x4x8x64, .f32⟩
  | .hbm, ⟨77, _⟩ => ⟨S128x4x8x64, .f32⟩
  | .hbm, ⟨78, _⟩ => ⟨S128x4x8x128, .f32⟩
  | .hbm, ⟨79, _⟩ => ⟨S512x1024, .f32⟩
  | .hbm, ⟨80, _⟩ => ⟨S512x1024, .f32⟩
  | .hbm, ⟨81, _⟩ => ⟨S512x512, .f32⟩
  | .hbm, ⟨82, _⟩ => ⟨S512x1024, .f32⟩
  | .hbm, ⟨83, _⟩ => ⟨S512x1024, .bf16⟩
  | .hbm, ⟨84, _⟩ => ⟨S512x1024, .bf16⟩
  | .hbm, ⟨85, _⟩ => ⟨S512x1024, .f32⟩
  | .hbm, ⟨86, _⟩ => ⟨S512x1024, .f32⟩
  | .hbm, ⟨87, _⟩ => ⟨S1x128x4x8x128, .f32⟩
  | .hbm, ⟨88, _⟩ => ⟨S128x4x8x128, .f32⟩
  | .hbm, ⟨89, _⟩ => ⟨S1x128x4x8x128, .f32⟩
  | .hbm, ⟨90, _⟩ => ⟨S128x15x512, .f32⟩
  | .hbm, ⟨91, _⟩ => ⟨S128x19x512, .f32⟩
  | .hbm, ⟨92, _⟩ => ⟨S128x15x512, .f32⟩
  | .hbm, ⟨93, _⟩ => ⟨S1x128x15x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩

abbrev nD : Nat := 1
abbrev τ : Topo := Topo.v7x

variable {F : FTy → Type} [FloatOps F]
-- ==== PoolS.lean ====
abbrev S1x128x15x512 : Shape := ⟨4, ![1, 128, 15, 512]⟩
abbrev S128x4x512 : Shape := ⟨3, ![128, 4, 512]⟩
abbrev S1x4x128x128 : Shape := ⟨4, ![1, 4, 128, 128]⟩
abbrev S1x512 : Shape := ⟨2, ![1, 512]⟩
abbrev S128x15x512 : Shape := ⟨3, ![128, 15, 512]⟩
abbrev S128x19x512 : Shape := ⟨3, ![128, 19, 512]⟩
abbrev S15x128x512 : Shape := ⟨3, ![15, 128, 512]⟩
abbrev S4x128x512 : Shape := ⟨3, ![4, 128, 512]⟩
abbrev S4x128x128 : Shape := ⟨3, ![4, 128, 128]⟩
abbrev S512 : Shape := ⟨1, ![512]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 15
  | .vmem => 5
  | .smem => 0
  | _ => 0

abbrev bufTy : (tb : Table) → Fin (tcTables nBuf tb) → BufTy
  | .hbm, ⟨0, _⟩ => ⟨S1x128x15x512, .f32⟩
  | .hbm, ⟨1, _⟩ => ⟨S128x4x512, .f32⟩
  | .hbm, ⟨2, _⟩ => ⟨S1x4x128x128, .f32⟩
  | .hbm, ⟨3, _⟩ => ⟨S1x512, .f32⟩
  | .hbm, ⟨4, _⟩ => ⟨S128x15x512, .f32⟩
  | .hbm, ⟨5, _⟩ => ⟨S128x19x512, .f32⟩
  | .hbm, ⟨6, _⟩ => ⟨S128x15x512, .f32⟩
  | .hbm, ⟨7, _⟩ => ⟨S128x15x512, .f32⟩
  | .hbm, ⟨8, _⟩ => ⟨S15x128x512, .f32⟩
  | .hbm, ⟨9, _⟩ => ⟨S4x128x512, .f32⟩
  | .hbm, ⟨10, _⟩ => ⟨S4x128x128, .f32⟩
  | .hbm, ⟨11, _⟩ => ⟨S4x128x128, .bf16⟩
  | .hbm, ⟨12, _⟩ => ⟨S512, .f32⟩
  | .hbm, ⟨13, _⟩ => ⟨S1x512, .f32⟩
  | .hbm, ⟨14, _⟩ => ⟨S4x128x512, .bf16⟩
  | .local _ .vmem, ⟨0, _⟩ => ⟨S15x128x512, .f32⟩
  | .local _ .vmem, ⟨1, _⟩ => ⟨S4x128x512, .f32⟩
  | .local _ .vmem, ⟨2, _⟩ => ⟨S4x128x128, .bf16⟩
  | .local _ .vmem, ⟨3, _⟩ => ⟨S1x512, .f32⟩
  | .local _ .vmem, ⟨4, _⟩ => ⟨S4x128x512, .bf16⟩
  | _, _ => ⟨S1x128x15x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S15x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolSRefIdeal.lean ====
abbrev S1x128x15x512 : Shape := ⟨4, ![1, 128, 15, 512]⟩
abbrev S128x4x512 : Shape := ⟨3, ![128, 4, 512]⟩
abbrev S1x4x128x128 : Shape := ⟨4, ![1, 4, 128, 128]⟩
abbrev S1x512 : Shape := ⟨2, ![1, 512]⟩
abbrev S4 : Shape := ⟨1, ![4]⟩
abbrev S_ : Shape := ⟨0, ![]⟩
abbrev S128x15x512 : Shape := ⟨3, ![128, 15, 512]⟩
abbrev S128x19x512 : Shape := ⟨3, ![128, 19, 512]⟩
abbrev S128x20x512 : Shape := ⟨3, ![128, 20, 512]⟩
abbrev S128x4x128 : Shape := ⟨3, ![128, 4, 128]⟩
abbrev S1x4x1 : Shape := ⟨3, ![1, 4, 1]⟩
abbrev S128x4x1x128 : Shape := ⟨4, ![128, 4, 1, 128]⟩
abbrev S128x4x4x128 : Shape := ⟨4, ![128, 4, 4, 128]⟩
abbrev S4x128x128 : Shape := ⟨3, ![4, 128, 128]⟩
abbrev S4x128x128x4 : Shape := ⟨4, ![4, 128, 128, 4]⟩
abbrev S512 : Shape := ⟨1, ![512]⟩
abbrev S1x1x512 : Shape := ⟨3, ![1, 1, 512]⟩
abbrev S4x128x512 : Shape := ⟨3, ![4, 128, 512]⟩

abbrev nBuf : Space → Nat
  | .hbm => 92
  | .vmem => 0
  | .smem => 0
  | _ => 0

abbrev bufTy : (tb : Table) → Fin (tcTables nBuf tb) → BufTy
  | .hbm, ⟨0, _⟩ => ⟨S1x128x15x512, .f32⟩
  | .hbm, ⟨1, _⟩ => ⟨S128x4x512, .f32⟩
  | .hbm, ⟨2, _⟩ => ⟨S1x4x128x128, .f32⟩
  | .hbm, ⟨3, _⟩ => ⟨S1x512, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S128x15x512, .f32⟩
  | .hbm, ⟨9, _⟩ => ⟨S128x19x512, .f32⟩
  | .hbm, ⟨10, _⟩ => ⟨S_, .f32⟩
  | .hbm, ⟨11, _⟩ => ⟨S_, .f32⟩
  | .hbm, ⟨12, _⟩ => ⟨S128x19x512, .f32⟩
  | .hbm, ⟨13, _⟩ => ⟨S_, .i32⟩
  | .hbm, ⟨14, _⟩ => ⟨S_, .f32⟩
  | .hbm, ⟨15, _⟩ => ⟨S128x20x512, .f32⟩
  | .hbm, ⟨16, _⟩ => ⟨S128x4x128, .f32⟩
  | .hbm, ⟨17, _⟩ => ⟨S128x4x128, .f32⟩
  | .hbm, ⟨18, _⟩ => ⟨S128x4x128, .f32⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S4, .f32⟩
  | .hbm, ⟨26, _⟩ => ⟨S1x4x1, .f32⟩
  | .hbm, ⟨27, _⟩ => ⟨S128x4x128, .f32⟩
  | .hbm, ⟨28, _⟩ => ⟨S128x4x128, .f32⟩
  | .hbm, ⟨29, _⟩ => ⟨S128x4x128, .f32⟩
  | .hbm, ⟨30, _⟩ => ⟨S128x4x128, .f32⟩
  | .hbm, ⟨31, _⟩ => ⟨S128x4x128, .f32⟩
  | .hbm, ⟨32, _⟩ => ⟨S128x4x128, .f32⟩
  | .hbm, ⟨33, _⟩ => ⟨S128x4x128, .f32⟩
  | .hbm, ⟨34, _⟩ => ⟨S_, .i32⟩
  | .hbm, ⟨35, _⟩ => ⟨S4, .i32⟩
  | .hbm, ⟨36, _⟩ => ⟨S4, .i32⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .f32⟩
  | .hbm, ⟨41, _⟩ => ⟨S1x4x1, .f32⟩
  | .hbm, ⟨42, _⟩ => ⟨S128x4x128, .f32⟩
  | .hbm, ⟨43, _⟩ => ⟨S128x4x128, .f32⟩
  | .hbm, ⟨44, _⟩ => ⟨S128x4x128, .f32⟩
  | .hbm, ⟨45, _⟩ => ⟨S128x4x128, .f32⟩
  | .hbm, ⟨46, _⟩ => ⟨S128x4x128, .f32⟩
  | .hbm, ⟨47, _⟩ => ⟨S128x4x128, .f32⟩
  | .hbm, ⟨48, _⟩ => ⟨S128x4x128, .f32⟩
  | .hbm, ⟨49, _⟩ => ⟨S_, .i32⟩
  | .hbm, ⟨50, _⟩ => ⟨S4, .i32⟩
  | .hbm, ⟨51, _⟩ => ⟨S4, .i32⟩
  | .hbm, ⟨52, _⟩ => ⟨S_, .i32⟩
  | .hbm, ⟨53, _⟩ => ⟨S4, .i32⟩
  | .hbm, ⟨54, _⟩ => ⟨S4, .i32⟩
  | .hbm, ⟨55, _⟩ => ⟨S4, .f32⟩
  | .hbm, ⟨56, _⟩ => ⟨S1x4x1, .f32⟩
  | .hbm, ⟨57, _⟩ => ⟨S128x4x128, .f32⟩
  | .hbm, ⟨58, _⟩ => ⟨S128x4x128, .f32⟩
  | .hbm, ⟨59, _⟩ => ⟨S128x4x128, .f32⟩
  | .hbm, ⟨60, _⟩ => ⟨S128x4x128, .f32⟩
  | .hbm, ⟨61, _⟩ => ⟨S128x4x128, .f32⟩
  | .hbm, ⟨62, _⟩ => ⟨S128x4x128, .f32⟩
  | .hbm, ⟨63, _⟩ => ⟨S128x4x128, .f32⟩
  | .hbm, ⟨64, _⟩ => ⟨S_, .i32⟩
  | .hbm, ⟨65, _⟩ => ⟨S4, .i32⟩
  | .hbm, ⟨66, _⟩ => ⟨S4, .i32⟩
  | .hbm, ⟨67, _⟩ => ⟨S_, .i32⟩
  | .hbm, ⟨68, _⟩ => ⟨S4, .i32⟩
  | .hbm, ⟨69, _⟩ => ⟨S4, .i32⟩
  | .hbm, ⟨70, _⟩ => ⟨S4, .f32⟩
  | .hbm, ⟨71, _⟩ => ⟨S1x4x1, .f32⟩
  | .hbm, ⟨72, _⟩ => ⟨S128x4x128, .f32⟩
  | .hbm, ⟨73, _⟩ => ⟨S128x4x128, .f32⟩
  | .hbm, ⟨74, _⟩ => ⟨S128x4x128, .f32⟩
  | .hbm, ⟨75, _⟩ => ⟨S128x4x128, .f32⟩
  | .hbm, ⟨76, _⟩ => ⟨S128x4x1x128, .f32⟩
  | .hbm, ⟨77, _⟩ => ⟨S128x4x1x128, .f32⟩
  | .hbm, ⟨78, _⟩ => ⟨S128x4x1x128, .f32⟩
  | .hbm, ⟨79, _⟩ => ⟨S128x4x1x128, .f32⟩
  | .hbm, ⟨80, _⟩ => ⟨S128x4x4x128, .f32⟩
  | .hbm, ⟨81, _⟩ => ⟨S4x128x128, .f32⟩
  | .hbm, ⟨82, _⟩ => ⟨S4x128x128x4, .f32⟩
  | .hbm, ⟨83, _⟩ => ⟨S128x4x4x128, .f32⟩
  | .hbm, ⟨84, _⟩ => ⟨S128x4x512, .f32⟩
  | .hbm, ⟨85, _⟩ => ⟨S512, .f32⟩
  | .hbm, ⟨86, _⟩ => ⟨S1x1x512, .f32⟩
  | .hbm, ⟨87, _⟩ => ⟨S128x4x512, .f32⟩
  | .hbm, ⟨88, _⟩ => ⟨S128x4x512, .f32⟩
  | .hbm, ⟨89, _⟩ => ⟨S128x4x512, .bf16⟩
  | .hbm, ⟨90, _⟩ => ⟨S4x128x512, .bf16⟩
  | .hbm, ⟨91, _⟩ => ⟨S128x15x512, .f32⟩
  | _, _ => ⟨S1x128x15x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Proof.TopkRounds.lean ====
/-
  The routing kernel's printed block, folded into the four steps it is made of: the products with one query, the sums
  over each head's lanes, the count of the blocks ahead of each block (32 rounds), and the row of the blocks with a
  given count. The statements here only fold the printed text; what the steps compute is in `TopkBlock`.
-/
module

public import proofs.«01_k».proof.Proof.Gen.TopkIdeal.Value

@[expose] public section

noncomputable section

namespace Cert.Proof.Topk

open Cert.TopkIdeal Cert.TopkIdeal.Gen Idealize.ShloMosaic Idealize.ShloMosaic.TcCoe Idealize.ShloMosaic.Tactic Idealize.SL.Sem

variable {F : FTy → Type} [FloatOps F]

/-- The key means times one query, lane by lane. -/
def products (q : Vec F S1x4x1024 .f32) (k : Vec F S1x32x1024 .f32) (o : Fin 2 → ℕ) (h : S4x1024.Slices o S1x1024) :
    FVec F S32x1024 .f32 :=
  mulf (k0_pay3 k) (broadcastTo S32x1024 (extractStridedSlice S1x1024 o (k0_pay2 q) h) broadcasts_S1x1024_S32x1024)

/-- The sums over one head's lanes, as a column. -/
def headSum (p : FVec F S32x1024 .f32) (o : Fin 2 → ℕ) (h : S32x1024.Slices o S32x128) : FVec F S32x1 .f32 :=
  shapeCast S32x1 (multiReduction .add [1] S32 (extractStridedSlice S32x128 o p h) 0x00000000#32 reduces_S32x128_S32 (.inl rfl) rfl)
    shapeCasts_S32_S32x1

/-- A column put into one lane. -/
def put (b : BitVec 32) (s : FVec F S32x1 .f32) (acc : FVec F S32x128 .f32) : FVec F S32x128 .f32 :=
  select (cmpi .eq (iota .tc S32x128 32 [1] iota_S32x128_d1_w32) (broadcast S32x128 b))
    (broadcastTo S32x128 (shapeCast S32x1 s shapeCasts_S32x1_S32x1) broadcasts_S32x1_S32x128) acc

/-- The gates of the 32 blocks (rows) for the heads (lanes), before the mask. -/
def heads (p : FVec F S32x1024 .f32) : FVec F S32x128 .f32 :=
  put 7#32 (headSum p ![0, 896] slices_S32x1024_o0_896_S32x128) <| put 6#32 (headSum p ![0, 768] slices_S32x1024_o0_768_S32x128) <|
  put 5#32 (headSum p ![0, 640] slices_S32x1024_o0_640_S32x128) <| put 4#32 (headSum p ![0, 512] slices_S32x1024_o0_512_S32x128) <|
  put 3#32 (headSum p ![0, 384] slices_S32x1024_o0_384_S32x128) <| put 2#32 (headSum p ![0, 256] slices_S32x1024_o0_256_S32x128) <|
  put 1#32 (headSum p ![0, 128] slices_S32x1024_o0_128_S32x128) <| put 0#32 (headSum p ![0, 0] slices_S32x1024_o0_0_S32x128) <|
  broadcast S32x128 (Scalar.ofBits .f32 0x00000000#32)

/-- The gates with the mask of the rows past the last block: there is no such row. -/
def gates (p : FVec F S32x1024 .f32) : FVec F S32x128 .f32 :=
  select (cmpi .slt (iota .tc S32x128 32 [0] iota_S32x128_d0_w32) (broadcast S32x128 32#32)) (heads p)
    (broadcast S32x128 (Scalar.ofBits .f32 0xF149F2CA#32))

theorem slice_row (m : ℕ) (h : m < 32) : S32x128.Slices ![m, 0] S1x128 :=
  ⟨rfl, fun a => match a with | ⟨0, _⟩ => by show m + 1 ≤ 32; omega | ⟨1, _⟩ => by show 0 + 128 ≤ 128; omega⟩

/-- One round of the count: block `m` is compared with every block. -/
def count (g : FVec F S32x128 .f32) (m : ℕ) (h : m < 32) (r : IVec S32x128 32) : IVec S32x128 32 :=
  addi r (extui 32 (ori
    (cmpf .ogt (broadcastTo S32x128 (extractStridedSlice S1x128 ![m, 0] g (slice_row m h)) broadcasts_S1x128_S32x128) g)
    (andi (cmpf .oeq (broadcastTo S32x128 (extractStridedSlice S1x128 ![m, 0] g (slice_row m h)) broadcasts_S1x128_S32x128) g)
      (cmpi .sgt (iota .tc S32x128 32 [0] iota_S32x128_d0_w32) (broadcast S32x128 (BitVec.ofNat 32 m))))) natLt_1_32)

/-- The count after the first `n` rounds. -/
def counted (g : FVec F S32x128 .f32) : (n : ℕ) → n ≤ 32 → IVec S32x128 32
  | 0, _ => broadcast S32x128 0#32
  | n + 1, h => count g n h (counted g n (Nat.le_of_succ_le h))

/-- The blocks with a given count, one per lane, as a row of the result. -/
def chosen (r : IVec S32x128 32) (b : BitVec 32) : IVec S1x1x128 32 :=
  shapeCast S1x1x128 (fptosi 32 (shapeCast S1x128 (multiReduction .add [0] S128
    (select (cmpi .eq r (broadcast S32x128 b)) (k0_pay4 (F := F)) (broadcast S32x128 (Scalar.ofBits .f32 0x00000000#32)))
    0x00000000#32 reduces_S32x128_S128 (.inl rfl) rfl) shapeCasts_S128_S1x128)) shapeCasts_S1x128_S1x1x128

/-- The row of one query and one place in the order. -/
def place (q : Vec F S1x4x1024 .f32) (k : Vec F S1x32x1024 .f32) (o : Fin 2 → ℕ) (h : S4x1024.Slices o S1x1024) (b : BitVec 32) :
    IVec S1x1x128 32 :=
  chosen (F := F) (counted (gates (products q k o h)) 32 le_rfl) b

/-! ### The gates of the four queries -/

set_option maxRecDepth 65536 in
theorem gates_0 (q : Vec F S1x4x1024 .f32) (k : Vec F S1x32x1024 .f32) :
    k0_pay9 (iota .tc S32x128 32 [1] iota_S32x128_d1_w32) (k0_pay6 q k) (k0_pay7 q k) (k0_pay8 q k)
      = gates (products q k ![0, 0] slices_S4x1024_o0_0_S1x1024) := rfl

set_option maxRecDepth 65536 in
theorem gates_1 (q : Vec F S1x4x1024 .f32) (k : Vec F S1x32x1024 .f32) :
    k0_pay46 (iota .tc S32x128 32 [1] iota_S32x128_d1_w32) (k0_pay43 (k0_pay2 q) (k0_pay3 k)) (k0_pay44 (k0_pay2 q) (k0_pay3 k) (iota .tc S32x128 32 [1] iota_S32x128_d1_w32)) (k0_pay45 (k0_pay2 q) (k0_pay3 k)) 4#32
      = gates (products q k ![1, 0] slices_S4x1024_o1_0_S1x1024) := rfl

set_option maxRecDepth 65536 in
theorem gates_2 (q : Vec F S1x4x1024 .f32) (k : Vec F S1x32x1024 .f32) :
    k0_pay84 (iota .tc S32x128 32 [1] iota_S32x128_d1_w32) (k0_pay80 (k0_pay3 k) (k0_pay79 (k0_pay2 q))) (k0_pay81 (k0_pay3 k) (iota .tc S32x128 32 [1] iota_S32x128_d1_w32) (k0_pay79 (k0_pay2 q))) (k0_pay82 (k0_pay3 k) (k0_pay79 (k0_pay2 q))) k0_pay83
      = gates (products q k ![2, 0] slices_S4x1024_o2_0_S1x1024) := rfl

set_option maxRecDepth 65536 in
theorem gates_3 (q : Vec F S1x4x1024 .f32) (k : Vec F S1x32x1024 .f32) :
    k0_pay115 (iota .tc S32x128 32 [1] iota_S32x128_d1_w32) (k0_pay108 (k0_pay2 q) (k0_pay3 k)) (k0_pay112 (iota .tc S32x128 32 [1] iota_S32x128_d1_w32) (k0_pay108 (k0_pay2 q) (k0_pay3 k)) k0_pay109 (k0_pay110 (k0_pay2 q) (k0_pay3 k)) (k0_pay111 (iota .tc S32x128 32 [1] iota_S32x128_d1_w32))) (k0_pay113 (k0_pay108 (k0_pay2 q) (k0_pay3 k))) (k0_pay114 (iota .tc S32x128 32 [1] iota_S32x128_d1_w32))
      = gates (products q k ![3, 0] slices_S4x1024_o3_0_S1x1024) := rfl

/-! ### What the block leaves -/

theorem zero3 : (![0, 0, 0] : Fin 3 → ℕ) = fun _ => 0 := funext fun a => by fin_cases a <;> rfl

set_option maxRecDepth 65536 in
theorem out_eq (c : Dev nD) (i : grid0.Coords) (arg1 : Memref sig .tc .vmem S1x4x1024 .f32) (harg1 : arg1.IsWhole)
    (arg2 : Memref sig .tc .vmem S1x32x1024 .f32) (harg2 : arg2.IsWhole) (arg3 : Memref sig .tc .vmem S1x16x128 .i32)
    (harg3 : arg3.IsWhole) (x0 : Vec F S1x4x1024 .f32) (x1 : Vec F S1x32x1024 .f32) :
    out0_A_2 c i arg1 harg1 arg2 harg2 arg3 harg3 x0 x1 = View.canon (Val := Elt F) (e := .i32)
      [⟨Rect.unit ![0, 11, 0] ![1, 1, 128] inb_S1x16x128_S1x1x128_0_11_0, place x0 x1 ![3, 0] slices_S4x1024_o3_0_S1x1024 2#32⟩,
       ⟨Rect.unit ![0, 10, 0] ![1, 1, 128] inb_S1x16x128_S1x1x128_0_10_0, place x0 x1 ![3, 0] slices_S4x1024_o3_0_S1x1024 1#32⟩,
       ⟨Rect.unit ![0, 9, 0] ![1, 1, 128] inb_S1x16x128_S1x1x128_0_9_0, place x0 x1 ![3, 0] slices_S4x1024_o3_0_S1x1024 0#32⟩,
       ⟨Rect.unit ![0, 8, 0] ![1, 1, 128] inb_S1x16x128_S1x1x128_0_8_0, place x0 x1 ![2, 0] slices_S4x1024_o2_0_S1x1024 2#32⟩,
       ⟨Rect.unit ![0, 7, 0] ![1, 1, 128] inb_S1x16x128_S1x1x128_0_7_0, place x0 x1 ![2, 0] slices_S4x1024_o2_0_S1x1024 1#32⟩,
       ⟨Rect.unit ![0, 6, 0] ![1, 1, 128] inb_S1x16x128_S1x1x128_0_6_0, place x0 x1 ![2, 0] slices_S4x1024_o2_0_S1x1024 0#32⟩,
       ⟨Rect.unit ![0, 5, 0] ![1, 1, 128] inb_S1x16x128_S1x1x128_0_5_0, place x0 x1 ![1, 0] slices_S4x1024_o1_0_S1x1024 2#32⟩,
       ⟨Rect.unit ![0, 4, 0] ![1, 1, 128] inb_S1x16x128_S1x1x128_0_4_0, place x0 x1 ![1, 0] slices_S4x1024_o1_0_S1x1024 1#32⟩,
       ⟨Rect.unit ![0, 3, 0] ![1, 1, 128] inb_S1x16x128_S1x1x128_0_3_0, place x0 x1 ![1, 0] slices_S4x1024_o1_0_S1x1024 0#32⟩,
       ⟨Rect.unit ![0, 2, 0] ![1, 1, 128] inb_S1x16x128_S1x1x128_0_2_0, place x0 x1 ![0, 0] slices_S4x1024_o0_0_S1x1024 2#32⟩,
       ⟨Rect.unit ![0, 1, 0] ![1, 1, 128] inb_S1x16x128_S1x1x128_0_1_0, place x0 x1 ![0, 0] slices_S4x1024_o0_0_S1x1024 1#32⟩,
       ⟨Rect.unit ![0, 0, 0] ![1, 1, 128] inb_S1x16x128_S1x1x128_0_0_0, place x0 x1 ![0, 0] slices_S4x1024_o0_0_S1x1024 0#32⟩,
       ⟨Rect.unit ![0, 0, 0] ![1, 16, 128] inb_S1x16x128_S1x16x128_0_0_0, k0_pay5⟩] := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread]
  have e0 : View.ld x0 (Rect.unit ![0, 0, 0] ![1, 4, 1024] inb_S1x4x1024_S1x4x1024_0_0_0) = x0 :=
    View.ld_unit_zero zero3 _ x0
  have e1 : View.ld x1 (Rect.unit ![0, 0, 0] ![1, 32, 1024] inb_S1x32x1024_S1x32x1024_0_0_0) = x1 :=
    View.ld_unit_zero zero3 _ x1
  simp only [e0, e1, k0_pay11, k0_pay12, k0_pay13, k0_pay47, k0_pay48, k0_pay49, k0_pay50, k0_pay85, k0_pay86, k0_pay87,
    k0_pay116, k0_pay117, k0_pay118]
  rw [gates_0, gates_1, gates_2, gates_3]
  unfold place
  generalize gates (products x0 x1 ![0, 0] slices_S4x1024_o0_0_S1x1024) = g0
  generalize gates (products x0 x1 ![1, 0] slices_S4x1024_o1_0_S1x1024) = g1
  generalize gates (products x0 x1 ![2, 0] slices_S4x1024_o2_0_S1x1024) = g2
  generalize gates (products x0 x1 ![3, 0] slices_S4x1024_o3_0_S1x1024) = g3
  rfl

end Cert.Proof.Topk

end
-- ==== Proof.TopkOrder.lean ====
/-
  Counting the greater entries and sorting them are the same selection. For a list of keys, entry `m` is ahead of entry
  `n` when its key is greater, or is equal and `m` comes first. The entry at place `k` of the stable descending sort is
  the one with exactly `k` entries ahead of it, and the sum of the positions with count `k` is that one position.
-/
module

public import Idealize.ShloMosaic.Lib.SortPrefix
public import Idealize.ShloMosaic.PureOps.Ideal.Laws

@[expose] public section

namespace Cert.Proof.Topk

open Idealize.ShloMosaic

variable {n : ℕ}

/-- Entry `m` comes ahead of entry `n`. -/
noncomputable def ahead (key : Fin n → EReal) (a b : Fin n) : Bool :=
  decide (key b < key a) || (decide (key a = key b) && decide (a < b))

theorem ahead_order (key : Fin n → EReal) : StrictTotalBefore (ahead key) :=
  StrictTotalBefore.of_key_then_position (fun x y : EReal => decide (y < x)) key (by simp)
    (fun a b c h1 h2 => by simp only [decide_eq_true_eq] at h1 h2 ⊢; exact h2.trans h1)
    (fun a b => by simp only [decide_eq_true_eq]; rcases lt_trichotomy a b with h | h | h <;> tauto)

/-- A stable sort of the positions in order never asks for the positions of two equal keys. -/
theorem stableSort_eq (key : Fin n → EReal) (l : List (Fin n)) (hl : l.Pairwise (· < ·)) :
    stableSort (fun a b => decide (key b < key a)) l = stableSort (ahead key) l := by
  induction l with
  | nil => rfl
  | cons a l ih =>
    obtain ⟨h1, h2⟩ := List.pairwise_cons.mp hl
    unfold stableSort
    rw [ih h2]
    refine insertBefore_congr _ _ a _ fun b hb => ?_
    have hb' : a < b := h1 b ((perm_stableSort _ l).mem_iff.mp hb)
    simp [ahead, not_lt.mpr hb'.le]

theorem sortedFrom_eq (key : Fin n → EReal) : sortedFrom (fun a b => decide (key b < key a)) = sortedFrom (ahead key) := by
  have e : sortPositions n (fun a b => decide (key b < key a)) = sortPositions n (ahead key) :=
    stableSort_eq key _ (List.pairwise_lt_finRange n)
  funext k
  unfold sortedFrom
  rw [List.get_of_eq e]
  rfl

/-- In the sorted order "ahead" is "earlier". -/
theorem ahead_sorted (key : Fin n → EReal) (i j : Fin n) :
    ahead key (sortedFrom (ahead key) i) (sortedFrom (ahead key) j) = true ↔ i < j := by
  have hB := ahead_order key
  have ni : ∀ i j : Fin n, i < j → ahead key (sortedFrom (ahead key) j) (sortedFrom (ahead key) i) = false :=
    sortedFrom_noInversion (ahead key) (ahead key) (fun a b h => hB.asymm a b h) (fun _ _ h => h) hB.negTrans
  constructor
  · intro h
    rcases lt_trichotomy i j with h' | h' | h'
    · exact h'
    · subst h'; rw [hB.irrefl] at h; exact absurd h (by decide)
    · rw [ni j i h'] at h; exact absurd h (by decide)
  · intro h
    rcases hB.total _ _ (fun e => h.ne (sortedFrom_injective (ahead key) e)) with h' | h'
    · exact h'
    · rw [ni i j h] at h'; exact absurd h' (by decide)

/-- How many entries are ahead of entry `b`. -/
noncomputable def rank (key : Fin n → EReal) (b : Fin n) : ℕ := (Finset.univ.filter fun a => ahead key a b = true).card

theorem rank_lt (key : Fin n → EReal) (b : Fin n) : rank key b ≤ n := by
  unfold rank; exact (Finset.card_le_univ _).trans (by simp)

theorem rank_sorted (key : Fin n → EReal) (k : Fin n) : rank key (sortedFrom (ahead key) k) = k.val := by
  have e : (Finset.univ.filter fun a => ahead key a (sortedFrom (ahead key) k) = true)
      = (Finset.univ.filter fun i : Fin n => i < k).image (sortedFrom (ahead key)) := by
    ext a
    simp only [Finset.mem_filter, Finset.mem_univ, true_and, Finset.mem_image]
    constructor
    · intro h
      obtain ⟨i, rfl⟩ := sortedFrom_surjective (ahead key) a
      exact ⟨i, (ahead_sorted key i k).mp h, rfl⟩
    · rintro ⟨i, h, rfl⟩
      exact (ahead_sorted key i k).mpr h
  unfold rank
  rw [e, Finset.card_image_of_injective _ (sortedFrom_injective _)]
  have : (Finset.univ.filter fun i : Fin n => i < k) = Finset.Iio k := by ext; simp
  rw [this, Fin.card_Iio]

theorem rank_eq_iff (key : Fin n → EReal) (k b : Fin n) : rank key b = k.val ↔ b = sortedFrom (ahead key) k := by
  constructor
  · intro h
    obtain ⟨i, rfl⟩ := sortedFrom_surjective (ahead key) b
    rw [rank_sorted] at h
    rw [Fin.ext h]
  · rintro rfl; exact rank_sorted key k

/-- The sum of the positions with `k` entries ahead of them is the position that the sort puts at place `k`. -/
theorem sum_rank (key : Fin n → EReal) (k : Fin n) (f : Fin n → EReal) :
    (∑ b, if rank key b = k.val then f b else 0) = f (sortedFrom (fun a b => decide (key b < key a)) k) := by
  rw [sortedFrom_eq]
  simp only [rank_eq_iff]
  rw [Finset.sum_ite_eq' Finset.univ]
  simp

/-- The count of the entries among the first `p` that are ahead of `b`. -/
noncomputable def rankUpTo (key : Fin n → EReal) (p : ℕ) (b : Fin n) : ℕ :=
  (Finset.univ.filter fun a : Fin n => a.val < p ∧ ahead key a b = true).card

theorem rankUpTo_zero (key : Fin n → EReal) (b : Fin n) : rankUpTo key 0 b = 0 := by
  simp [rankUpTo]

theorem rankUpTo_succ (key : Fin n → EReal) (p : ℕ) (h : p < n) (b : Fin n) :
    rankUpTo key (p + 1) b = rankUpTo key p b + (if ahead key ⟨p, h⟩ b = true then 1 else 0) := by
  unfold rankUpTo
  have e : (Finset.univ.filter fun a : Fin n => a.val < p + 1 ∧ ahead key a b = true)
      = (Finset.univ.filter fun a : Fin n => a.val < p ∧ ahead key a b = true)
        ∪ (if ahead key ⟨p, h⟩ b = true then {⟨p, h⟩} else ∅) := by
    ext a
    simp only [Finset.mem_filter, Finset.mem_univ, true_and, Finset.mem_union]
    by_cases ha : a = ⟨p, h⟩
    · subst ha; split <;> simp_all
    · have : a.val ≠ p := fun e => ha (Fin.ext e)
      have : a.val < p + 1 ↔ a.val < p := by omega
      rw [this]; split <;> simp [ha]
  rw [e, Finset.card_union_of_disjoint]
  · congr 1; split <;> simp
  · split <;> simp

theorem rankUpTo_all (key : Fin n → EReal) (b : Fin n) : rankUpTo key n b = rank key b := by
  unfold rankUpTo rank; congr 1; ext a; simp [a.isLt]

end Cert.Proof.Topk

end
-- ==== Proof.TopkBlock.lean ====
/-
  The four steps of the routing kernel's block, read at an index over the extended reals: a lane's gate is the head's
  score, the rounds count the blocks ahead, and the row of place `k` names the block that a stable descending sort of
  the scores puts at place `k`.
-/
module

public import proofs.«01_k».proof.Proof.TopkRounds
public import proofs.«01_k».proof.Proof.TopkOrder
public import Idealize.ShloMosaic.Lib.Pipeline.Value
public import Idealize.ShloMosaic.Lib.ValueIdx
public import Idealize.ShloMosaic.Lib.Pointwise.ElementwiseCore

@[expose] public section

noncomputable section

namespace Cert.Proof.Topk

open Cert.TopkIdeal Cert.TopkIdeal.Gen Idealize.ShloMosaic Idealize.ShloMosaic.ValueIdx
open scoped BigOperators

/-- The lane of feature `d` of head `h`. -/
abbrev lane (h : Fin 8) (d : Fin 128) : Fin 1024 := ⟨128 * h.val + d.val, by omega⟩

/-- A head as a lane of a row of 128. -/
abbrev headLane (h : Fin 8) : Fin 128 := ⟨h.val, by omega⟩

/-! ### The gates -/

/-- A row laid under itself. -/
theorem row_apply {N : ℕ} (x : FVec Ideal ⟨2, ![1, N]⟩ .f32) (h : (⟨2, ![1, N]⟩ : Shape).Broadcasts ⟨2, ![32, N]⟩) (n : Fin 32)
    (j : Fin N) : broadcastTo ⟨2, ![32, N]⟩ x h (ix2 n j) = x (ix2 0 j) :=
  broadcastTo_apply x h (ix2 n j) (ix2 0 j) (fun a => match a with
    | ⟨0, _⟩ => rfl
    | ⟨1, _⟩ => by
      show j.val = if N = 1 then 0 else j.val
      split
      · have := j.isLt; omega
      · rfl)

theorem products_apply (q : FVec Ideal S1x4x1024 .f32) (k : FVec Ideal S1x32x1024 .f32) (t : Fin 4)
    (h : S4x1024.Slices ![t.val, 0] S1x1024) (n : Fin 32) (j : Fin 1024) :
    products (F := Ideal) q k ![t.val, 0] h (ix2 n j) = k (ix3 0 n j) * q (ix3 0 t j) := by
  unfold products k0_pay3 k0_pay2
  rw [mulf_apply]
  refine congrArg₂ (· * ·) ?_ ?_
  · exact shapeCast_apply k _ (ix2 n j) (ix3 0 n j) (by
      rw [Shape.rowMajor_val_three, Shape.rowMajor_val_two]; show (0 * 32 + n.val) * 1024 + j.val = n.val * 1024 + j.val; omega)
  · refine (row_apply (N := 1024) _ _ n j).trans ?_
    refine (extractStridedSlice_apply _ _ h (ix2 0 j) (ix2 t j) (fun a => match a with
      | ⟨0, _⟩ => rfl
      | ⟨1, _⟩ => (Nat.zero_add j.val).symm)).trans ?_
    exact shapeCast_apply q _ (ix2 t j) (ix3 0 t j) (by
      rw [Shape.rowMajor_val_three, Shape.rowMajor_val_two]; show (0 * 4 + t.val) * 1024 + j.val = t.val * 1024 + j.val; omega)

theorem headSum_apply (p : FVec Ideal S32x1024 .f32) (c : ℕ) (h : S32x1024.Slices ![0, c] S32x128) (hc : c + 128 ≤ 1024)
    (n : Fin 32) : headSum (F := Ideal) p ![0, c] h (ix2 n 0) = ∑ d : Fin 128, p (ix2 n ⟨c + d.val, by omega⟩) := by
  unfold headSum
  rw [shapeCast_apply _ shapeCasts_S32_S32x1 (ix2 n 0) (ix1 n) (by
    rw [Shape.rowMajor_val_one, Shape.rowMajor_val_two]; show n.val = n.val * 1 + 0; omega)]
  refine (Ideal.multiReduction_add_single _ _ _ _ _ _).trans ?_
  refine Finset.sum_congr rfl fun d _ => ?_
  exact extractStridedSlice_apply _ _ h _ (ix2 n ⟨c + d.val, by have : d.val < 128 := d.isLt; omega⟩) (fun a => match a with
    | ⟨0, _⟩ => (Nat.zero_add n.val).symm
    | ⟨1, _⟩ => rfl)

theorem put_apply (b : BitVec 32) (s : FVec Ideal S32x1 .f32) (acc : FVec Ideal S32x128 .f32) (n : Fin 32) (l : Fin 128) :
    put (F := Ideal) b s acc (ix2 n l) = if BitVec.ofNat 32 l.val = b then s (ix2 n 0) else acc (ix2 n l) := by
  unfold put
  have es : broadcastTo S32x128 (shapeCast S32x1 s shapeCasts_S32x1_S32x1) broadcasts_S32x1_S32x128 (ix2 n l) = s (ix2 n 0) := by
    rw [shapeCast_self]
    exact broadcastTo_apply s _ (ix2 n l) (ix2 n 0) (fun a => match a with | ⟨0, _⟩ => rfl | ⟨1, _⟩ => rfl)
  rw [select_apply, es]
  show (if BitVec.ofBool (iota .tc S32x128 32 [1] iota_S32x128_d1_w32 (ix2 n l) == b) = 1#1 then _ else _) = _
  rw [iota_single_apply]
  show (if BitVec.ofBool (BitVec.ofNat 32 l.val == b) = 1#1 then _ else _) = _
  by_cases h : BitVec.ofNat 32 l.val = b
  · simp [h]
  · rw [if_neg h, if_neg]
    rw [beq_eq_false_iff_ne.mpr h]; decide

theorem heads_apply (p : FVec Ideal S32x1024 .f32) (n : Fin 32) (h : Fin 8) :
    heads (F := Ideal) p (ix2 n (headLane h)) = ∑ d : Fin 128, p (ix2 n (lane h d)) := by
  unfold heads
  simp only [put_apply]
  fin_cases h <;> simp (decide := true) only [if_true, if_false] <;> exact headSum_apply p _ _ (by decide) n

theorem gates_apply (p : FVec Ideal S32x1024 .f32) (n : Fin 32) (h : Fin 8) :
    gates (F := Ideal) p (ix2 n (headLane h)) = ∑ d : Fin 128, p (ix2 n (lane h d)) := by
  unfold gates
  rw [select_apply]
  show (if IntOp.cmpi .slt (iota .tc S32x128 32 [0] iota_S32x128_d0_w32 (ix2 n (headLane h))) 32#32 = 1#1 then _ else _) = _
  rw [iota_single_apply]
  have e : ∀ n : Fin 32, IntOp.cmpi .slt (BitVec.ofNat 32 n.val) 32#32 = 1#1 := by decide
  exact (if_pos (e n)).trans (heads_apply p n h)

/-! ### The count -/

theorem count_apply (g : FVec Ideal S32x128 .f32) (m : ℕ) (h : m < 32) (r : IVec S32x128 32) (n : Fin 32) (l : Fin 128) :
    count (F := Ideal) g m h r (ix2 n l)
      = r (ix2 n l) + (if ahead (fun a => g (ix2 a l)) ⟨m, h⟩ n = true then 1#32 else 0#32) := by
  have eb : broadcastTo S32x128 (extractStridedSlice S1x128 ![m, 0] g (slice_row m h)) broadcasts_S1x128_S32x128 (ix2 n l)
      = g (ix2 ⟨m, h⟩ l) := by
    refine (row_apply (N := 128) _ _ n l).trans ?_
    exact extractStridedSlice_apply _ _ (slice_row m h) (ix2 0 l) (ix2 ⟨m, h⟩ l) (fun a => match a with
      | ⟨0, _⟩ => rfl
      | ⟨1, _⟩ => (Nat.zero_add l.val).symm)
  have ei : ∀ (m n : Fin 32), (BitVec.ofNat 32 m.val).slt (BitVec.ofNat 32 n.val) = decide (m < n) := by decide
  unfold count
  rw [addi_apply, extui_apply, ori_apply, andi_apply, cmpf_apply, cmpf_apply, eb]
  refine congrArg (r (ix2 n l) + ·) ?_
  show (_ ||| (_ &&& IntOp.cmpi .sgt (iota .tc S32x128 32 [0] iota_S32x128_d0_w32 (ix2 n l)) (BitVec.ofNat 32 m))).setWidth 32 = _
  rw [iota_single_apply]
  show (BitVec.ofBool (decide (g (ix2 n l) < g (ix2 ⟨m, h⟩ l))) ||| (BitVec.ofBool (decide (g (ix2 ⟨m, h⟩ l) = g (ix2 n l)))
    &&& BitVec.ofBool ((BitVec.ofNat 32 m).slt (BitVec.ofNat 32 n.val)))).setWidth 32 = _
  rw [ei ⟨m, h⟩ n]
  unfold ahead
  cases decide (g (ix2 n l) < g (ix2 ⟨m, h⟩ l)) <;> cases decide (g (ix2 ⟨m, h⟩ l) = g (ix2 n l)) <;> cases decide (⟨m, h⟩ < n) <;> rfl

theorem counted_apply (g : FVec Ideal S32x128 .f32) (p : ℕ) (h : p ≤ 32) (n : Fin 32) (l : Fin 128) :
    counted (F := Ideal) g p h (ix2 n l) = BitVec.ofNat 32 (rankUpTo (fun a => g (ix2 a l)) p n) := by
  induction p with
  | zero => rw [rankUpTo_zero]; rfl
  | succ p ih =>
    rw [counted, count_apply, ih, rankUpTo_succ _ p h, BitVec.ofNat_add]
    split <;> rfl

/-! ### The chosen block -/

theorem fptosi_position (n : Fin 32) : Ideal.fptosi 32 ((((n.val : ℤ) : ℝ)) : EReal) = BitVec.ofNat 32 n.val := by
  have h := n.isLt
  show BitVec.ofInt 32 (max _ (min _ (if 0 ≤ (((n.val : ℤ) : ℝ)) then ⌊(((n.val : ℤ) : ℝ))⌋ else _))) = _
  rw [if_pos (by positivity), Int.floor_intCast, min_eq_right (by norm_num; omega), max_eq_right (by norm_num)]
  rfl

theorem toInt_position : ∀ n : Fin 32, (BitVec.ofNat 32 n.val).toInt = (n.val : ℤ) := by decide

/-- One block's part of the sum. -/
theorem chosen_term (key : Fin 32 → EReal) (r : IVec S32x128 32) (l : Fin 128)
    (hr : ∀ n, r (ix2 n l) = BitVec.ofNat 32 (rank key n)) (k n : Fin 32) :
    select (cmpi .eq r (broadcast S32x128 (BitVec.ofNat 32 k.val))) (k0_pay4 (F := Ideal))
        (broadcast S32x128 (Scalar.ofBits .f32 0x00000000#32)) (ix2 n l)
      = if rank key n = k.val then ((((n.val : ℤ) : ℝ)) : EReal) else 0 := by
  rw [select_apply]
  have e4 : k0_pay4 (F := Ideal) (ix2 n l) = ((((n.val : ℤ) : ℝ)) : EReal) := by
    unfold k0_pay4
    show (((iota .tc S32x128 32 [0] iota_S32x128_d0_w32 (ix2 n l)).toInt : ℝ) : EReal) = _
    rw [iota_single_apply]
    exact congrArg (fun z : ℤ => ((z : ℝ) : EReal)) (toInt_position n)
  rw [e4]
  have ek : BitVec.ofNat 32 (rank key n) = BitVec.ofNat 32 k.val ↔ rank key n = k.val := by
    have h1 := rank_lt key n
    have h2 := k.isLt
    constructor
    · intro h
      have := congrArg BitVec.toNat h
      simp only [BitVec.toNat_ofNat] at this
      omega
    · intro h; rw [h]
  show (if BitVec.ofBool (r (ix2 n l) == BitVec.ofNat 32 k.val) = 1#1 then _ else Ideal.ofBits .f32 0x00000000#32) = _
  rw [hr n]
  show (if BitVec.ofBool (BitVec.ofNat 32 (rank key n) == BitVec.ofNat 32 k.val) = 1#1 then _ else Ideal.ofBits .f32 0x00000000#32) = _
  by_cases h : rank key n = k.val
  · rw [if_pos h, h]; simp
  · rw [if_neg h, if_neg]
    · exact Ideal.ofBits_zero_f32
    · rw [beq_eq_false_iff_ne.mpr (mt ek.mp h)]; decide

theorem chosen_apply (key : Fin 32 → EReal) (r : IVec S32x128 32) (l : Fin 128)
    (hr : ∀ n, r (ix2 n l) = BitVec.ofNat 32 (rank key n)) (k : Fin 32) :
    chosen (F := Ideal) r (BitVec.ofNat 32 k.val) (ix3 0 0 l)
      = BitVec.ofNat 32 (sortedFrom (fun a b => decide (key b < key a)) k).val := by
  unfold chosen
  rw [shapeCast_apply _ shapeCasts_S1x128_S1x1x128 (ix3 0 0 l) (ix2 0 l) (by
    rw [Shape.rowMajor_val_three, Shape.rowMajor_val_two]; show 0 * 128 + l.val = (0 * 1 + 0) * 128 + l.val; omega)]
  rw [← fptosi_position (sortedFrom _ k)]
  refine congrArg (Ideal.fptosi 32) ?_
  refine Eq.trans ?_ (sum_rank key k (fun n => ((((n.val : ℤ) : ℝ)) : EReal)))
  rw [shapeCast_apply _ shapeCasts_S128_S1x128 (ix2 0 l) (ix1 l) (by
    rw [Shape.rowMajor_val_one, Shape.rowMajor_val_two]; show l.val = 0 * 128 + l.val; omega)]
  refine (Ideal.multiReduction_add_single _ _ _ _ _ _).trans ?_
  refine Finset.sum_congr rfl fun n _ => ?_
  have el : reduces_S32x128_S128.lift (ix1 l) n = (ix2 (n : Fin 32) l : S32x128.Idx) :=
    funext fun a => match a with | ⟨0, _⟩ => rfl | ⟨1, _⟩ => rfl
  exact (congrArg _ el).trans (chosen_term key r l hr k n)

/-- The score of block `n` for query `t` and head `h`. -/
def score (q : FVec Ideal S1x4x1024 .f32) (k : FVec Ideal S1x32x1024 .f32) (t : Fin 4) (h : Fin 8) (n : Fin 32) : EReal :=
  ∑ d : Fin 128, k (ix3 0 n (lane h d)) * q (ix3 0 t (lane h d))

theorem place_apply (q : FVec Ideal S1x4x1024 .f32) (k : FVec Ideal S1x32x1024 .f32) (t : Fin 4)
    (hs : S4x1024.Slices ![t.val, 0] S1x1024) (h : Fin 8) (r : Fin 32) :
    place (F := Ideal) q k ![t.val, 0] hs (BitVec.ofNat 32 r.val) (ix3 0 0 (headLane h))
      = BitVec.ofNat 32 (sortedFrom (fun a b => decide (score q k t h b < score q k t h a)) r).val := by
  unfold place
  refine chosen_apply (score q k t h) _ (headLane h) (fun n => ?_) r
  rw [counted_apply, rankUpTo_all]
  congr 2
  funext a
  rw [gates_apply]
  exact Finset.sum_congr rfl fun d _ => products_apply q k t hs a (lane h d)

end Cert.Proof.Topk

end
-- ==== Proof.TopkArray.lean ====
/-
  The routing kernel's result array after the run, at the rows and lanes that hold choices: row `3t + k` and lane `h` of
  sequence `b` name the block that a stable descending sort of the 32 scores of query `t` and head `h` puts at place
  `k`. Each of the 128 grid points writes its own sequence.
-/
module

public import proofs.«01_k».proof.Proof.TopkBlock
public import proofs.«01_k».proof.Proof.Gen.TopkIdeal.Value

@[expose] public section

noncomputable section

namespace Cert.Proof.Topk

open Cert.TopkIdeal Cert.TopkIdeal.Gen Cert.TopkIdeal.Value Idealize.ShloMosaic Idealize.ShloMosaic.TcCoe Idealize.ShloMosaic.ValueIdx Idealize.SL.Sem
open scoped BigOperators

/-! ### The rows of a block -/

variable {F : FTy → Type} [FloatOps F]

/-- The row of query `t` and place `k`. -/
abbrev rowOf (t : Fin 4) (k : Fin 3) : Fin 16 := ⟨3 * t.val + k.val, by omega⟩

/-- A store of one row, read in that row, -/
theorem row_hit (r : ℕ) (hr : r < 16) (inb : ∀ a, (![0, r, 0] : Fin 3 → ℕ) a + (![1, 1, 128] : Fin 3 → ℕ) a ≤ S1x16x128.size a)
    (w : IVec S1x1x128 32) (L : List (View.Piece (Elt F) S1x16x128 .i32)) (l : Fin 128) :
    View.canon (Val := Elt F) (e := .i32) (⟨Rect.unit ![0, r, 0] ![1, 1, 128] inb, w⟩ :: L) (ix3 0 ⟨r, hr⟩ l) = w (ix3 0 0 l) := by
  have e : (Rect.unit (s := S1x16x128) ![0, r, 0] ![1, 1, 128] inb).emb (ix3 0 0 l) = ix3 0 ⟨r, hr⟩ l :=
    funext fun a => Fin.ext (match a with
      | ⟨0, _⟩ => rfl
      | ⟨1, _⟩ => rfl
      | ⟨2, _⟩ => (Nat.zero_add _).trans (Nat.one_mul _))
  rw [← e]
  exact View.canon_cons_emb _ _ L _

/-- and in another row. -/
theorem row_miss (r r' : ℕ) (hr' : r' < 16) (h : r ≠ r')
    (inb : ∀ a, (![0, r, 0] : Fin 3 → ℕ) a + (![1, 1, 128] : Fin 3 → ℕ) a ≤ S1x16x128.size a)
    (w : IVec S1x1x128 32) (L : List (View.Piece (Elt F) S1x16x128 .i32)) (l : Fin 128) :
    View.canon (Val := Elt F) (e := .i32) (⟨Rect.unit ![0, r, 0] ![1, 1, 128] inb, w⟩ :: L) (ix3 0 ⟨r', hr'⟩ l)
      = View.canon L (ix3 0 ⟨r', hr'⟩ l) := by
  refine View.canon_cons_of_not_mem _ L fun hm => ?_
  have h1 : r ≤ r' ∧ r' < r + 1 := (Rect.mem_set_unit (inb := inb)).mp hm 1
  omega

/-- What the body leaves in the row of query `t` and place `k`, at the lane of head `h`. -/
theorem out_apply (c : Dev nD) (i : grid0.Coords) (arg1 : Memref sig .tc .vmem S1x4x1024 .f32) (harg1 : arg1.IsWhole)
    (arg2 : Memref sig .tc .vmem S1x32x1024 .f32) (harg2 : arg2.IsWhole) (arg3 : Memref sig .tc .vmem S1x16x128 .i32)
    (harg3 : arg3.IsWhole) (x0 : FVec Ideal S1x4x1024 .f32) (x1 : FVec Ideal S1x32x1024 .f32) (t : Fin 4) (k : Fin 3) (h : Fin 8) :
    out0_A_2 (F := Ideal) c i arg1 harg1 arg2 harg2 arg3 harg3 x0 x1 (ix3 0 (rowOf t k) (headLane h))
      = BitVec.ofNat 32 (sortedFrom (fun a b => decide (score x0 x1 t h b < score x0 x1 t h a)) ⟨k.val, by omega⟩).val := by
  rw [out_eq]
  fin_cases t <;> fin_cases k <;>
    (repeat refine (row_miss (F := Ideal) _ _ _ (by decide) _ _ _ _).trans ?_) <;>
    refine (row_hit (F := Ideal) _ _ _ _ _ _).trans ?_
  · exact place_apply x0 x1 0 _ h 0
  · exact place_apply x0 x1 0 _ h 1
  · exact place_apply x0 x1 0 _ h 2
  · exact place_apply x0 x1 1 _ h 0
  · exact place_apply x0 x1 1 _ h 1
  · exact place_apply x0 x1 1 _ h 2
  · exact place_apply x0 x1 2 _ h 0
  · exact place_apply x0 x1 2 _ h 1
  · exact place_apply x0 x1 2 _ h 2
  · exact place_apply x0 x1 3 _ h 0
  · exact place_apply x0 x1 3 _ h 1
  · exact place_apply x0 x1 3 _ h 2

/-! ### The windows' blocks -/

variable (m : (ℓ : Loc nD τ sig) → Buf (Elt Ideal) ℓ) (c : Dev nD)

theorem entry_q (b : Fin 128) (t : Fin 4) (h : Fin 8) (d : Fin 128) :
    V m c main_v0 (ix3 b t (lane h d)) = m ((c.tc : Thread nD τ).loc main_arg0) (ix4 b t h d) := by
  entry_read
  exact shapeCast_apply (s := S128x4x8x128) _ shapeCasts_S128x4x8x128_S128x4x1024 (ix3 b t (lane h d)) (ix4 b t h d) (by
    rw [Shape.rowMajor_val_three, Shape.rowMajor_val_four]
    show ((b.val * 4 + t.val) * 8 + h.val) * 128 + d.val = (b.val * 4 + t.val) * 1024 + (128 * h.val + d.val)
    omega)

theorem entry_k (b : Fin 128) (n : Fin 32) (h : Fin 8) (d : Fin 128) :
    V m c main_v1 (ix3 b n (lane h d)) = m ((c.tc : Thread nD τ).loc main_arg1) (ix4 b n h d) := by
  entry_read
  exact shapeCast_apply (s := S128x32x8x128) _ shapeCasts_S128x32x8x128_S128x32x1024 (ix3 b n (lane h d)) (ix4 b n h d) (by
    rw [Shape.rowMajor_val_three, Shape.rowMajor_val_four]
    show ((b.val * 32 + n.val) * 8 + h.val) * 128 + d.val = (b.val * 32 + n.val) * 1024 + (128 * h.val + d.val)
    omega)

/-- The block indices: every window moves with the sequence. -/
theorem idx_facts : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0))

/-- The sequence of a grid point. -/
abbrev seqOf (g : Fin cfg0.N) : Fin 128 := ⟨g.val, by have := g.isLt; have : cfg0.N = 128 := N_0; omega⟩
/-- The grid point of a sequence. -/
abbrev pointOf (b : Fin 128) : Fin cfg0.N := ⟨b.val, by have : cfg0.N = 128 := N_0; omega⟩

theorem block_q (g : Fin cfg0.N) (t : Fin 4) (h : Fin 8) (d : Fin 128) :
    iblk m c 0 g (ix3 0 t (lane h d)) = m ((c.tc : Thread nD τ).loc main_arg0) (ix4 (seqOf g) t h d) := by
  refine Eq.trans ?_ (entry_q m c (seqOf g) t h d)
  refine congrArg (V m c main_v0) (?_ : (win0_0.rect g).emb (ix3 0 t (lane h d)) = ix3 (seqOf g) t (lane h d))
  obtain ⟨⟨e0, e1, e2⟩, -⟩ := idx_facts g
  refine funext fun a => Fin.ext (match a with | ⟨0, _⟩ => ?_ | ⟨1, _⟩ => ?_ | ⟨2, _⟩ => ?_)
  · refine (Pipeline.Window.rect_emb_val win0_0 g _ 0).trans ?_; rw [e0]; show g.val * 1 + 0 = g.val; omega
  · refine (Pipeline.Window.rect_emb_val win0_0 g _ 1).trans ?_; rw [e1]; show 0 * 4 + t.val = t.val; omega
  · refine (Pipeline.Window.rect_emb_val win0_0 g _ 2).trans ?_; rw [e2]; show 0 * 1024 + (lane h d).val = (lane h d).val; omega

theorem block_k (g : Fin cfg0.N) (n : Fin 32) (h : Fin 8) (d : Fin 128) :
    iblk m c 1 g (ix3 0 n (lane h d)) = m ((c.tc : Thread nD τ).loc main_arg1) (ix4 (seqOf g) n h d) := by
  refine Eq.trans ?_ (entry_k m c (seqOf g) n h d)
  refine congrArg (V m c main_v1) (?_ : (win0_1.rect g).emb (ix3 0 n (lane h d)) = ix3 (seqOf g) n (lane h d))
  obtain ⟨-, ⟨e0, e1, e2⟩, -⟩ := idx_facts g
  refine funext fun a => Fin.ext (match a with | ⟨0, _⟩ => ?_ | ⟨1, _⟩ => ?_ | ⟨2, _⟩ => ?_)
  · refine (Pipeline.Window.rect_emb_val win0_1 g _ 0).trans ?_; rw [e0]; show g.val * 1 + 0 = g.val; omega
  · refine (Pipeline.Window.rect_emb_val win0_1 g _ 1).trans ?_; rw [e1]; show 0 * 32 + n.val = n.val; omega
  · refine (Pipeline.Window.rect_emb_val win0_1 g _ 2).trans ?_; rw [e2]; show 0 * 1024 + (lane h d).val = (lane h d).val; omega

/-! ### The result -/

/-- The score of block `n` of sequence `b`, for query `t` and head `h`. -/
def scores (q : (⟨4, ![128, 4, 8, 128]⟩ : Shape).Idx → EReal) (k : (⟨4, ![128, 32, 8, 128]⟩ : Shape).Idx → EReal)
    (b : Fin 128) (t : Fin 4) (h : Fin 8) (n : Fin 32) : EReal := ∑ d : Fin 128, k (ix4 b n h d) * q (ix4 b t h d)

/-- The block that a stable descending sort of the scores puts at place `k`. -/
def choice (q : (⟨4, ![128, 4, 8, 128]⟩ : Shape).Idx → EReal) (k : (⟨4, ![128, 32, 8, 128]⟩ : Shape).Idx → EReal)
    (b : Fin 128) (t : Fin 4) (h : Fin 8) (p : Fin 3) : BitVec 32 :=
  BitVec.ofNat 32 (sortedFrom (fun a a' => decide (scores q k b t h a' < scores q k b t h a)) ⟨p.val, by omega⟩).val

/-- What a grid point's body leaves in its block. -/
def left (g : Fin cfg0.N) : IVec S1x16x128 32 :=
  out0_A_2 (F := Ideal) c (grid0.coords g) (ms0_0 g) (hs0_0 g) (ms0_1 g) (hs0_1 g) (ms0_2 g) (hs0_2 g) (iblk m c 0 g) (iblk m c 1 g)

theorem left_apply (b : Fin 128) (t : Fin 4) (k : Fin 3) (h : Fin 8) :
    left m c (pointOf b) (ix3 0 (rowOf t k) (headLane h))
      = choice (m ((c.tc : Thread nD τ).loc main_arg0)) (m ((c.tc : Thread nD τ).loc main_arg1)) b t h k := by
  unfold left choice
  rw [out_apply]
  have e : score (iblk m c 0 (pointOf b)) (iblk m c 1 (pointOf b)) t h
      = scores (m ((c.tc : Thread nD τ).loc main_arg0)) (m ((c.tc : Thread nD τ).loc main_arg1)) b t h := by
    funext n
    exact Finset.sum_congr rfl fun d _ => congrArg₂ (· * ·) (block_k m c (pointOf b) n h d) (block_q m c (pointOf b) t h d)
  rw [e]

/-- The result as a function of the launch contents. -/
abbrev result : (⟨3, ![128, 16, 128]⟩ : Shape).Idx → BitVec 32 := fun i => left m c (pointOf (i 0)) (ix3 0 (i 1) (i 2))

/-- What a grid point writes back is its block of the result. -/
theorem flushed_eq (g : Fin cfg0.N) :
    (dats m 0 c).flushed 2 g = ((cfg0.win 2).blk g).view.read (Elt Ideal) (result m c) := by
  rw [flushed2_A]
  funext y
  obtain ⟨z, r, l, rfl⟩ : ∃ (z : Fin 1) (r : Fin 16) (l : Fin 128), y = ix3 z r l := ⟨y 0, y 1, y 2, eq_ix3 y⟩
  obtain rfl : z = 0 := Subsingleton.elim _ _
  have he : (win0_2.rect g).emb (ix3 0 r l) = ix3 (seqOf g) r l := by
    obtain ⟨-, -, ⟨e0, e1, e2⟩⟩ := idx_facts g
    refine funext fun a => Fin.ext (match a with | ⟨0, _⟩ => ?_ | ⟨1, _⟩ => ?_ | ⟨2, _⟩ => ?_)
    · refine (Pipeline.Window.rect_emb_val win0_2 g _ 0).trans ?_; rw [e0]; show g.val * 1 + 0 = g.val; omega
    · refine (Pipeline.Window.rect_emb_val win0_2 g _ 1).trans ?_; rw [e1]; show 0 * 16 + r.val = r.val; omega
    · refine (Pipeline.Window.rect_emb_val win0_2 g _ 2).trans ?_; rw [e2]; show 0 * 128 + l.val = l.val; omega
  show left m c g (ix3 0 r l) = result m c ((win0_2.rect g).emb (ix3 0 r l))
  rw [he]

/-- An index lies in a grid point's block of the result when its sequence is the point's. -/
theorem mem_block (g : Fin cfg0.N) (i : S128x16x128.Idx)
    (h0 : win0_2.index g 0 * 1 ≤ (i 0 : Nat) ∧ (i 0 : Nat) < win0_2.index g 0 * 1 + 1)
    (h1 : win0_2.index g 1 * 16 ≤ (i 1 : Nat) ∧ (i 1 : Nat) < win0_2.index g 1 * 16 + 16)
    (h2 : win0_2.index g 2 * 128 ≤ (i 2 : Nat) ∧ (i 2 : Nat) < win0_2.index g 2 * 128 + 128) :
    i ∈ ((cfg0.win 2).blk g).view.set := by
  show i ∈ ((View.whole main_v2).slice (win0_2.rect g)).set
  rw [View.set_slice_whole, Rect.mem_set_unit]
  intro a
  match a with | ⟨0, _⟩ => exact h0 | ⟨1, _⟩ => exact h1 | ⟨2, _⟩ => exact h2

/-- After the last point the array holds the result: sequence `b` was written by point `b`. -/
theorem final : (dats m 0 c).arrAt 2 cfg0.N = result m c :=
  (dats m 0 c).arrAt_eq_of_cover 2 (result m c) (fun g _ => flushed_eq m c g) fun (i : S128x16x128.Idx) => by
    have h1 : (i 1 : Nat) < 16 := (i 1).isLt
    have h2 : (i 2 : Nat) < 128 := (i 2).isLt
    refine ⟨pointOf (i 0), flush0_2 _, ?_⟩
    obtain ⟨-, -, ⟨e0, e1, e2⟩⟩ := idx_facts (pointOf (i 0))
    exact mem_block _ i (by rw [e0]; show (i 0 : Nat) * 1 ≤ (i 0 : Nat) ∧ (i 0 : Nat) < (i 0 : Nat) * 1 + 1; omega)
      (by rw [e1]; omega) (by rw [e2]; omega)

/-- The result at the row of query `t` and place `k`, at the lane of head `h`. -/
theorem result_apply (b : Fin 128) (t : Fin 4) (k : Fin 3) (h : Fin 8) :
    result m c (ix3 b (rowOf t k) (headLane h))
      = choice (m ((c.tc : Thread nD τ).loc main_arg0)) (m ((c.tc : Thread nD τ).loc main_arg1)) b t h k :=
  left_apply m c b t k h

end Cert.Proof.Topk

end
-- ==== Proof.TopkRef.lean ====
/-
  The routing reference at the rows and lanes that hold choices: the score of a block is the dot product of the query
  and the block's mean key, and the reference's top three are the first three of a stable descending sort.
-/
module

public import proofs.«01_k».proof.Proof.TopkArray
public import proofs.«01_k».proof.Proof.Gen.TopkRefIdeal.Read
public import Idealize.ShloMosaic.Lib.KernelVsHost

@[expose] public section

noncomputable section

namespace Cert.Proof.TopkRef

open Cert.TopkRefIdeal Cert.TopkRefIdeal.Gen Cert.TopkRefIdeal.Read Idealize.ShloMosaic Idealize.ShloMosaic.ValueIdx Cert.Proof.Topk
open scoped BigOperators

variable (q : FVec Ideal S128x4x8x128 .f32) (k : FVec Ideal S128x32x8x128 .f32)

theorem score_apply (b : Fin 128) (h : Fin 8) (t : Fin 4) (n : Fin 32) :
    val_main_v1 (F := Ideal) q k (ix4 b h t n) = scores q k b t h n := by
  rw [val_main_v1_apply]
  refine Finset.sum_congr rfl fun d _ => ?_
  rw [val_main_v0_apply, mul_comm]
  refine congrArg₂ (· * ·) (congrArg k ?_) (congrArg q ?_)
  · exact funext fun a => match a with | ⟨0, _⟩ => rfl | ⟨1, _⟩ => rfl | ⟨2, _⟩ => rfl | ⟨3, _⟩ => rfl
  · exact funext fun a => match a with | ⟨0, _⟩ => rfl | ⟨1, _⟩ => rfl | ⟨2, _⟩ => rfl | ⟨3, _⟩ => rfl

theorem greater_eq (u v : EReal) : (Ideal.cmp .ogt u v == 1#1) = decide (v < u) := by
  show (BitVec.ofBool (decide (v < u)) == 1#1) = _
  cases decide (v < u) <;> rfl

/-- The positions of the top three of each row of an array of scores. -/
theorem topK_apply (x : FVec Ideal S128x8x4x32 .f32) (b : Fin 128) (h : Fin 8) (t : Fin 4) (p : Fin 3) :
    (Host.topK S128x8x4x3 3 (FloatOps.cmpfTotal .gt) x sliceFits_S128x8x4x32_S128x8x4x3).2 (ix4 b h t p)
      = BitVec.ofNat 32 (sortedFrom (fun a a' : Fin 32 => decide (x (ix4 b h t a') < x (ix4 b h t a))) ⟨p.val, by omega⟩).val := by
  have al (a : Fin 32) : (ix4 b h t (⟨p.val, by omega⟩ : Fin 32) : S128x8x4x32.Idx).along 3 a = ix4 b h t a :=
    funext fun z => match z with | ⟨0, _⟩ => rfl | ⟨1, _⟩ => rfl | ⟨2, _⟩ => rfl | ⟨3, _⟩ => rfl
  unfold Host.topK
  dsimp only
  refine (extractStridedSlice_apply (t := S128x8x4x3) (fun _ => 0) _ _ (ix4 b h t p) (ix4 b h t (⟨p.val, by omega⟩ : Fin 32)) (fun a => match a with
    | ⟨0, _⟩ => (Nat.zero_add _).symm
    | ⟨1, _⟩ => (Nat.zero_add _).symm
    | ⟨2, _⟩ => (Nat.zero_add _).symm
    | ⟨3, _⟩ => (Nat.zero_add _).symm)).trans ?_
  unfold Host.sort2
  rw [dif_pos (by decide : 3 < S128x8x4x32.rank)]
  dsimp only
  have pos (a : Fin 32) : (if hd : 3 < S128x8x4x32.rank then iotaInDim S128x8x4x32 32 ⟨3, hd⟩
      ((ix4 b h t (⟨p.val, by omega⟩ : Fin 32) : S128x8x4x32.Idx).along 3 a) else 0#32) = BitVec.ofNat 32 a.val := by
    rw [dif_pos (by decide)]; rfl
  refine (pos _).trans (congrArg (fun a : Fin 32 => BitVec.ofNat 32 a.val) ?_)
  refine congrFun (congrArg (sortedFrom (n := 32)) (?_ : _ = fun a a' : Fin 32 => decide (x (ix4 b h t a') < x (ix4 b h t a)))) _
  funext a a'
  refine Eq.trans ?_ (greater_eq (x (ix4 b h t a)) (x (ix4 b h t a')))
  exact congrArg₂ (fun u v : EReal => Ideal.cmp .ogt u v == 1#1) (congrArg x (al a)) (congrArg x (al a'))

theorem choice_apply (b : Fin 128) (t : Fin 4) (p : Fin 3) (h : Fin 8) :
    val_main_v4 (F := Ideal) q k (ix3 b (rowOf t p) (headLane h)) = choice q k b t h p := by
  unfold val_main_v4
  rw [pad_apply_of_inside _ _ _ _ _ _ _ (ix3 b (rowOf t p) (headLane h)) (ix3 b (⟨3 * t.val + p.val, by omega⟩ : Fin 12) h)
    (fun a => match a with
      | ⟨0, _⟩ => by show b.val = 0 + b.val * (0 + 1); omega
      | ⟨1, _⟩ => by show 3 * t.val + p.val = 0 + (3 * t.val + p.val) * (0 + 1); omega
      | ⟨2, _⟩ => by show h.val = 0 + h.val * (0 + 1); omega)]
  rw [val_main_v3_apply, val_main_v2_apply]
  have ei : idx_main_v2 (idx_main_v3 (ix3 b (⟨3 * t.val + p.val, by omega⟩ : Fin 12) h)) = ix4 b h t p := by
    refine funext fun a => Fin.ext ?_
    match a with
    | ⟨0, _⟩ => show ((b.val * 12 + (3 * t.val + p.val)) * 8 + h.val) / 96 = b.val; omega
    | ⟨1, _⟩ => show ((b.val * 12 + (3 * t.val + p.val)) * 8 + h.val) % 8 = h.val; omega
    | ⟨2, _⟩ => show ((b.val * 12 + (3 * t.val + p.val)) * 8 + h.val) / 24 % 4 = t.val; omega
    | ⟨3, _⟩ => show ((b.val * 12 + (3 * t.val + p.val)) * 8 + h.val) / 8 % 3 = p.val; omega
  rw [ei]
  unfold val_main_indices
  rw [topK_apply]
  unfold choice
  simp only [score_apply]

end Cert.Proof.TopkRef

end
-- ==== Proof.TopkEquation.lean ====
/-
  The routing kernel and its reference name the same blocks at every place that holds a choice, from memories that agree
  on the arguments.
-/
module

public import proofs.«01_k».proof.Defs
public import proofs.«01_k».proof.Proof.TopkArray
public import proofs.«01_k».proof.Proof.TopkRef
public import proofs.«01_k».proof.Proof.Gen.TopkIdeal
public import proofs.«01_k».proof.Proof.Gen.TopkRefIdeal
public import proofs.«01_k».proof.Proof.Gen.On_selected

@[expose] public section

noncomputable section

namespace Cert.Proof

open Idealize.ShloMosaic Idealize.ShloMosaic.TcCoe Idealize.ShloMosaic.ValueIdx Idealize.SL.Sem

/-- The mask selects the rows of the choices and the lanes of the heads. -/
theorem selected_rows (q : FVec Ideal Cert.On_selected.S128x4x8x128 .f32) (k : FVec Ideal Cert.On_selected.S128x32x8x128 .f32)
    (b : Fin 128) (r : Fin 16) (l : Fin 128)
    (h : @Cert.On_selected.fn Cert.On_selected.Gen.facts Ideal _ q k (ix3 b r l) = 1#1) : r.val < 12 ∧ l.val < 8 := by
  have h' : IntOp.cmpi .slt (BitVec.ofNat 32 r.val) 12#32 &&& IntOp.cmpi .slt (BitVec.ofNat 32 l.val) 8#32 = 1#1 := h
  have hr : ∀ r : Fin 16, IntOp.cmpi .slt (BitVec.ofNat 32 r.val) 12#32 = BitVec.ofBool (decide (r.val < 12)) := by decide
  have hl : ∀ l : Fin 128, IntOp.cmpi .slt (BitVec.ofNat 32 l.val) 8#32 = BitVec.ofBool (decide (l.val < 8)) := by decide
  rw [hr, hl] at h'
  by_cases h1 : r.val < 12 <;> by_cases h2 : l.val < 8 <;> simp [h1, h2] at h' ⊢

theorem algebraic_topk : algebraic_TopkIdeal_TopkRefIdeal_on_selected (hTopkIdeal := Cert.TopkIdeal.Gen.facts)
    (hTopkRefIdeal := Cert.TopkRefIdeal.Gen.facts) (hOn_selected := Cert.On_selected.Gen.facts) := by
  intro m ρ m' ρ' _ hargs
  refine ⟨fun c => Topk.result m c, ?_, ?_⟩
  · refine (θ_run _ _ _).mono (fun r h c => ?_) (Cert.TopkIdeal.Value.run_blocks (F := Ideal) m ρ)
    exact ⟨fun i _ => congrFun ((h c).1.trans (Topk.final m c)) i, (h c).2⟩
  · refine (θ_run _ _ _).mono (fun r h c => ?_) (Cert.TopkRefIdeal.Value.run (F := Ideal) m' ρ')
    obtain ⟨h0, h1⟩ := hargs c
    refine ⟨fun i hi => (congrFun (h c).1 i).trans ?_, (h c).2⟩
    rw [Cert.TopkRefIdeal.Read.val_main_v4_eq, h0, h1]
    obtain ⟨b, r, l, rfl⟩ : ∃ (b : Fin 128) (r : Fin 16) (l : Fin 128), i = ix3 b r l := ⟨i 0, i 1, i 2, eq_ix3 i⟩
    obtain ⟨hr, hl⟩ := selected_rows _ _ b r l hi
    have er : r = Topk.rowOf ⟨r.val / 3, by omega⟩ ⟨r.val % 3, by omega⟩ := Fin.ext (by show r.val = 3 * (r.val / 3) + r.val % 3; omega)
    have el : l = Topk.headLane ⟨l.val, hl⟩ := rfl
    rw [er, el]
    exact (TopkRef.choice_apply _ _ b _ _ _).trans (Topk.result_apply m c b _ _ _).symm

end Cert.Proof

end
-- ==== Proof.Rows.lean ====
/-
  What the dense kernels and their references compute of one row, as functions of plain indices over the extended reals:
  the layer norm of a row, the gated hidden layer of the feed-forward block, the merge of the two branches. And how the
  kernels' vector operations on a tile of 256 rows read at an index: a matrix product, a row's mean, a row's norm.
-/
module

public import Idealize.ShloMosaic.PureOps.Ideal.Laws
public import Idealize.ShloMosaic.Lib.Pipeline.Value
public import Idealize.ShloMosaic.Lib.ValueIdx

@[expose] public section

noncomputable section

namespace Cert.Proof.Rows

open Idealize.ShloMosaic Idealize.ShloMosaic.ValueIdx
open scoped BigOperators

/-- The pattern of one. -/
theorem one_f32 : Ideal.ofBits .f32 0x3F800000#32 = 1 := IdealRules.sign_bit.ideal_onePat .f32

/-! ### Rows -/

/-- The mean over a row of 1024. -/
def mean (h : Fin 1024 → EReal) : EReal := Ideal.div (∑ k, h k) (Ideal.ofBits .f32 0x44800000#32)

/-- A row less its mean. -/
def center (h : Fin 1024 → EReal) (j : Fin 1024) : EReal := h j - mean h

/-- The norm of a row whose mean is taken off, with scale `g` and shift `b`. -/
def normed (c g b : Fin 1024 → EReal) (j : Fin 1024) : EReal :=
  c j * Ideal.rsqrt (mean (fun k => c k * c k) + Ideal.ofBits .f32 0x3727C5AC#32) * g j + b j

/-- The layer norm of a row. -/
def layerNorm (h g b : Fin 1024 → EReal) : Fin 1024 → EReal := normed (center h) g b

/-- A row times a matrix. -/
def rowMul {K N : ℕ} (x : Fin K → EReal) (w : Fin K → Fin N → EReal) (n : Fin N) : EReal := ∑ k, x k * w k n

/-- The residual sum: the layer's constant times the row, plus the block's output. -/
def residual (x y : Fin 1024 → EReal) (j : Fin 1024) : EReal := Ideal.ofBits .f32 0x3F9837F0#32 * x j + y j

/-- The gated hidden layer: `silu(x·w_gate)·(x·w_up)`. -/
def hidden (x : Fin 1024 → EReal) (wg wu : Fin 1024 → Fin 2816 → EReal) (n : Fin 2816) : EReal :=
  rowMul x wg n * Ideal.logistic (rowMul x wg n) * rowMul x wu n

/-- The feed-forward block of a row with its residual and its layer norm. -/
def ffnRow (x : Fin 1024 → EReal) (wg wu : Fin 1024 → Fin 2816 → EReal) (wd : Fin 2816 → Fin 1024 → EReal)
    (g b : Fin 1024 → EReal) : Fin 1024 → EReal :=
  layerNorm (residual x (rowMul (hidden x wg wu) wd)) g b

/-- The two branches of a row, each brought to the model's width and gated by its own sigmoid. -/
def merged (p : Fin 512 → EReal) (a ga gb : Fin 1024 → EReal) (wp : Fin 512 → Fin 1024 → EReal)
    (wa : Fin 1024 → Fin 1024 → EReal) (j : Fin 1024) : EReal :=
  Ideal.logistic (ga j) * rowMul p wp j + Ideal.logistic (gb j) * rowMul a wa j

/-- The merge of a row with the output projection, the residual and the layer norm. -/
def mergeRow (x : Fin 1024 → EReal) (p : Fin 512 → EReal) (a ga gb : Fin 1024 → EReal)
    (wp : Fin 512 → Fin 1024 → EReal) (wa wo : Fin 1024 → Fin 1024 → EReal) (g b : Fin 1024 → EReal) : Fin 1024 → EReal :=
  layerNorm (residual x (rowMul (merged p a ga gb wp wa) wo)) g b

/-! ### Vector operations at an index -/

/-- Dimension numbers of rows times columns. -/
theorem matmul_rows {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) (n : Fin N) :
    matmul d prec x w (constant ⟨2, ![M, N]⟩ .f32 0x00000000#32) (ix2 r n)
      = rowMul (fun k => x (ix2 r k)) (fun k j => w (ix2 k j)) n := by
  subst hd
  refine (Ideal.matmul_constant_zero_apply (DotDims.plain M K N) prec x w (ix2 r n)).trans ?_
  rw [← Equiv.sum_comp (contrEquiv1 (DotDims.plain M K N) K rfl rfl).symm]
  refine Finset.sum_congr rfl fun k _ => ?_
  have el : (DotDims.plain M K N).lhsIdx (ix2 r n) ((contrEquiv1 (DotDims.plain M K N) K rfl rfl).symm k) = ix2 r k :=
    funext fun a => Fin.ext (by match a with | ⟨0, _⟩ => rfl | ⟨1, _⟩ => rfl)
  have er : (DotDims.plain M K N).rhsIdx (ix2 r n) ((contrEquiv1 (DotDims.plain M K N) K rfl rfl).symm k) = ix2 k n :=
    funext fun a => Fin.ext (by match a with | ⟨0, _⟩ => rfl | ⟨1, _⟩ => rfl)
  rw [el, er]

abbrev Tile : Shape := ⟨2, ![256, 1024]⟩
abbrev Col : Shape := ⟨2, ![256, 1]⟩
abbrev Row : Shape := ⟨2, ![1, 1024]⟩
abbrev Rows256 : Shape := ⟨1, ![256]⟩

/-- The mean of each row of a tile, spread back over the columns of a column vector. -/
theorem rowMean_apply (h : FVec Ideal Tile .f32) (hr : Tile.Reduces [1] Rows256) (hk hn) (hc : Rows256.ShapeCasts Col)
    (r : Fin 256) (z : Fin 1) :
    divf (shapeCast Col (multiReduction .add [1] Rows256 h 0x00000000#32 hr hk hn) hc)
      (broadcast Col (Scalar.ofBits (F := Ideal) .f32 0x44800000#32)) (ix2 r z) = mean (fun k => h (ix2 r k)) := by
  rw [divf_apply, shapeCast_apply _ hc (ix2 r z) (ix1 r)
    (by rw [Shape.rowMajor_val_one, Shape.rowMajor_val_two]; show r.val = r.val * 1 + z.val; omega)]
  rw [Ideal.multiReduction_add_single]
  refine congrArg (fun s => Ideal.div s _) (Finset.sum_congr rfl fun k _ => congrArg h ?_)
  funext a
  match a with | ⟨0, _⟩ => rfl | ⟨1, _⟩ => rfl

/-- A column vector spread over the columns of a tile reads its row's entry. -/
theorem spreadCol_apply (v : Col.Idx → EReal) (h : Col.Broadcasts Tile) (r : Fin 256) (j : Fin 1024) :
    broadcastTo Tile v h (ix2 r j) = v (ix2 r 0) :=
  broadcastTo_apply v h (ix2 r j) (ix2 r 0) fun a => match a with
    | ⟨0, _⟩ => by show r.val = (if (256 : Nat) = 1 then 0 else r.val); rw [if_neg (by decide)]
    | ⟨1, _⟩ => by show 0 = (if (1 : Nat) = 1 then 0 else j.val); rw [if_pos rfl]

/-- A row vector spread over the rows of a tile reads its column's entry. -/
theorem spreadRow_apply (v : Row.Idx → EReal) (h : Row.Broadcasts Tile) (r : Fin 256) (j : Fin 1024) :
    broadcastTo Tile v h (ix2 r j) = v (ix2 0 j) :=
  broadcastTo_apply v h (ix2 r j) (ix2 0 j) fun a => match a with
    | ⟨0, _⟩ => by show 0 = (if (1 : Nat) = 1 then 0 else r.val); rw [if_pos rfl]
    | ⟨1, _⟩ => by show j.val = (if (1024 : Nat) = 1 then 0 else j.val); rw [if_neg (by decide)]

/-- A tile less its rows' means. -/
theorem center_tile (h : FVec Ideal Tile .f32) (hr : Tile.Reduces [1] Rows256) (hk hn) (hc : Rows256.ShapeCasts Col)
    (hb : Col.Broadcasts Tile) (r : Fin 256) (j : Fin 1024) :
    subf h (broadcastTo Tile (divf (shapeCast Col (multiReduction .add [1] Rows256 h 0x00000000#32 hr hk hn) hc)
      (broadcast Col (Scalar.ofBits (F := Ideal) .f32 0x44800000#32))) hb) (ix2 r j)
      = center (fun k => h (ix2 r k)) j := by
  rw [subf_apply, spreadCol_apply, rowMean_apply]
  rfl

/-- The norm of a tile whose rows' means are taken off. -/
theorem normed_tile (c : FVec Ideal Tile .f32) (g b : FVec Ideal Row .f32) (hr : Tile.Reduces [1] Rows256) (hk hn)
    (hc : Rows256.ShapeCasts Col) (hb : Col.Broadcasts Tile) (hg : Row.Broadcasts Tile) (r : Fin 256) (j : Fin 1024) :
    addf (mulf (mulf c (broadcastTo Tile (rsqrt (addf
      (divf (shapeCast Col (multiReduction .add [1] Rows256 (mulf c c) 0x00000000#32 hr hk hn) hc)
        (broadcast Col (Scalar.ofBits (F := Ideal) .f32 0x44800000#32)))
      (broadcast Col (Scalar.ofBits (F := Ideal) .f32 0x3727C5AC#32)))) hb)) (broadcastTo Tile g hg)) (broadcastTo Tile b hg) (ix2 r j)
      = normed (fun k => c (ix2 r k)) (fun k => g (ix2 0 k)) (fun k => b (ix2 0 k)) j := by
  rw [addf_apply, mulf_apply, mulf_apply, spreadRow_apply, spreadRow_apply, spreadCol_apply]
  show c (ix2 r j) * Ideal.rsqrt (divf (shapeCast Col (multiReduction .add [1] Rows256 (mulf c c) 0x00000000#32 hr hk hn) hc)
        (broadcast Col (Scalar.ofBits (F := Ideal) .f32 0x44800000#32)) (ix2 r 0) + Ideal.ofBits .f32 0x3727C5AC#32) * g (ix2 0 j) + b (ix2 0 j) = _
  rw [rowMean_apply]
  rfl

end Cert.Proof.Rows

end
-- ==== Proof.FfnBlock.lean ====
/-
  One tile of the feed-forward kernel: what its body leaves in the block of 256 rows is, row by row, the feed-forward
  block of that row (`Rows.ffnRow`).
-/
module

public import proofs.«01_k».proof.Proof.Rows
public import proofs.«01_k».proof.Proof.Gen.FfnIdeal.Skeleton
public import proofs.«01_k».proof.Proof.Gen.FfnIdeal.Frame

@[expose] public section

noncomputable section

namespace Cert.Proof.Ffn

open Cert.FfnIdeal Cert.FfnIdeal.Gen Idealize.ShloMosaic Idealize.ShloMosaic.ValueIdx Cert.Proof.Rows

variable (x : FVec Ideal S256x1024 .f32) (wg wu : FVec Ideal S1024x2816 .bf16) (wd : FVec Ideal S2816x1024 .bf16)
  (g b : FVec Ideal S1x1024 .f32)

/-- The hidden layer of a tile. -/
theorem hidden_tile (r : Fin 256) (n : Fin 2816) :
    mulf (mulf (matmul dot_S256x1024_S1024x2816_S256x2816_1_0_0_1_n_n none (truncf .bf16 x bitsLt_bf16_f32 : FVec Ideal S256x1024 .bf16) wg (constant S256x2816 .f32 0x00000000#32))
        (logistic (matmul dot_S256x1024_S1024x2816_S256x2816_1_0_0_1_n_n none (truncf .bf16 x bitsLt_bf16_f32 : FVec Ideal S256x1024 .bf16) wg (constant S256x2816 .f32 0x00000000#32))))
        (matmul dot_S256x1024_S1024x2816_S256x2816_1_0_0_1_n_n none (truncf .bf16 x bitsLt_bf16_f32 : FVec Ideal S256x1024 .bf16) wu (constant S256x2816 .f32 0x00000000#32)) (ix2 r n)
      = hidden (fun k => x (ix2 r k)) (fun k j => wg (ix2 k j)) (fun k j => wu (ix2 k j)) n := by
  have e (w : FVec Ideal S1024x2816 .bf16) := matmul_rows dot_S256x1024_S1024x2816_S256x2816_1_0_0_1_n_n rfl none
    (truncf .bf16 x bitsLt_bf16_f32 : FVec Ideal S256x1024 .bf16) w r n
  rw [mulf_apply, mulf_apply, e wu]
  show _ * Ideal.logistic (matmul dot_S256x1024_S1024x2816_S256x2816_1_0_0_1_n_n none (truncf .bf16 x bitsLt_bf16_f32 : FVec Ideal S256x1024 .bf16) wg (constant S256x2816 .f32 0x00000000#32) (ix2 r n)) * _ = _
  rw [e wg]
  rfl

/-- The tile with its residual, less the rows' means. -/
theorem pay4_apply (r : Fin 256) (j : Fin 1024) :
    k0_pay4 (F := Ideal) x wg wu wd (ix2 r j)
      = center (residual (fun k => x (ix2 r k)) (rowMul (hidden (fun k => x (ix2 r k)) (fun k j => wg (ix2 k j)) (fun k j => wu (ix2 k j))) (fun k j => wd (ix2 k j)))) j := by
  unfold k0_pay4
  simp only [shapeCast_self]
  refine (center_tile _ _ _ _ _ _ r j).trans (congrArg (fun h => center h j) (funext fun k => ?_))
  rw [addf_apply, matmul_rows dot_S256x2816_S2816x1024_S256x1024_1_0_0_1_n_n rfl]
  refine congrArg₂ (· + ·) rfl (congrArg (fun h => rowMul h _ k) (funext fun n => ?_))
  exact hidden_tile x wg wu r n

/-- What the body stores, at an index. -/
theorem out_apply (r : Fin 256) (j : Fin 1024) :
    out0_6 (F := Ideal) x wg wu wd g b (ix2 r j)
      = ffnRow (fun k => x (ix2 r k)) (fun k j => wg (ix2 k j)) (fun k j => wu (ix2 k j)) (fun k j => wd (ix2 k j))
          (fun k => g (ix2 0 k)) (fun k => b (ix2 0 k)) j := by
  unfold out0_6
  rw [View.canon_unit_zero (by decide)]
  simp only [View.ld_unit_zero (S := S256x1024) (off := ![0, 0]) (by decide), View.ld_unit_zero (S := S1024x2816) (off := ![0, 0]) (by decide),
    View.ld_unit_zero (S := S2816x1024) (off := ![0, 0]) (by decide), View.ld_unit_zero (S := S1x1024) (off := ![0, 0]) (by decide)]
  unfold k0_pay1 k0_pay2 k0_pay3 k0_pay5
  simp only [shapeCast_self]
  refine (normed_tile _ g b _ _ _ _ _ _ r j).trans ?_
  refine congrArg (fun c => normed c _ _ j) (funext fun k => pay4_apply x wg wu wd r k)

end Cert.Proof.Ffn

end
-- ==== Proof.Reshapes.lean ====
/-
  How the reshapes around the dense kernels read at an index: two batches of 8192 rows laid end to end, 128 sequences of
  four sampled tokens laid end to end, a weight whose leading axis of one is dropped, a scale vector made a row.
-/
module

public import Idealize.ShloMosaic.Lib.Pipeline.Value
public import Idealize.ShloMosaic.Lib.ValueIdx

@[expose] public section

noncomputable section

namespace Cert.Proof.Rows

open Idealize.ShloMosaic Idealize.ShloMosaic.ValueIdx

/-- The batch a flat row lies in, -/
abbrev batchOf (r : Fin 16384) : Fin 2 := ⟨r.val / 8192, by omega⟩
/-- and its position there. -/
abbrev posOf (r : Fin 16384) : Fin 8192 := ⟨r.val % 8192, by omega⟩

/-- Flattening the batch axis. -/
theorem flatten_apply {A : Type} {N : ℕ} (x : (⟨3, ![2, 8192, N]⟩ : Shape).Idx → A)
    (h : (⟨3, ![2, 8192, N]⟩ : Shape).ShapeCasts ⟨2, ![16384, N]⟩) (r : Fin 16384) (k : Fin N) :
    shapeCast ⟨2, ![16384, N]⟩ x h (ix2 r k) = x (ix3 (batchOf r) (posOf r) k) :=
  shapeCast_apply x h (ix2 r k) (ix3 (batchOf r) (posOf r) k) (by
    rw [Shape.rowMajor_val_three, Shape.rowMajor_val_two]
    show (r.val / 8192 * 8192 + r.val % 8192) * N + k.val = r.val * N + k.val
    rw [Nat.div_add_mod'])

/-- The sequence a flat row of the sampled tokens lies in, -/
abbrev groupOf (r : Fin 512) : Fin 128 := ⟨r.val / 4, by omega⟩
/-- and which of its four tokens it is. -/
abbrev tokenOf (r : Fin 512) : Fin 4 := ⟨r.val % 4, by omega⟩

/-- Flattening the sampled tokens. -/
theorem flattenS_apply {A : Type} {N : ℕ} (x : (⟨3, ![128, 4, N]⟩ : Shape).Idx → A)
    (h : (⟨3, ![128, 4, N]⟩ : Shape).ShapeCasts ⟨2, ![512, N]⟩) (r : Fin 512) (k : Fin N) :
    shapeCast ⟨2, ![512, N]⟩ x h (ix2 r k) = x (ix3 (groupOf r) (tokenOf r) k) :=
  shapeCast_apply x h (ix2 r k) (ix3 (groupOf r) (tokenOf r) k) (by
    rw [Shape.rowMajor_val_three, Shape.rowMajor_val_two]
    show (r.val / 4 * 4 + r.val % 4) * N + k.val = r.val * N + k.val
    rw [Nat.div_add_mod'])

/-- Dropping a leading axis of one. -/
theorem drop3_apply {A : Type} {M N : ℕ} (x : (⟨3, ![1, M, N]⟩ : Shape).Idx → A)
    (h : (⟨3, ![1, M, N]⟩ : Shape).ShapeCasts ⟨2, ![M, N]⟩) (r : Fin M) (k : Fin N) :
    shapeCast ⟨2, ![M, N]⟩ x h (ix2 r k) = x (ix3 0 r k) :=
  shapeCast_apply x h (ix2 r k) (ix3 0 r k) (by
    rw [Shape.rowMajor_val_three, Shape.rowMajor_val_two]
    show (0 * M + r.val) * N + k.val = r.val * N + k.val
    rw [Nat.zero_mul, Nat.zero_add])

/-- A row made a vector and a row again. -/
theorem rowVec_apply {A : Type} {N : ℕ} (x : (⟨2, ![1, N]⟩ : Shape).Idx → A)
    (h : (⟨2, ![1, N]⟩ : Shape).ShapeCasts ⟨1, ![N]⟩) (h' : (⟨1, ![N]⟩ : Shape).ShapeCasts ⟨2, ![1, N]⟩) (k : Fin N) :
    shapeCast ⟨2, ![1, N]⟩ (shapeCast ⟨1, ![N]⟩ x h) h' (ix2 0 k) = x (ix2 0 k) := by
  rw [shapeCast_apply _ h' (ix2 0 k) (ix1 k) (by
      rw [Shape.rowMajor_val_one, Shape.rowMajor_val_two]; show k.val = 0 * N + k.val; omega),
    shapeCast_apply _ h (ix1 k) (ix2 0 k) (by
      rw [Shape.rowMajor_val_one, Shape.rowMajor_val_two]; show 0 * N + k.val = k.val; omega)]

end Cert.Proof.Rows

end
-- ==== Proof.FfnArray.lean ====
/-
  The feed-forward kernel's result array after the run: every row is the feed-forward block of that row of the
  argument (`Ffn.whole`). Each of the 64 grid points writes its own 256 rows.
-/
module

public import proofs.«01_k».proof.Proof.FfnBlock
public import proofs.«01_k».proof.Proof.Reshapes
public import proofs.«01_k».proof.Proof.Gen.FfnIdeal.Value

@[expose] public section

noncomputable section

namespace Cert.Proof.Ffn

open Cert.FfnIdeal Cert.FfnIdeal.Gen Cert.FfnIdeal.Value Idealize.ShloMosaic Idealize.ShloMosaic.TcCoe Idealize.ShloMosaic.ValueIdx Idealize.SL.Sem Cert.Proof.Rows

/-- The feed-forward block of all rows. -/
def whole (x : (⟨3, ![2, 8192, 1024]⟩ : Shape).Idx → EReal) (wg wu : (⟨3, ![1, 1024, 2816]⟩ : Shape).Idx → EReal)
    (wd : (⟨3, ![1, 2816, 1024]⟩ : Shape).Idx → EReal) (g b : (⟨2, ![1, 1024]⟩ : Shape).Idx → EReal)
    (i : (⟨2, ![16384, 1024]⟩ : Shape).Idx) : EReal :=
  ffnRow (fun k => x (ix3 (batchOf (i 0)) (posOf (i 0)) k)) (fun k j => wg (ix3 0 k j)) (fun k j => wu (ix3 0 k j))
    (fun k j => wd (ix3 0 k j)) (fun k => g (ix2 0 k)) (fun k => b (ix2 0 k)) (i 1)

variable (m : (ℓ : Loc nD τ sig) → Buf (Elt Ideal) ℓ) (c : Dev nD)

/-! ### The windows' arrays at the region's entry -/

theorem entry_x (r : Fin 16384) (k : Fin 1024) :
    V m c main_v0 (ix2 r k) = m ((c.tc : Thread nD τ).loc main_arg0) (ix3 (batchOf r) (posOf r) k) := by
  entry_read
  exact flatten_apply (N := 1024) _ shapeCasts_S2x8192x1024_S16384x1024 r k

theorem entry_wg (k : Fin 1024) (j : Fin 2816) :
    V m c main_v2 (ix2 k j) = m ((c.tc : Thread nD τ).loc main_arg1) (ix3 0 k j) := by
  entry_read
  exact drop3_apply (M := 1024) (N := 2816) _ shapeCasts_S1x1024x2816_S1024x2816 k j

theorem entry_wu (k : Fin 1024) (j : Fin 2816) :
    V m c main_v4 (ix2 k j) = m ((c.tc : Thread nD τ).loc main_arg2) (ix3 0 k j) := by
  entry_read
  exact drop3_apply (M := 1024) (N := 2816) _ shapeCasts_S1x1024x2816_S1024x2816 k j

theorem entry_wd (k : Fin 2816) (j : Fin 1024) :
    V m c main_v6 (ix2 k j) = m ((c.tc : Thread nD τ).loc main_arg3) (ix3 0 k j) := by
  entry_read
  exact drop3_apply (M := 2816) (N := 1024) _ shapeCasts_S1x2816x1024_S2816x1024 k j

theorem entry_g (j : Fin 1024) : V m c main_v8 (ix2 0 j) = m ((c.tc : Thread nD τ).loc main_arg4) (ix2 0 j) := by
  entry_read
  exact rowVec_apply (N := 1024) _ shapeCasts_S1x1024_S1024 shapeCasts_S1024_S1x1024 j

theorem entry_b (j : Fin 1024) : V m c main_v10 (ix2 0 j) = m ((c.tc : Thread nD τ).loc main_arg5) (ix2 0 j) := by
  entry_read
  exact rowVec_apply (N := 1024) _ shapeCasts_S1x1024_S1024 shapeCasts_S1024_S1x1024 j

/-! ### The windows' blocks -/

/-- The block indices: the rows and the result move with the grid point, the weights stay. -/
theorem idx_facts : ∀ t : Fin cfg0.N, win0_0.index t 0 = t.val ∧ win0_0.index t 1 = 0
    ∧ (∀ a, win0_1.index t a = 0) ∧ (∀ a, win0_2.index t a = 0) ∧ (∀ a, win0_3.index t a = 0)
    ∧ (∀ a, win0_4.index t a = 0) ∧ (∀ a, win0_5.index t a = 0) ∧ win0_6.index t 0 = t.val ∧ win0_6.index t 1 = 0 :=
  (by decide +kernel : ∀ t : Fin grid0.N, win0_0.index t 0 = t.val ∧ win0_0.index t 1 = 0
    ∧ (∀ a, win0_1.index t a = 0) ∧ (∀ a, win0_2.index t a = 0) ∧ (∀ a, win0_3.index t a = 0)
    ∧ (∀ a, win0_4.index t a = 0) ∧ (∀ a, win0_5.index t a = 0) ∧ win0_6.index t 0 = t.val ∧ win0_6.index t 1 = 0)

/-- The flat row of row `r` of grid point `t`. -/
abbrev rowAt (t : Fin cfg0.N) (r : Fin 256) : Fin 16384 := ⟨256 * t.val + r.val, by have := t.isLt; have : cfg0.N = 64 := N_0; omega⟩

theorem block_x (t : Fin cfg0.N) (r : Fin 256) (k : Fin 1024) :
    iblk m c 0 t (ix2 r k) = m ((c.tc : Thread nD τ).loc main_arg0) (ix3 (batchOf (rowAt t r)) (posOf (rowAt t r)) k) := by
  refine Eq.trans ?_ (entry_x m c (rowAt t r) k)
  refine congrArg (V m c main_v0) (?_ : (win0_0.rect t).emb (ix2 r k) = ix2 (rowAt t r) k)
  obtain ⟨e0, e1, -⟩ := idx_facts t
  refine Shape.idx_ext₂ ?_ ?_
  · rw [Pipeline.Window.rect_emb_val win0_0, e0]; show t.val * 256 + r.val = 256 * t.val + r.val; omega
  · rw [Pipeline.Window.rect_emb_val win0_0, e1]; show 0 * 1024 + k.val = k.val; omega

theorem block_wg (t : Fin cfg0.N) (k : Fin 1024) (j : Fin 2816) :
    iblk m c 1 t (ix2 k j) = m ((c.tc : Thread nD τ).loc main_arg1) (ix3 0 k j) := by
  refine Eq.trans ?_ (entry_wg m c k j)
  refine congrArg (V m c main_v2) (?_ : (win0_1.rect t).emb (ix2 k j) = ix2 k j)
  obtain ⟨-, -, e, -⟩ := idx_facts t
  exact funext fun a => Fin.ext (Pipeline.Window.rect_emb_val_of_index_zero win0_1 t a (e a) _)

theorem block_wu (t : Fin cfg0.N) (k : Fin 1024) (j : Fin 2816) :
    iblk m c 2 t (ix2 k j) = m ((c.tc : Thread nD τ).loc main_arg2) (ix3 0 k j) := by
  refine Eq.trans ?_ (entry_wu m c k j)
  refine congrArg (V m c main_v4) (?_ : (win0_2.rect t).emb (ix2 k j) = ix2 k j)
  obtain ⟨-, -, -, e, -⟩ := idx_facts t
  exact funext fun a => Fin.ext (Pipeline.Window.rect_emb_val_of_index_zero win0_2 t a (e a) _)

theorem block_wd (t : Fin cfg0.N) (k : Fin 2816) (j : Fin 1024) :
    iblk m c 3 t (ix2 k j) = m ((c.tc : Thread nD τ).loc main_arg3) (ix3 0 k j) := by
  refine Eq.trans ?_ (entry_wd m c k j)
  refine congrArg (V m c main_v6) (?_ : (win0_3.rect t).emb (ix2 k j) = ix2 k j)
  obtain ⟨-, -, -, -, e, -⟩ := idx_facts t
  exact funext fun a => Fin.ext (Pipeline.Window.rect_emb_val_of_index_zero win0_3 t a (e a) _)

theorem block_g (t : Fin cfg0.N) (j : Fin 1024) :
    iblk m c 4 t (ix2 0 j) = m ((c.tc : Thread nD τ).loc main_arg4) (ix2 0 j) := by
  refine Eq.trans ?_ (entry_g m c j)
  refine congrArg (V m c main_v8) (?_ : (win0_4.rect t).emb (ix2 0 j) = ix2 0 j)
  obtain ⟨-, -, -, -, -, e, -⟩ := idx_facts t
  exact funext fun a => Fin.ext (Pipeline.Window.rect_emb_val_of_index_zero win0_4 t a (e a) _)

theorem block_b (t : Fin cfg0.N) (j : Fin 1024) :
    iblk m c 5 t (ix2 0 j) = m ((c.tc : Thread nD τ).loc main_arg5) (ix2 0 j) := by
  refine Eq.trans ?_ (entry_b m c j)
  refine congrArg (V m c main_v10) (?_ : (win0_5.rect t).emb (ix2 0 j) = ix2 0 j)
  obtain ⟨-, -, -, -, -, -, e, -⟩ := idx_facts t
  exact funext fun a => Fin.ext (Pipeline.Window.rect_emb_val_of_index_zero win0_5 t a (e a) _)

/-! ### The result -/

/-- The result as a function of the launch contents. -/
abbrev result : (⟨2, ![16384, 1024]⟩ : Shape).Idx → EReal :=
  whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- What a grid point writes back is its block of the result. -/
theorem flushed_eq (t : Fin cfg0.N) :
    (dats m 0 c).flushed 6 t = ((cfg0.win 6).blk t).view.read (Elt Ideal) (result m c) := by
  rw [flushed6]
  funext y
  obtain ⟨r, j, rfl⟩ : ∃ (r : Fin 256) (j : Fin 1024), y = ix2 r j := ⟨y 0, y 1, eq_ix2 y⟩
  have he : (win0_6.rect t).emb (ix2 r j) = ix2 (rowAt t r) j := by
    obtain ⟨-, -, -, -, -, -, -, e0, e1⟩ := idx_facts t
    refine Shape.idx_ext₂ ?_ ?_
    · rw [Pipeline.Window.rect_emb_val win0_6, e0]; show t.val * 256 + r.val = 256 * t.val + r.val; omega
    · rw [Pipeline.Window.rect_emb_val win0_6, e1]; show 0 * 1024 + j.val = j.val; omega
  show out0_6 (F := Ideal) (iblk m c 0 t) (iblk m c 1 t) (iblk m c 2 t) (iblk m c 3 t) (iblk m c 4 t) (iblk m c 5 t) (ix2 r j)
    = result m c ((win0_6.rect t).emb (ix2 r j))
  rw [he, out_apply]
  show _ = ffnRow _ _ _ _ _ _ j
  congr 1
  · exact funext fun k => block_x m c t r k
  · exact funext fun k => funext fun j => block_wg m c t k j
  · exact funext fun k => funext fun j => block_wu m c t k j
  · exact funext fun k => funext fun j => block_wd m c t k j
  · exact funext fun k => block_g m c t k
  · exact funext fun k => block_b m c t k

/-- An index lies in a grid point's block of the result when both coordinates do. -/
theorem mem_block (t : Fin cfg0.N) (i : S16384x1024.Idx)
    (h0 : win0_6.index t 0 * 256 ≤ (i 0 : Nat) ∧ (i 0 : Nat) < win0_6.index t 0 * 256 + 256)
    (h1 : win0_6.index t 1 * 1024 ≤ (i 1 : Nat) ∧ (i 1 : Nat) < win0_6.index t 1 * 1024 + 1024) :
    i ∈ ((cfg0.win 6).blk t).view.set := by
  show i ∈ ((View.whole main_v11).slice (win0_6.rect t)).set
  rw [View.set_slice_whole, Rect.mem_set_unit]
  intro a
  match a with | ⟨0, _⟩ => exact h0 | ⟨1, _⟩ => exact h1

/-- After the last point the array holds the result: row `i` was written by point `i / 256`. -/
theorem final : (dats m 0 c).arrAt 6 cfg0.N = result m c :=
  (dats m 0 c).arrAt_eq_of_cover 6 (result m c) (fun t _ => flushed_eq m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_6 _, ?_⟩
    obtain ⟨-, -, -, -, -, -, -, e0, e1⟩ := idx_facts ⟨(i 0 : Nat) / 256, by omega⟩
    exact mem_block _ i (by rw [e0]; show (i 0 : Nat) / 256 * 256 ≤ (i 0 : Nat) ∧ (i 0 : Nat) < (i 0 : Nat) / 256 * 256 + 256; omega)
      (by rw [e1]; omega)

end Cert.Proof.Ffn

end
-- ==== Proof.FfnRef.lean ====
/-
  The reference feed-forward block, read at an index: every row is the same function of that row (`Rows.ffnRow`).
-/
module

public import proofs.«01_k».proof.Proof.Rows
public import proofs.«01_k».proof.Proof.Reshapes
public import proofs.«01_k».proof.Proof.Gen.FfnRefIdeal.Read

@[expose] public section

noncomputable section

namespace Cert.Proof.FfnRef

open Cert.FfnRefIdeal Cert.FfnRefIdeal.Read Idealize.ShloMosaic Idealize.ShloMosaic.ValueIdx Cert.Proof.Rows
open scoped BigOperators

variable (x : (⟨3, ![2, 8192, 1024]⟩ : Shape).Idx → EReal) (wg wu : (⟨3, ![1, 1024, 2816]⟩ : Shape).Idx → EReal)
    (wd : (⟨3, ![1, 2816, 1024]⟩ : Shape).Idx → EReal) (g b : (⟨2, ![1, 1024]⟩ : Shape).Idx → EReal)

theorem weight_g (k : Fin 1024) (j : Fin 2816) : val_main_v0 (F := Ideal) wg (ix2 k j) = wg (ix3 0 k j) := by
  rw [val_main_v0_apply]
  refine congrArg wg (funext fun a => Fin.ext ?_)
  match a with
  | ⟨0, _⟩ => rfl
  | ⟨1, _⟩ => show (k.val * 2816 + j.val) / 2816 % 1024 = k.val; omega
  | ⟨2, _⟩ => show (k.val * 2816 + j.val) % 2816 = j.val; omega

theorem weight_u (k : Fin 1024) (j : Fin 2816) : val_main_v3 (F := Ideal) wu (ix2 k j) = wu (ix3 0 k j) := weight_g wu k j

theorem weight_d (k : Fin 2816) (j : Fin 1024) : val_main_v6 (F := Ideal) wd (ix2 k j) = wd (ix3 0 k j) := by
  rw [val_main_v6_apply]
  refine congrArg wd (funext fun a => Fin.ext ?_)
  match a with
  | ⟨0, _⟩ => rfl
  | ⟨1, _⟩ => show (k.val * 1024 + j.val) / 1024 % 2816 = k.val; omega
  | ⟨2, _⟩ => show (k.val * 1024 + j.val) % 1024 = j.val; omega

/-- A dense layer of a row. -/
theorem gate_apply (b' : Fin 2) (s : Fin 8192) (n : Fin 2816) :
    val_main_v1 (F := Ideal) x wg (ix3 b' s n) = rowMul (fun k => x (ix3 b' s k)) (fun k j => wg (ix3 0 k j)) n := by
  rw [val_main_v1_apply]
  refine Finset.sum_congr rfl fun k _ => ?_
  rw [show lidx_main_v1 (ix3 b' s n) k = ix3 b' s k from funext fun a => by match a with | ⟨0, _⟩ => rfl | ⟨1, _⟩ => rfl | ⟨2, _⟩ => rfl,
    show ridx_main_v1 (ix3 b' s n) k = ix2 k n from funext fun a => by match a with | ⟨0, _⟩ => rfl | ⟨1, _⟩ => rfl, weight_g]

theorem up_apply (b' : Fin 2) (s : Fin 8192) (n : Fin 2816) :
    val_main_v4 (F := Ideal) x wu (ix3 b' s n) = rowMul (fun k => x (ix3 b' s k)) (fun k j => wu (ix3 0 k j)) n :=
  gate_apply x wu b' s n

/-- The hidden layer. -/
theorem hidden_apply (b' : Fin 2) (s : Fin 8192) (n : Fin 2816) :
    val_main_v5 (F := Ideal) x wg wu (ix3 b' s n)
      = hidden (fun k => x (ix3 b' s k)) (fun k j => wg (ix3 0 k j)) (fun k j => wu (ix3 0 k j)) n := by
  rw [val_main_v5_apply, val_main_v2_apply, val_main_call0_v5_apply, val_main_call0_v4_apply, val_main_call0_v3_apply,
    val_main_call0_v2_apply, val_main_call0_v1_apply, val_main_call0_v0_apply, gate_apply, up_apply,
    val_main_call0_cst_apply, val_main_call0_cst_0_apply]
  show _ * Ideal.div (Ideal.ofBits .f32 0x3F800000#32) (Ideal.ofBits .f32 0x3F800000#32 + Ideal.exp (-_)) * _ = _
  rw [one_f32]
  rfl

/-- The residual sum of row `s` of batch `b'`. -/
abbrev summed (b' : Fin 2) (s : Fin 8192) : Fin 1024 → EReal :=
  residual (fun k => x (ix3 b' s k)) (rowMul (hidden (fun k => x (ix3 b' s k)) (fun k j => wg (ix3 0 k j)) (fun k j => wu (ix3 0 k j)))
    (fun k j => wd (ix3 0 k j)))

theorem summed_apply (b' : Fin 2) (s : Fin 8192) (j : Fin 1024) :
    val_main_v10 (F := Ideal) x wg wu wd (ix3 b' s j) = summed x wg wu wd b' s j := by
  rw [val_main_v10_apply, val_main_v9_apply, val_main_v8_apply, val_main_cst_apply, val_main_v7_apply]
  refine congrArg (_ + ·) (Finset.sum_congr rfl fun n _ => ?_)
  rw [show lidx_main_v7 (ix3 b' s j) n = ix3 b' s n from funext fun a => by match a with | ⟨0, _⟩ => rfl | ⟨1, _⟩ => rfl | ⟨2, _⟩ => rfl,
    show ridx_main_v7 (ix3 b' s j) n = ix2 n j from funext fun a => by match a with | ⟨0, _⟩ => rfl | ⟨1, _⟩ => rfl, weight_d, hidden_apply]

/-- The mean of a row. -/
theorem mean_apply (b' : Fin 2) (s : Fin 8192) (z : Fin 1) :
    val_main_v16 (F := Ideal) x wg wu wd (ix3 b' s z) = mean (summed x wg wu wd b' s) := by
  rw [val_main_v16_apply, val_main_v15_apply, val_main_cst_1_apply, val_main_v14_apply, val_main_v13_apply, val_main_cst_0_apply]
  refine congrArg (fun h => Ideal.div h _) ?_
  show Ideal.ofBits .f32 0x00000000#32 + _ = _
  rw [Ideal.ofBits_zero_f32, zero_add]
  refine Finset.sum_congr rfl fun k _ => ?_
  rw [← summed_apply]
  refine congrArg _ (funext fun a => ?_)
  match a with | ⟨0, _⟩ => rfl | ⟨1, _⟩ => rfl | ⟨2, _⟩ => rfl

/-- A row less its mean. -/
theorem center_apply (b' : Fin 2) (s : Fin 8192) (j : Fin 1024) :
    val_main_v25 (F := Ideal) x wg wu wd (ix3 b' s j) = center (summed x wg wu wd b' s) j := by
  rw [val_main_v25_apply, val_main_v24_apply, summed_apply]
  refine congrArg (_ - ·) ((congrArg _ ?_).trans (mean_apply x wg wu wd b' s 0))
  exact funext fun a => by match a with | ⟨0, _⟩ => rfl | ⟨1, _⟩ => rfl | ⟨2, _⟩ => rfl

/-- The mean of a row's squares. -/
theorem square_apply (b' : Fin 2) (s : Fin 8192) (z : Fin 1) :
    val_main_v23 (F := Ideal) x wg wu wd (ix3 b' s z)
      = mean fun k => center (summed x wg wu wd b' s) k * center (summed x wg wu wd b' s) k := by
  rw [val_main_v23_apply, val_main_v22_apply, val_main_cst_3_apply, val_main_v21_apply, val_main_v20_apply, val_main_cst_2_apply]
  refine congrArg (fun h => Ideal.div h _) ?_
  show Ideal.ofBits .f32 0x00000000#32 + _ = _
  rw [Ideal.ofBits_zero_f32, zero_add]
  refine Finset.sum_congr rfl fun k _ => ?_
  have e : val_main_v18 (F := Ideal) x wg wu wd (ix3 b' s k) = center (summed x wg wu wd b' s) k := center_apply x wg wu wd b' s k
  rw [show idx_main_v20 (idx_main_v21 (ix3 b' s z)) k = ix3 b' s k from funext fun a => by match a with | ⟨0, _⟩ => rfl | ⟨1, _⟩ => rfl | ⟨2, _⟩ => rfl,
    val_main_v19_apply, e]
  rfl

/-- The scale and the shift of column `j`. -/
theorem scale_apply (b' : Fin 2) (s : Fin 8192) (j : Fin 1024) : val_main_v32 (F := Ideal) g (ix3 b' s j) = g (ix2 0 j) := by
  rw [val_main_v32_apply, val_main_v31_apply, val_main_v11_apply]
  exact congrArg g (funext fun a => Fin.ext (by
    match a with | ⟨0, _⟩ => rfl | ⟨1, _⟩ => show j.val % 1024 = j.val; omega))

theorem shift_apply (b' : Fin 2) (s : Fin 8192) (j : Fin 1024) : val_main_v35 (F := Ideal) b (ix3 b' s j) = b (ix2 0 j) :=
  scale_apply b b' s j

/-- The block of a row. -/
theorem row_apply (b' : Fin 2) (s : Fin 8192) (j : Fin 1024) :
    val_main_v36 (F := Ideal) x wg wu wd g b (ix3 b' s j)
      = ffnRow (fun k => x (ix3 b' s k)) (fun k j => wg (ix3 0 k j)) (fun k j => wu (ix3 0 k j)) (fun k j => wd (ix3 0 k j))
          (fun k => g (ix2 0 k)) (fun k => b (ix2 0 k)) j := by
  rw [val_main_v36_apply, val_main_v33_apply, val_main_v30_apply, scale_apply, shift_apply, center_apply, val_main_v29_apply,
    val_main_v28_apply, val_main_v27_apply, val_main_v26_apply, val_main_cst_4_apply,
    show idx_main_v29 (ix3 b' s j) = ix3 b' s 0 from funext fun a => by match a with | ⟨0, _⟩ => rfl | ⟨1, _⟩ => rfl | ⟨2, _⟩ => rfl,
    square_apply]
  rfl

/-- The reference's result is the block of every row. -/
theorem whole_eq : val_main_v37 (F := Ideal) x wg wu wd g b = fun i =>
    ffnRow (fun k => x (ix3 (batchOf (i 0)) (posOf (i 0)) k)) (fun k j => wg (ix3 0 k j)) (fun k j => wu (ix3 0 k j))
      (fun k j => wd (ix3 0 k j)) (fun k => g (ix2 0 k)) (fun k => b (ix2 0 k)) (i 1) := by
  funext i
  obtain ⟨r, j, rfl⟩ : ∃ (r : Fin 16384) (j : Fin 1024), i = ix2 r j := ⟨i 0, i 1, eq_ix2 i⟩
  rw [val_main_v37_apply, ← row_apply]
  refine congrArg _ (funext fun a => Fin.ext ?_)
  match a with
  | ⟨0, _⟩ => show (r.val * 1024 + j.val) / 8388608 = r.val / 8192; omega
  | ⟨1, _⟩ => show (r.val * 1024 + j.val) / 1024 % 8192 = r.val % 8192; omega
  | ⟨2, _⟩ => show (r.val * 1024 + j.val) % 1024 = j.val; omega

end Cert.Proof.FfnRef

end
-- ==== Proof.FfnEquation.lean ====
/-
  The feed-forward kernel and its reference end with the same array, from memories that agree on the arguments.
-/
module

public import proofs.«01_k».proof.Defs
public import proofs.«01_k».proof.Proof.FfnArray
public import proofs.«01_k».proof.Proof.FfnRef
public import proofs.«01_k».proof.Proof.Gen.FfnIdeal
public import proofs.«01_k».proof.Proof.Gen.FfnRefIdeal

@[expose] public section

noncomputable section

namespace Cert.Proof

open Idealize.ShloMosaic Idealize.ShloMosaic.TcCoe Idealize.SL.Sem

theorem algebraic_ffn : algebraic_FfnIdeal_FfnRefIdeal (hFfnIdeal := Cert.FfnIdeal.Gen.facts) (hFfnRefIdeal := Cert.FfnRefIdeal.Gen.facts) := by
  intro m ρ m' ρ' _ hargs
  refine ⟨fun c => Ffn.result m c, ?_, ?_⟩
  · refine (θ_run _ _ _).mono (fun r h c => ?_) (Cert.FfnIdeal.Value.run_blocks (F := Ideal) m ρ)
    exact ⟨(h c).1.trans (Ffn.final m c), (h c).2⟩
  · refine (θ_run _ _ _).mono (fun r h c => ?_) (Cert.FfnRefIdeal.Value.run (F := Ideal) m' ρ')
    obtain ⟨h0, h1, h2, h3, h4, h5⟩ := hargs c
    refine ⟨(h c).1.trans ?_, (h c).2⟩
    rw [Cert.FfnRefIdeal.Read.val_main_v37_eq, h0, h1, h2, h3, h4, h5]
    exact FfnRef.whole_eq _ _ _ _ _ _

end Cert.Proof

end
-- ==== Proof.MergeBlock.lean ====
/-
  One tile of the merge kernel: what its body leaves in the block of 256 rows is, row by row, the merge of that row's two
  branches with the output projection, the residual and the layer norm (`Rows.mergeRow`).
-/
module

public import proofs.«01_k».proof.Proof.Rows
public import proofs.«01_k».proof.Proof.Gen.MergeIdeal.Skeleton
public import proofs.«01_k».proof.Proof.Gen.MergeIdeal.Frame

@[expose] public section

noncomputable section

namespace Cert.Proof.Merge

open Cert.MergeIdeal Cert.MergeIdeal.Gen Idealize.ShloMosaic Idealize.ShloMosaic.ValueIdx Cert.Proof.Rows

variable (x : FVec Ideal S256x1024 .f32) (p : FVec Ideal S256x512 .bf16) (a : FVec Ideal S256x1024 .bf16)
  (ga gb : FVec Ideal S256x1024 .f32) (wp : FVec Ideal S512x1024 .bf16) (wa wo : FVec Ideal S1024x1024 .bf16)
  (g b : FVec Ideal S1x1024 .f32)

/-- The row sum the layer norm is taken of. -/
abbrev summed (r : Fin 256) : Fin 1024 → EReal :=
  residual (fun k => x (ix2 r k)) (rowMul (merged (fun k => p (ix2 r k)) (fun k => a (ix2 r k)) (fun k => ga (ix2 r k)) (fun k => gb (ix2 r k))
    (fun k j => wp (ix2 k j)) (fun k j => wa (ix2 k j))) (fun k j => wo (ix2 k j)))

/-- The merged branches through the output projection, with the residual. -/
theorem pay2_apply (r : Fin 256) (j : Fin 1024) :
    k0_pay2 (F := Ideal) p wp a wa ga gb x wo (ix2 r j) = summed x p a ga gb wp wa wo r j := by
  unfold k0_pay2
  simp only [shapeCast_self]
  rw [addf_apply, matmul_rows dot_S256x1024_S1024x1024_S256x1024_1_0_0_1_n_n rfl]
  refine congrArg₂ (· + ·) rfl (congrArg (fun h => rowMul h _ j) (funext fun n => ?_))
  have ep := matmul_rows dot_S256x512_S512x1024_S256x1024_1_0_0_1_n_n rfl none p wp r n
  have ea := matmul_rows dot_S256x1024_S1024x1024_S256x1024_1_0_0_1_n_n rfl none a wa r n
  exact congrArg₂ (· + ·) (congrArg (Ideal.logistic (ga (ix2 r n)) * ·) ep) (congrArg (Ideal.logistic (gb (ix2 r n)) * ·) ea)

/-- What the body stores, at an index. -/
theorem out_apply (r : Fin 256) (j : Fin 1024) :
    out0_10 (F := Ideal) x p a ga gb wp wa wo g b (ix2 r j)
      = mergeRow (fun k => x (ix2 r k)) (fun k => p (ix2 r k)) (fun k => a (ix2 r k)) (fun k => ga (ix2 r k)) (fun k => gb (ix2 r k))
          (fun k j => wp (ix2 k j)) (fun k j => wa (ix2 k j)) (fun k j => wo (ix2 k j)) (fun k => g (ix2 0 k)) (fun k => b (ix2 0 k)) j := by
  unfold out0_10
  rw [View.canon_unit_zero (by decide)]
  simp only [View.ld_unit_zero (S := S256x1024) (off := ![0, 0]) (by decide), View.ld_unit_zero (S := S256x512) (off := ![0, 0]) (by decide),
    View.ld_unit_zero (S := S512x1024) (off := ![0, 0]) (by decide), View.ld_unit_zero (S := S1024x1024) (off := ![0, 0]) (by decide),
    View.ld_unit_zero (S := S1x1024) (off := ![0, 0]) (by decide)]
  unfold k0_pay1 k0_pay3 k0_pay4 k0_pay5
  simp only [shapeCast_self]
  refine (normed_tile _ g b _ _ _ _ _ _ r j).trans ?_
  refine congrArg (fun c => normed c _ _ j) (funext fun k => ?_)
  refine (center_tile _ _ _ _ _ _ r k).trans (congrArg (fun h => center h k) (funext fun n => ?_))
  exact pay2_apply x p a ga gb wp wa wo r n

end Cert.Proof.Merge

end
-- ==== Proof.MergeArray.lean ====
/-
  The merge kernel's result array after the run: every row is the merge of that row's branches (`Merge.whole`). Each of
  the 64 grid points writes its own 256 rows.
-/
module

public import proofs.«01_k».proof.Proof.MergeBlock
public import proofs.«01_k».proof.Proof.Reshapes
public import proofs.«01_k».proof.Proof.Gen.MergeIdeal.Value

@[expose] public section

noncomputable section

namespace Cert.Proof.Merge

open Cert.MergeIdeal Cert.MergeIdeal.Gen Cert.MergeIdeal.Value Idealize.ShloMosaic Idealize.ShloMosaic.TcCoe Idealize.ShloMosaic.ValueIdx Idealize.SL.Sem Cert.Proof.Rows

/-- The merge of all rows. -/
def whole (x : (⟨3, ![2, 8192, 1024]⟩ : Shape).Idx → EReal) (p : (⟨3, ![2, 8192, 512]⟩ : Shape).Idx → EReal)
    (a ga gb : (⟨3, ![2, 8192, 1024]⟩ : Shape).Idx → EReal) (wp : (⟨3, ![1, 512, 1024]⟩ : Shape).Idx → EReal)
    (wa wo : (⟨3, ![1, 1024, 1024]⟩ : Shape).Idx → EReal) (g b : (⟨2, ![1, 1024]⟩ : Shape).Idx → EReal)
    (i : (⟨2, ![16384, 1024]⟩ : Shape).Idx) : EReal :=
  mergeRow (fun k => x (ix3 (batchOf (i 0)) (posOf (i 0)) k)) (fun k => p (ix3 (batchOf (i 0)) (posOf (i 0)) k))
    (fun k => a (ix3 (batchOf (i 0)) (posOf (i 0)) k)) (fun k => ga (ix3 (batchOf (i 0)) (posOf (i 0)) k))
    (fun k => gb (ix3 (batchOf (i 0)) (posOf (i 0)) k)) (fun k j => wp (ix3 0 k j)) (fun k j => wa (ix3 0 k j))
    (fun k j => wo (ix3 0 k j)) (fun k => g (ix2 0 k)) (fun k => b (ix2 0 k)) (i 1)

variable (m : (ℓ : Loc nD τ sig) → Buf (Elt Ideal) ℓ) (c : Dev nD)

/-! ### The windows' blocks -/

/-- The block indices: the rows and the result move with the grid point, the weights stay. -/
theorem idx_facts : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (∀ a, win0_5.index t a = 0) ∧ (∀ a, win0_6.index t a = 0) ∧ (∀ a, win0_7.index t a = 0) ∧ (∀ a, win0_8.index t a = 0) ∧ (∀ a, win0_9.index t a = 0)
    ∧ (win0_10.index t 0 = t.val ∧ win0_10.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (∀ a, win0_5.index t a = 0) ∧ (∀ a, win0_6.index t a = 0) ∧ (∀ a, win0_7.index t a = 0) ∧ (∀ a, win0_8.index t a = 0) ∧ (∀ a, win0_9.index t a = 0)
    ∧ (win0_10.index t 0 = t.val ∧ win0_10.index t 1 = 0))

/-- The flat row of row `r` of grid point `t`. -/
abbrev rowAt (t : Fin cfg0.N) (r : Fin 256) : Fin 16384 := ⟨256 * t.val + r.val, by have := t.isLt; have : cfg0.N = 64 := N_0; omega⟩

theorem block_x (t : Fin cfg0.N) (r : Fin 256) (k : Fin 1024) :
    iblk m c 0 t (ix2 r k) = m ((c.tc : Thread nD τ).loc main_arg0) (ix3 (batchOf (rowAt t r)) (posOf (rowAt t r)) k) := by
  have he : (win0_0.rect t).emb (ix2 r k) = ix2 (rowAt t r) k := by
    obtain ⟨e0, e1⟩ := (idx_facts t).1
    refine Shape.idx_ext₂ ?_ ?_
    · rw [Pipeline.Window.rect_emb_val win0_0, e0]; show t.val * 256 + r.val = 256 * t.val + r.val; omega
    · rw [Pipeline.Window.rect_emb_val win0_0, e1]; show 0 * 1024 + k.val = k.val; omega
  refine (congrArg (V m c main_v0) he).trans ?_
  entry_read
  exact flatten_apply (N := 1024) _ shapeCasts_S2x8192x1024_S16384x1024 (rowAt t r) k

theorem block_p (t : Fin cfg0.N) (r : Fin 256) (k : Fin 512) :
    iblk m c 1 t (ix2 r k) = m ((c.tc : Thread nD τ).loc main_arg1) (ix3 (batchOf (rowAt t r)) (posOf (rowAt t r)) k) := by
  have he : (win0_1.rect t).emb (ix2 r k) = ix2 (rowAt t r) k := by
    obtain ⟨e0, e1⟩ := (idx_facts t).2.1
    refine Shape.idx_ext₂ ?_ ?_
    · rw [Pipeline.Window.rect_emb_val win0_1, e0]; show t.val * 256 + r.val = 256 * t.val + r.val; omega
    · rw [Pipeline.Window.rect_emb_val win0_1, e1]; show 0 * 512 + k.val = k.val; omega
  refine (congrArg (V m c main_v2) he).trans ?_
  entry_read
  exact flatten_apply (N := 512) _ shapeCasts_S2x8192x512_S16384x512 (rowAt t r) k

theorem block_a (t : Fin cfg0.N) (r : Fin 256) (k : Fin 1024) :
    iblk m c 2 t (ix2 r k) = m ((c.tc : Thread nD τ).loc main_arg2) (ix3 (batchOf (rowAt t r)) (posOf (rowAt t r)) k) := by
  have he : (win0_2.rect t).emb (ix2 r k) = ix2 (rowAt t r) k := by
    obtain ⟨e0, e1⟩ := (idx_facts t).2.2.1
    refine Shape.idx_ext₂ ?_ ?_
    · rw [Pipeline.Window.rect_emb_val win0_2, e0]; show t.val * 256 + r.val = 256 * t.val + r.val; omega
    · rw [Pipeline.Window.rect_emb_val win0_2, e1]; show 0 * 1024 + k.val = k.val; omega
  refine (congrArg (V m c main_v4) he).trans ?_
  entry_read
  exact flatten_apply (N := 1024) _ shapeCasts_S2x8192x1024_S16384x1024 (rowAt t r) k

theorem block_ga (t : Fin cfg0.N) (r : Fin 256) (k : Fin 1024) :
    iblk m c 3 t (ix2 r k) = m ((c.tc : Thread nD τ).loc main_arg3) (ix3 (batchOf (rowAt t r)) (posOf (rowAt t r)) k) := by
  have he : (win0_3.rect t).emb (ix2 r k) = ix2 (rowAt t r) k := by
    obtain ⟨e0, e1⟩ := (idx_facts t).2.2.2.1
    refine Shape.idx_ext₂ ?_ ?_
    · rw [Pipeline.Window.rect_emb_val win0_3, e0]; show t.val * 256 + r.val = 256 * t.val + r.val; omega
    · rw [Pipeline.Window.rect_emb_val win0_3, e1]; show 0 * 1024 + k.val = k.val; omega
  refine (congrArg (V m c main_v5) he).trans ?_
  entry_read
  exact flatten_apply (N := 1024) _ shapeCasts_S2x8192x1024_S16384x1024 (rowAt t r) k

theorem block_gb (t : Fin cfg0.N) (r : Fin 256) (k : Fin 1024) :
    iblk m c 4 t (ix2 r k) = m ((c.tc : Thread nD τ).loc main_arg4) (ix3 (batchOf (rowAt t r)) (posOf (rowAt t r)) k) := by
  have he : (win0_4.rect t).emb (ix2 r k) = ix2 (rowAt t r) k := by
    obtain ⟨e0, e1⟩ := (idx_facts t).2.2.2.2.1
    refine Shape.idx_ext₂ ?_ ?_
    · rw [Pipeline.Window.rect_emb_val win0_4, e0]; show t.val * 256 + r.val = 256 * t.val + r.val; omega
    · rw [Pipeline.Window.rect_emb_val win0_4, e1]; show 0 * 1024 + k.val = k.val; omega
  refine (congrArg (V m c main_v6) he).trans ?_
  entry_read
  exact flatten_apply (N := 1024) _ shapeCasts_S2x8192x1024_S16384x1024 (rowAt t r) k

theorem block_wp (t : Fin cfg0.N) (k : Fin 512) (j : Fin 1024) :
    iblk m c 5 t (ix2 k j) = m ((c.tc : Thread nD τ).loc main_arg5) (ix3 0 k j) := by
  have he : (win0_5.rect t).emb (ix2 k j) = ix2 k j :=
    funext fun a => Fin.ext (Pipeline.Window.rect_emb_val_of_index_zero win0_5 t a ((idx_facts t).2.2.2.2.2.1 a) _)
  refine (congrArg (V m c main_v8) he).trans ?_
  entry_read
  exact drop3_apply (M := 512) (N := 1024) _ shapeCasts_S1x512x1024_S512x1024 k j

theorem block_wa (t : Fin cfg0.N) (k : Fin 1024) (j : Fin 1024) :
    iblk m c 6 t (ix2 k j) = m ((c.tc : Thread nD τ).loc main_arg6) (ix3 0 k j) := by
  have he : (win0_6.rect t).emb (ix2 k j) = ix2 k j :=
    funext fun a => Fin.ext (Pipeline.Window.rect_emb_val_of_index_zero win0_6 t a ((idx_facts t).2.2.2.2.2.2.1 a) _)
  refine (congrArg (V m c main_v10) he).trans ?_
  entry_read
  exact drop3_apply (M := 1024) (N := 1024) _ shapeCasts_S1x1024x1024_S1024x1024 k j

theorem block_wo (t : Fin cfg0.N) (k : Fin 1024) (j : Fin 1024) :
    iblk m c 7 t (ix2 k j) = m ((c.tc : Thread nD τ).loc main_arg7) (ix3 0 k j) := by
  have he : (win0_7.rect t).emb (ix2 k j) = ix2 k j :=
    funext fun a => Fin.ext (Pipeline.Window.rect_emb_val_of_index_zero win0_7 t a ((idx_facts t).2.2.2.2.2.2.2.1 a) _)
  refine (congrArg (V m c main_v12) he).trans ?_
  entry_read
  exact drop3_apply (M := 1024) (N := 1024) _ shapeCasts_S1x1024x1024_S1024x1024 k j

theorem block_g (t : Fin cfg0.N) (j : Fin 1024) : iblk m c 8 t (ix2 0 j) = m ((c.tc : Thread nD τ).loc main_arg8) (ix2 0 j) := by
  have he : (win0_8.rect t).emb (ix2 0 j) = ix2 0 j :=
    funext fun a => Fin.ext (Pipeline.Window.rect_emb_val_of_index_zero win0_8 t a ((idx_facts t).2.2.2.2.2.2.2.2.1 a) _)
  refine (congrArg (V m c main_v14) he).trans ?_
  entry_read
  exact rowVec_apply (N := 1024) _ shapeCasts_S1x1024_S1024 shapeCasts_S1024_S1x1024 j

theorem block_b (t : Fin cfg0.N) (j : Fin 1024) : iblk m c 9 t (ix2 0 j) = m ((c.tc : Thread nD τ).loc main_arg9) (ix2 0 j) := by
  have he : (win0_9.rect t).emb (ix2 0 j) = ix2 0 j :=
    funext fun a => Fin.ext (Pipeline.Window.rect_emb_val_of_index_zero win0_9 t a ((idx_facts t).2.2.2.2.2.2.2.2.2.1 a) _)
  refine (congrArg (V m c main_v16) he).trans ?_
  entry_read
  exact rowVec_apply (N := 1024) _ shapeCasts_S1x1024_S1024 shapeCasts_S1024_S1x1024 j

/-! ### The result -/

/-- The result as a function of the launch contents. -/
abbrev result : (⟨2, ![16384, 1024]⟩ : Shape).Idx → EReal :=
  whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- What a grid point writes back is its block of the result. -/
theorem flushed_eq (t : Fin cfg0.N) :
    (dats m 0 c).flushed 10 t = ((cfg0.win 10).blk t).view.read (Elt Ideal) (result m c) := by
  rw [flushed10]
  funext y
  obtain ⟨r, j, rfl⟩ : ∃ (r : Fin 256) (j : Fin 1024), y = ix2 r j := ⟨y 0, y 1, eq_ix2 y⟩
  have he : (win0_10.rect t).emb (ix2 r j) = ix2 (rowAt t r) j := by
    obtain ⟨e0, e1⟩ := (idx_facts t).2.2.2.2.2.2.2.2.2.2
    refine Shape.idx_ext₂ ?_ ?_
    · rw [Pipeline.Window.rect_emb_val win0_10, e0]; show t.val * 256 + r.val = 256 * t.val + r.val; omega
    · rw [Pipeline.Window.rect_emb_val win0_10, e1]; show 0 * 1024 + j.val = j.val; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = result m c ((win0_10.rect t).emb (ix2 r j))
  rw [he, out_apply]
  show _ = mergeRow _ _ _ _ _ _ _ _ _ _ j
  congr 1
  · exact funext fun k => block_x m c t r k
  · exact funext fun k => block_p m c t r k
  · exact funext fun k => block_a m c t r k
  · exact funext fun k => block_ga m c t r k
  · exact funext fun k => block_gb m c t r k
  · exact funext fun k => funext fun j => block_wp m c t k j
  · exact funext fun k => funext fun j => block_wa m c t k j
  · exact funext fun k => funext fun j => block_wo m c t k j
  · exact funext fun k => block_g m c t k
  · exact funext fun k => block_b m c t k

/-- An index lies in a grid point's block of the result when both coordinates do. -/
theorem mem_block (t : Fin cfg0.N) (i : S16384x1024.Idx)
    (h0 : win0_10.index t 0 * 256 ≤ (i 0 : Nat) ∧ (i 0 : Nat) < win0_10.index t 0 * 256 + 256)
    (h1 : win0_10.index t 1 * 1024 ≤ (i 1 : Nat) ∧ (i 1 : Nat) < win0_10.index t 1 * 1024 + 1024) :
    i ∈ ((cfg0.win 10).blk t).view.set := by
  show i ∈ ((View.whole main_v17).slice (win0_10.rect t)).set
  rw [View.set_slice_whole, Rect.mem_set_unit]
  intro a
  match a with | ⟨0, _⟩ => exact h0 | ⟨1, _⟩ => exact h1

/-- After the last point the array holds the result: row `i` was written by point `i / 256`. -/
theorem final : (dats m 0 c).arrAt 10 cfg0.N = result m c :=
  (dats m 0 c).arrAt_eq_of_cover 10 (result m c) (fun t _ => flushed_eq m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_10 _, ?_⟩
    obtain ⟨e0, e1⟩ := (idx_facts ⟨(i 0 : Nat) / 256, by omega⟩).2.2.2.2.2.2.2.2.2.2
    exact mem_block _ i (by rw [e0]; show (i 0 : Nat) / 256 * 256 ≤ (i 0 : Nat) ∧ (i 0 : Nat) < (i 0 : Nat) / 256 * 256 + 256; omega)
      (by rw [e1]; omega)

end Cert.Proof.Merge

end
-- ==== Proof.MergeRef.lean ====
/-
  The reference merge, read at an index: every row is the same function of that row (`Rows.mergeRow`).
-/
module

public import proofs.«01_k».proof.Proof.Rows
public import proofs.«01_k».proof.Proof.Reshapes
public import proofs.«01_k».proof.Proof.Gen.MergeRefIdeal.Read

@[expose] public section

noncomputable section

namespace Cert.Proof.MergeRef

open Cert.MergeRefIdeal Cert.MergeRefIdeal.Read Idealize.ShloMosaic Idealize.ShloMosaic.ValueIdx Cert.Proof.Rows
open scoped BigOperators

variable (x : (⟨3, ![2, 8192, 1024]⟩ : Shape).Idx → EReal) (p : (⟨3, ![2, 8192, 512]⟩ : Shape).Idx → EReal)
    (a ga gb : (⟨3, ![2, 8192, 1024]⟩ : Shape).Idx → EReal) (wp : (⟨3, ![1, 512, 1024]⟩ : Shape).Idx → EReal)
    (wa wo : (⟨3, ![1, 1024, 1024]⟩ : Shape).Idx → EReal) (g b : (⟨2, ![1, 1024]⟩ : Shape).Idx → EReal)
    (b' : Fin 2) (s : Fin 8192)

theorem weight_p (k : Fin 512) (j : Fin 1024) : val_main_v6 (F := Ideal) wp (ix2 k j) = wp (ix3 0 k j) := by
  rw [val_main_v6_apply]
  refine congrArg wp (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega

theorem weight_a (k : Fin 1024) (j : Fin 1024) : val_main_v15 (F := Ideal) wa (ix2 k j) = wa (ix3 0 k j) := by
  rw [val_main_v15_apply]
  refine congrArg wa (funext fun a => Fin.ext ?_)
  match a with
  | ⟨0, _⟩ => rfl
  | ⟨1, _⟩ => show (k.val * 1024 + j.val) / 1024 % 1024 = k.val; omega
  | ⟨2, _⟩ => show (k.val * 1024 + j.val) % 1024 = j.val; omega

theorem weight_o (k : Fin 1024) (j : Fin 1024) : val_main_v21 (F := Ideal) wo (ix2 k j) = wo (ix3 0 k j) := weight_a wo k j

/-- The host's sigmoid. -/
theorem sigmoid_apply (i : S2x8192x1024.Idx) : val_main_v5 (F := Ideal) ga i = Ideal.logistic (ga i) := by
  rw [val_main_v5_apply, val_main_v4_apply, val_main_v3_apply, val_main_v2_apply, val_main_v1_apply, val_main_v0_apply,
    val_main_cst_apply, val_main_cst_0_apply]
  show Ideal.div (Ideal.ofBits .f32 0x3F800000#32) (Ideal.ofBits .f32 0x3F800000#32 + Ideal.exp (-_)) = _
  rw [one_f32]
  rfl

/-- The pool branch brought to the model's width, -/
theorem pool_apply (j : Fin 1024) :
    val_main_v7 (F := Ideal) p wp (ix3 b' s j) = rowMul (fun k => p (ix3 b' s k)) (fun k j => wp (ix3 0 k j)) j := by
  rw [val_main_v7_apply]
  refine Finset.sum_congr rfl fun k _ => ?_
  rw [show lidx_main_v7 (ix3 b' s j) k = ix3 b' s k from funext fun a => by match a with | ⟨0, _⟩ => rfl | ⟨1, _⟩ => rfl | ⟨2, _⟩ => rfl,
    show ridx_main_v7 (ix3 b' s j) k = ix2 k j from funext fun a => by match a with | ⟨0, _⟩ => rfl | ⟨1, _⟩ => rfl, weight_p]

/-- and the attention branch. -/
theorem attn_apply (j : Fin 1024) :
    val_main_v16 (F := Ideal) a wa (ix3 b' s j) = rowMul (fun k => a (ix3 b' s k)) (fun k j => wa (ix3 0 k j)) j := by
  rw [val_main_v16_apply]
  refine Finset.sum_congr rfl fun k _ => ?_
  rw [show lidx_main_v16 (ix3 b' s j) k = ix3 b' s k from funext fun a => by match a with | ⟨0, _⟩ => rfl | ⟨1, _⟩ => rfl | ⟨2, _⟩ => rfl,
    show ridx_main_v16 (ix3 b' s j) k = ix2 k j from funext fun a => by match a with | ⟨0, _⟩ => rfl | ⟨1, _⟩ => rfl, weight_a]

/-- The two branches, gated. -/
theorem merged_apply (j : Fin 1024) :
    val_main_v18 (F := Ideal) p a ga gb wp wa (ix3 b' s j)
      = merged (fun k => p (ix3 b' s k)) (fun k => a (ix3 b' s k)) (fun k => ga (ix3 b' s k)) (fun k => gb (ix3 b' s k))
          (fun k j => wp (ix3 0 k j)) (fun k j => wa (ix3 0 k j)) j := by
  have e : val_main_v14 (F := Ideal) gb (ix3 b' s j) = Ideal.logistic (gb (ix3 b' s j)) := sigmoid_apply gb _
  rw [val_main_v18_apply, val_main_v8_apply, val_main_v17_apply, sigmoid_apply, e, pool_apply, attn_apply]
  rfl

/-- The residual sum of row `s` of batch `b'`. -/
abbrev summed : Fin 1024 → EReal :=
  residual (fun k => x (ix3 b' s k)) (rowMul (merged (fun k => p (ix3 b' s k)) (fun k => a (ix3 b' s k)) (fun k => ga (ix3 b' s k))
    (fun k => gb (ix3 b' s k)) (fun k j => wp (ix3 0 k j)) (fun k j => wa (ix3 0 k j))) (fun k j => wo (ix3 0 k j)))

theorem summed_apply (j : Fin 1024) :
    val_main_v23 (F := Ideal) x p a ga gb wp wa wo (ix3 b' s j) = summed x p a ga gb wp wa wo b' s j := by
  rw [val_main_v23_apply, val_main_v20_apply, val_main_v19_apply, val_main_cst_3_apply, val_main_v22_apply]
  refine congrArg (_ + ·) (Finset.sum_congr rfl fun n _ => ?_)
  rw [show lidx_main_v22 (ix3 b' s j) n = ix3 b' s n from funext fun a => by match a with | ⟨0, _⟩ => rfl | ⟨1, _⟩ => rfl | ⟨2, _⟩ => rfl,
    show ridx_main_v22 (ix3 b' s j) n = ix2 n j from funext fun a => by match a with | ⟨0, _⟩ => rfl | ⟨1, _⟩ => rfl, weight_o, merged_apply]

/-- The mean of a row. -/
theorem mean_apply (z : Fin 1) : val_main_v29 (F := Ideal) x p a ga gb wp wa wo (ix3 b' s z) = mean (summed x p a ga gb wp wa wo b' s) := by
  rw [val_main_v29_apply, val_main_v28_apply, val_main_cst_5_apply, val_main_v27_apply, val_main_v26_apply, val_main_cst_4_apply]
  refine congrArg (fun h => Ideal.div h _) ?_
  show Ideal.ofBits .f32 0x00000000#32 + _ = _
  rw [Ideal.ofBits_zero_f32, zero_add]
  refine Finset.sum_congr rfl fun k _ => ?_
  rw [← summed_apply]
  refine congrArg _ (funext fun a => ?_)
  match a with | ⟨0, _⟩ => rfl | ⟨1, _⟩ => rfl | ⟨2, _⟩ => rfl

/-- A row less its mean. -/
theorem center_apply (j : Fin 1024) : val_main_v38 (F := Ideal) x p a ga gb wp wa wo (ix3 b' s j) = center (summed x p a ga gb wp wa wo b' s) j := by
  rw [val_main_v38_apply, val_main_v37_apply, summed_apply]
  refine congrArg (_ - ·) ((congrArg _ ?_).trans (mean_apply x p a ga gb wp wa wo b' s 0))
  exact funext fun a => by match a with | ⟨0, _⟩ => rfl | ⟨1, _⟩ => rfl | ⟨2, _⟩ => rfl

/-- The mean of a row's squares. -/
theorem square_apply (z : Fin 1) :
    val_main_v36 (F := Ideal) x p a ga gb wp wa wo (ix3 b' s z)
      = mean fun k => center (summed x p a ga gb wp wa wo b' s) k * center (summed x p a ga gb wp wa wo b' s) k := by
  rw [val_main_v36_apply, val_main_v35_apply, val_main_cst_7_apply, val_main_v34_apply, val_main_v33_apply, val_main_cst_6_apply]
  refine congrArg (fun h => Ideal.div h _) ?_
  show Ideal.ofBits .f32 0x00000000#32 + _ = _
  rw [Ideal.ofBits_zero_f32, zero_add]
  refine Finset.sum_congr rfl fun k _ => ?_
  have e : val_main_v31 (F := Ideal) x p a ga gb wp wa wo (ix3 b' s k) = center (summed x p a ga gb wp wa wo b' s) k := center_apply x p a ga gb wp wa wo b' s k
  rw [show idx_main_v33 (idx_main_v34 (ix3 b' s z)) k = ix3 b' s k from funext fun a => by match a with | ⟨0, _⟩ => rfl | ⟨1, _⟩ => rfl | ⟨2, _⟩ => rfl,
    val_main_v32_apply, e]
  rfl

/-- The scale and the shift of column `j`. -/
theorem scale_apply (j : Fin 1024) : val_main_v45 (F := Ideal) g (ix3 b' s j) = g (ix2 0 j) := by
  rw [val_main_v45_apply, val_main_v44_apply, val_main_v24_apply]
  exact congrArg g (funext fun a => Fin.ext (by
    match a with | ⟨0, _⟩ => rfl | ⟨1, _⟩ => show j.val % 1024 = j.val; omega))

theorem shift_apply (j : Fin 1024) : val_main_v48 (F := Ideal) b (ix3 b' s j) = b (ix2 0 j) := scale_apply b b' s j

/-- The merge of a row. -/
theorem row_apply (j : Fin 1024) :
    val_main_v49 (F := Ideal) x p a ga gb wp wa wo g b (ix3 b' s j)
      = mergeRow (fun k => x (ix3 b' s k)) (fun k => p (ix3 b' s k)) (fun k => a (ix3 b' s k)) (fun k => ga (ix3 b' s k))
          (fun k => gb (ix3 b' s k)) (fun k j => wp (ix3 0 k j)) (fun k j => wa (ix3 0 k j)) (fun k j => wo (ix3 0 k j))
          (fun k => g (ix2 0 k)) (fun k => b (ix2 0 k)) j := by
  rw [val_main_v49_apply, val_main_v46_apply, val_main_v43_apply, scale_apply, shift_apply, center_apply, val_main_v42_apply,
    val_main_v41_apply, val_main_v40_apply, val_main_v39_apply, val_main_cst_8_apply,
    show idx_main_v42 (ix3 b' s j) = ix3 b' s 0 from funext fun a => by match a with | ⟨0, _⟩ => rfl | ⟨1, _⟩ => rfl | ⟨2, _⟩ => rfl,
    square_apply]
  rfl

/-- The reference's result is the merge of every row. -/
theorem whole_eq : val_main_v50 (F := Ideal) x p a ga gb wp wa wo g b = fun i =>
    mergeRow (fun k => x (ix3 (batchOf (i 0)) (posOf (i 0)) k)) (fun k => p (ix3 (batchOf (i 0)) (posOf (i 0)) k))
      (fun k => a (ix3 (batchOf (i 0)) (posOf (i 0)) k)) (fun k => ga (ix3 (batchOf (i 0)) (posOf (i 0)) k))
      (fun k => gb (ix3 (batchOf (i 0)) (posOf (i 0)) k)) (fun k j => wp (ix3 0 k j)) (fun k j => wa (ix3 0 k j))
      (fun k j => wo (ix3 0 k j)) (fun k => g (ix2 0 k)) (fun k => b (ix2 0 k)) (i 1) := by
  funext i
  obtain ⟨r, j, rfl⟩ : ∃ (r : Fin 16384) (j : Fin 1024), i = ix2 r j := ⟨i 0, i 1, eq_ix2 i⟩
  rw [val_main_v50_apply, ← row_apply]
  refine congrArg _ (funext fun a => Fin.ext ?_)
  match a with
  | ⟨0, _⟩ => show (r.val * 1024 + j.val) / 8388608 = r.val / 8192; omega
  | ⟨1, _⟩ => show (r.val * 1024 + j.val) / 1024 % 8192 = r.val % 8192; omega
  | ⟨2, _⟩ => show (r.val * 1024 + j.val) % 1024 = j.val; omega

end Cert.Proof.MergeRef

end
-- ==== Proof.MergeEquation.lean ====
/-
  The merge kernel and its reference end with the same array, from memories that agree on the arguments.
-/
module

public import proofs.«01_k».proof.Defs
public import proofs.«01_k».proof.Proof.MergeArray
public import proofs.«01_k».proof.Proof.MergeRef
public import proofs.«01_k».proof.Proof.Gen.MergeIdeal
public import proofs.«01_k».proof.Proof.Gen.MergeRefIdeal

@[expose] public section

noncomputable section

namespace Cert.Proof

open Idealize.ShloMosaic Idealize.ShloMosaic.TcCoe Idealize.SL.Sem

theorem algebraic_merge : algebraic_MergeIdeal_MergeRefIdeal (hMergeIdeal := Cert.MergeIdeal.Gen.facts) (hMergeRefIdeal := Cert.MergeRefIdeal.Gen.facts) := by
  intro m ρ m' ρ' _ hargs
  refine ⟨fun c => Merge.result m c, ?_, ?_⟩
  · refine (θ_run _ _ _).mono (fun r h c => ?_) (Cert.MergeIdeal.Value.run_blocks (F := Ideal) m ρ)
    exact ⟨(h c).1.trans (Merge.final m c), (h c).2⟩
  · refine (θ_run _ _ _).mono (fun r h c => ?_) (Cert.MergeRefIdeal.Value.run (F := Ideal) m' ρ')
    obtain ⟨h0, h1, h2, h3, h4, h5, h6, h7, h8, h9⟩ := hargs c
    refine ⟨(h c).1.trans ?_, (h c).2⟩
    rw [Cert.MergeRefIdeal.Read.val_main_v50_eq, h0, h1, h2, h3, h4, h5, h6, h7, h8, h9]
    exact MergeRef.whole_eq _ _ _ _ _ _ _ _ _ _

end Cert.Proof

end
-- ==== Proof.Projection.lean ====
/-
  What the input projection computes of a row, as functions of plain indices over the extended reals: the columns of the
  row times the weights, the rotary embedding of the heads, the mean of a block of 256 keys.
-/
module

public import proofs.«01_k».proof.Proof.Rows
public import proofs.«01_k».proof.Proof.Reshapes
public import Idealize.ShloMosaic.Lib.IdealHost
public import Idealize.ShloMosaic.Lib.KernelVsHost

@[expose] public section

noncomputable section

namespace Cert.Proof.Projection

open Idealize.ShloMosaic Idealize.ShloMosaic.ValueIdx Cert.Proof.Rows
open scoped BigOperators

/-! ### The rotary embedding -/

/-- The column of lane `d` of the head of column `j`, in the part of the projection that begins at column `o`. -/
def headCol (o : ℕ) (ho : o + 1024 ≤ 5632) (j : Fin 1024) (d : Fin 128) : Fin 5632 :=
  ⟨o + 128 * (j.val / 128) + d.val, by omega⟩

/-- The lane of a column in its head. -/
def lane (j : Fin 1024) : Fin 128 := ⟨j.val % 128, by omega⟩

/-- The lane that a lane is rotated with. -/
def partner (d : Fin 128) : Fin 128 := ⟨(d.val + 64) % 128, by omega⟩

/-- A head rotated by a table of cosines and a table of signed sines, at column `j`. -/
def rotated (y : Fin 5632 → EReal) (o : ℕ) (ho : o + 1024 ≤ 5632) (c s : Fin 128 → EReal) (j : Fin 1024) : EReal :=
  y (headCol o ho j (lane j)) * c (lane j) + y (headCol o ho j (partner (lane j))) * s (lane j)

/-- The rotary frequency of lane `d`. -/
def frequency (d : Fin 64) : EReal :=
  FloatOps.hostPowf (F := Ideal) (φ := .f32) (Ideal.ofBits .f32 0x461C4000#32)
    (Ideal.div (FloatOps.hostNegf (F := Ideal) (φ := .f32) (FloatOps.sitofp (F := Ideal) .f32 (BitVec.ofNat 32 d.val)))
      (Ideal.ofBits .f32 0x42800000#32))

/-- The rotary angle of position `p` and lane `d`. -/
def angle (p : ℕ) (d : Fin 64) : EReal :=
  (FloatOps.sitofp (F := Ideal) .f32 (BitVec.ofNat 32 p) : EReal) * frequency d

/-- The half of the lanes that a lane lies in gives its angle. -/
def half (d : Fin 128) : Fin 64 := ⟨d.val % 64, by omega⟩

/-- The cosine of a position and a lane. -/
def cosine (p : ℕ) (d : Fin 128) : EReal := FloatOps.hostUnary (F := Ideal) (φ := .f32) .cos (angle p (half d))

/-- The sine of a position and a lane. -/
def sine (p : ℕ) (d : Fin 128) : EReal := FloatOps.hostUnary (F := Ideal) (φ := .f32) .sin (angle p (half d))

/-- The sine with the sign of its half: the first half of the lanes is rotated backwards. -/
def signedSine (p : ℕ) (d : Fin 128) : EReal := if d.val < 64 then - sine p d else sine p d

/-- Rotating a head by its halves is rotating each lane with its partner: the first half subtracts what the second adds. -/
theorem rotated_halves (y : Fin 5632 → EReal) (o : ℕ) (ho : o + 1024 ≤ 5632) (p : ℕ) (h : Fin 8) (d : Fin 128)
    (a b : EReal) (ha : a = y ⟨o + 128 * h.val + (half d).val, by have := (half d).isLt; omega⟩)
    (hb : b = y ⟨o + 128 * h.val + (64 + (half d).val), by have := (half d).isLt; omega⟩) :
    (if d.val < 64 then a * cosine p d - b * sine p d else b * cosine p d + a * sine p d)
      = rotated y o ho (cosine p) (signedSine p) ⟨128 * h.val + d.val, by omega⟩ := by
  subst ha hb
  have hl : lane ⟨128 * h.val + d.val, by omega⟩ = d := Fin.ext (by show (128 * h.val + d.val) % 128 = d.val; omega)
  unfold rotated signedSine headCol
  rw [hl]
  split
  · next hd =>
    rw [mul_neg, ← sub_eq_add_neg]
    congr 2
    · exact congrArg y (Fin.ext (by show o + 128 * h.val + d.val % 64 = o + 128 * ((128 * h.val + d.val) / 128) + d.val; omega))
    · exact congrArg y (Fin.ext (by show o + 128 * h.val + (64 + d.val % 64) = o + 128 * ((128 * h.val + d.val) / 128) + (d.val + 64) % 128; omega))
  · next hd =>
    congr 2
    · exact congrArg y (Fin.ext (by show o + 128 * h.val + (64 + d.val % 64) = o + 128 * ((128 * h.val + d.val) / 128) + d.val; omega))
    · exact congrArg y (Fin.ext (by show o + 128 * h.val + d.val % 64 = o + 128 * ((128 * h.val + d.val) / 128) + (d.val + 64) % 128; omega))

/-! ### The mean of a block of keys -/

/-- Multiplying by the reciprocal of 256 is dividing by 256: both are powers of two. -/
theorem mul_inv_256 (x : EReal) : x * Ideal.ofBits .f32 0x3B800000#32 = Ideal.div x (Ideal.ofBits .f32 0x43800000#32) := by
  have h : Ideal.ofBits .f32 0x43800000#32 = ((256 : ℝ) : EReal) := by
    simp [Ideal.ofBits, Ideal.ieee]; rw [← EReal.coe_mul]; norm_num
  have h' : Ideal.ofBits .f32 0x3B800000#32 = ((256⁻¹ : ℝ) : EReal) := by
    simp [Ideal.ofBits, Ideal.ieee]; rw [← EReal.coe_mul]; norm_num
  have h0 : Ideal.ofBits .f32 0x43800000#32 ≠ 0 := by rw [h]; exact EReal.coe_ne_zero.2 (by norm_num)
  unfold Ideal.div
  rw [if_neg h0, h, h', EReal.coe_inv]

/-! ### Vector operations at an index -/

/-- A tile of the projection, rotated by the tables, at row `r` and lane `d`. -/
theorem rotated_tile (M : (⟨2, ![256, 512]⟩ : Shape).Idx → EReal) (c s : FVec Ideal ⟨2, ![256, 128]⟩ .f32) (o : ℕ)
    (hs : (⟨2, ![256, 512]⟩ : Shape).Slices ![0, o] ⟨2, ![256, 128]⟩) (hr : (⟨2, ![256, 128]⟩ : Shape).Rotates 1 none)
    (ho : o + 128 ≤ 512) (r : Fin 256) (d : Fin 128) :
    addf (mulf (extractStridedSlice ⟨2, ![256, 128]⟩ ![0, o] M hs : FVec Ideal ⟨2, ![256, 128]⟩ .f32) c)
      (mulf (dynamicRotate 1 64#32 none (extractStridedSlice ⟨2, ![256, 128]⟩ ![0, o] M hs) hr : FVec Ideal ⟨2, ![256, 128]⟩ .f32) s) (ix2 r d)
      = M (ix2 r ⟨o + d.val, by omega⟩) * c (ix2 r d) + M (ix2 r ⟨o + (partner d).val, by omega⟩) * s (ix2 r d) := by
  have e (d : Fin 128) : extractStridedSlice ⟨2, ![256, 128]⟩ ![0, o] M hs (ix2 r d) = M (ix2 r ⟨o + d.val, by omega⟩) :=
    extractStridedSlice_apply ![0, o] M hs (ix2 r d) _ fun a => by
      match a with | ⟨0, _⟩ => exact (Nat.zero_add _).symm | ⟨1, _⟩ => rfl
  rw [addf_apply, mulf_apply, mulf_apply, e,
    dynamicRotate_apply (1 : Fin 2) 64#32 _ hr (ix2 r d) (ix2 r (partner d)) (fun b => by
      match b with
      | ⟨0, _⟩ => rfl
      | ⟨1, _⟩ => show (d.val + 64) % 128 = (d.val + 128 - 64) % 128; omega), e]

/-- A load of 512 columns of the weights reads the columns from its offset on. -/
theorem columns_apply (w : FVec Ideal ⟨2, ![1024, 5632]⟩ .bf16) (o : ℕ)
    (inb : ∀ a, (![0, o] : Fin 2 → Nat) a + (![1024, 512] : Fin 2 → Nat) a ≤ (⟨2, ![1024, 5632]⟩ : Shape).size a)
    (ho : o + 512 ≤ 5632) (k : Fin 1024) (n : Fin 512) :
    View.ld (Val := Elt Ideal) (e' := .bf16) w (Rect.unit (s := ⟨2, ![1024, 5632]⟩) ![0, o] ![1024, 512] inb) (ix2 k n) = w (ix2 k ⟨o + n.val, by omega⟩) := by
  refine congrArg w (funext fun a => Fin.ext ?_)
  match a with
  | ⟨0, _⟩ => show 0 + 1 * k.val = k.val; omega
  | ⟨1, _⟩ => show o + 1 * n.val = o + n.val; omega

/-! ### The results as functions of the arguments -/

section Results

variable (x : (⟨3, ![2, 8192, 1024]⟩ : Shape).Idx → EReal) (w : (⟨3, ![1, 1024, 5632]⟩ : Shape).Idx → EReal)

/-- Column `n` of the projection of flat row `r`. -/
def column (r : Fin 16384) (n : Fin 5632) : EReal :=
  rowMul (fun k => x (ix3 (batchOf r) (posOf r) k)) (fun k n => w (ix3 0 k n)) n

/-- Column `j` of the rotated part that begins at column `o`, of flat row `r`. -/
def turned (o : ℕ) (ho : o + 1024 ≤ 5632) (r : Fin 16384) (j : Fin 1024) : EReal :=
  rotated (column x w r) o ho (cosine (posOf r)) (signedSine (posOf r)) j

/-- 512 columns from column `o` on. -/
def part512 (o : ℕ) (ho : o + 512 ≤ 5632) (i : (⟨2, ![16384, 512]⟩ : Shape).Idx) : EReal :=
  column x w (i 0) ⟨o + (i 1).val, by have : (i 1).val < 512 := (i 1).isLt; omega⟩

/-- 1024 columns from column `o` on. -/
def part1024 (o : ℕ) (ho : o + 1024 ≤ 5632) (i : (⟨2, ![16384, 1024]⟩ : Shape).Idx) : EReal :=
  column x w (i 0) ⟨o + (i 1).val, by have : (i 1).val < 1024 := (i 1).isLt; omega⟩

/-- The rotated queries, scaled. -/
def queries (i : (⟨2, ![16384, 1024]⟩ : Shape).Idx) : EReal :=
  turned x w 512 (by omega) (i 0) (i 1) * Ideal.ofBits .f32 0x3E0293EE#32

/-- The rotated keys. -/
def keys (i : (⟨2, ![16384, 1024]⟩ : Shape).Idx) : EReal := turned x w 1536 (by omega) (i 0) (i 1)

/-- Row `r` of block `b`. -/
def rowIn (b : Fin 64) (r : Fin 256) : Fin 16384 := ⟨256 * b.val + r.val, by omega⟩

/-- The mean of each block of 256 keys. -/
def blockMeans (i : (⟨3, ![64, 1, 1024]⟩ : Shape).Idx) : EReal :=
  (∑ r : Fin 256, turned x w 1536 (by omega) (rowIn (i 0) r) (i 2)) * Ideal.ofBits .f32 0x3B800000#32

end Results

end Cert.Proof.Projection

end
-- ==== Proof.ProjBlock.lean ====
/-
  The projection kernel's body on a block of 256 rows, read at an index: what it stores into each of its nine results is
  the projection of that row of the block, with the rotary tables' rows of the block.
-/
module

public import proofs.«01_k».proof.Proof.Projection
public import proofs.«01_k».proof.Proof.Gen.ProjIdeal.Frame

@[expose] public section

noncomputable section

namespace Cert.Proof.Proj

open Cert.ProjIdeal Cert.ProjIdeal.Gen Idealize.ShloMosaic Idealize.ShloMosaic.ValueIdx Cert.Proof.Rows Cert.Proof.Projection
open scoped BigOperators

variable (x : FVec Ideal S256x1024 .f32) (w : FVec Ideal S1024x5632 .bf16) (c s : FVec Ideal S256x128 .f32)

/-- Column `n` of the projection of row `r`. -/
def col (r : Fin 256) (n : Fin 5632) : EReal := rowMul (fun k => x (ix2 r k)) (fun k j => w (ix2 k j)) n

/-! ### The tiles of the projection -/

/-- A tile of 512 columns of the projection, from column `o` on. -/
theorem chunk_apply (o : ℕ) (inb : ∀ a, (![0, o] : Fin 2 → Nat) a + S1024x512.size a ≤ S1024x5632.size a)
    (ho : o + 512 ≤ 5632) (r : Fin 256) (n : Fin 512) :
    matmul (φ₂ := .bf16) dot_S256x1024_S1024x512_S256x512_1_0_0_1_n_n none (truncf .bf16 x bitsLt_bf16_f32 : FVec Ideal S256x1024 .bf16)
      (View.ld (Val := Elt Ideal) (e' := .bf16) w (Rect.unit (s := S1024x5632) ![0, o] S1024x512.size inb) : FVec Ideal S1024x512 .bf16)
      (constant S256x512 .f32 0x00000000#32) (ix2 r n) = col x w r ⟨o + n.val, by omega⟩ := by
  refine (matmul_rows dot_S256x1024_S1024x512_S256x512_1_0_0_1_n_n rfl none _ _ r n).trans ?_
  exact Finset.sum_congr rfl fun k _ => congrArg (x (ix2 r k) * ·) (columns_apply w o inb ho k n)

theorem rows_eq : k0_pay4 (F := Ideal) (View.ld x r0_0) = (truncf .bf16 x bitsLt_bf16_f32 : FVec Ideal S256x1024 .bf16) := by
  unfold k0_pay4
  simp only [shapeCast_self, View.ld_unit_zero (S := S256x1024) (off := ![0, 0]) (by decide)]

theorem cos_eq : k0_pay5 (F := Ideal) (View.ld c r0_1) = c := by
  unfold k0_pay5
  simp only [shapeCast_self, View.ld_unit_zero (S := S256x128) (off := ![0, 0]) (by decide)]

theorem sin_eq : k0_pay6 (F := Ideal) (View.ld s r0_1) = s := by
  unfold k0_pay6
  simp only [shapeCast_self, View.ld_unit_zero (S := S256x128) (off := ![0, 0]) (by decide)]

/-- The tile that the body computes from a load of 512 columns. -/
theorem tile_apply (o : ℕ) (inb : ∀ a, (![0, o] : Fin 2 → Nat) a + S1024x512.size a ≤ S1024x5632.size a)
    (ho : o + 512 ≤ 5632) (r : Fin 256) (n : Fin 512) :
    k0_pay15 (F := Ideal) (k0_pay4 (View.ld x r0_0))
      (View.ld (Val := Elt Ideal) (e' := .bf16) w (Rect.unit (s := S1024x5632) ![0, o] S1024x512.size inb)) (ix2 r n)
      = col x w r ⟨o + n.val, by omega⟩ := by
  rw [rows_eq]
  unfold k0_pay15
  simp only [shapeCast_self]
  exact chunk_apply x w o inb ho r n

/-! ### The stores' places -/

theorem emb_head (o : ℕ) (inb : ∀ a, (![0, o] : Fin 2 → Nat) a + S256x128.size a ≤ S256x1024.size a) (ho : o + 128 ≤ 1024)
    (r : Fin 256) (d : Fin 128) :
    (Rect.unit (s := S256x1024) ![0, o] S256x128.size inb).emb (ix2 r d) = ix2 r ⟨o + d.val, by omega⟩ :=
  Shape.idx_ext₂ (by show 0 + 1 * r.val = r.val; omega) (by show o + 1 * d.val = o + d.val; omega)

theorem emb_half (o : ℕ) (inb : ∀ a, (![0, o] : Fin 2 → Nat) a + S256x512.size a ≤ S256x1024.size a) (ho : o + 512 ≤ 1024)
    (r : Fin 256) (d : Fin 512) :
    (Rect.unit (s := S256x1024) ![0, o] S256x512.size inb).emb (ix2 r d) = ix2 r ⟨o + d.val, by omega⟩ :=
  Shape.idx_ext₂ (by show 0 + 1 * r.val = r.val; omega) (by show o + 1 * d.val = o + d.val; omega)

/-! ### A head's store -/

/-- The rotated head of row `r` at column `j`, of the part that begins at column `o`. -/
def head (o : ℕ) (ho : o + 1024 ≤ 5632) (r : Fin 256) (j : Fin 1024) : EReal :=
  rotated (col x w r) o ho (fun d => c (ix2 r d)) (fun d => s (ix2 r d)) j

/-- A head cut out of a tile and rotated: the tile begins at column `e`, the head at `a` in the tile and at `p` in the result. -/
theorem head_piece (o : ℕ) (ho : o + 1024 ≤ 5632) (M : FVec Ideal S256x512 .f32) (e : ℕ) (he : e + 512 ≤ 5632)
    (hM : ∀ (r : Fin 256) (n : Fin 512), M (ix2 r n) = col x w r ⟨e + n.val, by omega⟩)
    (c' s' : FVec Ideal S256x128 .f32) (hc : c' = c) (hs : s' = s) (a p : ℕ) (hsl : S256x512.Slices ![0, a] S256x128)
    (hr : S256x128.Rotates 1 none) (ha : a + 128 ≤ 512) (hp : p + 128 ≤ 1024) (hd : 128 ∣ p) (hep : e + a = o + p)
    (r : Fin 256) (d : Fin 128) :
    addf (mulf (extractStridedSlice S256x128 ![0, a] M hsl : FVec Ideal S256x128 .f32) c')
      (mulf (dynamicRotate 1 64#32 none (extractStridedSlice S256x128 ![0, a] M hsl) hr : FVec Ideal S256x128 .f32) s') (ix2 r d)
      = head x w c s o ho r ⟨p + d.val, by omega⟩ := by
  subst hc hs
  refine (rotated_tile M c' s' a hsl hr ha r d).trans ?_
  obtain ⟨q, rfl⟩ := hd
  have hl : lane ⟨128 * q + d.val, by omega⟩ = d := Fin.ext (by show (128 * q + d.val) % 128 = d.val; omega)
  have hcol (d' : Fin 128) : col x w r (headCol o ho ⟨128 * q + d.val, by omega⟩ d') = M (ix2 r ⟨a + d'.val, by omega⟩) := by
    rw [hM]
    exact congrArg _ (Fin.ext (by show o + 128 * ((128 * q + d.val) / 128) + d'.val = e + (a + d'.val); omega))
  unfold head rotated
  rw [hl, hcol, hcol]

/-- A head's store into the keys is the head at the store's place. -/
theorem key_piece (o : ℕ) (ho : o + 1024 ≤ 5632) (M : FVec Ideal S256x512 .f32) (e : ℕ) (he : e + 512 ≤ 5632)
    (hM : ∀ (r : Fin 256) (n : Fin 512), M (ix2 r n) = col x w r ⟨e + n.val, by omega⟩)
    (a p : ℕ) (hsl : S256x512.Slices ![0, a] S256x128)
    (hr : S256x128.Rotates 1 none) (ha : a + 128 ≤ 512) (hp : p + 128 ≤ 1024) (hd : 128 ∣ p) (hep : e + a = o + p)
    (inb : ∀ a, (![0, p] : Fin 2 → Nat) a + S256x128.size a ≤ S256x1024.size a) (y : S256x128.Idx) :
    addf (mulf (extractStridedSlice S256x128 ![0, a] M hsl : FVec Ideal S256x128 .f32) (k0_pay5 (F := Ideal) (View.ld c r0_1)))
      (mulf (dynamicRotate 1 64#32 none (extractStridedSlice S256x128 ![0, a] M hsl) hr : FVec Ideal S256x128 .f32)
        (k0_pay6 (F := Ideal) (View.ld s r0_1))) y
      = (fun i : S256x1024.Idx => head x w c s o ho (i 0) (i 1)) ((Rect.unit (s := S256x1024) ![0, p] S256x128.size inb).emb y) := by
  obtain ⟨r, d, rfl⟩ : ∃ (r : Fin 256) (d : Fin 128), y = ix2 r d := ⟨y 0, y 1, eq_ix2 y⟩
  rw [emb_head p inb hp r d]
  exact head_piece x w c s o ho M e he hM _ _ (cos_eq c) (sin_eq s) a p hsl hr ha hp hd hep r d

/-! ### What the body stores -/

theorem u_apply (r : Fin 256) (j : Fin 512) :
    out0_4 (F := Ideal) x w c s (ix2 r j) = col x w r ⟨0 + j.val, by omega⟩ := by
  unfold out0_4
  rw [View.canon_unit_zero (by decide)]
  exact tile_apply x w 0 _ (by omega) r j

theorem q_apply (r : Fin 256) (j : Fin 1024) :
    out0_5 (F := Ideal) x w c s (ix2 r j) = head x w c s 512 (by omega) r j * Ideal.ofBits .f32 0x3E0293EE#32 := by
  unfold out0_5
  refine View.canon_apply_of_pieces (Val := Elt Ideal) (S := S256x1024) (e := .bf16)
    (fun i => head x w c s 512 (by omega) (i 0) (i 1) * Ideal.ofBits .f32 0x3E0293EE#32) _ ?_ (ix2 r j) (cover0_5 _ _ _ _ _ _ _ _ _)
  intro p hp
  have ha := tile_apply x w 512 inb_S1024x5632_S1024x512_0_512 (by omega)
  have hb := tile_apply x w 1024 inb_S1024x5632_S1024x512_0_1024 (by omega)
  simp only [List.mem_cons, List.not_mem_nil, or_false] at hp
  rcases hp with rfl | rfl | rfl | rfl | rfl | rfl | rfl | rfl <;> intro (y : S256x128.Idx) <;>
    refine congrArg (· * Ideal.ofBits .f32 0x3E0293EE#32) ?_
  · exact key_piece x w c s 512 (by omega) _ 1024 (by omega) hb 384 896 slices_S256x512_o0_384_S256x128 rotates_S256x128_d1 (by omega) (by omega) (by decide) (by omega) inb_S256x1024_S256x128_0_896 y
  · exact key_piece x w c s 512 (by omega) _ 1024 (by omega) hb 256 768 slices_S256x512_o0_256_S256x128 rotates_S256x128_d1 (by omega) (by omega) (by decide) (by omega) inb_S256x1024_S256x128_0_768 y
  · exact key_piece x w c s 512 (by omega) _ 1024 (by omega) hb 128 640 slices_S256x512_o0_128_S256x128 rotates_S256x128_d1 (by omega) (by omega) (by decide) (by omega) inb_S256x1024_S256x128_0_640 y
  · exact key_piece x w c s 512 (by omega) _ 1024 (by omega) hb 0 512 slices_S256x512_o0_0_S256x128 rotates_S256x128_d1 (by omega) (by omega) (by decide) (by omega) inb_S256x1024_S256x128_0_512 y
  · exact key_piece x w c s 512 (by omega) _ 512 (by omega) ha 384 384 slices_S256x512_o0_384_S256x128 rotates_S256x128_d1 (by omega) (by omega) (by decide) (by omega) inb_S256x1024_S256x128_0_384 y
  · exact key_piece x w c s 512 (by omega) _ 512 (by omega) ha 256 256 slices_S256x512_o0_256_S256x128 rotates_S256x128_d1 (by omega) (by omega) (by decide) (by omega) inb_S256x1024_S256x128_0_256 y
  · exact key_piece x w c s 512 (by omega) _ 512 (by omega) ha 128 128 slices_S256x512_o0_128_S256x128 rotates_S256x128_d1 (by omega) (by omega) (by decide) (by omega) inb_S256x1024_S256x128_0_128 y
  · exact key_piece x w c s 512 (by omega) _ 512 (by omega) ha 0 0 slices_S256x512_o0_0_S256x128 rotates_S256x128_d1 (by omega) (by omega) (by decide) (by omega) inb_S256x1024_S256x128_0_0 y

theorem k_apply (r : Fin 256) (j : Fin 1024) :
    out0_6 (F := Ideal) x w c s (ix2 r j) = head x w c s 1536 (by omega) r j := by
  unfold out0_6
  refine View.canon_apply_of_pieces (Val := Elt Ideal) (S := S256x1024) (e := .f32)
    (fun i => head x w c s 1536 (by omega) (i 0) (i 1)) _ ?_ (ix2 r j) (cover0_6 _ _ _ _ _ _ _ _ _)
  intro p hp
  have ha := tile_apply x w 1536 inb_S1024x5632_S1024x512_0_1536 (by omega)
  have hb := tile_apply x w 2048 inb_S1024x5632_S1024x512_0_2048 (by omega)
  simp only [List.mem_cons, List.not_mem_nil, or_false] at hp
  rcases hp with rfl | rfl | rfl | rfl | rfl | rfl | rfl | rfl <;> intro (y : S256x128.Idx)
  · exact key_piece x w c s 1536 (by omega) _ 2048 (by omega) hb 384 896 slices_S256x512_o0_384_S256x128 rotates_S256x128_d1 (by omega) (by omega) (by decide) (by omega) inb_S256x1024_S256x128_0_896 y
  · exact key_piece x w c s 1536 (by omega) _ 2048 (by omega) hb 256 768 slices_S256x512_o0_256_S256x128 rotates_S256x128_d1 (by omega) (by omega) (by decide) (by omega) inb_S256x1024_S256x128_0_768 y
  · exact key_piece x w c s 1536 (by omega) _ 2048 (by omega) hb 128 640 slices_S256x512_o0_128_S256x128 rotates_S256x128_d1 (by omega) (by omega) (by decide) (by omega) inb_S256x1024_S256x128_0_640 y
  · exact key_piece x w c s 1536 (by omega) _ 2048 (by omega) hb 0 512 slices_S256x512_o0_0_S256x128 rotates_S256x128_d1 (by omega) (by omega) (by decide) (by omega) inb_S256x1024_S256x128_0_512 y
  · exact key_piece x w c s 1536 (by omega) _ 1536 (by omega) ha 384 384 slices_S256x512_o0_384_S256x128 rotates_S256x128_d1 (by omega) (by omega) (by decide) (by omega) inb_S256x1024_S256x128_0_384 y
  · exact key_piece x w c s 1536 (by omega) _ 1536 (by omega) ha 256 256 slices_S256x512_o0_256_S256x128 rotates_S256x128_d1 (by omega) (by omega) (by decide) (by omega) inb_S256x1024_S256x128_0_256 y
  · exact key_piece x w c s 1536 (by omega) _ 1536 (by omega) ha 128 128 slices_S256x512_o0_128_S256x128 rotates_S256x128_d1 (by omega) (by omega) (by decide) (by omega) inb_S256x1024_S256x128_0_128 y
  · exact key_piece x w c s 1536 (by omega) _ 1536 (by omega) ha 0 0 slices_S256x512_o0_0_S256x128 rotates_S256x128_d1 (by omega) (by omega) (by decide) (by omega) inb_S256x1024_S256x128_0_0 y

theorem kb_apply (r : Fin 256) (j : Fin 1024) :
    out0_7 (F := Ideal) x w c s (ix2 r j) = head x w c s 1536 (by omega) r j := by
  unfold out0_7
  refine View.canon_apply_of_pieces (Val := Elt Ideal) (S := S256x1024) (e := .bf16)
    (fun i => head x w c s 1536 (by omega) (i 0) (i 1)) _ ?_ (ix2 r j) (cover0_7 _ _ _ _ _ _ _ _ _)
  intro p hp
  have ha := tile_apply x w 1536 inb_S1024x5632_S1024x512_0_1536 (by omega)
  have hb := tile_apply x w 2048 inb_S1024x5632_S1024x512_0_2048 (by omega)
  simp only [List.mem_cons, List.not_mem_nil, or_false] at hp
  rcases hp with rfl | rfl | rfl | rfl | rfl | rfl | rfl | rfl <;> intro (y : S256x128.Idx)
  · exact key_piece x w c s 1536 (by omega) _ 2048 (by omega) hb 384 896 slices_S256x512_o0_384_S256x128 rotates_S256x128_d1 (by omega) (by omega) (by decide) (by omega) inb_S256x1024_S256x128_0_896 y
  · exact key_piece x w c s 1536 (by omega) _ 2048 (by omega) hb 256 768 slices_S256x512_o0_256_S256x128 rotates_S256x128_d1 (by omega) (by omega) (by decide) (by omega) inb_S256x1024_S256x128_0_768 y
  · exact key_piece x w c s 1536 (by omega) _ 2048 (by omega) hb 128 640 slices_S256x512_o0_128_S256x128 rotates_S256x128_d1 (by omega) (by omega) (by decide) (by omega) inb_S256x1024_S256x128_0_640 y
  · exact key_piece x w c s 1536 (by omega) _ 2048 (by omega) hb 0 512 slices_S256x512_o0_0_S256x128 rotates_S256x128_d1 (by omega) (by omega) (by decide) (by omega) inb_S256x1024_S256x128_0_512 y
  · exact key_piece x w c s 1536 (by omega) _ 1536 (by omega) ha 384 384 slices_S256x512_o0_384_S256x128 rotates_S256x128_d1 (by omega) (by omega) (by decide) (by omega) inb_S256x1024_S256x128_0_384 y
  · exact key_piece x w c s 1536 (by omega) _ 1536 (by omega) ha 256 256 slices_S256x512_o0_256_S256x128 rotates_S256x128_d1 (by omega) (by omega) (by decide) (by omega) inb_S256x1024_S256x128_0_256 y
  · exact key_piece x w c s 1536 (by omega) _ 1536 (by omega) ha 128 128 slices_S256x512_o0_128_S256x128 rotates_S256x128_d1 (by omega) (by omega) (by decide) (by omega) inb_S256x1024_S256x128_0_128 y
  · exact key_piece x w c s 1536 (by omega) _ 1536 (by omega) ha 0 0 slices_S256x512_o0_0_S256x128 rotates_S256x128_d1 (by omega) (by omega) (by decide) (by omega) inb_S256x1024_S256x128_0_0 y

/-- A half's store of the plain product is the product at the store's place. -/
theorem half_piece (o : ℕ) (ho : o + 1024 ≤ 5632) (M : FVec Ideal S256x512 .f32) (p : ℕ) (hp : p + 512 ≤ 1024)
    (hM : ∀ (r : Fin 256) (n : Fin 512), M (ix2 r n) = col x w r ⟨o + p + n.val, by omega⟩)
    (inb : ∀ a, (![0, p] : Fin 2 → Nat) a + S256x512.size a ≤ S256x1024.size a) (y : S256x512.Idx) :
    M y = (fun i : S256x1024.Idx => col x w (i 0) ⟨o + (i 1).val, by have : (i 1).val < 1024 := (i 1).isLt; omega⟩)
      ((Rect.unit (s := S256x1024) ![0, p] S256x512.size inb).emb y) := by
  obtain ⟨r, d, rfl⟩ : ∃ (r : Fin 256) (d : Fin 512), y = ix2 r d := ⟨y 0, y 1, eq_ix2 y⟩
  rw [emb_half p inb hp r d, hM]
  exact congrArg (col x w r) (Fin.ext (Nat.add_assoc o p d.val) : (⟨o + p + d.val, _⟩ : Fin 5632) = ⟨o + (p + d.val), by omega⟩)

theorem v_apply (r : Fin 256) (j : Fin 1024) :
    out0_8 (F := Ideal) x w c s (ix2 r j) = col x w r ⟨2560 + j.val, by omega⟩ := by
  unfold out0_8
  refine View.canon_apply_of_pieces (Val := Elt Ideal) (S := S256x1024) (e := .f32)
    (fun i => col x w (i 0) ⟨2560 + (i 1).val, by have : (i 1).val < 1024 := (i 1).isLt; omega⟩) _ ?_ (ix2 r j)
    (cover0_8 _ _ _)
  intro p hp
  simp only [List.mem_cons, List.not_mem_nil, or_false] at hp
  rcases hp with rfl | rfl <;> intro (y : S256x512.Idx)
  · exact half_piece x w 2560 (by omega) _ 512 (by omega) (tile_apply x w 3072 inb_S1024x5632_S1024x512_0_3072 (by omega)) inb_S256x1024_S256x512_0_512 y
  · exact half_piece x w 2560 (by omega) _ 0 (by omega) (tile_apply x w 2560 inb_S1024x5632_S1024x512_0_2560 (by omega)) inb_S256x1024_S256x512_0_0 y

theorem vb_apply (r : Fin 256) (j : Fin 1024) :
    out0_9 (F := Ideal) x w c s (ix2 r j) = col x w r ⟨2560 + j.val, by omega⟩ := by
  unfold out0_9
  refine View.canon_apply_of_pieces (Val := Elt Ideal) (S := S256x1024) (e := .bf16)
    (fun i => col x w (i 0) ⟨2560 + (i 1).val, by have : (i 1).val < 1024 := (i 1).isLt; omega⟩) _ ?_ (ix2 r j)
    (cover0_9 _ _ _)
  intro p hp
  simp only [List.mem_cons, List.not_mem_nil, or_false] at hp
  rcases hp with rfl | rfl <;> intro (y : S256x512.Idx)
  · exact half_piece x w 2560 (by omega) _ 512 (by omega) (tile_apply x w 3072 inb_S1024x5632_S1024x512_0_3072 (by omega)) inb_S256x1024_S256x512_0_512 y
  · exact half_piece x w 2560 (by omega) _ 0 (by omega) (tile_apply x w 2560 inb_S1024x5632_S1024x512_0_2560 (by omega)) inb_S256x1024_S256x512_0_0 y

theorem ga_apply (r : Fin 256) (j : Fin 1024) :
    out0_10 (F := Ideal) x w c s (ix2 r j) = col x w r ⟨3584 + j.val, by omega⟩ := by
  unfold out0_10
  refine View.canon_apply_of_pieces (Val := Elt Ideal) (S := S256x1024) (e := .f32)
    (fun i => col x w (i 0) ⟨3584 + (i 1).val, by have : (i 1).val < 1024 := (i 1).isLt; omega⟩) _ ?_ (ix2 r j)
    (cover0_10 _ _ _)
  intro p hp
  simp only [List.mem_cons, List.not_mem_nil, or_false] at hp
  rcases hp with rfl | rfl <;> intro (y : S256x512.Idx)
  · exact half_piece x w 3584 (by omega) _ 512 (by omega) (tile_apply x w 4096 inb_S1024x5632_S1024x512_0_4096 (by omega)) inb_S256x1024_S256x512_0_512 y
  · exact half_piece x w 3584 (by omega) _ 0 (by omega) (tile_apply x w 3584 inb_S1024x5632_S1024x512_0_3584 (by omega)) inb_S256x1024_S256x512_0_0 y

theorem gb_apply (r : Fin 256) (j : Fin 1024) :
    out0_11 (F := Ideal) x w c s (ix2 r j) = col x w r ⟨4608 + j.val, by omega⟩ := by
  unfold out0_11
  refine View.canon_apply_of_pieces (Val := Elt Ideal) (S := S256x1024) (e := .f32)
    (fun i => col x w (i 0) ⟨4608 + (i 1).val, by have : (i 1).val < 1024 := (i 1).isLt; omega⟩) _ ?_ (ix2 r j)
    (cover0_11 _ _ _)
  intro p hp
  simp only [List.mem_cons, List.not_mem_nil, or_false] at hp
  rcases hp with rfl | rfl <;> intro (y : S256x512.Idx)
  · exact half_piece x w 4608 (by omega) _ 512 (by omega) (tile_apply x w 5120 inb_S1024x5632_S1024x512_0_5120 (by omega)) inb_S256x1024_S256x512_0_512 y
  · exact half_piece x w 4608 (by omega) _ 0 (by omega) (tile_apply x w 4608 inb_S1024x5632_S1024x512_0_4608 (by omega)) inb_S256x1024_S256x512_0_0 y

/-- A store's place in the row of the tile's column means. -/
theorem emb_mean (o : ℕ) (inb : ∀ a, (![0, 0, o] : Fin 3 → Nat) a + S1x1x128.size a ≤ S1x1x1024.size a) (ho : o + 128 ≤ 1024)
    (d : Fin 128) :
    (Rect.unit (s := S1x1x1024) ![0, 0, o] S1x1x128.size inb).emb (ix3 0 0 d) = ix3 0 0 ⟨o + d.val, by omega⟩ :=
  funext fun a => Fin.ext (by
    match a with
    | ⟨0, _⟩ => rfl
    | ⟨1, _⟩ => rfl
    | ⟨2, _⟩ => show o + 1 * d.val = o + d.val; omega)

/-- A head's store of its keys' column means is the mean at the store's place. -/
theorem mean_piece (G : S256x1024.Idx → EReal) (T : FVec Ideal S256x128 .f32) (p : ℕ) (hp : p + 128 ≤ 1024)
    (inb : ∀ a, (![0, p] : Fin 2 → Nat) a + S256x128.size a ≤ S256x1024.size a)
    (hT : ∀ y : S256x128.Idx, T y = G ((Rect.unit (s := S256x1024) ![0, p] S256x128.size inb).emb y))
    (inb' : ∀ a, (![0, 0, p] : Fin 3 → Nat) a + S1x1x128.size a ≤ S1x1x1024.size a) (hk hn) (y : S1x1x128.Idx) :
    shapeCast S1x1x128 (mulf (shapeCast S1x128 (multiReduction .add [0] S128 T 0x00000000#32 reduces_S256x128_S128 hk hn)
        shapeCasts_S128_S1x128 : FVec Ideal S1x128 .f32)
        (broadcast S1x128 (Scalar.ofBits (F := Ideal) .f32 0x3B800000#32))) shapeCasts_S1x128_S1x1x128 y
      = (fun i : S1x1x1024.Idx => (∑ r : Fin 256, G (ix2 r (i 2))) * Ideal.ofBits .f32 0x3B800000#32)
        ((Rect.unit (s := S1x1x1024) ![0, 0, p] S1x1x128.size inb').emb y) := by
  obtain ⟨d, rfl⟩ : ∃ d : Fin 128, y = ix3 0 0 d := ⟨y 2, funext fun a => match a with
    | ⟨0, _⟩ => Subsingleton.elim (α := Fin 1) _ _
    | ⟨1, _⟩ => Subsingleton.elim (α := Fin 1) _ _
    | ⟨2, _⟩ => rfl⟩
  rw [emb_mean p inb' hp d, shapeCast_apply _ _ (ix3 0 0 d) (ix2 0 d) (by
    rw [Shape.rowMajor_val_three, Shape.rowMajor_val_two]; show 0 * 128 + d.val = (0 * 1 + 0) * 128 + d.val; omega),
    mulf_apply, shapeCast_apply _ _ (ix2 0 d) (ix1 d) (by
    rw [Shape.rowMajor_val_one, Shape.rowMajor_val_two]; show d.val = 0 * 128 + d.val; omega)]
  refine congrArg (· * Ideal.ofBits .f32 0x3B800000#32) ((Ideal.multiReduction_add_single _ _ _ _ _ _).trans ?_)
  refine Finset.sum_congr rfl fun r _ => ?_
  have e : reduces_S256x128_S128.lift (ix1 d) r = ix2 r d := funext fun a => match a with | ⟨0, _⟩ => rfl | ⟨1, _⟩ => rfl
  exact (congrArg T e).trans ((hT _).trans (congrArg G (emb_head p inb hp r d)))

theorem km_apply (j : Fin 1024) :
    out0_12 (F := Ideal) x w c s (ix3 0 0 j)
      = (∑ r : Fin 256, head x w c s 1536 (by omega) r j) * Ideal.ofBits .f32 0x3B800000#32 := by
  unfold out0_12
  refine View.canon_apply_of_pieces (Val := Elt Ideal) (S := S1x1x1024) (e := .f32)
    (fun i => (∑ r : Fin 256, head x w c s 1536 (by omega) r (i 2)) * Ideal.ofBits .f32 0x3B800000#32) _ ?_ (ix3 0 0 j)
    (cover0_12 _ _ _ _ _ _ _ _ _)
  intro p hp
  have ha := tile_apply x w 1536 inb_S1024x5632_S1024x512_0_1536 (by omega)
  have hb := tile_apply x w 2048 inb_S1024x5632_S1024x512_0_2048 (by omega)
  simp only [List.mem_cons, List.not_mem_nil, or_false] at hp
  rcases hp with rfl | rfl | rfl | rfl | rfl | rfl | rfl | rfl <;> intro (y : S1x1x128.Idx)
  · exact mean_piece (fun i => head x w c s 1536 (by omega) (i 0) (i 1)) _ 896 (by omega) inb_S256x1024_S256x128_0_896
      (key_piece x w c s 1536 (by omega) _ 2048 (by omega) hb 384 896 slices_S256x512_o0_384_S256x128 rotates_S256x128_d1
        (by omega) (by omega) (by decide) (by omega) inb_S256x1024_S256x128_0_896) inb_S1x1x1024_S1x1x128_0_0_896 _ _ y
  · exact mean_piece (fun i => head x w c s 1536 (by omega) (i 0) (i 1)) _ 768 (by omega) inb_S256x1024_S256x128_0_768
      (key_piece x w c s 1536 (by omega) _ 2048 (by omega) hb 256 768 slices_S256x512_o0_256_S256x128 rotates_S256x128_d1
        (by omega) (by omega) (by decide) (by omega) inb_S256x1024_S256x128_0_768) inb_S1x1x1024_S1x1x128_0_0_768 _ _ y
  · exact mean_piece (fun i => head x w c s 1536 (by omega) (i 0) (i 1)) _ 640 (by omega) inb_S256x1024_S256x128_0_640
      (key_piece x w c s 1536 (by omega) _ 2048 (by omega) hb 128 640 slices_S256x512_o0_128_S256x128 rotates_S256x128_d1
        (by omega) (by omega) (by decide) (by omega) inb_S256x1024_S256x128_0_640) inb_S1x1x1024_S1x1x128_0_0_640 _ _ y
  · exact mean_piece (fun i => head x w c s 1536 (by omega) (i 0) (i 1)) _ 512 (by omega) inb_S256x1024_S256x128_0_512
      (key_piece x w c s 1536 (by omega) _ 2048 (by omega) hb 0 512 slices_S256x512_o0_0_S256x128 rotates_S256x128_d1
        (by omega) (by omega) (by decide) (by omega) inb_S256x1024_S256x128_0_512) inb_S1x1x1024_S1x1x128_0_0_512 _ _ y
  · exact mean_piece (fun i => head x w c s 1536 (by omega) (i 0) (i 1)) _ 384 (by omega) inb_S256x1024_S256x128_0_384
      (key_piece x w c s 1536 (by omega) _ 1536 (by omega) ha 384 384 slices_S256x512_o0_384_S256x128 rotates_S256x128_d1
        (by omega) (by omega) (by decide) (by omega) inb_S256x1024_S256x128_0_384) inb_S1x1x1024_S1x1x128_0_0_384 _ _ y
  · exact mean_piece (fun i => head x w c s 1536 (by omega) (i 0) (i 1)) _ 256 (by omega) inb_S256x1024_S256x128_0_256
      (key_piece x w c s 1536 (by omega) _ 1536 (by omega) ha 256 256 slices_S256x512_o0_256_S256x128 rotates_S256x128_d1
        (by omega) (by omega) (by decide) (by omega) inb_S256x1024_S256x128_0_256) inb_S1x1x1024_S1x1x128_0_0_256 _ _ y
  · exact mean_piece (fun i => head x w c s 1536 (by omega) (i 0) (i 1)) _ 128 (by omega) inb_S256x1024_S256x128_0_128
      (key_piece x w c s 1536 (by omega) _ 1536 (by omega) ha 128 128 slices_S256x512_o0_128_S256x128 rotates_S256x128_d1
        (by omega) (by omega) (by decide) (by omega) inb_S256x1024_S256x128_0_128) inb_S1x1x1024_S1x1x128_0_0_128 _ _ y
  · exact mean_piece (fun i => head x w c s 1536 (by omega) (i 0) (i 1)) _ 0 (by omega) inb_S256x1024_S256x128_0_0
      (key_piece x w c s 1536 (by omega) _ 1536 (by omega) ha 0 0 slices_S256x512_o0_0_S256x128 rotates_S256x128_d1
        (by omega) (by omega) (by decide) (by omega) inb_S256x1024_S256x128_0_0) inb_S1x1x1024_S1x1x128_0_0_0 _ _ y

end Cert.Proof.Proj

end
-- ==== Proof.ProjArray.lean ====
/-
  The projection kernel's nine result arrays after the run: the rows' columns of the projection, the rotated queries and
  keys, and the mean of each block of 256 keys. Each of the 64 grid points writes its own 256 rows, and one row of means.
-/
module

public import proofs.«01_k».proof.Proof.ProjBlock
public import proofs.«01_k».proof.Proof.Reshapes
public import proofs.«01_k».proof.Proof.Gen.ProjIdeal.Frame

@[expose] public section

noncomputable section

namespace Cert.Proof.Proj

open Cert.ProjIdeal Cert.ProjIdeal.Gen Idealize.ShloMosaic Idealize.ShloMosaic.TcCoe Idealize.ShloMosaic.ValueIdx Idealize.SL.Sem Cert.Proof.Rows Cert.Proof.Projection
open scoped BigOperators

variable (m : (ℓ : Loc nD τ sig) → Buf (Elt Ideal) ℓ) (c : Dev nD)

/-! ### The tables -/

/-- The table of the angles, as the host computes it. -/
abbrev angles : FVec Ideal S8192x64 .f32 :=
  mulf (broadcastInDim S8192x64 ![0, 1] bcast_S8192x1_S8192x64_0_1
      (broadcastInDim S8192x1 ![0] bcast_S8192_S8192x1_0 (sitofp .f32 (iotaInDim S8192 32 0) : FVec Ideal S8192 .f32)))
    (broadcastInDim S8192x64 ![0, 1] bcast_S1x64_S8192x64_0_1
      (broadcastInDim S1x64 ![1] bcast_S64_S1x64_1
        (Host.powf (broadcastInDim S64 ![] bcast_S_S64 (constant S_ .f32 0x461C4000#32 : FVec Ideal S_ .f32))
          (Host.divf (Host.negf (sitofp .f32 (iotaInDim S64 32 0) : FVec Ideal S64 .f32))
            (broadcastInDim S64 ![] bcast_S_S64 (constant S_ .f32 0x42800000#32))))))

theorem angles_apply (p : Fin 8192) (d : Fin 64) : angles (ix2 p d) = angle p d := rfl

/-- Two tables of 64 lanes side by side. -/
theorem pair_apply (a b : FVec Ideal S8192x64 .f32) (p : Fin 8192) (d : Fin 128) :
    concatenate S8192x128 1 [⟨S8192x64, a⟩, ⟨S8192x64, b⟩] concatenates_S8192x64_S8192x64_S8192x128_d1 (ix2 p d)
      = if d.val < 64 then a (ix2 p (half d)) else b (ix2 p (half d)) := by
  split
  · next h =>
    exact concatenate_pair_apply_left (1 : Fin S8192x128.rank) a b _ (ix2 p d) rfl (ix2 p (half d)) fun e => by
      match e with | ⟨0, _⟩ => rfl | ⟨1, _⟩ => show d.val % 64 = d.val; omega
  · next h =>
    refine concatenate_pair_apply_right (1 : Fin S8192x128.rank) a b _ (ix2 p d) rfl rfl (ix2 p (half d)) (fun e he => ?_) ?_
    · match e with | ⟨0, _⟩ => rfl | ⟨1, _⟩ => exact absurd rfl he
    · show d.val % 64 + 64 = d.val; omega

theorem entry_cos (p : Fin 8192) (d : Fin 128) : V m c main_v15 (ix2 p d) = cosine p d := by
  entry_read
  refine (pair_apply (Host.cos angles) (Host.cos angles) p d).trans ?_
  rw [ite_self]
  rfl

theorem entry_sin (p : Fin 8192) (d : Fin 128) : V m c main_v17 (ix2 p d) = signedSine p d := by
  entry_read
  exact pair_apply (Host.negf (Host.sin angles)) (Host.sin angles) p d

theorem entry_x (r : Fin 16384) (k : Fin 1024) :
    V m c main_v18 (ix2 r k) = m ((c.tc : Thread nD τ).loc main_arg0) (ix3 (batchOf r) (posOf r) k) := by
  entry_read
  exact flatten_apply (N := 1024) _ shapeCasts_S2x8192x1024_S16384x1024 r k

theorem entry_w (k : Fin 1024) (n : Fin 5632) :
    V m c main_v20 (ix2 k n) = m ((c.tc : Thread nD τ).loc main_arg1) (ix3 0 k n) := by
  entry_read
  exact drop3_apply (M := 1024) (N := 5632) _ shapeCasts_S1x1024x5632_S1024x5632 k n

/-! ### The windows' blocks -/

/-- The input windows' block indices: the rows move with the grid point, the weights stay, the tables start again with
    each sequence. -/
theorem idx_in : ∀ t : Fin cfg0.N, win0_0.index t 0 = t.val ∧ win0_0.index t 1 = 0
    ∧ (∀ a, win0_1.index t a = 0) ∧ win0_2.index t 0 = t.val % 32 ∧ win0_2.index t 1 = 0
    ∧ win0_3.index t 0 = t.val % 32 ∧ win0_3.index t 1 = 0 :=
  (by decide +kernel : ∀ t : Fin grid0.N, win0_0.index t 0 = t.val ∧ win0_0.index t 1 = 0
    ∧ (∀ a, win0_1.index t a = 0) ∧ win0_2.index t 0 = t.val % 32 ∧ win0_2.index t 1 = 0
    ∧ win0_3.index t 0 = t.val % 32 ∧ win0_3.index t 1 = 0)

/-- The block that grid point `t` computes. -/
abbrev blockAt (t : Fin cfg0.N) : Fin 64 := ⟨t.val, by have := t.isLt; have : cfg0.N = 64 := N_0; omega⟩

theorem posOf_rowIn (t : Fin cfg0.N) (r : Fin 256) :
    posOf (rowIn (blockAt t) r) = ⟨256 * (t.val % 32) + r.val, by omega⟩ :=
  Fin.ext (by show (256 * t.val + r.val) % 8192 = 256 * (t.val % 32) + r.val; omega)

theorem block_x (t : Fin cfg0.N) (r : Fin 256) (k : Fin 1024) :
    iblk m c 0 t (ix2 r k)
      = m ((c.tc : Thread nD τ).loc main_arg0) (ix3 (batchOf (rowIn (blockAt t) r)) (posOf (rowIn (blockAt t) r)) k) := by
  refine Eq.trans ?_ (entry_x m c (rowIn (blockAt t) r) k)
  refine congrArg (V m c main_v18) (?_ : (win0_0.rect t).emb (ix2 r k) = ix2 (rowIn (blockAt t) r) k)
  obtain ⟨e0, e1, -⟩ := idx_in t
  refine Shape.idx_ext₂ ?_ ?_
  · rw [Pipeline.Window.rect_emb_val win0_0, e0]; show t.val * 256 + r.val = 256 * t.val + r.val; omega
  · rw [Pipeline.Window.rect_emb_val win0_0, e1]; show 0 * 1024 + k.val = k.val; omega

theorem block_w (t : Fin cfg0.N) (k : Fin 1024) (n : Fin 5632) :
    iblk m c 1 t (ix2 k n) = m ((c.tc : Thread nD τ).loc main_arg1) (ix3 0 k n) := by
  refine Eq.trans ?_ (entry_w m c k n)
  refine congrArg (V m c main_v20) (?_ : (win0_1.rect t).emb (ix2 k n) = ix2 k n)
  obtain ⟨-, -, e, -⟩ := idx_in t
  exact funext fun a => Fin.ext (Pipeline.Window.rect_emb_val_of_index_zero win0_1 t a (e a) _)

theorem block_cos (t : Fin cfg0.N) (r : Fin 256) (d : Fin 128) :
    iblk m c 2 t (ix2 r d) = cosine (posOf (rowIn (blockAt t) r)) d := by
  rw [posOf_rowIn]
  refine Eq.trans ?_ (entry_cos m c _ d)
  refine congrArg (V m c main_v15) (?_ : (win0_2.rect t).emb (ix2 r d) = ix2 (⟨256 * (t.val % 32) + r.val, by omega⟩ : Fin 8192) d)
  obtain ⟨-, -, -, e0, e1, -⟩ := idx_in t
  refine Shape.idx_ext₂ ?_ ?_
  · rw [Pipeline.Window.rect_emb_val win0_2, e0]; show t.val % 32 * 256 + r.val = 256 * (t.val % 32) + r.val; omega
  · rw [Pipeline.Window.rect_emb_val win0_2, e1]; show 0 * 128 + d.val = d.val; omega

theorem block_sin (t : Fin cfg0.N) (r : Fin 256) (d : Fin 128) :
    iblk m c 3 t (ix2 r d) = signedSine (posOf (rowIn (blockAt t) r)) d := by
  rw [posOf_rowIn]
  refine Eq.trans ?_ (entry_sin m c _ d)
  refine congrArg (V m c main_v17) (?_ : (win0_3.rect t).emb (ix2 r d) = ix2 (⟨256 * (t.val % 32) + r.val, by omega⟩ : Fin 8192) d)
  obtain ⟨-, -, -, -, -, e0, e1⟩ := idx_in t
  refine Shape.idx_ext₂ ?_ ?_
  · rw [Pipeline.Window.rect_emb_val win0_3, e0]; show t.val % 32 * 256 + r.val = 256 * (t.val % 32) + r.val; omega
  · rw [Pipeline.Window.rect_emb_val win0_3, e1]; show 0 * 128 + d.val = d.val; omega

/-- A column of a grid point's tile is the column of its row. -/
theorem col_block (t : Fin cfg0.N) (r : Fin 256) (n : Fin 5632) :
    col (iblk m c 0 t) (iblk m c 1 t) r n
      = column (m ((c.tc : Thread nD τ).loc main_arg0)) (m ((c.tc : Thread nD τ).loc main_arg1)) (rowIn (blockAt t) r) n := by
  unfold col column
  congr 1
  · exact funext fun k => block_x m c t r k
  · exact funext fun k => funext fun n => block_w m c t k n

/-- A rotated head of a grid point's tile is the rotated head of its row. -/
theorem head_block (o : ℕ) (ho : o + 1024 ≤ 5632) (t : Fin cfg0.N) (r : Fin 256) (j : Fin 1024) :
    head (iblk m c 0 t) (iblk m c 1 t) (iblk m c 2 t) (iblk m c 3 t) o ho r j
      = turned (m ((c.tc : Thread nD τ).loc main_arg0)) (m ((c.tc : Thread nD τ).loc main_arg1)) o ho (rowIn (blockAt t) r) j := by
  unfold head turned
  congr 1
  · exact funext fun n => col_block m c t r n
  · exact funext fun d => block_cos m c t r d
  · exact funext fun d => block_sin m c t r d

/-! ### Result 0 -/

theorem idx_u : ∀ t : Fin cfg0.N, win0_4.index t 0 = t.val ∧ win0_4.index t 1 = 0 :=
  (by decide +kernel : ∀ t : Fin grid0.N, win0_4.index t 0 = t.val ∧ win0_4.index t 1 = 0)

/-- What a grid point writes back is its block of the result. -/
theorem flushed_u (t : Fin cfg0.N) :
    (dats m 0 c).flushed 4 t = ((cfg0.win 4).blk t).view.read (Elt Ideal)
      (part512 (m ((c.tc : Thread nD τ).loc main_arg0)) (m ((c.tc : Thread nD τ).loc main_arg1)) 0 (by omega) : S16384x512.Idx → EReal) := by
  show (cfg0.win 4).cut (grid0.coords t) ((dats m 0 c).after 4 t) = _
  rw [after0_4]
  funext y
  obtain ⟨r, j, rfl⟩ : ∃ (r : Fin 256) (j : Fin 512), y = ix2 r j := ⟨y 0, y 1, eq_ix2 y⟩
  have he : (win0_4.rect t).emb (ix2 r j) = ix2 (rowIn (blockAt t) r) j := by
    obtain ⟨e0, e1⟩ := idx_u t
    refine Shape.idx_ext₂ ?_ ?_
    · rw [Pipeline.Window.rect_emb_val win0_4, e0]; show t.val * 256 + r.val = 256 * t.val + r.val; omega
    · rw [Pipeline.Window.rect_emb_val win0_4, e1]; show 0 * 512 + j.val = j.val; omega
  show out0_4 (F := Ideal) (iblk m c 0 t) (iblk m c 1 t) (iblk m c 2 t) (iblk m c 3 t) (ix2 r j)
    = (part512 (m ((c.tc : Thread nD τ).loc main_arg0)) (m ((c.tc : Thread nD τ).loc main_arg1)) 0 (by omega) : S16384x512.Idx → EReal) ((win0_4.rect t).emb (ix2 r j))
  rw [he, u_apply]
  exact col_block m c t r _

theorem mem_u (t : Fin cfg0.N) (i : S16384x512.Idx)
    (h0 : win0_4.index t 0 * 256 ≤ (i 0 : Nat) ∧ (i 0 : Nat) < win0_4.index t 0 * 256 + 256)
    (h1 : win0_4.index t 1 * 512 ≤ (i 1 : Nat) ∧ (i 1 : Nat) < win0_4.index t 1 * 512 + 512) :
    i ∈ ((cfg0.win 4).blk t).view.set := by
  show i ∈ ((View.whole main_v21_0).slice (win0_4.rect t)).set
  rw [View.set_slice_whole, Rect.mem_set_unit]
  intro a
  match a with | ⟨0, _⟩ => exact h0 | ⟨1, _⟩ => exact h1

/-- After the last point the array holds the result: row `i` was written by point `i / 256`. -/
theorem final_u : (dats m 0 c).arrAt 4 cfg0.N = (part512 (m ((c.tc : Thread nD τ).loc main_arg0)) (m ((c.tc : Thread nD τ).loc main_arg1)) 0 (by omega) : S16384x512.Idx → EReal) :=
  (dats m 0 c).arrAt_eq_of_cover 4 _ (fun t _ => flushed_u m c t) fun (i : S16384x512.Idx) => by
    have h0 : (i 0 : Nat) < 16384 := (i 0).isLt
    have h1 : (i 1 : Nat) < 512 := (i 1).isLt
    have hN : cfg0.N = 64 := N_0
    have hN' : grid0.N = 64 := N_0
    refine ⟨⟨(i 0 : Nat) / 256, by omega⟩, flush0_4 _, ?_⟩
    obtain ⟨e0, e1⟩ := idx_u ⟨(i 0 : Nat) / 256, by omega⟩
    exact mem_u _ i (by rw [e0]; show (i 0 : Nat) / 256 * 256 ≤ (i 0 : Nat) ∧ (i 0 : Nat) < (i 0 : Nat) / 256 * 256 + 256; omega)
      (by rw [e1]; omega)

/-! ### Result 1 -/

theorem idx_q : ∀ t : Fin cfg0.N, win0_5.index t 0 = t.val ∧ win0_5.index t 1 = 0 :=
  (by decide +kernel : ∀ t : Fin grid0.N, win0_5.index t 0 = t.val ∧ win0_5.index t 1 = 0)

/-- What a grid point writes back is its block of the result. -/
theorem flushed_q (t : Fin cfg0.N) :
    (dats m 0 c).flushed 5 t = ((cfg0.win 5).blk t).view.read (Elt Ideal)
      (queries (m ((c.tc : Thread nD τ).loc main_arg0)) (m ((c.tc : Thread nD τ).loc main_arg1)) : S16384x1024.Idx → EReal) := by
  show (cfg0.win 5).cut (grid0.coords t) ((dats m 0 c).after 5 t) = _
  rw [after0_5]
  funext y
  obtain ⟨r, j, rfl⟩ : ∃ (r : Fin 256) (j : Fin 1024), y = ix2 r j := ⟨y 0, y 1, eq_ix2 y⟩
  have he : (win0_5.rect t).emb (ix2 r j) = ix2 (rowIn (blockAt t) r) j := by
    obtain ⟨e0, e1⟩ := idx_q t
    refine Shape.idx_ext₂ ?_ ?_
    · rw [Pipeline.Window.rect_emb_val win0_5, e0]; show t.val * 256 + r.val = 256 * t.val + r.val; omega
    · rw [Pipeline.Window.rect_emb_val win0_5, e1]; show 0 * 1024 + j.val = j.val; omega
  show out0_5 (F := Ideal) (iblk m c 0 t) (iblk m c 1 t) (iblk m c 2 t) (iblk m c 3 t) (ix2 r j)
    = (queries (m ((c.tc : Thread nD τ).loc main_arg0)) (m ((c.tc : Thread nD τ).loc main_arg1)) : S16384x1024.Idx → EReal) ((win0_5.rect t).emb (ix2 r j))
  rw [he, q_apply]
  exact congrArg (· * Ideal.ofBits .f32 0x3E0293EE#32) (head_block m c 512 (by omega) t r j)

theorem mem_q (t : Fin cfg0.N) (i : S16384x1024.Idx)
    (h0 : win0_5.index t 0 * 256 ≤ (i 0 : Nat) ∧ (i 0 : Nat) < win0_5.index t 0 * 256 + 256)
    (h1 : win0_5.index t 1 * 1024 ≤ (i 1 : Nat) ∧ (i 1 : Nat) < win0_5.index t 1 * 1024 + 1024) :
    i ∈ ((cfg0.win 5).blk t).view.set := by
  show i ∈ ((View.whole main_v21_1).slice (win0_5.rect t)).set
  rw [View.set_slice_whole, Rect.mem_set_unit]
  intro a
  match a with | ⟨0, _⟩ => exact h0 | ⟨1, _⟩ => exact h1

/-- After the last point the array holds the result: row `i` was written by point `i / 256`. -/
theorem final_q : (dats m 0 c).arrAt 5 cfg0.N = (queries (m ((c.tc : Thread nD τ).loc main_arg0)) (m ((c.tc : Thread nD τ).loc main_arg1)) : S16384x1024.Idx → EReal) :=
  (dats m 0 c).arrAt_eq_of_cover 5 _ (fun t _ => flushed_q m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_5 _, ?_⟩
    obtain ⟨e0, e1⟩ := idx_q ⟨(i 0 : Nat) / 256, by omega⟩
    exact mem_q _ i (by rw [e0]; show (i 0 : Nat) / 256 * 256 ≤ (i 0 : Nat) ∧ (i 0 : Nat) < (i 0 : Nat) / 256 * 256 + 256; omega)
      (by rw [e1]; omega)

/-! ### Result 2 -/

theorem idx_k : ∀ t : Fin cfg0.N, win0_6.index t 0 = t.val ∧ win0_6.index t 1 = 0 :=
  (by decide +kernel : ∀ t : Fin grid0.N, win0_6.index t 0 = t.val ∧ win0_6.index t 1 = 0)

/-- What a grid point writes back is its block of the result. -/
theorem flushed_k (t : Fin cfg0.N) :
    (dats m 0 c).flushed 6 t = ((cfg0.win 6).blk t).view.read (Elt Ideal)
      (keys (m ((c.tc : Thread nD τ).loc main_arg0)) (m ((c.tc : Thread nD τ).loc main_arg1)) : S16384x1024.Idx → EReal) := by
  show (cfg0.win 6).cut (grid0.coords t) ((dats m 0 c).after 6 t) = _
  rw [after0_6]
  funext y
  obtain ⟨r, j, rfl⟩ : ∃ (r : Fin 256) (j : Fin 1024), y = ix2 r j := ⟨y 0, y 1, eq_ix2 y⟩
  have he : (win0_6.rect t).emb (ix2 r j) = ix2 (rowIn (blockAt t) r) j := by
    obtain ⟨e0, e1⟩ := idx_k t
    refine Shape.idx_ext₂ ?_ ?_
    · rw [Pipeline.Window.rect_emb_val win0_6, e0]; show t.val * 256 + r.val = 256 * t.val + r.val; omega
    · rw [Pipeline.Window.rect_emb_val win0_6, e1]; show 0 * 1024 + j.val = j.val; omega
  show out0_6 (F := Ideal) (iblk m c 0 t) (iblk m c 1 t) (iblk m c 2 t) (iblk m c 3 t) (ix2 r j)
    = (keys (m ((c.tc : Thread nD τ).loc main_arg0)) (m ((c.tc : Thread nD τ).loc main_arg1)) : S16384x1024.Idx → EReal) ((win0_6.rect t).emb (ix2 r j))
  rw [he, k_apply]
  exact head_block m c 1536 (by omega) t r j

theorem mem_k (t : Fin cfg0.N) (i : S16384x1024.Idx)
    (h0 : win0_6.index t 0 * 256 ≤ (i 0 : Nat) ∧ (i 0 : Nat) < win0_6.index t 0 * 256 + 256)
    (h1 : win0_6.index t 1 * 1024 ≤ (i 1 : Nat) ∧ (i 1 : Nat) < win0_6.index t 1 * 1024 + 1024) :
    i ∈ ((cfg0.win 6).blk t).view.set := by
  show i ∈ ((View.whole main_v21_2).slice (win0_6.rect t)).set
  rw [View.set_slice_whole, Rect.mem_set_unit]
  intro a
  match a with | ⟨0, _⟩ => exact h0 | ⟨1, _⟩ => exact h1

/-- After the last point the array holds the result: row `i` was written by point `i / 256`. -/
theorem final_k : (dats m 0 c).arrAt 6 cfg0.N = (keys (m ((c.tc : Thread nD τ).loc main_arg0)) (m ((c.tc : Thread nD τ).loc main_arg1)) : S16384x1024.Idx → EReal) :=
  (dats m 0 c).arrAt_eq_of_cover 6 _ (fun t _ => flushed_k m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_6 _, ?_⟩
    obtain ⟨e0, e1⟩ := idx_k ⟨(i 0 : Nat) / 256, by omega⟩
    exact mem_k _ i (by rw [e0]; show (i 0 : Nat) / 256 * 256 ≤ (i 0 : Nat) ∧ (i 0 : Nat) < (i 0 : Nat) / 256 * 256 + 256; omega)
      (by rw [e1]; omega)

/-! ### Result 3 -/

theorem idx_kb : ∀ t : Fin cfg0.N, win0_7.index t 0 = t.val ∧ win0_7.index t 1 = 0 :=
  (by decide +kernel : ∀ t : Fin grid0.N, win0_7.index t 0 = t.val ∧ win0_7.index t 1 = 0)

/-- What a grid point writes back is its block of the result. -/
theorem flushed_kb (t : Fin cfg0.N) :
    (dats m 0 c).flushed 7 t = ((cfg0.win 7).blk t).view.read (Elt Ideal)
      (keys (m ((c.tc : Thread nD τ).loc main_arg0)) (m ((c.tc : Thread nD τ).loc main_arg1)) : S16384x1024.Idx → EReal) := by
  show (cfg0.win 7).cut (grid0.coords t) ((dats m 0 c).after 7 t) = _
  rw [after0_7]
  funext y
  obtain ⟨r, j, rfl⟩ : ∃ (r : Fin 256) (j : Fin 1024), y = ix2 r j := ⟨y 0, y 1, eq_ix2 y⟩
  have he : (win0_7.rect t).emb (ix2 r j) = ix2 (rowIn (blockAt t) r) j := by
    obtain ⟨e0, e1⟩ := idx_kb t
    refine Shape.idx_ext₂ ?_ ?_
    · rw [Pipeline.Window.rect_emb_val win0_7, e0]; show t.val * 256 + r.val = 256 * t.val + r.val; omega
    · rw [Pipeline.Window.rect_emb_val win0_7, e1]; show 0 * 1024 + j.val = j.val; omega
  show out0_7 (F := Ideal) (iblk m c 0 t) (iblk m c 1 t) (iblk m c 2 t) (iblk m c 3 t) (ix2 r j)
    = (keys (m ((c.tc : Thread nD τ).loc main_arg0)) (m ((c.tc : Thread nD τ).loc main_arg1)) : S16384x1024.Idx → EReal) ((win0_7.rect t).emb (ix2 r j))
  rw [he, kb_apply]
  exact head_block m c 1536 (by omega) t r j

theorem mem_kb (t : Fin cfg0.N) (i : S16384x1024.Idx)
    (h0 : win0_7.index t 0 * 256 ≤ (i 0 : Nat) ∧ (i 0 : Nat) < win0_7.index t 0 * 256 + 256)
    (h1 : win0_7.index t 1 * 1024 ≤ (i 1 : Nat) ∧ (i 1 : Nat) < win0_7.index t 1 * 1024 + 1024) :
    i ∈ ((cfg0.win 7).blk t).view.set := by
  show i ∈ ((View.whole main_v21_3).slice (win0_7.rect t)).set
  rw [View.set_slice_whole, Rect.mem_set_unit]
  intro a
  match a with | ⟨0, _⟩ => exact h0 | ⟨1, _⟩ => exact h1

/-- After the last point the array holds the result: row `i` was written by point `i / 256`. -/
theorem final_kb : (dats m 0 c).arrAt 7 cfg0.N = (keys (m ((c.tc : Thread nD τ).loc main_arg0)) (m ((c.tc : Thread nD τ).loc main_arg1)) : S16384x1024.Idx → EReal) :=
  (dats m 0 c).arrAt_eq_of_cover 7 _ (fun t _ => flushed_kb m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_7 _, ?_⟩
    obtain ⟨e0, e1⟩ := idx_kb ⟨(i 0 : Nat) / 256, by omega⟩
    exact mem_kb _ i (by rw [e0]; show (i 0 : Nat) / 256 * 256 ≤ (i 0 : Nat) ∧ (i 0 : Nat) < (i 0 : Nat) / 256 * 256 + 256; omega)
      (by rw [e1]; omega)

/-! ### Result 4 -/

theorem idx_v : ∀ t : Fin cfg0.N, win0_8.index t 0 = t.val ∧ win0_8.index t 1 = 0 :=
  (by decide +kernel : ∀ t : Fin grid0.N, win0_8.index t 0 = t.val ∧ win0_8.index t 1 = 0)

/-- What a grid point writes back is its block of the result. -/
theorem flushed_v (t : Fin cfg0.N) :
    (dats m 0 c).flushed 8 t = ((cfg0.win 8).blk t).view.read (Elt Ideal)
      (part1024 (m ((c.tc : Thread nD τ).loc main_arg0)) (m ((c.tc : Thread nD τ).loc main_arg1)) 2560 (by omega) : S16384x1024.Idx → EReal) := by
  show (cfg0.win 8).cut (grid0.coords t) ((dats m 0 c).after 8 t) = _
  rw [after0_8]
  funext y
  obtain ⟨r, j, rfl⟩ : ∃ (r : Fin 256) (j : Fin 1024), y = ix2 r j := ⟨y 0, y 1, eq_ix2 y⟩
  have he : (win0_8.rect t).emb (ix2 r j) = ix2 (rowIn (blockAt t) r) j := by
    obtain ⟨e0, e1⟩ := idx_v t
    refine Shape.idx_ext₂ ?_ ?_
    · rw [Pipeline.Window.rect_emb_val win0_8, e0]; show t.val * 256 + r.val = 256 * t.val + r.val; omega
    · rw [Pipeline.Window.rect_emb_val win0_8, e1]; show 0 * 1024 + j.val = j.val; omega
  show out0_8 (F := Ideal) (iblk m c 0 t) (iblk m c 1 t) (iblk m c 2 t) (iblk m c 3 t) (ix2 r j)
    = (part1024 (m ((c.tc : Thread nD τ).loc main_arg0)) (m ((c.tc : Thread nD τ).loc main_arg1)) 2560 (by omega) : S16384x1024.Idx → EReal) ((win0_8.rect t).emb (ix2 r j))
  rw [he, v_apply]
  exact col_block m c t r _

theorem mem_v (t : Fin cfg0.N) (i : S16384x1024.Idx)
    (h0 : win0_8.index t 0 * 256 ≤ (i 0 : Nat) ∧ (i 0 : Nat) < win0_8.index t 0 * 256 + 256)
    (h1 : win0_8.index t 1 * 1024 ≤ (i 1 : Nat) ∧ (i 1 : Nat) < win0_8.index t 1 * 1024 + 1024) :
    i ∈ ((cfg0.win 8).blk t).view.set := by
  show i ∈ ((View.whole main_v21_4).slice (win0_8.rect t)).set
  rw [View.set_slice_whole, Rect.mem_set_unit]
  intro a
  match a with | ⟨0, _⟩ => exact h0 | ⟨1, _⟩ => exact h1

/-- After the last point the array holds the result: row `i` was written by point `i / 256`. -/
theorem final_v : (dats m 0 c).arrAt 8 cfg0.N = (part1024 (m ((c.tc : Thread nD τ).loc main_arg0)) (m ((c.tc : Thread nD τ).loc main_arg1)) 2560 (by omega) : S16384x1024.Idx → EReal) :=
  (dats m 0 c).arrAt_eq_of_cover 8 _ (fun t _ => flushed_v m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_8 _, ?_⟩
    obtain ⟨e0, e1⟩ := idx_v ⟨(i 0 : Nat) / 256, by omega⟩
    exact mem_v _ i (by rw [e0]; show (i 0 : Nat) / 256 * 256 ≤ (i 0 : Nat) ∧ (i 0 : Nat) < (i 0 : Nat) / 256 * 256 + 256; omega)
      (by rw [e1]; omega)

/-! ### Result 5 -/

theorem idx_vb : ∀ t : Fin cfg0.N, win0_9.index t 0 = t.val ∧ win0_9.index t 1 = 0 :=
  (by decide +kernel : ∀ t : Fin grid0.N, win0_9.index t 0 = t.val ∧ win0_9.index t 1 = 0)

/-- What a grid point writes back is its block of the result. -/
theorem flushed_vb (t : Fin cfg0.N) :
    (dats m 0 c).flushed 9 t = ((cfg0.win 9).blk t).view.read (Elt Ideal)
      (part1024 (m ((c.tc : Thread nD τ).loc main_arg0)) (m ((c.tc : Thread nD τ).loc main_arg1)) 2560 (by omega) : S16384x1024.Idx → EReal) := by
  show (cfg0.win 9).cut (grid0.coords t) ((dats m 0 c).after 9 t) = _
  rw [after0_9]
  funext y
  obtain ⟨r, j, rfl⟩ : ∃ (r : Fin 256) (j : Fin 1024), y = ix2 r j := ⟨y 0, y 1, eq_ix2 y⟩
  have he : (win0_9.rect t).emb (ix2 r j) = ix2 (rowIn (blockAt t) r) j := by
    obtain ⟨e0, e1⟩ := idx_vb t
    refine Shape.idx_ext₂ ?_ ?_
    · rw [Pipeline.Window.rect_emb_val win0_9, e0]; show t.val * 256 + r.val = 256 * t.val + r.val; omega
    · rw [Pipeline.Window.rect_emb_val win0_9, e1]; show 0 * 1024 + j.val = j.val; omega
  show out0_9 (F := Ideal) (iblk m c 0 t) (iblk m c 1 t) (iblk m c 2 t) (iblk m c 3 t) (ix2 r j)
    = (part1024 (m ((c.tc : Thread nD τ).loc main_arg0)) (m ((c.tc : Thread nD τ).loc main_arg1)) 2560 (by omega) : S16384x1024.Idx → EReal) ((win0_9.rect t).emb (ix2 r j))
  rw [he, vb_apply]
  exact col_block m c t r _

theorem mem_vb (t : Fin cfg0.N) (i : S16384x1024.Idx)
    (h0 : win0_9.index t 0 * 256 ≤ (i 0 : Nat) ∧ (i 0 : Nat) < win0_9.index t 0 * 256 + 256)
    (h1 : win0_9.index t 1 * 1024 ≤ (i 1 : Nat) ∧ (i 1 : Nat) < win0_9.index t 1 * 1024 + 1024) :
    i ∈ ((cfg0.win 9).blk t).view.set := by
  show i ∈ ((View.whole main_v21_5).slice (win0_9.rect t)).set
  rw [View.set_slice_whole, Rect.mem_set_unit]
  intro a
  match a with | ⟨0, _⟩ => exact h0 | ⟨1, _⟩ => exact h1

/-- After the last point the array holds the result: row `i` was written by point `i / 256`. -/
theorem final_vb : (dats m 0 c).arrAt 9 cfg0.N = (part1024 (m ((c.tc : Thread nD τ).loc main_arg0)) (m ((c.tc : Thread nD τ).loc main_arg1)) 2560 (by omega) : S16384x1024.Idx → EReal) :=
  (dats m 0 c).arrAt_eq_of_cover 9 _ (fun t _ => flushed_vb m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_9 _, ?_⟩
    obtain ⟨e0, e1⟩ := idx_vb ⟨(i 0 : Nat) / 256, by omega⟩
    exact mem_vb _ i (by rw [e0]; show (i 0 : Nat) / 256 * 256 ≤ (i 0 : Nat) ∧ (i 0 : Nat) < (i 0 : Nat) / 256 * 256 + 256; omega)
      (by rw [e1]; omega)

/-! ### Result 6 -/

theorem idx_ga : ∀ t : Fin cfg0.N, win0_10.index t 0 = t.val ∧ win0_10.index t 1 = 0 :=
  (by decide +kernel : ∀ t : Fin grid0.N, win0_10.index t 0 = t.val ∧ win0_10.index t 1 = 0)

/-- What a grid point writes back is its block of the result. -/
theorem flushed_ga (t : Fin cfg0.N) :
    (dats m 0 c).flushed 10 t = ((cfg0.win 10).blk t).view.read (Elt Ideal)
      (part1024 (m ((c.tc : Thread nD τ).loc main_arg0)) (m ((c.tc : Thread nD τ).loc main_arg1)) 3584 (by omega) : S16384x1024.Idx → EReal) := by
  show (cfg0.win 10).cut (grid0.coords t) ((dats m 0 c).after 10 t) = _
  rw [after0_10]
  funext y
  obtain ⟨r, j, rfl⟩ : ∃ (r : Fin 256) (j : Fin 1024), y = ix2 r j := ⟨y 0, y 1, eq_ix2 y⟩
  have he : (win0_10.rect t).emb (ix2 r j) = ix2 (rowIn (blockAt t) r) j := by
    obtain ⟨e0, e1⟩ := idx_ga t
    refine Shape.idx_ext₂ ?_ ?_
    · rw [Pipeline.Window.rect_emb_val win0_10, e0]; show t.val * 256 + r.val = 256 * t.val + r.val; omega
    · rw [Pipeline.Window.rect_emb_val win0_10, e1]; show 0 * 1024 + j.val = j.val; omega
  show out0_10 (F := Ideal) (iblk m c 0 t) (iblk m c 1 t) (iblk m c 2 t) (iblk m c 3 t) (ix2 r j)
    = (part1024 (m ((c.tc : Thread nD τ).loc main_arg0)) (m ((c.tc : Thread nD τ).loc main_arg1)) 3584 (by omega) : S16384x1024.Idx → EReal) ((win0_10.rect t).emb (ix2 r j))
  rw [he, ga_apply]
  exact col_block m c t r _

theorem mem_ga (t : Fin cfg0.N) (i : S16384x1024.Idx)
    (h0 : win0_10.index t 0 * 256 ≤ (i 0 : Nat) ∧ (i 0 : Nat) < win0_10.index t 0 * 256 + 256)
    (h1 : win0_10.index t 1 * 1024 ≤ (i 1 : Nat) ∧ (i 1 : Nat) < win0_10.index t 1 * 1024 + 1024) :
    i ∈ ((cfg0.win 10).blk t).view.set := by
  show i ∈ ((View.whole main_v21_6).slice (win0_10.rect t)).set
  rw [View.set_slice_whole, Rect.mem_set_unit]
  intro a
  match a with | ⟨0, _⟩ => exact h0 | ⟨1, _⟩ => exact h1

/-- After the last point the array holds the result: row `i` was written by point `i / 256`. -/
theorem final_ga : (dats m 0 c).arrAt 10 cfg0.N = (part1024 (m ((c.tc : Thread nD τ).loc main_arg0)) (m ((c.tc : Thread nD τ).loc main_arg1)) 3584 (by omega) : S16384x1024.Idx → EReal) :=
  (dats m 0 c).arrAt_eq_of_cover 10 _ (fun t _ => flushed_ga m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_10 _, ?_⟩
    obtain ⟨e0, e1⟩ := idx_ga ⟨(i 0 : Nat) / 256, by omega⟩
    exact mem_ga _ i (by rw [e0]; show (i 0 : Nat) / 256 * 256 ≤ (i 0 : Nat) ∧ (i 0 : Nat) < (i 0 : Nat) / 256 * 256 + 256; omega)
      (by rw [e1]; omega)

/-! ### Result 7 -/

theorem idx_gb : ∀ t : Fin cfg0.N, win0_11.index t 0 = t.val ∧ win0_11.index t 1 = 0 :=
  (by decide +kernel : ∀ t : Fin grid0.N, win0_11.index t 0 = t.val ∧ win0_11.index t 1 = 0)

/-- What a grid point writes back is its block of the result. -/
theorem flushed_gb (t : Fin cfg0.N) :
    (dats m 0 c).flushed 11 t = ((cfg0.win 11).blk t).view.read (Elt Ideal)
      (part1024 (m ((c.tc : Thread nD τ).loc main_arg0)) (m ((c.tc : Thread nD τ).loc main_arg1)) 4608 (by omega) : S16384x1024.Idx → EReal) := by
  show (cfg0.win 11).cut (grid0.coords t) ((dats m 0 c).after 11 t) = _
  rw [after0_11]
  funext y
  obtain ⟨r, j, rfl⟩ : ∃ (r : Fin 256) (j : Fin 1024), y = ix2 r j := ⟨y 0, y 1, eq_ix2 y⟩
  have he : (win0_11.rect t).emb (ix2 r j) = ix2 (rowIn (blockAt t) r) j := by
    obtain ⟨e0, e1⟩ := idx_gb t
    refine Shape.idx_ext₂ ?_ ?_
    · rw [Pipeline.Window.rect_emb_val win0_11, e0]; show t.val * 256 + r.val = 256 * t.val + r.val; omega
    · rw [Pipeline.Window.rect_emb_val win0_11, e1]; show 0 * 1024 + j.val = j.val; omega
  show out0_11 (F := Ideal) (iblk m c 0 t) (iblk m c 1 t) (iblk m c 2 t) (iblk m c 3 t) (ix2 r j)
    = (part1024 (m ((c.tc : Thread nD τ).loc main_arg0)) (m ((c.tc : Thread nD τ).loc main_arg1)) 4608 (by omega) : S16384x1024.Idx → EReal) ((win0_11.rect t).emb (ix2 r j))
  rw [he, gb_apply]
  exact col_block m c t r _

theorem mem_gb (t : Fin cfg0.N) (i : S16384x1024.Idx)
    (h0 : win0_11.index t 0 * 256 ≤ (i 0 : Nat) ∧ (i 0 : Nat) < win0_11.index t 0 * 256 + 256)
    (h1 : win0_11.index t 1 * 1024 ≤ (i 1 : Nat) ∧ (i 1 : Nat) < win0_11.index t 1 * 1024 + 1024) :
    i ∈ ((cfg0.win 11).blk t).view.set := by
  show i ∈ ((View.whole main_v21_7).slice (win0_11.rect t)).set
  rw [View.set_slice_whole, Rect.mem_set_unit]
  intro a
  match a with | ⟨0, _⟩ => exact h0 | ⟨1, _⟩ => exact h1

/-- After the last point the array holds the result: row `i` was written by point `i / 256`. -/
theorem final_gb : (dats m 0 c).arrAt 11 cfg0.N = (part1024 (m ((c.tc : Thread nD τ).loc main_arg0)) (m ((c.tc : Thread nD τ).loc main_arg1)) 4608 (by omega) : S16384x1024.Idx → EReal) :=
  (dats m 0 c).arrAt_eq_of_cover 11 _ (fun t _ => flushed_gb m c t) fun (i : S16384x1024.Idx) => by
    have h0 : (i 0 : Nat) < 16384 := (i 0).isLt
    have h1 : (i 1 : Nat) < 1024 := (i 1).isLt
    have hN : cfg0.N = 64 := N_0
    have hN' : grid0.N = 64 := N_0
    refine ⟨⟨(i 0 : Nat) / 256, by omega⟩, flush0_11 _, ?_⟩
    obtain ⟨e0, e1⟩ := idx_gb ⟨(i 0 : Nat) / 256, by omega⟩
    exact mem_gb _ i (by rw [e0]; show (i 0 : Nat) / 256 * 256 ≤ (i 0 : Nat) ∧ (i 0 : Nat) < (i 0 : Nat) / 256 * 256 + 256; omega)
      (by rw [e1]; omega)

/-! ### Result 8 -/

theorem idx_km : ∀ t : Fin cfg0.N, win0_12.index t 0 = t.val ∧ win0_12.index t 1 = 0 ∧ win0_12.index t 2 = 0 :=
  (by decide +kernel : ∀ t : Fin grid0.N, win0_12.index t 0 = t.val ∧ win0_12.index t 1 = 0 ∧ win0_12.index t 2 = 0)

/-- What a grid point writes back is its block of the result. -/
theorem flushed_km (t : Fin cfg0.N) :
    (dats m 0 c).flushed 12 t = ((cfg0.win 12).blk t).view.read (Elt Ideal)
      (blockMeans (m ((c.tc : Thread nD τ).loc main_arg0)) (m ((c.tc : Thread nD τ).loc main_arg1)) : S64x1x1024.Idx → EReal) := by
  show (cfg0.win 12).cut (grid0.coords t) ((dats m 0 c).after 12 t) = _
  rw [after0_12]
  funext y
  obtain ⟨j, rfl⟩ : ∃ j : Fin 1024, y = ix3 0 0 j := ⟨y 2, funext fun a => match a with
    | ⟨0, _⟩ => Subsingleton.elim (α := Fin 1) _ _
    | ⟨1, _⟩ => Subsingleton.elim (α := Fin 1) _ _
    | ⟨2, _⟩ => rfl⟩
  have he : (win0_12.rect t).emb (ix3 0 0 j) = ix3 (blockAt t) 0 j := by
    obtain ⟨e0, e1, e2⟩ := idx_km t
    funext a
    refine Fin.ext ?_
    rw [Pipeline.Window.rect_emb_val win0_12]
    match a with
    | ⟨0, _⟩ => show win0_12.index t 0 * 1 + 0 = t.val; rw [e0]; omega
    | ⟨1, _⟩ => show win0_12.index t 1 * 1 + 0 = 0; rw [e1]
    | ⟨2, _⟩ => show win0_12.index t 2 * 1024 + j.val = j.val; rw [e2]; omega
  show out0_12 (F := Ideal) (iblk m c 0 t) (iblk m c 1 t) (iblk m c 2 t) (iblk m c 3 t) (ix3 0 0 j)
    = (blockMeans (m ((c.tc : Thread nD τ).loc main_arg0)) (m ((c.tc : Thread nD τ).loc main_arg1)) : S64x1x1024.Idx → EReal) ((win0_12.rect t).emb (ix3 0 0 j))
  rw [he, km_apply]
  exact congrArg (· * Ideal.ofBits .f32 0x3B800000#32) (Finset.sum_congr rfl fun r _ => head_block m c 1536 (by omega) t r j)

theorem mem_km (t : Fin cfg0.N) (i : S64x1x1024.Idx)
    (h0 : win0_12.index t 0 * 1 ≤ (i 0 : Nat) ∧ (i 0 : Nat) < win0_12.index t 0 * 1 + 1)
    (h1 : win0_12.index t 1 * 1 ≤ (i 1 : Nat) ∧ (i 1 : Nat) < win0_12.index t 1 * 1 + 1)
    (h2 : win0_12.index t 2 * 1024 ≤ (i 2 : Nat) ∧ (i 2 : Nat) < win0_12.index t 2 * 1024 + 1024) :
    i ∈ ((cfg0.win 12).blk t).view.set := by
  show i ∈ ((View.whole main_v21_8).slice (win0_12.rect t)).set
  rw [View.set_slice_whole, Rect.mem_set_unit]
  intro a
  match a with | ⟨0, _⟩ => exact h0 | ⟨1, _⟩ => exact h1 | ⟨2, _⟩ => exact h2

/-- After the last point the array holds the result: row `i` was written by point `i`. -/
theorem final_km : (dats m 0 c).arrAt 12 cfg0.N = (blockMeans (m ((c.tc : Thread nD τ).loc main_arg0)) (m ((c.tc : Thread nD τ).loc main_arg1)) : S64x1x1024.Idx → EReal) :=
  (dats m 0 c).arrAt_eq_of_cover 12 _ (fun t _ => flushed_km m c t) fun (i : S64x1x1024.Idx) => by
    have h0 : (i 0 : Nat) < 64 := (i 0).isLt
    have h1 : (i 1 : Nat) < 1 := (i 1).isLt
    have h2 : (i 2 : Nat) < 1024 := (i 2).isLt
    have hN : cfg0.N = 64 := N_0
    have hN' : grid0.N = 64 := N_0
    refine ⟨⟨(i 0 : Nat), by omega⟩, flush0_12 _, ?_⟩
    obtain ⟨e0, e1, e2⟩ := idx_km ⟨(i 0 : Nat), by omega⟩
    exact mem_km _ i (by rw [e0]; show (i 0 : Nat) * 1 ≤ (i 0 : Nat) ∧ (i 0 : Nat) < (i 0 : Nat) * 1 + 1; omega)
      (by rw [e1]; omega) (by rw [e2]; omega)

end Cert.Proof.Proj

end
-- ==== Proof.ProjRef.lean ====
/-
  The reference projection, read at an index: the columns of the projection, the rotated queries and keys, and the mean of
  each block of keys, as functions of the arguments (`Projection.queries`, `Projection.keys`, …).
-/
module

public import proofs.«01_k».proof.Proof.Projection
public import proofs.«01_k».proof.Proof.Gen.ProjRefIdeal.Read

@[expose] public section

noncomputable section

namespace Cert.Proof.ProjRef

open Cert.ProjRefIdeal Cert.ProjRefIdeal.Read Idealize.ShloMosaic Idealize.ShloMosaic.ValueIdx Cert.Proof.Rows Cert.Proof.Projection
open scoped BigOperators

variable (x : (⟨3, ![2, 8192, 1024]⟩ : Shape).Idx → EReal) (w : (⟨3, ![1, 1024, 5632]⟩ : Shape).Idx → EReal)

theorem weight_apply (k : Fin 1024) (n : Fin 5632) : val_main_v1 (F := Ideal) w (ix2 k n) = w (ix3 0 k n) := by
  rw [val_main_v1_apply]
  refine congrArg w (funext fun a => Fin.ext ?_)
  match a with
  | ⟨0, _⟩ => rfl
  | ⟨1, _⟩ => show (k.val * 5632 + n.val) / 5632 % 1024 = k.val; omega
  | ⟨2, _⟩ => show (k.val * 5632 + n.val) % 5632 = n.val; omega

/-- The projection, at the sequence and the position of a flat row. -/
theorem column_apply (r : Fin 16384) (n : Fin 5632) :
    val_main_v2 (F := Ideal) x w (ix3 (batchOf r) (posOf r) n) = column x w r n := by
  rw [val_main_v2_apply]
  show _ = ∑ k, x (ix3 (batchOf r) (posOf r) k) * w (ix3 0 k n)
  refine Finset.sum_congr rfl fun k _ => ?_
  rw [show lidx_main_v2 (ix3 (batchOf r) (posOf r) n) k = ix3 (batchOf r) (posOf r) k from
      funext fun a => by match a with | ⟨0, _⟩ => rfl | ⟨1, _⟩ => rfl | ⟨2, _⟩ => rfl,
    show ridx_main_v2 (ix3 (batchOf r) (posOf r) n) k = ix2 k n from
      funext fun a => by match a with | ⟨0, _⟩ => rfl | ⟨1, _⟩ => rfl, weight_apply]

/-! ### The parts that are not rotated -/

theorem u_eq : val_main_v75 (F := Ideal) x w = part512 x w 0 (by omega) := by
  funext i
  obtain ⟨r, j, rfl⟩ : ∃ (r : Fin 16384) (j : Fin 512), i = ix2 r j := ⟨i 0, i 1, eq_ix2 i⟩
  rw [val_main_v75_apply, val_main_v3_apply]
  refine (congrArg (val_main_v2 (F := Ideal) x w) (funext fun a => Fin.ext ?_)).trans (column_apply x w r ⟨0 + j.val, by omega⟩)
  match a with
  | ⟨0, _⟩ => show (r.val * 512 + j.val) / 4194304 = r.val / 8192; omega
  | ⟨1, _⟩ => show (r.val * 512 + j.val) / 512 % 8192 = r.val % 8192; omega
  | ⟨2, _⟩ => show (r.val * 512 + j.val) % 512 = 0 + j.val; omega

theorem v_eq : val_main_v74 (F := Ideal) x w = part1024 x w 2560 (by omega) := by
  funext i
  obtain ⟨r, j, rfl⟩ : ∃ (r : Fin 16384) (j : Fin 1024), i = ix2 r j := ⟨i 0, i 1, eq_ix2 i⟩
  rw [val_main_v74_apply, val_main_v6_apply]
  refine (congrArg (val_main_v2 (F := Ideal) x w) (funext fun a => Fin.ext ?_)).trans (column_apply x w r ⟨2560 + j.val, by omega⟩)
  match a with
  | ⟨0, _⟩ => show (r.val * 1024 + j.val) / 8388608 = r.val / 8192; omega
  | ⟨1, _⟩ => show (r.val * 1024 + j.val) / 1024 % 8192 = r.val % 8192; omega
  | ⟨2, _⟩ => show 2560 + (r.val * 1024 + j.val) % 1024 = 2560 + j.val; omega

theorem vb_eq : val_main_v81 (F := Ideal) x w = part1024 x w 2560 (by omega) := v_eq x w

theorem ga_eq : val_main_v82 (F := Ideal) x w = part1024 x w 3584 (by omega) := by
  funext i
  obtain ⟨r, j, rfl⟩ : ∃ (r : Fin 16384) (j : Fin 1024), i = ix2 r j := ⟨i 0, i 1, eq_ix2 i⟩
  rw [val_main_v82_apply, val_main_v7_apply]
  refine (congrArg (val_main_v2 (F := Ideal) x w) (funext fun a => Fin.ext ?_)).trans (column_apply x w r ⟨3584 + j.val, by omega⟩)
  match a with
  | ⟨0, _⟩ => show (r.val * 1024 + j.val) / 8388608 = r.val / 8192; omega
  | ⟨1, _⟩ => show (r.val * 1024 + j.val) / 1024 % 8192 = r.val % 8192; omega
  | ⟨2, _⟩ => show 3584 + (r.val * 1024 + j.val) % 1024 = 3584 + j.val; omega

theorem gb_eq : val_main_v83 (F := Ideal) x w = part1024 x w 4608 (by omega) := by
  funext i
  obtain ⟨r, j, rfl⟩ : ∃ (r : Fin 16384) (j : Fin 1024), i = ix2 r j := ⟨i 0, i 1, eq_ix2 i⟩
  rw [val_main_v83_apply, val_main_v8_apply]
  refine (congrArg (val_main_v2 (F := Ideal) x w) (funext fun a => Fin.ext ?_)).trans (column_apply x w r ⟨4608 + j.val, by omega⟩)
  match a with
  | ⟨0, _⟩ => show (r.val * 1024 + j.val) / 8388608 = r.val / 8192; omega
  | ⟨1, _⟩ => show (r.val * 1024 + j.val) / 1024 % 8192 = r.val % 8192; omega
  | ⟨2, _⟩ => show 4608 + (r.val * 1024 + j.val) % 1024 = 4608 + j.val; omega

/-! ### The rotation -/

theorem angle_q (p : Fin 8192) (d : Fin 64) : val_main_v21 (F := Ideal) (ix2 p d) = angle p d := rfl

theorem angle_k (p : Fin 8192) (d : Fin 64) : val_main_v51 (F := Ideal) (ix2 p d) = angle p d := rfl

/-- Column `128·h + d` of the queries' part. -/
theorem q_column (r : Fin 16384) (h : Fin 8) (d : Fin 128) :
    val_main_v9 (F := Ideal) x w (ix4 (batchOf r) (posOf r) h d) = column x w r ⟨512 + 128 * h.val + d.val, by omega⟩ := by
  rw [val_main_v9_apply, val_main_v4_apply]
  refine (congrArg (val_main_v2 (F := Ideal) x w) (funext fun a => Fin.ext ?_)).trans (column_apply x w r _)
  match a with
  | ⟨0, _⟩ => show (((r.val / 8192 * 8192 + r.val % 8192) * 8 + h.val) * 128 + d.val) / 8388608 = r.val / 8192; omega
  | ⟨1, _⟩ => show (((r.val / 8192 * 8192 + r.val % 8192) * 8 + h.val) * 128 + d.val) / 1024 % 8192 = r.val % 8192; omega
  | ⟨2, _⟩ => show 512 + (((r.val / 8192 * 8192 + r.val % 8192) * 8 + h.val) * 128 + d.val) % 1024 = 512 + 128 * h.val + d.val; omega

/-- Column `128·h + d` of the keys' part. -/
theorem k_column (r : Fin 16384) (h : Fin 8) (d : Fin 128) :
    val_main_v39 (F := Ideal) x w (ix4 (batchOf r) (posOf r) h d) = column x w r ⟨1536 + 128 * h.val + d.val, by omega⟩ := by
  rw [val_main_v39_apply, val_main_v5_apply]
  refine (congrArg (val_main_v2 (F := Ideal) x w) (funext fun a => Fin.ext ?_)).trans (column_apply x w r _)
  match a with
  | ⟨0, _⟩ => show (((r.val / 8192 * 8192 + r.val % 8192) * 8 + h.val) * 128 + d.val) / 8388608 = r.val / 8192; omega
  | ⟨1, _⟩ => show (((r.val / 8192 * 8192 + r.val % 8192) * 8 + h.val) * 128 + d.val) / 1024 % 8192 = r.val % 8192; omega
  | ⟨2, _⟩ => show 1536 + (((r.val / 8192 * 8192 + r.val % 8192) * 8 + h.val) * 128 + d.val) % 1024 = 1536 + 128 * h.val + d.val; omega

/-- The halves of a head side by side. -/
theorem pair_apply (a b : S2x8192x8x64.Idx → EReal) (e : Fin 2) (p : Fin 8192) (h : Fin 8) (d : Fin 128) :
    concatenate S2x8192x8x128 3 [⟨S2x8192x8x64, a⟩, ⟨S2x8192x8x64, b⟩] Gen.facts.concatenates_S2x8192x8x64_S2x8192x8x64_S2x8192x8x128_d3 (ix4 e p h d)
      = if d.val < 64 then a (ix4 e p h (half d)) else b (ix4 e p h (half d)) := by
  split
  · next hd =>
    exact concatenate_pair_apply_left (3 : Fin S2x8192x8x128.rank) a b _ (ix4 e p h d) rfl (ix4 e p h (half d)) fun i => by
      match i with | ⟨0, _⟩ => rfl | ⟨1, _⟩ => rfl | ⟨2, _⟩ => rfl | ⟨3, _⟩ => show d.val % 64 = d.val; omega
  · next hd =>
    refine concatenate_pair_apply_right (3 : Fin S2x8192x8x128.rank) a b _ (ix4 e p h d) rfl rfl (ix4 e p h (half d)) (fun i hi => ?_) ?_
    · match i with | ⟨0, _⟩ => rfl | ⟨1, _⟩ => rfl | ⟨2, _⟩ => rfl | ⟨3, _⟩ => exact absurd rfl hi
    · show d.val % 64 + 64 = d.val; omega

theorem low (e : Fin 2) (p : Fin 8192) (h : Fin 8) (d : Fin 64) :
    idx_main_v26 (ix4 e p h d) = ix4 e p h ⟨d.val, by omega⟩ :=
  funext fun a => by match a with | ⟨0, _⟩ => rfl | ⟨1, _⟩ => rfl | ⟨2, _⟩ => rfl | ⟨3, _⟩ => rfl

theorem high (e : Fin 2) (p : Fin 8192) (h : Fin 8) (d : Fin 64) :
    idx_main_v27 (ix4 e p h d) = ix4 e p h ⟨64 + d.val, by omega⟩ :=
  funext fun a => by match a with | ⟨0, _⟩ => rfl | ⟨1, _⟩ => rfl | ⟨2, _⟩ => rfl | ⟨3, _⟩ => rfl

theorem q_turned (r : Fin 16384) (h : Fin 8) (d : Fin 128) :
    val_main_v38 (F := Ideal) x w (ix4 (batchOf r) (posOf r) h d) = turned x w 512 (by omega) r ⟨128 * h.val + d.val, by omega⟩ := by
  refine (pair_apply (val_main_v32 (F := Ideal) x w) (val_main_v37 (F := Ideal) x w) _ _ h d).trans ?_
  refine Eq.trans ?_ (rotated_halves (column x w r) 512 (by omega) (posOf r) h d _ _ rfl rfl)
  rw [val_main_v32_apply, val_main_v29_apply, val_main_v31_apply, val_main_v37_apply, val_main_v34_apply, val_main_v36_apply,
    val_main_v26_apply, val_main_v27_apply, low, high, q_column, q_column]
  rfl

theorem k_turned (r : Fin 16384) (h : Fin 8) (d : Fin 128) :
    val_main_v68 (F := Ideal) x w (ix4 (batchOf r) (posOf r) h d) = turned x w 1536 (by omega) r ⟨128 * h.val + d.val, by omega⟩ := by
  refine (pair_apply (val_main_v62 (F := Ideal) x w) (val_main_v67 (F := Ideal) x w) _ _ h d).trans ?_
  refine Eq.trans ?_ (rotated_halves (column x w r) 1536 (by omega) (posOf r) h d _ _ rfl rfl)
  rw [val_main_v62_apply, val_main_v59_apply, val_main_v61_apply, val_main_v67_apply, val_main_v64_apply, val_main_v66_apply,
    val_main_v56_apply, val_main_v57_apply]
  rw [show idx_main_v56 (ix4 (batchOf r) (posOf r) h (half d)) = _ from low _ _ _ _,
    show idx_main_v57 (ix4 (batchOf r) (posOf r) h (half d)) = _ from high _ _ _ _]
  rw [k_column, k_column]
  rfl

/-- Where a flat row and a column lie in the heads. -/
theorem idx_heads (r : Fin 16384) (j : Fin 1024) :
    idx_main_v73 (ix2 r j) = ix4 (batchOf r) (posOf r) (⟨j.val / 128, by omega⟩ : Fin 8) (⟨j.val % 128, by omega⟩ : Fin 128) :=
  funext fun a => Fin.ext (by
    match a with
    | ⟨0, _⟩ => show (r.val * 1024 + j.val) / 8388608 = r.val / 8192; omega
    | ⟨1, _⟩ => show (r.val * 1024 + j.val) / 1024 % 8192 = r.val % 8192; omega
    | ⟨2, _⟩ => show (r.val * 1024 + j.val) / 128 % 8 = j.val / 128; omega
    | ⟨3, _⟩ => show (r.val * 1024 + j.val) % 128 = j.val % 128; omega)

theorem k_eq : val_main_v73 (F := Ideal) x w = keys x w := by
  funext i
  obtain ⟨r, j, rfl⟩ : ∃ (r : Fin 16384) (j : Fin 1024), i = ix2 r j := ⟨i 0, i 1, eq_ix2 i⟩
  rw [val_main_v73_apply, idx_heads, k_turned]
  exact congrArg (turned x w 1536 (by omega) r) (Fin.ext (Nat.div_add_mod j.val 128))

theorem kb_eq : val_main_v80 (F := Ideal) x w = keys x w := k_eq x w

theorem q_eq : val_main_v79 (F := Ideal) x w = queries x w := by
  funext i
  obtain ⟨r, j, rfl⟩ : ∃ (r : Fin 16384) (j : Fin 1024), i = ix2 r j := ⟨i 0, i 1, eq_ix2 i⟩
  rw [val_main_v79_apply, val_main_v78_apply, val_main_v77_apply, val_main_v76_apply]
  rw [show idx_main_v79 (ix2 r j) = _ from idx_heads r j]
  rw [q_turned]
  exact congrArg (turned x w 512 (by omega) r · * Ideal.ofBits .f32 0x3E0293EE#32) (Fin.ext (Nat.div_add_mod j.val 128))

/-! ### The means -/

theorem mean_eq : val_main_v84 (F := Ideal) x w = blockMeans x w := by
  funext i
  obtain ⟨b, j, rfl⟩ : ∃ (b : Fin 64) (j : Fin 1024), i = ix3 b 0 j := ⟨i 0, i 2, funext fun a => match a with
    | ⟨0, _⟩ => rfl
    | ⟨1, _⟩ => Subsingleton.elim (α := Fin 1) _ _
    | ⟨2, _⟩ => rfl⟩
  rw [val_main_v84_apply, val_main_v72_apply, val_main_v70_apply, val_main_v71_apply]
  refine Eq.trans ?_ (mul_inv_256 _).symm
  refine congrArg (Ideal.div · (Ideal.ofBits .f32 0x43800000#32)) ?_
  refine (congrArg (· + _) Ideal.ofBits_zero_f32 : Ideal.ofBits .f32 0x00000000#32 + _ = _).trans ((zero_add _).trans (Finset.sum_congr rfl fun r _ => ?_))
  rw [val_main_v69_apply]
  refine (congrArg (val_main_v68 (F := Ideal) x w) (funext fun a => Fin.ext ?_)).trans
    ((k_turned x w (rowIn b r) (⟨j.val / 128, by omega⟩ : Fin 8) (⟨j.val % 128, by omega⟩ : Fin 128)).trans
      (congrArg (turned x w 1536 (by omega) (rowIn b r)) (Fin.ext (Nat.div_add_mod j.val 128))))
  have e0 : (b.val * 1 + 0) * 1024 + j.val = 1024 * b.val + j.val := by omega
  have h0 : (((b.val * 1 + 0) * 1024 + j.val) / 32768) = b.val / 32 := by omega
  have h1 : (((b.val * 1 + 0) * 1024 + j.val) / 1024 % 32) = b.val % 32 := by omega
  have h2 : (((b.val * 1 + 0) * 1024 + j.val) / 128 % 8) = j.val / 128 := by omega
  have h3 : (((b.val * 1 + 0) * 1024 + j.val) % 128) = j.val % 128 := by omega
  match a with
  | ⟨0, _⟩ =>
    show ((((((b.val * 1 + 0) * 1024 + j.val) / 32768 * 32 + ((b.val * 1 + 0) * 1024 + j.val) / 1024 % 32) * 256 + r.val) * 8 + ((b.val * 1 + 0) * 1024 + j.val) / 128 % 8) * 128 + ((b.val * 1 + 0) * 1024 + j.val) % 128) / 8388608 = (256 * b.val + r.val) / 8192
    rw [h0, h1, h2, h3]; omega
  | ⟨1, _⟩ =>
    show ((((((b.val * 1 + 0) * 1024 + j.val) / 32768 * 32 + ((b.val * 1 + 0) * 1024 + j.val) / 1024 % 32) * 256 + r.val) * 8 + ((b.val * 1 + 0) * 1024 + j.val) / 128 % 8) * 128 + ((b.val * 1 + 0) * 1024 + j.val) % 128) / 1024 % 8192 = (256 * b.val + r.val) % 8192
    rw [h0, h1, h2, h3]; omega
  | ⟨2, _⟩ =>
    show ((((((b.val * 1 + 0) * 1024 + j.val) / 32768 * 32 + ((b.val * 1 + 0) * 1024 + j.val) / 1024 % 32) * 256 + r.val) * 8 + ((b.val * 1 + 0) * 1024 + j.val) / 128 % 8) * 128 + ((b.val * 1 + 0) * 1024 + j.val) % 128) / 128 % 8 = j.val / 128
    rw [h0, h1, h2, h3]; omega
  | ⟨3, _⟩ =>
    show ((((((b.val * 1 + 0) * 1024 + j.val) / 32768 * 32 + ((b.val * 1 + 0) * 1024 + j.val) / 1024 % 32) * 256 + r.val) * 8 + ((b.val * 1 + 0) * 1024 + j.val) / 128 % 8) * 128 + ((b.val * 1 + 0) * 1024 + j.val) % 128) % 128 = j.val % 128
    rw [h0, h1, h2, h3]; omega

end Cert.Proof.ProjRef

end
-- ==== Proof.ProjRun.lean ====
/-
  The arrays that the prompt's projection leaves: the nine results of the call, and what the host makes of three of them
  after it, the keys and the values split into heads and the last fifteen rows of the pooled channel.
-/
module

public import proofs.«01_k».proof.Proof.ProjArray
public import Idealize.ShloMosaic.Lib.StableHlo.Run
public import Idealize.ShloMosaic.Lib.Pipeline.FrameSuffix

@[expose] public section

noncomputable section

namespace Cert.Proof.Proj

open Cert.ProjIdeal Cert.ProjIdeal.Gen Idealize.ShloMosaic Idealize.ShloMosaic.TcCoe Idealize.ShloMosaic.ValueIdx Idealize.SL.Sem
open Idealize.ShloMosaic.StableHlo Cert.Proof.Projection

variable (m : (ℓ : Loc nD τ sig) → Buf (Elt Ideal) ℓ) (c : Dev nD)

/-- The rows of the two prompts, each split into its eight heads. -/
def heads (a : FVec Ideal S16384x1024 .f32) : FVec Ideal S1x2x8192x8x128 .f32 :=
  broadcastInDim S1x2x8192x8x128 ![1, 2, 3, 4] bcast_S2x8192x8x128_S1x2x8192x8x128_1_2_3_4
    (shapeCast S2x8192x8x128 a shapeCasts_S16384x1024_S2x8192x8x128)

/-- The last fifteen rows of each prompt's channel. -/
def lastRows (u : FVec Ideal S2x8192x512 .f32) : FVec Ideal S1x2x15x512 .f32 :=
  broadcastInDim S1x2x15x512 ![1, 2, 3] bcast_S2x15x512_S1x2x15x512_1_2_3
    (extractStridedSlice S2x15x512 ![0, 8177, 0] u slices_S2x8192x512_S2x15x512_0_8177_0)

/-- The channel's rows, a prompt's rows together. -/
def prompts (u : FVec Ideal S16384x512 .f32) : FVec Ideal S2x8192x512 .f32 := shapeCast S2x8192x512 u shapeCasts_S16384x512_S2x8192x512

section Host
variable (W : Valuation τ sig (Elt Ideal))

/-! The host operations after the call, from any contents. -/

theorem later_keys : after (List.flatten [hostOps1]) W (Proc.devRef .tc main_v23) = heads (W (Proc.devRef .tc main_v21_2)) := by
  simp only [hostOps1, List.flatten_cons, List.flatten_nil, List.append_nil, List.cons_append, List.nil_append]
  after_results <;> rfl

theorem later_values : after (List.flatten [hostOps1]) W (Proc.devRef .tc main_v25) = heads (W (Proc.devRef .tc main_v21_4)) := by
  simp only [hostOps1, List.flatten_cons, List.flatten_nil, List.append_nil, List.cons_append, List.nil_append]
  after_results <;> rfl

theorem later_rows : after (List.flatten [hostOps1]) W (Proc.devRef .tc main_v28) = lastRows (prompts (W (Proc.devRef .tc main_v21_0))) := by
  simp only [hostOps1, List.flatten_cons, List.flatten_nil, List.append_nil, List.cons_append, List.nil_append]
  after_results <;> rfl

end Host

/-! The contents of the call's arrays when the call is left. -/

theorem exit_u : Pipeline.withArrays spec0 c (V0 m c) (fun w => (dats m 0 c).arrAt w cfg0.N) (Proc.devRef .tc main_v21_0)
    = (part512 (m ((c.tc : Thread nD τ).loc main_arg0)) (m ((c.tc : Thread nD τ).loc main_arg1)) 0 (by omega) : S16384x512.Idx → EReal) :=
  (Pipeline.withArrays_arr spec0 launch0.win.arr_inj c (V0 m c) _ 4).trans (final_u m c)

theorem exit_k : Pipeline.withArrays spec0 c (V0 m c) (fun w => (dats m 0 c).arrAt w cfg0.N) (Proc.devRef .tc main_v21_2)
    = (keys (m ((c.tc : Thread nD τ).loc main_arg0)) (m ((c.tc : Thread nD τ).loc main_arg1)) : S16384x1024.Idx → EReal) :=
  (Pipeline.withArrays_arr spec0 launch0.win.arr_inj c (V0 m c) _ 6).trans (final_k m c)

theorem exit_v : Pipeline.withArrays spec0 c (V0 m c) (fun w => (dats m 0 c).arrAt w cfg0.N) (Proc.devRef .tc main_v21_4)
    = (part1024 (m ((c.tc : Thread nD τ).loc main_arg0)) (m ((c.tc : Thread nD τ).loc main_arg1)) 2560 (by omega) : S16384x1024.Idx → EReal) :=
  (Pipeline.withArrays_arr spec0 launch0.win.arr_inj c (V0 m c) _ 8).trans (final_v m c)

theorem final_keys : Pipeline.afterTail₀ cfgs (dats m) 0 (V0 m) [hostOps1] c main_v23
    = heads (keys (m ((c.tc : Thread nD τ).loc main_arg0)) (m ((c.tc : Thread nD τ).loc main_arg1))) := by
  refine (later_keys _).trans ?_
  rw [exit_k]

theorem final_values : Pipeline.afterTail₀ cfgs (dats m) 0 (V0 m) [hostOps1] c main_v25
    = heads (part1024 (m ((c.tc : Thread nD τ).loc main_arg0)) (m ((c.tc : Thread nD τ).loc main_arg1)) 2560 (by omega)) := by
  refine (later_values _).trans ?_
  rw [exit_v]

theorem final_rows : Pipeline.afterTail₀ cfgs (dats m) 0 (V0 m) [hostOps1] c main_v28
    = lastRows (prompts (part512 (m ((c.tc : Thread nD τ).loc main_arg0)) (m ((c.tc : Thread nD τ).loc main_arg1)) 0 (by omega))) := by
  refine (later_rows _).trans ?_
  rw [exit_u]

abbrev Post (r : PUnit × MemSt nD τ sig (Elt Ideal)) : Prop :=
  Pipeline.FramePost cfgs (dats m) 0 (Pipeline.afterTail₀ cfgs (dats m) 0 (V0 m) [hostOps1]) r

variable (r : PUnit × MemSt nD τ sig (Elt Ideal))

theorem post_u (h : Post m r) : r.2.mem ((c.tc : Thread nD τ).loc main_v21_0) = (dats m 0 c).arrAt 4 cfg0.N := (h c).1 4
theorem post_q (h : Post m r) : r.2.mem ((c.tc : Thread nD τ).loc main_v21_1) = (dats m 0 c).arrAt 5 cfg0.N := (h c).1 5
theorem post_k (h : Post m r) : r.2.mem ((c.tc : Thread nD τ).loc main_v21_2) = (dats m 0 c).arrAt 6 cfg0.N := (h c).1 6
theorem post_kb (h : Post m r) : r.2.mem ((c.tc : Thread nD τ).loc main_v21_3) = (dats m 0 c).arrAt 7 cfg0.N := (h c).1 7
theorem post_v (h : Post m r) : r.2.mem ((c.tc : Thread nD τ).loc main_v21_4) = (dats m 0 c).arrAt 8 cfg0.N := (h c).1 8
theorem post_vb (h : Post m r) : r.2.mem ((c.tc : Thread nD τ).loc main_v21_5) = (dats m 0 c).arrAt 9 cfg0.N := (h c).1 9
theorem post_ga (h : Post m r) : r.2.mem ((c.tc : Thread nD τ).loc main_v21_6) = (dats m 0 c).arrAt 10 cfg0.N := (h c).1 10
theorem post_gb (h : Post m r) : r.2.mem ((c.tc : Thread nD τ).loc main_v21_7) = (dats m 0 c).arrAt 11 cfg0.N := (h c).1 11
theorem post_km (h : Post m r) : r.2.mem ((c.tc : Thread nD τ).loc main_v21_8) = (dats m 0 c).arrAt 12 cfg0.N := (h c).1 12

theorem post_keys (h : Post m r) : r.2.mem ((c.tc : Thread nD τ).loc main_v23)
    = heads (keys (m ((c.tc : Thread nD τ).loc main_arg0)) (m ((c.tc : Thread nD τ).loc main_arg1))) :=
  ((h c).2 main_v23 (Pipeline.mem_restRefs_of main_v23 (by decide) (by decide))).trans (final_keys m c)

theorem post_values (h : Post m r) : r.2.mem ((c.tc : Thread nD τ).loc main_v25)
    = heads (part1024 (m ((c.tc : Thread nD τ).loc main_arg0)) (m ((c.tc : Thread nD τ).loc main_arg1)) 2560 (by omega)) :=
  ((h c).2 main_v25 (Pipeline.mem_restRefs_of main_v25 (by decide) (by decide))).trans (final_values m c)

theorem post_rows (h : Post m r) : r.2.mem ((c.tc : Thread nD τ).loc main_v28)
    = lastRows (prompts (part512 (m ((c.tc : Thread nD τ).loc main_arg0)) (m ((c.tc : Thread nD τ).loc main_arg1)) 0 (by omega))) :=
  ((h c).2 main_v28 (Pipeline.mem_restRefs_of main_v28 (by decide) (by decide))).trans (final_rows m c)

theorem post_arg0 (h : Post m r) : r.2.mem ((c.tc : Thread nD τ).loc main_arg0) = m ((c.tc : Thread nD τ).loc main_arg0) :=
  ((h c).2 main_arg0 (Pipeline.mem_restRefs_of main_arg0 (by decide) (by decide))).trans (W_main_arg0 m (dats m) c)
theorem post_arg1 (h : Post m r) : r.2.mem ((c.tc : Thread nD τ).loc main_arg1) = m ((c.tc : Thread nD τ).loc main_arg1) :=
  ((h c).2 main_arg1 (Pipeline.mem_restRefs_of main_arg1 (by decide) (by decide))).trans (W_main_arg1 m (dats m) c)

end Cert.Proof.Proj

end
-- ==== Proof.ProjEquation.lean ====
/-
  The projection kernel and its reference end with the same twelve arrays, from memories that agree on the arguments.
-/
module

public import proofs.«01_k».proof.Defs
public import proofs.«01_k».proof.Proof.ProjArray
public import proofs.«01_k».proof.Proof.ProjRef
public import proofs.«01_k».proof.Proof.ProjRun
public import Idealize.ShloMosaic.Lib.Pointwise.Reshape
public import proofs.«01_k».proof.Proof.Gen.ProjRefIdeal

@[expose] public section

noncomputable section

namespace Cert.Proof

open Idealize.ShloMosaic Idealize.ShloMosaic.TcCoe Idealize.SL.Sem Projection

/-- The keys, split into heads. -/
theorem ProjRef.heads_keys (x : (⟨3, ![2, 8192, 1024]⟩ : Shape).Idx → EReal) (w : (⟨3, ![1, 1024, 5632]⟩ : Shape).Idx → EReal) :
    Cert.ProjRefIdeal.Read.val_main_v85 (F := Ideal) x w = Proj.heads (keys x w) := by
  rw [← ProjRef.k_eq]
  unfold Proj.heads Cert.ProjRefIdeal.Read.val_main_v73
  rw [shapeCast_shapeCast]
  rfl

/-- The values, split into heads. -/
theorem ProjRef.heads_values (x : (⟨3, ![2, 8192, 1024]⟩ : Shape).Idx → EReal) (w : (⟨3, ![1, 1024, 5632]⟩ : Shape).Idx → EReal) :
    Cert.ProjRefIdeal.Read.val_main_v87 (F := Ideal) x w = Proj.heads (part1024 x w 2560 (by omega)) := by
  rw [← ProjRef.v_eq]
  unfold Proj.heads Cert.ProjRefIdeal.Read.val_main_v74
  rw [shapeCast_comp]
  rfl

/-- The last fifteen rows of each prompt's channel. -/
theorem ProjRef.rows_eq (x : (⟨3, ![2, 8192, 1024]⟩ : Shape).Idx → EReal) (w : (⟨3, ![1, 1024, 5632]⟩ : Shape).Idx → EReal) :
    Cert.ProjRefIdeal.Read.val_main_v89 (F := Ideal) x w = Proj.lastRows (Proj.prompts (part512 x w 0 (by omega))) := by
  rw [← ProjRef.u_eq]
  unfold Proj.prompts Cert.ProjRefIdeal.Read.val_main_v75
  rw [shapeCast_shapeCast]
  rfl

theorem algebraic_proj : algebraic_ProjIdeal_ProjRefIdeal (hProjIdeal := Cert.ProjIdeal.Gen.facts) (hProjRefIdeal := Cert.ProjRefIdeal.Gen.facts) := by
  intro m ρ m' ρ' _ hargs
  refine ⟨fun c => part512 (m ((c.tc : Thread _ _).loc Cert.ProjIdeal.main_arg0)) (m ((c.tc : Thread _ _).loc Cert.ProjIdeal.main_arg1)) 0 (by omega),
    fun c => queries (m ((c.tc : Thread _ _).loc Cert.ProjIdeal.main_arg0)) (m ((c.tc : Thread _ _).loc Cert.ProjIdeal.main_arg1)),
    fun c => keys (m ((c.tc : Thread _ _).loc Cert.ProjIdeal.main_arg0)) (m ((c.tc : Thread _ _).loc Cert.ProjIdeal.main_arg1)),
    fun c => keys (m ((c.tc : Thread _ _).loc Cert.ProjIdeal.main_arg0)) (m ((c.tc : Thread _ _).loc Cert.ProjIdeal.main_arg1)),
    fun c => part1024 (m ((c.tc : Thread _ _).loc Cert.ProjIdeal.main_arg0)) (m ((c.tc : Thread _ _).loc Cert.ProjIdeal.main_arg1)) 2560 (by omega),
    fun c => part1024 (m ((c.tc : Thread _ _).loc Cert.ProjIdeal.main_arg0)) (m ((c.tc : Thread _ _).loc Cert.ProjIdeal.main_arg1)) 2560 (by omega),
    fun c => part1024 (m ((c.tc : Thread _ _).loc Cert.ProjIdeal.main_arg0)) (m ((c.tc : Thread _ _).loc Cert.ProjIdeal.main_arg1)) 3584 (by omega),
    fun c => part1024 (m ((c.tc : Thread _ _).loc Cert.ProjIdeal.main_arg0)) (m ((c.tc : Thread _ _).loc Cert.ProjIdeal.main_arg1)) 4608 (by omega),
    fun c => blockMeans (m ((c.tc : Thread _ _).loc Cert.ProjIdeal.main_arg0)) (m ((c.tc : Thread _ _).loc Cert.ProjIdeal.main_arg1)),
    fun c => Proj.heads (keys (m ((c.tc : Thread _ _).loc Cert.ProjIdeal.main_arg0)) (m ((c.tc : Thread _ _).loc Cert.ProjIdeal.main_arg1))),
    fun c => Proj.heads (part1024 (m ((c.tc : Thread _ _).loc Cert.ProjIdeal.main_arg0)) (m ((c.tc : Thread _ _).loc Cert.ProjIdeal.main_arg1)) 2560 (by omega)),
    fun c => Proj.lastRows (Proj.prompts (part512 (m ((c.tc : Thread _ _).loc Cert.ProjIdeal.main_arg0)) (m ((c.tc : Thread _ _).loc Cert.ProjIdeal.main_arg1)) 0 (by omega))), ?_, ?_⟩
  · refine (θ_run _ _ _).mono (fun r h c => ?_) (Cert.ProjIdeal.Gen.run_main (F := Ideal) m ρ)
    exact ⟨(Proj.post_u m c r h).trans (Proj.final_u m c), (Proj.post_q m c r h).trans (Proj.final_q m c),
      (Proj.post_k m c r h).trans (Proj.final_k m c), (Proj.post_kb m c r h).trans (Proj.final_kb m c),
      (Proj.post_v m c r h).trans (Proj.final_v m c), (Proj.post_vb m c r h).trans (Proj.final_vb m c),
      (Proj.post_ga m c r h).trans (Proj.final_ga m c), (Proj.post_gb m c r h).trans (Proj.final_gb m c),
      (Proj.post_km m c r h).trans (Proj.final_km m c),
      Proj.post_keys m c r h, Proj.post_values m c r h, Proj.post_rows m c r h, Proj.post_arg0 m c r h, Proj.post_arg1 m c r h⟩
  · refine (θ_run _ _ _).mono (fun r h c => ?_) (Cert.ProjRefIdeal.Value.run (F := Ideal) m' ρ')
    obtain ⟨e0, e1⟩ := hargs c
    obtain ⟨h0, h1, h2, h3, h4, h5, h6, h7, h8, h9, h10, h11, h12⟩ := h c
    refine ⟨h0.trans ?_, h1.trans ?_, h2.trans ?_, h3.trans ?_, h4.trans ?_, h5.trans ?_, h6.trans ?_, h7.trans ?_, h8.trans ?_, h9.trans ?_,
      h10.trans ?_, h11.trans ?_, h12⟩
    · rw [Cert.ProjRefIdeal.Read.val_main_v75_eq, e0, e1]; exact ProjRef.u_eq _ _
    · rw [Cert.ProjRefIdeal.Read.val_main_v79_eq, e0, e1]; exact ProjRef.q_eq _ _
    · rw [Cert.ProjRefIdeal.Read.val_main_v73_eq, e0, e1]; exact ProjRef.k_eq _ _
    · rw [Cert.ProjRefIdeal.Read.val_main_v80_eq, e0, e1]; exact ProjRef.kb_eq _ _
    · rw [Cert.ProjRefIdeal.Read.val_main_v74_eq, e0, e1]; exact ProjRef.v_eq _ _
    · rw [Cert.ProjRefIdeal.Read.val_main_v81_eq, e0, e1]; exact ProjRef.vb_eq _ _
    · rw [Cert.ProjRefIdeal.Read.val_main_v82_eq, e0, e1]; exact ProjRef.ga_eq _ _
    · rw [Cert.ProjRefIdeal.Read.val_main_v83_eq, e0, e1]; exact ProjRef.gb_eq _ _
    · rw [Cert.ProjRefIdeal.Read.val_main_v84_eq, e0, e1]; exact ProjRef.mean_eq _ _
    · rw [Cert.ProjRefIdeal.Read.val_main_v85_eq, e0, e1]; exact ProjRef.heads_keys _ _
    · refine (Cert.ProjRefIdeal.Read.val_main_v87_eq (F := Ideal) (m' ((c.tc : Thread _ _).loc Cert.ProjRefIdeal.main_arg0)) (m' ((c.tc : Thread _ _).loc Cert.ProjRefIdeal.main_arg1))).trans ?_
      rw [e0, e1]
      exact ProjRef.heads_values _ _
    · refine (Cert.ProjRefIdeal.Read.val_main_v89_eq (F := Ideal) (m' ((c.tc : Thread _ _).loc Cert.ProjRefIdeal.main_arg0)) (m' ((c.tc : Thread _ _).loc Cert.ProjRefIdeal.main_arg1))).trans ?_
      rw [e0, e1]
      exact ProjRef.rows_eq _ _

end Cert.Proof

end
-- ==== Proof.PoolRows.lean ====
/-
  What the pooling mixer computes of one position, as a function of plain indices over the extended reals: the sum of the
  last few entries of a channel, their mean less the position's own entry, the mixing of a group's channels. And the step
  from running sums to such a sum: where the entries are finite, the difference of two running sums is the sum between.
-/
module

public import proofs.«01_k».proof.Proof.Rows

@[expose] public section

noncomputable section

namespace Cert.Proof.Pool

open Idealize.ShloMosaic Idealize.ShloMosaic.ValueIdx Cert.Proof.Rows
open scoped BigOperators

abbrev Seqs : Shape := ⟨3, ![2, 8192, 512]⟩
abbrev Mixers : Shape := ⟨4, ![1, 4, 128, 128]⟩
abbrev Scales : Shape := ⟨2, ![1, 512]⟩

/-- A channel of a sequence with sixteen zeros before it. -/
def ext (u : Seqs.Idx → EReal) (b : Fin 2) (e : Fin 512) (n : ℕ) : EReal :=
  if h : 16 ≤ n ∧ n < 8208 then u (ix3 b ⟨n - 16, by omega⟩ e) else 0

/-- The sum of the `W` entries that end at entry `n`. -/
def window (f : ℕ → EReal) (W n : ℕ) : EReal := ∑ j ∈ Finset.range W, f (n - j)

/-- How many of the last `w` positions there are at position `t`. -/
def count (w : BitVec 32) (t : ℕ) : EReal :=
  FloatOps.sitofp (F := Ideal) .f32 (if (BitVec.ofNat 32 (t + 1)).slt w then BitVec.ofNat 32 (t + 1) else w)

/-- The mean of the window that ends at entry `16 + r`, less that entry, at position `t`. -/
def pooledAt (f : ℕ → EReal) (W : ℕ) (w : BitVec 32) (r t : ℕ) : EReal :=
  Ideal.div (window f W (16 + r)) (count w t) - f (16 + r)

/-- Channel `c` of group `g`. -/
abbrev chan (g : Fin 4) (c : Fin 128) : Fin 512 := ⟨128 * g.val + c.val, by omega⟩

/-- The group of a channel, -/
abbrev groupOf (e : Fin 512) : Fin 4 := ⟨e.val / 128, by omega⟩
/-- and its place in the group. -/
abbrev placeOf (e : Fin 512) : Fin 128 := ⟨e.val % 128, by omega⟩

theorem chan_eq (e : Fin 512) : chan (groupOf e) (placeOf e) = e := Fin.ext (by show 128 * (e.val / 128) + e.val % 128 = e.val; omega)

/-- The width of a group's window. -/
abbrev width (g : Fin 4) : ℕ := ![2, 4, 8, 16] g
/-- and as a word. -/
abbrev widthWord (g : Fin 4) : BitVec 32 := ![2#32, 4#32, 8#32, 16#32] g

/-- What the mixer leaves at position `t`, in channel `d` of group `g`. -/
def mixed (u : Seqs.Idx → EReal) (w : Mixers.Idx → EReal) (s : Scales.Idx → EReal) (b : Fin 2) (t : ℕ) (g : Fin 4)
    (d : Fin 128) : EReal :=
  rowMul (fun c => pooledAt (ext u b (chan g c)) (width g) (widthWord g) t t) (fun c d => w (ix4 0 g c d)) d * s (ix2 0 (chan g d))

/-! ### Running sums -/

/-- A sum of finite entries is finite: the sum of their real parts. -/
theorem sum_coe {ι : Type} (s : Finset ι) (g : ι → ℝ) : (∑ i ∈ s, (g i : EReal)) = ((∑ i ∈ s, g i : ℝ) : EReal) := by
  classical
  induction s using Finset.induction with
  | empty => simp
  | insert a s ha ih => rw [Finset.sum_insert ha, Finset.sum_insert ha, ih, EReal.coe_add]

/-- Where the entries are finite, the difference of two running sums is the sum of the window between. -/
theorem sub_runs (f : ℕ → EReal) (hf : ∀ n, f n ≠ ⊤ ∧ f n ≠ ⊥) (W n : ℕ) (h : W ≤ n) :
    (∑ p ∈ Finset.range n, f (p + 1)) - (∑ p ∈ Finset.range (n - W), f (p + 1)) = window f W n := by
  obtain ⟨g, rfl⟩ : ∃ g : ℕ → ℝ, f = fun n => (g n : EReal) :=
    ⟨fun n => (f n).toReal, funext fun n => (EReal.coe_toReal (hf n).1 (hf n).2).symm⟩
  unfold window
  rw [sum_coe, sum_coe, sum_coe, ← EReal.coe_sub]
  congr 1
  rw [sub_eq_iff_eq_add, add_comm]
  obtain ⟨k, rfl⟩ : ∃ k, n = k + W := ⟨n - W, by omega⟩
  rw [Nat.add_sub_cancel, Finset.sum_range_add, ← Finset.sum_range_reflect (fun j => g (k + j + 1))]
  refine congrArg _ (Finset.sum_congr rfl fun j hj => congrArg g ?_)
  have := Finset.mem_range.mp hj
  omega

theorem ext_finite (u : Seqs.Idx → EReal) (hu : ∀ i, u i ≠ ⊤ ∧ u i ≠ ⊥) (b : Fin 2) (e : Fin 512) (n : ℕ) :
    ext u b e n ≠ ⊤ ∧ ext u b e n ≠ ⊥ := by
  unfold ext
  split
  · exact hu _
  · exact ⟨EReal.zero_ne_top, EReal.zero_ne_bot⟩

/-! ### The window's sums -/

/-- One more entry. -/
theorem sum_step {f : ℕ → EReal} {r W a : ℕ} {x y : EReal} (hx : x = window f W (16 + r)) (hy : y = f (a + r)) (h : a + W = 16) :
    FloatOps.addf (F := Ideal) (φ := .f32) x y = window f (W + 1) (16 + r) := by
  unfold window
  rw [Finset.sum_range_succ, show 16 + r - W = a + r by omega, ← hy]
  exact congrArg (· + y) hx

/-- The first. -/
theorem sum_one {f : ℕ → EReal} {r : ℕ} {x : EReal} (hx : x = f (16 + r)) : x = window f 1 (16 + r) := by
  rw [hx]; unfold window; rw [Finset.sum_range_one]; rfl

end Cert.Proof.Pool

end
-- ==== Proof.PoolBlock.lean ====
/-
  The pooling mixer's block, read at an index: the scratch buffer holds the sixteen rows before the tile and the tile; a
  group's rows are the window's mean less the row itself, mixed and scaled.
-/
module

public import proofs.«01_k».proof.Proof.PoolRows
public import proofs.«01_k».proof.Proof.Reshapes
public import proofs.«01_k».proof.Proof.Gen.PoolIdeal.Frame
public import Idealize.ShloMosaic.Lib.Pipeline.Value
public import Idealize.ShloMosaic.Lib.ValueIdx
public import Idealize.ShloMosaic.Lib.WholeRead
public import Idealize.ShloMosaic.Lib.Pointwise.ElementwiseCore

@[expose] public section

set_option maxRecDepth 16384

noncomputable section

namespace Cert.Proof.Pool

open Cert.PoolIdeal Cert.PoolIdeal.Gen Idealize.ShloMosaic Idealize.ShloMosaic.ValueIdx Cert.Proof.Rows
open scoped BigOperators

/-! ### The scratch buffer -/

/-- The scratch buffer's entry in row `p`, channel `e`: the sixteen rows before the tile (none before the first), then
    the tile. -/
def scratch (i : grid0.Coords) (x0 : FVec Ideal S1x512x512 .f32) (x1 : FVec Ideal S1x16x512 .f32) (e : Fin 512)
    (p : ℕ) : EReal :=
  if h : p < 16 then (if (i 1).val = 0 then 0 else x1 (ix3 0 ⟨p, h⟩ e))
  else if h' : p < 528 then x0 (ix3 0 ⟨p - 16, by omega⟩ e) else 0

variable (c : Dev nD) (i : grid0.Coords) (arg2 : Memref sig .tc .vmem S1x512x512 .f32) (harg2 : arg2.IsWhole)
    (arg3 : Memref sig .tc .vmem S1x16x512 .f32) (harg3 : arg3.IsWhole) (arg4 : Memref sig .tc .vmem S4x128x128 .bf16)
    (harg4 : arg4.IsWhole) (arg5 : Memref sig .tc .vmem S1x512 .f32) (harg5 : arg5.IsWhole)
    (arg6 : Memref sig .tc .vmem S1x512x512 .bf16) (harg6 : arg6.IsWhole) (arg7 : Memref sig .tc .vmem S528x512 .f32)
    (harg7 : arg7.IsWhole) (x0 : FVec Ideal S1x512x512 .f32) (x1 : FVec Ideal S1x16x512 .f32)
    (x2 : FVec Ideal S4x128x128 .bf16) (x3 : FVec Ideal S1x512 .f32)

theorem first_iff : Scalar.cmpi .eq (BitVec.ofNat 32 (i 1).val) 0#32 = if (i 1).val = 0 then 1#1 else 0#1 := by
  have h : (i 1).val < 16 := (i 1).isLt
  generalize (i 1).val = n at h ⊢
  interval_cases n <;> decide

theorem halo_apply (v : FVec Ideal S1x16x512 .f32) (p : Fin 16) (e : Fin 512) :
    k0_pay2 (F := Ideal) i v (ix2 p e) = if (i 1).val = 0 then (0 : EReal) else v (ix3 0 p e) := by
  unfold k0_pay2
  refine (shapeCast_apply _ _ (ix2 p e) (ix2 p e) rfl).trans ?_
  rw [first_iff]
  split
  · exact Ideal.ofBits_zero_f32
  · exact drop3_apply v _ p e

theorem tile_apply (v : FVec Ideal S1x512x512 .f32) (p : Fin 512) (e : Fin 512) :
    k0_pay3 (F := Ideal) v (ix2 p e) = v (ix3 0 p e) := by
  unfold k0_pay3
  refine (shapeCast_apply _ _ (ix2 p e) (ix2 p e) rfl).trans ?_
  exact drop3_apply v _ p e

theorem canon_scratch (inb inb') (v : FVec Ideal S1x512x512 .f32) (v' : FVec Ideal S1x16x512 .f32)
    (hv : v = x0) (hv' : v' = x1) (p : Fin 528) (e : Fin 512) :
    View.canon (Val := Elt Ideal) (s := S528x512) (e := .f32)
      [⟨Rect.unit ![16, 0] S512x512.size inb, k0_pay3 (F := Ideal) v⟩, ⟨Rect.unit ![0, 0] S16x512.size inb', k0_pay2 (F := Ideal) i v'⟩]
      (ix2 p e) = scratch i x0 x1 e p.val := by
  subst hv hv'
  unfold scratch
  split
  · rename_i h
    refine (View.canon_cons_of_not_mem _ _ fun hm => ?_).trans ?_
    · have h1 : 16 ≤ p.val ∧ p.val < 16 + 512 := (Rect.mem_set_unit (inb := inb)).mp hm 0
      omega
    · have e1 : (Rect.unit (s := S528x512) ![0, 0] S16x512.size inb').emb (ix2 ⟨p.val, h⟩ e) = ix2 p e :=
        funext fun a => Fin.ext (match a with
          | ⟨0, _⟩ => (Nat.zero_add _).trans (Nat.one_mul _)
          | ⟨1, _⟩ => (Nat.zero_add _).trans (Nat.one_mul _))
      rw [← e1]
      exact (View.canon_cons_emb _ _ [] _).trans (halo_apply i v' ⟨p.val, h⟩ e)
  · rename_i h
    rw [dif_pos p.isLt]
    have e1 : (Rect.unit (s := S528x512) ![16, 0] S512x512.size inb).emb (ix2 ⟨p.val - 16, by omega⟩ e) = ix2 p e :=
      funext fun a => Fin.ext (match a with
        | ⟨0, _⟩ => by show 16 + 1 * (p.val - 16) = p.val; omega
        | ⟨1, _⟩ => (Nat.zero_add _).trans (Nat.one_mul _))
    rw [← e1]
    exact (View.canon_cons_emb _ _ _ _).trans (tile_apply v ⟨p.val - 16, by omega⟩ e)

theorem read_tile (inb) : arg2.view.readAt (Elt Ideal) (Rect.unit (s := S1x512x512) ![0, 0, 0] S1x512x512.size inb).toLoadRect (harg2.unread x0) = x0 := by
  funext y
  rw [harg2.readAt_unread]
  exact congrArg x0 (funext fun a => Fin.ext (match a with
    | ⟨0, _⟩ => (Nat.zero_add _).trans (Nat.one_mul _)
    | ⟨1, _⟩ => (Nat.zero_add _).trans (Nat.one_mul _)
    | ⟨2, _⟩ => (Nat.zero_add _).trans (Nat.one_mul _)))

theorem read_halo (inb) : arg3.view.readAt (Elt Ideal) (Rect.unit (s := S1x16x512) ![0, 0, 0] S1x16x512.size inb).toLoadRect (harg3.unread x1) = x1 := by
  funext y
  rw [harg3.readAt_unread]
  exact congrArg x1 (funext fun a => Fin.ext (match a with
    | ⟨0, _⟩ => (Nat.zero_add _).trans (Nat.one_mul _)
    | ⟨1, _⟩ => (Nat.zero_add _).trans (Nat.one_mul _)
    | ⟨2, _⟩ => (Nat.zero_add _).trans (Nat.one_mul _)))

theorem load_apply (a b : ℕ) (inb : ∀ k, (![a, b] : Fin 2 → ℕ) k + S512x128.size k ≤ S528x512.size k) (ha : a ≤ 16) (hb : b ≤ 384)
    (r : Fin 512) (e : Fin 128) :
    arg7.view.readCov (kernelRun0_A.sl.HS0_2 (F := Ideal) c i arg2 harg2 arg3 harg3 x0 x1)
      (Rect.unit (s := S528x512) ![a, b] S512x128.size inb).toLoadRect (ix2 r e)
      = scratch i x0 x1 ⟨b + e.val, by omega⟩ (a + r.val) := by
  rw [View.readCov_eq_canon']
  unfold kernelRun0_A.sl.HS0_2
  refine Eq.trans (congrArg _ ?_) (canon_scratch i x0 x1 _ _ _ _ (read_tile arg2 harg2 x0 _) (read_halo arg3 harg3 x1 _) ⟨a + r.val, by omega⟩ ⟨b + e.val, by omega⟩)
  exact funext fun k => Fin.ext (match k with
    | ⟨0, _⟩ => congrArg (a + ·) (Nat.one_mul _)
    | ⟨1, _⟩ => congrArg (b + ·) (Nat.one_mul _))

/-! ### A group -/

/-- The position of a row of the tile, -/
theorem pos_apply (r : Fin 512) : k0_pay4 i (ix2 r 0) = BitVec.ofNat 32 (512 * (i 1).val + r.val) := by
  unfold k0_pay4
  rw [addi_apply]
  refine (congrArg₂ (· + ·) (show _ = BitVec.ofNat 32 (i 1).val * 512#32 from rfl) (show _ = BitVec.ofNat 32 r.val from ?_)).trans ?_
  · exact iota_single_apply _ _ _ _ _ _
  · rw [Nat.mul_comm, BitVec.ofNat_add, BitVec.ofNat_mul]

/-- A group's rows from the window's sums, the rows themselves, the mixer and the scale. -/
def group (w : BitVec 32) (p : IVec S512x1 32) (S z : FVec Ideal S512x128 .f32) (W : FVec Ideal S1x128x128 .bf16)
    (g : FVec Ideal S1x128 .f32) : FVec Ideal S1x512x128 .bf16 :=
  shapeCast S1x512x128 (truncf .bf16 (mulf (matmul dot_S512x128_S128x128_S512x128_1_0_0_1_n_n none
    (truncf .bf16 (subf (divf S (broadcastTo S512x128 (sitofp .f32 (minsi (addi p (broadcast S512x1 1#32)) (broadcast S512x1 w)))
      broadcasts_S512x1_S512x128)) z) bitsLt_bf16_f32) (shapeCast S128x128 W shapeCasts_S1x128x128_S128x128)
    (constant S512x128 .f32 0x00000000#32)) (broadcastTo S512x128 (shapeCast S1x128 g shapeCasts_S1x128_S1x128)
      broadcasts_S1x128_S512x128)) bitsLt_bf16_f32) shapeCasts_S512x128_S1x512x128

theorem group_apply (w : BitVec 32) (p : IVec S512x1 32) (S z : FVec Ideal S512x128 .f32) (W : FVec Ideal S1x128x128 .bf16)
    (g : FVec Ideal S1x128 .f32) (r : Fin 512) (d : Fin 128) (t : ℕ) (ht : p (ix2 r 0) = BitVec.ofNat 32 t) :
    group w p S z W g (ix3 0 r d)
      = rowMul (fun k => Ideal.div (S (ix2 r k)) (count w t) - z (ix2 r k)) (fun k d => W (ix3 0 k d)) d * g (ix2 0 d) := by
  unfold group
  refine (shapeCast_apply _ _ (ix3 0 r d) (ix2 r d) (by
    rw [Shape.rowMajor_val_three, Shape.rowMajor_val_two]
    show r.val * 128 + d.val = (0 * 512 + r.val) * 128 + d.val
    omega)).trans ?_
  refine congrArg₂ (fun x y : EReal => x * y) ?_ ?_
  · refine (matmul_rows dot_S512x128_S128x128_S512x128_1_0_0_1_n_n rfl none _ _ r d).trans ?_
    refine congrArg₂ (fun x y => rowMul x y d) (funext fun k => ?_) (funext fun k => funext fun j => drop3_apply W _ k j)
    refine congrArg (fun n => Ideal.div (S (ix2 r k)) n - z (ix2 r k)) ?_
    refine (broadcastTo_apply _ broadcasts_S512x1_S512x128 (ix2 r k) (ix2 r 0) (fun a => match a with
      | ⟨0, _⟩ => rfl
      | ⟨1, _⟩ => rfl)).trans ?_
    unfold count
    refine congrArg (FloatOps.sitofp (F := Ideal) .f32) ?_
    show (if (p (ix2 r 0) + 1#32).slt w then p (ix2 r 0) + 1#32 else w) = _
    rw [ht, ← BitVec.ofNat_add]
  · refine (broadcastTo_apply _ broadcasts_S1x128_S512x128 (ix2 r d) (ix2 0 d) (fun a => match a with
      | ⟨0, _⟩ => rfl
      | ⟨1, _⟩ => rfl)).trans ?_
    exact shapeCast_apply g _ (ix2 0 d) (ix2 0 d) rfl

/-! ### The block's columns -/

/-- What the column range of a group reads of the writes to it, -/
theorem cols_hit (g : Fin 4) (o : ℕ) (ho : o = 128 * g.val) (inb : ∀ a, (![0, 0, o] : Fin 3 → ℕ) a + (![1, 512, 128] : Fin 3 → ℕ) a ≤ S1x512x512.size a)
    (w : FVec Ideal S1x512x128 .bf16) (L : List (View.Piece (Elt Ideal) S1x512x512 .bf16)) (r : Fin 512) (d : Fin 128) :
    View.canon (Val := Elt Ideal) (e := .bf16) (⟨Rect.unit ![0, 0, o] ![1, 512, 128] inb, w⟩ :: L) (ix3 0 r (chan g d)) = w (ix3 0 r d) := by
  subst ho
  have e : (Rect.unit (s := S1x512x512) ![0, 0, 128 * g.val] ![1, 512, 128] inb).emb (ix3 0 r d) = ix3 0 r (chan g d) :=
    funext fun a => Fin.ext (match a with
      | ⟨0, _⟩ => rfl
      | ⟨1, _⟩ => (Nat.zero_add _).trans (Nat.one_mul _)
      | ⟨2, _⟩ => congrArg (128 * g.val + ·) (Nat.one_mul _))
  rw [← e]
  exact View.canon_cons_emb _ _ L _

/-- and of the writes to another's. -/
theorem cols_miss (g : Fin 4) (o : ℕ) (ho : o + 128 ≤ 128 * g.val ∨ 128 * g.val + 128 ≤ o)
    (inb : ∀ a, (![0, 0, o] : Fin 3 → ℕ) a + (![1, 512, 128] : Fin 3 → ℕ) a ≤ S1x512x512.size a)
    (w : FVec Ideal S1x512x128 .bf16) (L : List (View.Piece (Elt Ideal) S1x512x512 .bf16)) (r : Fin 512) (d : Fin 128) :
    View.canon (Val := Elt Ideal) (e := .bf16) (⟨Rect.unit ![0, 0, o] ![1, 512, 128] inb, w⟩ :: L) (ix3 0 r (chan g d))
      = View.canon L (ix3 0 r (chan g d)) := by
  refine View.canon_cons_of_not_mem _ L fun hm => ?_
  have h1 : o ≤ 128 * g.val + d.val ∧ 128 * g.val + d.val < o + 128 := (Rect.mem_set_unit (inb := inb)).mp hm 2
  omega

theorem read_mixer (g : Fin 4) (a : ℕ) (ha : a = g.val) (inb) (k d : Fin 128) :
    arg4.view.readAt (Elt Ideal) (Rect.unit (s := S4x128x128) ![a, 0, 0] S1x128x128.size inb).toLoadRect (harg4.unread x2) (ix3 0 k d) = x2 (ix3 g k d) := by
  subst ha
  rw [harg4.readAt_unread]
  exact congrArg x2 (funext fun a => Fin.ext (match a with
    | ⟨0, _⟩ => rfl
    | ⟨1, _⟩ => (Nat.zero_add _).trans (Nat.one_mul _)
    | ⟨2, _⟩ => (Nat.zero_add _).trans (Nat.one_mul _)))

theorem read_scale (g : Fin 4) (o : ℕ) (ho : o = 128 * g.val) (inb) (d : Fin 128) :
    arg5.view.readAt (Elt Ideal) (Rect.unit (s := S1x512) ![0, o] S1x128.size inb).toLoadRect (harg5.unread x3) (ix2 0 d) = x3 (ix2 0 (chan g d)) := by
  subst ho
  rw [harg5.readAt_unread]
  exact congrArg x3 (funext fun a => Fin.ext (match a with
    | ⟨0, _⟩ => rfl
    | ⟨1, _⟩ => congrArg (128 * g.val + ·) (Nat.one_mul _)))

/-- A group's rows of the block. -/
def left (g : Fin 4) (r : Fin 512) (d : Fin 128) : EReal :=
  rowMul (fun k => pooledAt (scratch i x0 x1 (chan g k)) (width g) (widthWord g) r (512 * (i 1).val + r.val)) (fun k d => x2 (ix3 g k d)) d
    * x3 (ix2 0 (chan g d))

/-- A group's rows, from what its sums, its own rows, its mixer and its scale are. -/
theorem left_of (g : Fin 4) (w : BitVec 32) (S z : FVec Ideal S512x128 .f32) (W : FVec Ideal S1x128x128 .bf16) (s : FVec Ideal S1x128 .f32)
    (r : Fin 512) (d : Fin 128) (hw : w = widthWord g) (hS : ∀ k, S (ix2 r k) = window (scratch i x0 x1 (chan g k)) (width g) (16 + r.val))
    (hz : ∀ k, z (ix2 r k) = scratch i x0 x1 (chan g k) (16 + r.val)) (hW : ∀ k d, W (ix3 0 k d) = x2 (ix3 g k d))
    (hs : ∀ d, s (ix2 0 d) = x3 (ix2 0 (chan g d))) :
    group w (k0_pay4 i) S z W s (ix3 0 r d) = left i x0 x1 x2 x3 g r d := by
  subst hw
  refine (group_apply _ _ S z W s r d _ (pos_apply i r)).trans ?_
  unfold left pooledAt
  simp only [hS, hz, hW, hs]

theorem piece0 (r : Fin 512) (d : Fin 128) :
    group 2#32 (k0_pay4 i) (addf (kernelRun0_A.sl.v17 (F := Ideal) c i arg2 harg2 arg3 harg3 arg7 x0 x1) (kernelRun0_A.sl.v18 (F := Ideal) c i arg2 harg2 arg3 harg3 arg7 x0 x1)) (kernelRun0_A.sl.v17 (F := Ideal) c i arg2 harg2 arg3 harg3 arg7 x0 x1)
      (arg4.view.readAt (Elt Ideal) (Rect.unit (s := S4x128x128) ![0, 0, 0] S1x128x128.size inb_S4x128x128_S1x128x128_0_0_0).toLoadRect (harg4.unread x2))
      (arg5.view.readAt (Elt Ideal) (Rect.unit (s := S1x512) ![0, 0] S1x128.size inb_S1x512_S1x128_0_0).toLoadRect (harg5.unread x3)) (ix3 0 r d)
      = left i x0 x1 x2 x3 0 r d := by
  have ld := fun (a : ℕ) (inb : ∀ k, (![a, 0] : Fin 2 → ℕ) k + S512x128.size k ≤ S528x512.size k) (ha : a ≤ 16) (k : Fin 128) =>
    load_apply c i arg2 harg2 arg3 harg3 arg7 x0 x1 a 0 inb ha (by omega) r k
  refine left_of i x0 x1 x2 x3 0 2#32 _ _ _ _ r d rfl (fun k => ?_) (fun k => (ld 16 inb_S528x512_S512x128_16_0 (by omega) k))
    (fun k d => read_mixer arg4 harg4 x2 0 0 rfl _ k d) (fun d => read_scale arg5 harg5 x3 0 0 rfl _ d)
  refine sum_step (W := 1) (a := 15) ?_ (ld 15 inb_S528x512_S512x128_15_0 (by omega) k) rfl
  exact sum_one (ld 16 inb_S528x512_S512x128_16_0 (by omega) k)

theorem piece1 (r : Fin 512) (d : Fin 128) :
    group 4#32 (k0_pay4 i) (addf (addf (addf (kernelRun0_A.sl.v41 (F := Ideal) c i arg2 harg2 arg3 harg3 arg7 x0 x1) (kernelRun0_A.sl.v42 (F := Ideal) c i arg2 harg2 arg3 harg3 arg7 x0 x1)) (kernelRun0_A.sl.v44 (F := Ideal) c i arg2 harg2 arg3 harg3 arg7 x0 x1)) (kernelRun0_A.sl.v46 (F := Ideal) c i arg2 harg2 arg3 harg3 arg7 x0 x1)) (kernelRun0_A.sl.v41 (F := Ideal) c i arg2 harg2 arg3 harg3 arg7 x0 x1)
      (arg4.view.readAt (Elt Ideal) (Rect.unit (s := S4x128x128) ![1, 0, 0] S1x128x128.size inb_S4x128x128_S1x128x128_1_0_0).toLoadRect (harg4.unread x2))
      (arg5.view.readAt (Elt Ideal) (Rect.unit (s := S1x512) ![0, 128] S1x128.size inb_S1x512_S1x128_0_128).toLoadRect (harg5.unread x3)) (ix3 0 r d)
      = left i x0 x1 x2 x3 1 r d := by
  have ld := fun (a : ℕ) (inb : ∀ k, (![a, 128] : Fin 2 → ℕ) k + S512x128.size k ≤ S528x512.size k) (ha : a ≤ 16) (k : Fin 128) =>
    load_apply c i arg2 harg2 arg3 harg3 arg7 x0 x1 a 128 inb ha (by omega) r k
  refine left_of i x0 x1 x2 x3 1 4#32 _ _ _ _ r d rfl (fun k => ?_) (fun k => (ld 16 inb_S528x512_S512x128_16_128 (by omega) k))
    (fun k d => read_mixer arg4 harg4 x2 1 1 rfl _ k d) (fun d => read_scale arg5 harg5 x3 1 128 rfl _ d)
  refine sum_step (W := 3) (a := 13) ?_ (ld 13 inb_S528x512_S512x128_13_128 (by omega) k) rfl
  refine sum_step (W := 2) (a := 14) ?_ (ld 14 inb_S528x512_S512x128_14_128 (by omega) k) rfl
  refine sum_step (W := 1) (a := 15) ?_ (ld 15 inb_S528x512_S512x128_15_128 (by omega) k) rfl
  exact sum_one (ld 16 inb_S528x512_S512x128_16_128 (by omega) k)

theorem piece2 (r : Fin 512) (d : Fin 128) :
    group 8#32 (k0_pay4 i) (addf (addf (addf (addf (addf (addf (addf (kernelRun0_A.sl.v69 (F := Ideal) c i arg2 harg2 arg3 harg3 arg7 x0 x1) (kernelRun0_A.sl.v70 (F := Ideal) c i arg2 harg2 arg3 harg3 arg7 x0 x1)) (kernelRun0_A.sl.v72 (F := Ideal) c i arg2 harg2 arg3 harg3 arg7 x0 x1)) (kernelRun0_A.sl.v74 (F := Ideal) c i arg2 harg2 arg3 harg3 arg7 x0 x1)) (kernelRun0_A.sl.v76 (F := Ideal) c i arg2 harg2 arg3 harg3 arg7 x0 x1)) (kernelRun0_A.sl.v78 (F := Ideal) c i arg2 harg2 arg3 harg3 arg7 x0 x1)) (kernelRun0_A.sl.v80 (F := Ideal) c i arg2 harg2 arg3 harg3 arg7 x0 x1)) (kernelRun0_A.sl.v82 (F := Ideal) c i arg2 harg2 arg3 harg3 arg7 x0 x1)) (kernelRun0_A.sl.v69 (F := Ideal) c i arg2 harg2 arg3 harg3 arg7 x0 x1)
      (arg4.view.readAt (Elt Ideal) (Rect.unit (s := S4x128x128) ![2, 0, 0] S1x128x128.size inb_S4x128x128_S1x128x128_2_0_0).toLoadRect (harg4.unread x2))
      (arg5.view.readAt (Elt Ideal) (Rect.unit (s := S1x512) ![0, 256] S1x128.size inb_S1x512_S1x128_0_256).toLoadRect (harg5.unread x3)) (ix3 0 r d)
      = left i x0 x1 x2 x3 2 r d := by
  have ld := fun (a : ℕ) (inb : ∀ k, (![a, 256] : Fin 2 → ℕ) k + S512x128.size k ≤ S528x512.size k) (ha : a ≤ 16) (k : Fin 128) =>
    load_apply c i arg2 harg2 arg3 harg3 arg7 x0 x1 a 256 inb ha (by omega) r k
  refine left_of i x0 x1 x2 x3 2 8#32 _ _ _ _ r d rfl (fun k => ?_) (fun k => (ld 16 inb_S528x512_S512x128_16_256 (by omega) k))
    (fun k d => read_mixer arg4 harg4 x2 2 2 rfl _ k d) (fun d => read_scale arg5 harg5 x3 2 256 rfl _ d)
  refine sum_step (W := 7) (a := 9) ?_ (ld 9 inb_S528x512_S512x128_9_256 (by omega) k) rfl
  refine sum_step (W := 6) (a := 10) ?_ (ld 10 inb_S528x512_S512x128_10_256 (by omega) k) rfl
  refine sum_step (W := 5) (a := 11) ?_ (ld 11 inb_S528x512_S512x128_11_256 (by omega) k) rfl
  refine sum_step (W := 4) (a := 12) ?_ (ld 12 inb_S528x512_S512x128_12_256 (by omega) k) rfl
  refine sum_step (W := 3) (a := 13) ?_ (ld 13 inb_S528x512_S512x128_13_256 (by omega) k) rfl
  refine sum_step (W := 2) (a := 14) ?_ (ld 14 inb_S528x512_S512x128_14_256 (by omega) k) rfl
  refine sum_step (W := 1) (a := 15) ?_ (ld 15 inb_S528x512_S512x128_15_256 (by omega) k) rfl
  exact sum_one (ld 16 inb_S528x512_S512x128_16_256 (by omega) k)

theorem piece3 (r : Fin 512) (d : Fin 128) :
    group 16#32 (k0_pay4 i) (addf (addf (addf (addf (addf (addf (addf (addf (addf (addf (addf (addf (addf (addf (addf (kernelRun0_A.sl.v105 (F := Ideal) c i arg2 harg2 arg3 harg3 arg7 x0 x1) (kernelRun0_A.sl.v106 (F := Ideal) c i arg2 harg2 arg3 harg3 arg7 x0 x1)) (kernelRun0_A.sl.v108 (F := Ideal) c i arg2 harg2 arg3 harg3 arg7 x0 x1)) (kernelRun0_A.sl.v110 (F := Ideal) c i arg2 harg2 arg3 harg3 arg7 x0 x1)) (kernelRun0_A.sl.v112 (F := Ideal) c i arg2 harg2 arg3 harg3 arg7 x0 x1)) (kernelRun0_A.sl.v114 (F := Ideal) c i arg2 harg2 arg3 harg3 arg7 x0 x1)) (kernelRun0_A.sl.v116 (F := Ideal) c i arg2 harg2 arg3 harg3 arg7 x0 x1)) (kernelRun0_A.sl.v118 (F := Ideal) c i arg2 harg2 arg3 harg3 arg7 x0 x1)) (kernelRun0_A.sl.v120 (F := Ideal) c i arg2 harg2 arg3 harg3 arg7 x0 x1)) (kernelRun0_A.sl.v122 (F := Ideal) c i arg2 harg2 arg3 harg3 arg7 x0 x1)) (kernelRun0_A.sl.v124 (F := Ideal) c i arg2 harg2 arg3 harg3 arg7 x0 x1)) (kernelRun0_A.sl.v126 (F := Ideal) c i arg2 harg2 arg3 harg3 arg7 x0 x1)) (kernelRun0_A.sl.v128 (F := Ideal) c i arg2 harg2 arg3 harg3 arg7 x0 x1)) (kernelRun0_A.sl.v130 (F := Ideal) c i arg2 harg2 arg3 harg3 arg7 x0 x1)) (kernelRun0_A.sl.v132 (F := Ideal) c i arg2 harg2 arg3 harg3 arg7 x0 x1)) (kernelRun0_A.sl.v134 (F := Ideal) c i arg2 harg2 arg3 harg3 arg7 x0 x1)) (kernelRun0_A.sl.v143 (F := Ideal) c i arg2 harg2 arg3 harg3 arg7 x0 x1)
      (arg4.view.readAt (Elt Ideal) (Rect.unit (s := S4x128x128) ![3, 0, 0] S1x128x128.size inb_S4x128x128_S1x128x128_3_0_0).toLoadRect (harg4.unread x2))
      (arg5.view.readAt (Elt Ideal) (Rect.unit (s := S1x512) ![0, 384] S1x128.size inb_S1x512_S1x128_0_384).toLoadRect (harg5.unread x3)) (ix3 0 r d)
      = left i x0 x1 x2 x3 3 r d := by
  have ld := fun (a : ℕ) (inb : ∀ k, (![a, 384] : Fin 2 → ℕ) k + S512x128.size k ≤ S528x512.size k) (ha : a ≤ 16) (k : Fin 128) =>
    load_apply c i arg2 harg2 arg3 harg3 arg7 x0 x1 a 384 inb ha (by omega) r k
  refine left_of i x0 x1 x2 x3 3 16#32 _ _ _ _ r d rfl (fun k => ?_) (fun k => (ld 16 inb_S528x512_S512x128_16_384 (by omega) k))
    (fun k d => read_mixer arg4 harg4 x2 3 3 rfl _ k d) (fun d => read_scale arg5 harg5 x3 3 384 rfl _ d)
  refine sum_step (W := 15) (a := 1) ?_ (ld 1 inb_S528x512_S512x128_1_384 (by omega) k) rfl
  refine sum_step (W := 14) (a := 2) ?_ (ld 2 inb_S528x512_S512x128_2_384 (by omega) k) rfl
  refine sum_step (W := 13) (a := 3) ?_ (ld 3 inb_S528x512_S512x128_3_384 (by omega) k) rfl
  refine sum_step (W := 12) (a := 4) ?_ (ld 4 inb_S528x512_S512x128_4_384 (by omega) k) rfl
  refine sum_step (W := 11) (a := 5) ?_ (ld 5 inb_S528x512_S512x128_5_384 (by omega) k) rfl
  refine sum_step (W := 10) (a := 6) ?_ (ld 6 inb_S528x512_S512x128_6_384 (by omega) k) rfl
  refine sum_step (W := 9) (a := 7) ?_ (ld 7 inb_S528x512_S512x128_7_384 (by omega) k) rfl
  refine sum_step (W := 8) (a := 8) ?_ (ld 8 inb_S528x512_S512x128_8_384 (by omega) k) rfl
  refine sum_step (W := 7) (a := 9) ?_ (ld 9 inb_S528x512_S512x128_9_384 (by omega) k) rfl
  refine sum_step (W := 6) (a := 10) ?_ (ld 10 inb_S528x512_S512x128_10_384 (by omega) k) rfl
  refine sum_step (W := 5) (a := 11) ?_ (ld 11 inb_S528x512_S512x128_11_384 (by omega) k) rfl
  refine sum_step (W := 4) (a := 12) ?_ (ld 12 inb_S528x512_S512x128_12_384 (by omega) k) rfl
  refine sum_step (W := 3) (a := 13) ?_ (ld 13 inb_S528x512_S512x128_13_384 (by omega) k) rfl
  refine sum_step (W := 2) (a := 14) ?_ (ld 14 inb_S528x512_S512x128_14_384 (by omega) k) rfl
  refine sum_step (W := 1) (a := 15) ?_ (ld 15 inb_S528x512_S512x128_15_384 (by omega) k) rfl
  exact sum_one (ld 16 inb_S528x512_S512x128_16_384 (by omega) k)

/-- What the body leaves in channel `d` of group `g`, in row `r`. -/
theorem out_apply (g : Fin 4) (r : Fin 512) (d : Fin 128) :
    out0_A_4 (F := Ideal) c i arg2 harg2 arg3 harg3 arg4 harg4 arg5 harg5 arg6 harg6 arg7 harg7 x0 x1 x2 x3 (ix3 0 r (chan g d))
      = left i x0 x1 x2 x3 g r d := by
  unfold out0_A_4
  rw [View.read_writes_junk_eq_canon]
  unfold kernelRun0_A
  dsimp only
  fin_cases g
  · refine (cols_miss 0 384 (by decide) _ _ _ r d).trans ((cols_miss 0 256 (by decide) _ _ _ r d).trans ((cols_miss 0 128 (by decide) _ _ _ r d).trans ((cols_hit 0 0 rfl _ _ _ r d).trans ?_)))
    exact piece0 c i arg2 harg2 arg3 harg3 arg4 harg4 arg5 harg5 arg7 x0 x1 x2 x3 r d
  · refine (cols_miss 1 384 (by decide) _ _ _ r d).trans ((cols_miss 1 256 (by decide) _ _ _ r d).trans ((cols_hit 1 128 rfl _ _ _ r d).trans ?_))
    exact piece1 c i arg2 harg2 arg3 harg3 arg4 harg4 arg5 harg5 arg7 x0 x1 x2 x3 r d
  · refine (cols_miss 2 384 (by decide) _ _ _ r d).trans ((cols_hit 2 256 rfl _ _ _ r d).trans ?_)
    exact piece2 c i arg2 harg2 arg3 harg3 arg4 harg4 arg5 harg5 arg7 x0 x1 x2 x3 r d
  · refine (cols_hit 3 384 rfl _ _ _ r d).trans ?_
    exact piece3 c i arg2 harg2 arg3 harg3 arg4 harg4 arg5 harg5 arg7 x0 x1 x2 x3 r d

end Cert.Proof.Pool

end
-- ==== Proof.PoolArray.lean ====
/-
  The pooling mixer's result array after the run: position `t` of a sequence holds the mixed pools of that position of
  the argument (`Pool.whole`). Each of the 32 grid points writes its own 512 rows.
-/
module

public import proofs.«01_k».proof.Proof.PoolBlock
public import proofs.«01_k».proof.Proof.Gen.PoolIdeal.Value

@[expose] public section

set_option maxRecDepth 16384

noncomputable section

namespace Cert.Proof.Pool

open Cert.PoolIdeal Cert.PoolIdeal.Gen Cert.PoolIdeal.Value Idealize.ShloMosaic Idealize.ShloMosaic.TcCoe Idealize.ShloMosaic.ValueIdx Idealize.SL.Sem Cert.Proof.Rows
open scoped BigOperators

/-- The mixed pools of all positions. -/
def whole (u : Seqs.Idx → EReal) (w : Mixers.Idx → EReal) (s : Scales.Idx → EReal) (i : Seqs.Idx) : EReal :=
  mixed u w s (i 0) (i 1).val (groupOf (i 2)) (placeOf (i 2))

variable (m : (ℓ : Loc nD τ sig) → Buf (Elt Ideal) ℓ) (c : Dev nD)

/-! ### The windows' arrays at the region's entry -/

theorem entry_w (g : Fin 4) (k d : Fin 128) : V m c main_v1 (ix3 g k d) = m ((c.tc : Thread nD τ).loc main_arg1) (ix4 0 g k d) := by
  entry_read
  exact shapeCast_apply (s := S1x4x128x128) _ shapeCasts_S1x4x128x128_S4x128x128 (ix3 g k d) (ix4 0 g k d) (by
    rw [Shape.rowMajor_val_three, Shape.rowMajor_val_four]
    show ((0 * 4 + g.val) * 128 + k.val) * 128 + d.val = (g.val * 128 + k.val) * 128 + d.val
    omega)

theorem entry_s (e : Fin 512) : V m c main_v3 (ix2 0 e) = m ((c.tc : Thread nD τ).loc main_arg2) (ix2 0 e) := by
  entry_read
  exact rowVec_apply (N := 512) _ shapeCasts_S1x512_S512 shapeCasts_S512_S1x512 e

/-! ### The windows' blocks -/

/-- The block indices: the rows and the result move with the grid point, the rows before a tile are a block of sixteen,
    the mixers and the scale stay. -/
theorem idx_facts : ∀ t : Fin cfg0.N, (win0_0.index t 0 = t.val / 16 ∧ win0_0.index t 1 = t.val % 16 ∧ win0_0.index t 2 = 0)
    ∧ (win0_1.index t 0 = t.val / 16 ∧ win0_1.index t 1 = 32 * (t.val % 16) - 1 ∧ win0_1.index t 2 = 0)
    ∧ (∀ a, win0_2.index t a = 0) ∧ (∀ a, win0_3.index t a = 0)
    ∧ (win0_4.index t 0 = t.val / 16 ∧ win0_4.index t 1 = t.val % 16 ∧ win0_4.index t 2 = 0)
    ∧ (grid0.coords t 1).val = t.val % 16 :=
  (by decide +kernel : ∀ t : Fin grid0.N, (win0_0.index t 0 = t.val / 16 ∧ win0_0.index t 1 = t.val % 16 ∧ win0_0.index t 2 = 0)
    ∧ (win0_1.index t 0 = t.val / 16 ∧ win0_1.index t 1 = 32 * (t.val % 16) - 1 ∧ win0_1.index t 2 = 0)
    ∧ (∀ a, win0_2.index t a = 0) ∧ (∀ a, win0_3.index t a = 0)
    ∧ (win0_4.index t 0 = t.val / 16 ∧ win0_4.index t 1 = t.val % 16 ∧ win0_4.index t 2 = 0)
    ∧ (grid0.coords t 1).val = t.val % 16)

/-- The sequence of a grid point, -/
abbrev seqOf (t : Fin cfg0.N) : Fin 2 := ⟨t.val / 16, by have := t.isLt; have : cfg0.N = 32 := N_0; omega⟩
/-- the position of its row `r`, -/
abbrev posAt (t : Fin cfg0.N) (r : Fin 512) : Fin 8192 := ⟨512 * (t.val % 16) + r.val, by omega⟩
/-- and the grid point of a position. -/
abbrev pointOf (b : Fin 2) (s : Fin 8192) : Fin cfg0.N := ⟨16 * b.val + s.val / 512, by have : cfg0.N = 32 := N_0; omega⟩

theorem block_u (t : Fin cfg0.N) (r e : Fin 512) :
    iblk m c 0 t (ix3 0 r e) = m ((c.tc : Thread nD τ).loc main_arg0) (ix3 (seqOf t) (posAt t r) e) := by
  refine Eq.trans ?_ (congrFun (V_main_arg0 m c) (ix3 (seqOf t) (posAt t r) e))
  refine congrArg (V m c main_arg0) (?_ : (win0_0.rect t).emb (ix3 0 r e) = ix3 (seqOf t) (posAt t r) e)
  obtain ⟨⟨e0, e1, e2⟩, -⟩ := idx_facts t
  refine funext fun a => Fin.ext (match a with | ⟨0, _⟩ => ?_ | ⟨1, _⟩ => ?_ | ⟨2, _⟩ => ?_)
  · refine (Pipeline.Window.rect_emb_val win0_0 t _ 0).trans ?_; rw [e0]; show t.val / 16 * 1 + 0 = t.val / 16; omega
  · refine (Pipeline.Window.rect_emb_val win0_0 t _ 1).trans ?_; rw [e1]; show t.val % 16 * 512 + r.val = 512 * (t.val % 16) + r.val; omega
  · refine (Pipeline.Window.rect_emb_val win0_0 t _ 2).trans ?_; rw [e2]; show 0 * 512 + e.val = e.val; omega

theorem block_halo (t : Fin cfg0.N) (p : Fin 16) (e : Fin 512) (h : t.val % 16 ≠ 0) :
    iblk m c 1 t (ix3 0 p e)
      = m ((c.tc : Thread nD τ).loc main_arg0) (ix3 (seqOf t) ⟨512 * (t.val % 16) + p.val - 16, by omega⟩ e) := by
  refine Eq.trans ?_ (congrFun (V_main_arg0 m c) (ix3 (seqOf t) ⟨512 * (t.val % 16) + p.val - 16, by omega⟩ e))
  refine congrArg (V m c main_arg0) (?_ : (win0_1.rect t).emb (ix3 0 p e) = ix3 (seqOf t) ⟨512 * (t.val % 16) + p.val - 16, by omega⟩ e)
  obtain ⟨-, ⟨e0, e1, e2⟩, -⟩ := idx_facts t
  refine funext fun a => Fin.ext (match a with | ⟨0, _⟩ => ?_ | ⟨1, _⟩ => ?_ | ⟨2, _⟩ => ?_)
  · refine (Pipeline.Window.rect_emb_val win0_1 t _ 0).trans ?_; rw [e0]; show t.val / 16 * 1 + 0 = t.val / 16; omega
  · refine (Pipeline.Window.rect_emb_val win0_1 t _ 1).trans ?_; rw [e1]; show (32 * (t.val % 16) - 1) * 16 + p.val = 512 * (t.val % 16) + p.val - 16; omega
  · refine (Pipeline.Window.rect_emb_val win0_1 t _ 2).trans ?_; rw [e2]; show 0 * 512 + e.val = e.val; omega

theorem block_w (t : Fin cfg0.N) (g : Fin 4) (k d : Fin 128) :
    iblk m c 2 t (ix3 g k d) = m ((c.tc : Thread nD τ).loc main_arg1) (ix4 0 g k d) := by
  refine Eq.trans ?_ (entry_w m c g k d)
  refine congrArg (V m c main_v1) (?_ : (win0_2.rect t).emb (ix3 g k d) = ix3 g k d)
  obtain ⟨-, -, e2, -⟩ := idx_facts t
  refine funext fun a => Fin.ext (match a with | ⟨0, _⟩ => ?_ | ⟨1, _⟩ => ?_ | ⟨2, _⟩ => ?_)
  · refine (Pipeline.Window.rect_emb_val win0_2 t _ 0).trans ?_; rw [e2]; show 0 * 4 + g.val = g.val; omega
  · refine (Pipeline.Window.rect_emb_val win0_2 t _ 1).trans ?_; rw [e2]; show 0 * 128 + k.val = k.val; omega
  · refine (Pipeline.Window.rect_emb_val win0_2 t _ 2).trans ?_; rw [e2]; show 0 * 128 + d.val = d.val; omega

theorem block_s (t : Fin cfg0.N) (e : Fin 512) :
    iblk m c 3 t (ix2 0 e) = m ((c.tc : Thread nD τ).loc main_arg2) (ix2 0 e) := by
  refine Eq.trans ?_ (entry_s m c e)
  refine congrArg (V m c main_v3) (?_ : (win0_3.rect t).emb (ix2 0 e) = ix2 0 e)
  obtain ⟨-, -, -, e3, -⟩ := idx_facts t
  refine Shape.idx_ext₂ ?_ ?_
  · rw [Pipeline.Window.rect_emb_val win0_3, e3]; show 0 * 1 + 0 = 0; omega
  · rw [Pipeline.Window.rect_emb_val win0_3, e3]; show 0 * 512 + e.val = e.val; omega

/-- The scratch buffer holds the sequence's channel from sixteen rows before the tile. -/
theorem scratch_eq (t : Fin cfg0.N) (e : Fin 512) (p : ℕ) (hp : p < 528) :
    scratch (grid0.coords t) (iblk m c 0 t) (iblk m c 1 t) e p
      = ext (m ((c.tc : Thread nD τ).loc main_arg0)) (seqOf t) e (512 * (t.val % 16) + p) := by
  have hi : (grid0.coords t 1).val = t.val % 16 := (idx_facts t).2.2.2.2.2
  unfold scratch ext
  rw [hi]
  by_cases h : p < 16
  · rw [dif_pos h]
    by_cases h0 : t.val % 16 = 0
    · rw [if_pos h0, dif_neg (by omega)]
    · rw [if_neg h0, dif_pos (by omega), block_halo m c t ⟨p, h⟩ e h0]
  · rw [dif_neg h, dif_pos hp, dif_pos (by omega), block_u]
    congr 2
    exact Fin.ext (by show 512 * (t.val % 16) + (p - 16) = 512 * (t.val % 16) + p - 16; omega)

theorem left_eq (t : Fin cfg0.N) (g : Fin 4) (r : Fin 512) (d : Fin 128) :
    left (grid0.coords t) (iblk m c 0 t) (iblk m c 1 t) (iblk m c 2 t) (iblk m c 3 t) g r d
      = mixed (m ((c.tc : Thread nD τ).loc main_arg0)) (m ((c.tc : Thread nD τ).loc main_arg1)) (m ((c.tc : Thread nD τ).loc main_arg2))
        (seqOf t) (posAt t r).val g d := by
  have hi : (grid0.coords t 1).val = t.val % 16 := (idx_facts t).2.2.2.2.2
  have hg : width g ≤ 16 := by fin_cases g <;> decide
  unfold left mixed
  rw [hi, block_s]
  refine congrArg (· * _) (congrArg₂ (fun x y => rowMul x y d) (funext fun k => ?_) (funext fun k => funext fun j => block_w m c t g k j))
  unfold pooledAt
  rw [scratch_eq m c t (chan g k) (16 + r.val) (by omega)]
  rw [show 16 + (posAt t r).val = 512 * (t.val % 16) + (16 + r.val) by show 16 + (512 * (t.val % 16) + r.val) = _; omega]
  refine congrArg (fun x => Ideal.div x _ - _) ?_
  refine Finset.sum_congr rfl fun j hj => ?_
  have hj := Finset.mem_range.mp hj
  rw [scratch_eq m c t (chan g k) (16 + r.val - j) (by omega)]
  congr 1
  omega

/-! ### The result -/

abbrev result : Seqs.Idx → EReal :=
  whole (m ((c.tc : Thread nD τ).loc main_arg0)) (m ((c.tc : Thread nD τ).loc main_arg1)) (m ((c.tc : Thread nD τ).loc main_arg2))

/-- What a grid point writes back is its block of the result. -/
theorem flushed_eq (t : Fin cfg0.N) :
    (dats m 0 c).flushed 4 t = ((cfg0.win 4).blk t).view.read (Elt Ideal) (result m c) := by
  rw [flushed4_A]
  funext y
  obtain ⟨z, r, e, rfl⟩ : ∃ (z : Fin 1) (r : Fin 512) (e : Fin 512), y = ix3 z r e := ⟨y 0, y 1, y 2, eq_ix3 y⟩
  obtain rfl : z = 0 := Subsingleton.elim _ _
  have he : (win0_4.rect t).emb (ix3 0 r e) = ix3 (seqOf t) (posAt t r) e := by
    obtain ⟨-, -, -, -, ⟨e0, e1, e2⟩, -⟩ := idx_facts t
    refine funext fun a => Fin.ext (match a with | ⟨0, _⟩ => ?_ | ⟨1, _⟩ => ?_ | ⟨2, _⟩ => ?_)
    · refine (Pipeline.Window.rect_emb_val win0_4 t _ 0).trans ?_; rw [e0]; show t.val / 16 * 1 + 0 = t.val / 16; omega
    · refine (Pipeline.Window.rect_emb_val win0_4 t _ 1).trans ?_; rw [e1]; show t.val % 16 * 512 + r.val = 512 * (t.val % 16) + r.val; omega
    · refine (Pipeline.Window.rect_emb_val win0_4 t _ 2).trans ?_; rw [e2]; show 0 * 512 + e.val = e.val; omega
  have hc : out0_A_4 (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) (ix3 0 r e)
      = result m c (ix3 (seqOf t) (posAt t r) e) := by
    refine Eq.trans (congrArg _ (congrArg (ix3 0 r) (chan_eq e).symm)) ?_
    exact (out_apply c (grid0.coords t) _ _ _ _ _ _ _ _ _ _ _ _ _ _ _ _ (groupOf e) r (placeOf e)).trans (left_eq m c t _ r _)
  show out0_A_4 (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t) (ix3 0 r e)
    = result m c ((win0_4.rect t).emb (ix3 0 r e))
  rw [he]
  exact hc

/-- An index lies in a grid point's block of the result when its sequence and its tile are the point's. -/
theorem mem_block (t : Fin cfg0.N) (i : S2x8192x512.Idx)
    (h0 : win0_4.index t 0 * 1 ≤ (i 0 : Nat) ∧ (i 0 : Nat) < win0_4.index t 0 * 1 + 1)
    (h1 : win0_4.index t 1 * 512 ≤ (i 1 : Nat) ∧ (i 1 : Nat) < win0_4.index t 1 * 512 + 512)
    (h2 : win0_4.index t 2 * 512 ≤ (i 2 : Nat) ∧ (i 2 : Nat) < win0_4.index t 2 * 512 + 512) :
    i ∈ ((cfg0.win 4).blk t).view.set := by
  show i ∈ ((View.whole main_v4).slice (win0_4.rect t)).set
  rw [View.set_slice_whole, Rect.mem_set_unit]
  intro a
  match a with | ⟨0, _⟩ => exact h0 | ⟨1, _⟩ => exact h1 | ⟨2, _⟩ => exact h2

/-- After the last point the array holds the result: a row was written by its tile's point. -/
theorem final : (dats m 0 c).arrAt 4 cfg0.N = result m c :=
  (dats m 0 c).arrAt_eq_of_cover 4 (result m c) (fun t _ => flushed_eq m c t) fun (i : S2x8192x512.Idx) => by
    have h0 : (i 0 : Nat) < 2 := (i 0).isLt
    have h1 : (i 1 : Nat) < 8192 := (i 1).isLt
    have h2 : (i 2 : Nat) < 512 := (i 2).isLt
    refine ⟨pointOf (i 0) (i 1), flush0_4 _, ?_⟩
    obtain ⟨-, -, -, -, ⟨e0, e1, e2⟩, -⟩ := idx_facts (pointOf (i 0) (i 1))
    have p0 : (pointOf (i 0) (i 1)).val = 16 * (i 0 : Nat) + (i 1 : Nat) / 512 := rfl
    rw [p0] at e0 e1
    exact mem_block _ i (by rw [e0]; omega) (by rw [e1]; omega) (by rw [e2]; omega)

end Cert.Proof.Pool

end
-- ==== Proof.PoolSums.lean ====
/-
  The running sum of a sequence, as the host writes it: a sum over a window as long as the sequence, padded below. At
  entry `k` it is the sum of the entries up to `k`.
-/
module

public import proofs.«01_k».proof.Proof.PoolRows

@[expose] public section

noncomputable section

namespace Cert.Proof.Pool

open Idealize.ShloMosaic Idealize.ShloMosaic.ValueIdx
open scoped BigOperators

/-- A fold that adds is a sum. -/
theorem foldl_sum {n : ℕ} (f : Fin n → EReal) (v : EReal) : (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, Fin.sum_univ_def]

/-- The positions of a window of `N` entries along the middle axis. -/
def spots (N : ℕ) : (⟨3, ![1, N, 1]⟩ : Shape).Idx ≃ Fin N where
  toFun i := i 1
  invFun q := ix3 0 q 0
  left_inv i := by
    obtain ⟨a, b, c, rfl⟩ : ∃ (a : Fin 1) (b : Fin N) (c : Fin 1), i = ix3 a b c := ⟨i 0, i 1, i 2, eq_ix3 i⟩
    obtain rfl : a = 0 := Subsingleton.elim _ _
    obtain rfl : c = 0 := Subsingleton.elim _ _
    rfl
  right_inv _ := rfl

/-- The entries a padded window meets, end to end. -/
theorem sum_padded (X : ℕ → EReal) (M k : ℕ) (hk : k ≤ M) :
    (∑ q ∈ Finset.range (M + 1), if M ≤ k + q then X (k + q - M) else 0) = ∑ p ∈ Finset.range (k + 1), X p := by
  obtain ⟨d, rfl⟩ : ∃ d, M = d + k := ⟨M - k, by omega⟩
  rw [show d + k + 1 = d + (k + 1) by omega, Finset.sum_range_add, Finset.sum_eq_zero (fun q hq => by
    have := Finset.mem_range.mp hq
    rw [if_neg (by omega)]), zero_add]
  refine Finset.sum_congr rfl fun p _ => ?_
  rw [if_pos (by omega)]
  congr 1
  omega

/-- The running sum along the middle axis. -/
theorem running {A C M N : ℕ} (hN : M + 1 = N) (x : FVec Ideal ⟨3, ![A, N, C]⟩ .f32) {u : Shape} (init : FVec Ideal u .f32)
    (h : (⟨3, ![A, N, C]⟩ : Shape).ReduceWindows ![1, N, 1] ![1, 1, 1] ![0, M, 0] ![0, 0, 0] ⟨3, ![A, N, C]⟩)
    (hu : 0 < u.numel) (hinit : init (Shape.Idx.first hu) = (0 : EReal)) (X : ℕ → EReal) (b : Fin A) (e : Fin C)
    (hX : ∀ p : Fin N, x (ix3 b p e) = X p.val) (k : Fin N) :
    Host.reduceWindow (fun a a' : EReal => a + a') ![1, N, 1] ![1, 1, 1] ![0, M, 0] ![0, 0, 0] x init h hu (ix3 b k e)
      = ∑ p ∈ Finset.range (k.val + 1), X p := by
  subst hN
  unfold Host.reduceWindow
  dsimp only
  refine (foldl_sum _ _).trans ?_
  have he : ∀ q, (Shape.rowMajor (⟨3, ![1, M + 1, 1]⟩ : Shape)).symm (((spots (M + 1)).symm.trans (Shape.rowMajor _)) q) = ix3 0 q 0 :=
    fun q => Equiv.symm_apply_apply _ _
  rw [hinit, zero_add]
  refine (Equiv.sum_comp ((spots (M + 1)).symm.trans (Shape.rowMajor _)) _).symm.trans ?_
  simp only [he]
  refine Eq.trans ?_ (sum_padded X M k.val (by omega))
  rw [Finset.sum_range]
  refine Finset.sum_congr rfl fun q _ => ?_
  have hk := k.isLt
  have hq := q.isLt
  have hb := b.isLt
  have he := e.isLt
  by_cases hM : M ≤ k.val + q.val
  · rw [if_pos hM, dif_pos (fun a => by
      match a with
      | ⟨0, _⟩ => show 0 ≤ b.val * 1 + 0 ∧ b.val * 1 + 0 - 0 < A; omega
      | ⟨1, _⟩ => show M ≤ k.val * 1 + q.val ∧ k.val * 1 + q.val - M < M + 1; omega
      | ⟨2, _⟩ => show 0 ≤ e.val * 1 + 0 ∧ e.val * 1 + 0 - 0 < C; omega)]
    refine Eq.trans (congrArg x (funext fun a => Fin.ext ?_)) (hX ⟨k.val + q.val - M, by omega⟩)
    match a with
    | ⟨0, _⟩ => show b.val * 1 + 0 - 0 = b.val; omega
    | ⟨1, _⟩ => show k.val * 1 + q.val - M = k.val + q.val - M; omega
    | ⟨2, _⟩ => show e.val * 1 + 0 - 0 = e.val; omega
  · rw [if_neg hM, dif_neg (fun hin => by
      have h1 : M ≤ k.val * 1 + q.val := (hin 1).1
      omega)]

/-- The host's float window sum over the extended reals is the fold of the sum. -/
theorem windowAdd_eq {s t u : Shape} (win str lo hi : Fin s.rank → ℕ) (x : FVec Ideal s .f32) (init : FVec Ideal u .f32)
    (h : s.ReduceWindows win str lo hi t) (hu : 0 < u.numel) (j : t.Idx) :
    Host.reduceWindowAdd (F := Ideal) win str lo hi x init h hu j
      = Host.reduceWindow (fun a a' : EReal => a + a') win str lo hi x init h hu j := rfl

/-- Four arrays stacked along a new axis. -/
theorem stack4 {A T : ℕ} (x0 x1 x2 x3 : FVec Ideal ⟨4, ![A, T, 1, 128]⟩ .f32)
    (h : Shape.Concatenates [⟨4, ![A, T, 1, 128]⟩, ⟨4, ![A, T, 1, 128]⟩, ⟨4, ![A, T, 1, 128]⟩, ⟨4, ![A, T, 1, 128]⟩] ⟨4, ![A, T, 4, 128]⟩ 2)
    (b : Fin A) (t : Fin T) (g : Fin 4) (k : Fin 128) :
    concatenate ⟨4, ![A, T, 4, 128]⟩ 2 [⟨_, x0⟩, ⟨_, x1⟩, ⟨_, x2⟩, ⟨_, x3⟩] h (ix4 b t g k)
      = (![x0, x1, x2, x3] : Fin 4 → FVec Ideal ⟨4, ![A, T, 1, 128]⟩ .f32) g (ix4 b t 0 k) := by
  have hi : ∀ (g : Fin 4) (a : Fin 4), a ≠ 2 → ((ix4 b t (0 : Fin 1) k : Shape.Idx ⟨4, ![A, T, 1, 128]⟩) a).val
      = ((ix4 b t g k : Shape.Idx ⟨4, ![A, T, 4, 128]⟩) a).val :=
    fun g a ha => match a with | ⟨0, _⟩ => rfl | ⟨1, _⟩ => rfl | ⟨2, _⟩ => absurd rfl ha | ⟨3, _⟩ => rfl
  have piece := fun (g : Fin 4) (n : ℕ) (hn) (x : FVec Ideal ⟨4, ![A, T, 1, 128]⟩ .f32) (hx) (hp) =>
    concatenate_apply_piece (t := ⟨4, ![A, T, 4, 128]⟩) 2 [⟨_, x0⟩, ⟨_, x1⟩, ⟨_, x2⟩, ⟨_, x3⟩] h
      (ix4 b t g k) n hn ⟨4, ![A, T, 1, 128]⟩ x hx rfl n hp (ix4 b t 0 k) (hi g)
  fin_cases g
  · exact piece 0 0 (by simp) x0 rfl rfl rfl
  · exact piece 1 1 (by simp) x1 rfl rfl rfl
  · exact piece 2 2 (by simp) x2 rfl rfl rfl
  · exact piece 3 3 (by simp) x3 rfl rfl rfl

end Cert.Proof.Pool

end
-- ==== Proof.PoolRef.lean ====
/-
  The reference pooling mixer, read at an index: the running sums of the padded channel, their differences as window
  sums, the groups stacked, mixed and scaled. For finite entries it is the function the kernel computes.
-/
module

public import proofs.«01_k».proof.Proof.PoolSums
public import proofs.«01_k».proof.Proof.Gen.PoolRefIdeal.Read
public import Idealize.ShloMosaic.Lib.KernelVsHost

@[expose] public section

noncomputable section

namespace Cert.Proof.PoolRef

open Cert.PoolRefIdeal Cert.PoolRefIdeal.Gen Cert.PoolRefIdeal.Read Idealize.ShloMosaic Idealize.ShloMosaic.ValueIdx Cert.Proof.Rows Cert.Proof.Pool
open scoped BigOperators

variable (u : Seqs.Idx → EReal) (w : Mixers.Idx → EReal) (s : Scales.Idx → EReal)

/-- The channel with fifteen zeros before it. -/
theorem padded_apply (b : Fin 2) (p : Fin 8207) (e : Fin 512) : val_main_v2 (F := Ideal) u (ix3 b p e) = ext u b e (p.val + 1) := by
  unfold val_main_v2 ext
  by_cases h : p.val < 15
  · rw [dif_neg (by omega)]
    refine (concatenate_pair_apply_left 1 _ _ concatenates_S2x15x512_S2x8192x512_S2x8207x512_d1 (ix3 b p e) rfl (ix3 b ⟨p.val, h⟩ e)
      (fun a => match a with | ⟨0, _⟩ => rfl | ⟨1, _⟩ => rfl | ⟨2, _⟩ => rfl)).trans ?_
    rw [val_main_v1_apply, val_main_cst_apply]
    exact Ideal.ofBits_zero_f32
  · rw [dif_pos (by omega)]
    refine (concatenate_pair_apply_right 1 _ _ concatenates_S2x15x512_S2x8192x512_S2x8207x512_d1 (ix3 b p e) rfl rfl (ix3 b ⟨p.val - 15, by omega⟩ e)
      (fun a ha => match a with | ⟨0, _⟩ => rfl | ⟨1, _⟩ => absurd rfl ha | ⟨2, _⟩ => rfl) ?_).trans ?_
    · show p.val - 15 + 15 = p.val; omega
    · congr 2

/-- The running sum of the first `k` entries. -/
theorem run_apply (b : Fin 2) (k : Fin 8207) (e : Fin 512) :
    val_main_v3 (F := Ideal) u (ix3 b k e) = ∑ p ∈ Finset.range (k.val + 1), ext u b e (p + 1) := by
  unfold val_main_v3
  refine (windowAdd_eq _ _ _ _ _ _ _ _ _).trans ?_
  refine running (A := 2) (C := 512) (M := 8206) (N := 8207) (by norm_num) (val_main_v2 (F := Ideal) u) _
    reduceWindows_S2x8207x512_S2x8207x512_w1s1p0_0_w8207s1p8206_0_w1s1p0_0 h_S_ ?_ (fun p => ext u b e (p + 1)) b e
    (fun p => padded_apply u b p e) k
  rw [val_main_call0_call0_v0_apply, val_main_call0_call0_cst_apply]
  exact Ideal.ofBits_zero_f32

theorem runs_apply (b : Fin 2) (k : Fin 8208) (e : Fin 512) :
    val_main_v4 (F := Ideal) u (ix3 b k e) = ∑ p ∈ Finset.range k.val, ext u b e (p + 1) := by
  unfold val_main_v4
  by_cases h : k.val = 0
  · refine (pad_apply_of_not_inside _ _ _ _ _ pads_S2x8207x512_S2x8208x512_000_100_000 h_S_ (ix3 b k e) 1 (fun hin => ?_)).trans ?_
    · have h1 : 1 ≤ k.val := hin.1
      omega
    · rw [h, Finset.range_zero, Finset.sum_empty, val_main_call1_v0_apply, val_main_c_apply]
      show ((((0#32 : BitVec 32).toInt : ℤ) : ℝ) : EReal) = 0
      simp
  · refine (pad_apply_of_inside _ _ _ _ _ pads_S2x8207x512_S2x8208x512_000_100_000 h_S_ (ix3 b k e) (ix3 b ⟨k.val - 1, by omega⟩ e)
      (fun a => ?_)).trans ?_
    · match a with
      | ⟨0, _⟩ => show b.val = 0 + b.val * 1; omega
      | ⟨1, _⟩ => show k.val = 1 + (k.val - 1) * 1; omega
      | ⟨2, _⟩ => show e.val = 0 + e.val * 1; omega
    · rw [run_apply]
      show ∑ p ∈ Finset.range (k.val - 1 + 1), _ = _
      rw [show k.val - 1 + 1 = k.val by omega]

/-- A window's sum as the difference of two running sums. -/
theorem diff_apply (hu : ∀ i, u i ≠ ⊤ ∧ u i ≠ ⊥) (b : Fin 2) (t : Fin 8192) (e : Fin 512) (W : ℕ) (hW : W ≤ 16)
    (i j : S2x8208x512.Idx) (hi : i = ix3 b ⟨16 + t.val, by omega⟩ e) (hj : j = ix3 b ⟨16 - W + t.val, by omega⟩ e) :
    FloatOps.subf (F := Ideal) (φ := .f32) (val_main_v4 (F := Ideal) u i) (val_main_v4 (F := Ideal) u j)
      = window (ext u b e) W (16 + t.val) := by
  rw [hi, hj, runs_apply, runs_apply]
  rw [show (⟨16 - W + t.val, by omega⟩ : Fin 8208).val = 16 + t.val - W by show 16 - W + t.val = _; omega]
  exact sub_runs (ext u b e) (ext_finite u hu b e) W (16 + t.val) (by omega)

theorem group0_apply (hu : ∀ i, u i ≠ ⊤ ∧ u i ≠ ⊥) (b : Fin 2) (t : Fin 8192) (k : Fin 128) :
    val_main_v17 (F := Ideal) u (ix3 b t k) = pooledAt (ext u b (chan 0 k)) (width 0) (widthWord 0) t.val t.val := by
  rw [val_main_v17_apply, val_main_v15_apply, val_main_v7_apply, val_main_v5_apply, val_main_v6_apply, val_main_v16_apply,
    diff_apply u hu b t (chan 0 k) 2 (by omega) (idx_main_v5 (ix3 b t k)) (idx_main_v6 (ix3 b t k))
      (funext fun a => Fin.ext (by match a with | ⟨0, _⟩ => rfl | ⟨1, _⟩ => rfl | ⟨2, _⟩ => exact (Nat.zero_add _).symm))
      (funext fun a => Fin.ext (by match a with | ⟨0, _⟩ => rfl | ⟨1, _⟩ => rfl | ⟨2, _⟩ => exact (Nat.zero_add _).symm)),
    show idx_main_v16 (ix3 b t k) = ix3 b ⟨15 + t.val, by omega⟩ (chan 0 k) from
      funext fun a => Fin.ext (by match a with | ⟨0, _⟩ => rfl | ⟨1, _⟩ => rfl | ⟨2, _⟩ => exact (Nat.zero_add _).symm), padded_apply]
  rw [show (⟨15 + t.val, by omega⟩ : Fin 8207).val + 1 = 16 + t.val by show 15 + t.val + 1 = _; omega]
  rw [val_main_v14_apply, val_main_v13_apply, val_main_v12_apply, val_main_v11_apply, val_main_v10_apply, val_main_v9_apply, val_main_v8_apply, val_main_v0_apply]
  unfold pooledAt Pool.count
  refine congrArg (fun x => Ideal.div _ (FloatOps.sitofp (F := Ideal) .f32 x) - _) ?_
  show (if (BitVec.ofNat 32 t.val + 1#32).slt 2#32 then BitVec.ofNat 32 t.val + 1#32 else 2#32) = _
  rw [← BitVec.ofNat_add]
  rfl

theorem group1_apply (hu : ∀ i, u i ≠ ⊤ ∧ u i ≠ ⊥) (b : Fin 2) (t : Fin 8192) (k : Fin 128) :
    val_main_v30 (F := Ideal) u (ix3 b t k) = pooledAt (ext u b (chan 1 k)) (width 1) (widthWord 1) t.val t.val := by
  rw [val_main_v30_apply, val_main_v28_apply, val_main_v20_apply, val_main_v18_apply, val_main_v19_apply, val_main_v29_apply,
    diff_apply u hu b t (chan 1 k) 4 (by omega) (idx_main_v18 (ix3 b t k)) (idx_main_v19 (ix3 b t k))
      (funext fun a => Fin.ext (by match a with | ⟨0, _⟩ => rfl | ⟨1, _⟩ => rfl | ⟨2, _⟩ => rfl))
      (funext fun a => Fin.ext (by match a with | ⟨0, _⟩ => rfl | ⟨1, _⟩ => rfl | ⟨2, _⟩ => rfl)),
    show idx_main_v29 (ix3 b t k) = ix3 b ⟨15 + t.val, by omega⟩ (chan 1 k) from
      funext fun a => Fin.ext (by match a with | ⟨0, _⟩ => rfl | ⟨1, _⟩ => rfl | ⟨2, _⟩ => rfl), padded_apply]
  rw [show (⟨15 + t.val, by omega⟩ : Fin 8207).val + 1 = 16 + t.val by show 15 + t.val + 1 = _; omega]
  rw [val_main_v27_apply, val_main_v26_apply, val_main_v25_apply, val_main_v24_apply, val_main_v23_apply, val_main_v22_apply, val_main_v21_apply, val_main_v0_apply]
  unfold pooledAt Pool.count
  refine congrArg (fun x => Ideal.div _ (FloatOps.sitofp (F := Ideal) .f32 x) - _) ?_
  show (if (BitVec.ofNat 32 t.val + 1#32).slt 4#32 then BitVec.ofNat 32 t.val + 1#32 else 4#32) = _
  rw [← BitVec.ofNat_add]
  rfl

theorem group2_apply (hu : ∀ i, u i ≠ ⊤ ∧ u i ≠ ⊥) (b : Fin 2) (t : Fin 8192) (k : Fin 128) :
    val_main_v43 (F := Ideal) u (ix3 b t k) = pooledAt (ext u b (chan 2 k)) (width 2) (widthWord 2) t.val t.val := by
  rw [val_main_v43_apply, val_main_v41_apply, val_main_v33_apply, val_main_v31_apply, val_main_v32_apply, val_main_v42_apply,
    diff_apply u hu b t (chan 2 k) 8 (by omega) (idx_main_v31 (ix3 b t k)) (idx_main_v32 (ix3 b t k))
      (funext fun a => Fin.ext (by match a with | ⟨0, _⟩ => rfl | ⟨1, _⟩ => rfl | ⟨2, _⟩ => rfl))
      (funext fun a => Fin.ext (by match a with | ⟨0, _⟩ => rfl | ⟨1, _⟩ => rfl | ⟨2, _⟩ => rfl)),
    show idx_main_v42 (ix3 b t k) = ix3 b ⟨15 + t.val, by omega⟩ (chan 2 k) from
      funext fun a => Fin.ext (by match a with | ⟨0, _⟩ => rfl | ⟨1, _⟩ => rfl | ⟨2, _⟩ => rfl), padded_apply]
  rw [show (⟨15 + t.val, by omega⟩ : Fin 8207).val + 1 = 16 + t.val by show 15 + t.val + 1 = _; omega]
  rw [val_main_v40_apply, val_main_v39_apply, val_main_v38_apply, val_main_v37_apply, val_main_v36_apply, val_main_v35_apply, val_main_v34_apply, val_main_v0_apply]
  unfold pooledAt Pool.count
  refine congrArg (fun x => Ideal.div _ (FloatOps.sitofp (F := Ideal) .f32 x) - _) ?_
  show (if (BitVec.ofNat 32 t.val + 1#32).slt 8#32 then BitVec.ofNat 32 t.val + 1#32 else 8#32) = _
  rw [← BitVec.ofNat_add]
  rfl

theorem group3_apply (hu : ∀ i, u i ≠ ⊤ ∧ u i ≠ ⊥) (b : Fin 2) (t : Fin 8192) (k : Fin 128) :
    val_main_v56 (F := Ideal) u (ix3 b t k) = pooledAt (ext u b (chan 3 k)) (width 3) (widthWord 3) t.val t.val := by
  rw [val_main_v56_apply, val_main_v54_apply, val_main_v46_apply, val_main_v44_apply, val_main_v45_apply, val_main_v55_apply,
    diff_apply u hu b t (chan 3 k) 16 (by omega) (idx_main_v44 (ix3 b t k)) (idx_main_v45 (ix3 b t k))
      (funext fun a => Fin.ext (by match a with | ⟨0, _⟩ => rfl | ⟨1, _⟩ => rfl | ⟨2, _⟩ => rfl))
      (funext fun a => Fin.ext (by match a with | ⟨0, _⟩ => rfl | ⟨1, _⟩ => exact (Nat.zero_add _).symm | ⟨2, _⟩ => rfl)),
    show idx_main_v55 (ix3 b t k) = ix3 b ⟨15 + t.val, by omega⟩ (chan 3 k) from
      funext fun a => Fin.ext (by match a with | ⟨0, _⟩ => rfl | ⟨1, _⟩ => rfl | ⟨2, _⟩ => rfl), padded_apply]
  rw [show (⟨15 + t.val, by omega⟩ : Fin 8207).val + 1 = 16 + t.val by show 15 + t.val + 1 = _; omega]
  rw [val_main_v53_apply, val_main_v52_apply, val_main_v51_apply, val_main_v50_apply, val_main_v49_apply, val_main_v48_apply, val_main_v47_apply, val_main_v0_apply]
  unfold pooledAt Pool.count
  refine congrArg (fun x => Ideal.div _ (FloatOps.sitofp (F := Ideal) .f32 x) - _) ?_
  show (if (BitVec.ofNat 32 t.val + 1#32).slt 16#32 then BitVec.ofNat 32 t.val + 1#32 else 16#32) = _
  rw [← BitVec.ofNat_add]
  rfl

/-- The stacked groups. -/
theorem stack_apply (hu : ∀ i, u i ≠ ⊤ ∧ u i ≠ ⊥) (b : Fin 2) (t : Fin 8192) (g : Fin 4) (k : Fin 128) :
    val_main_v61 (F := Ideal) u (ix4 b t g k) = pooledAt (ext u b (chan g k)) (width g) (widthWord g) t.val t.val := by
  unfold val_main_v61
  refine Eq.trans (stack4 _ _ _ _ _ b t g k) ?_
  fin_cases g
  · refine (val_main_v57_apply (F := Ideal) u (ix4 b t 0 k)).trans ?_
    rw [show idx_main_v57 (ix4 b t 0 k) = ix3 b t k from
      funext fun a => Fin.ext (by match a with | ⟨0, _⟩ => rfl | ⟨1, _⟩ => rfl | ⟨2, _⟩ => rfl)]
    exact group0_apply u hu b t k
  · refine (val_main_v58_apply (F := Ideal) u (ix4 b t 0 k)).trans ?_
    rw [show idx_main_v58 (ix4 b t 0 k) = ix3 b t k from
      funext fun a => Fin.ext (by match a with | ⟨0, _⟩ => rfl | ⟨1, _⟩ => rfl | ⟨2, _⟩ => rfl)]
    exact group1_apply u hu b t k
  · refine (val_main_v59_apply (F := Ideal) u (ix4 b t 0 k)).trans ?_
    rw [show idx_main_v59 (ix4 b t 0 k) = ix3 b t k from
      funext fun a => Fin.ext (by match a with | ⟨0, _⟩ => rfl | ⟨1, _⟩ => rfl | ⟨2, _⟩ => rfl)]
    exact group2_apply u hu b t k
  · refine (val_main_v60_apply (F := Ideal) u (ix4 b t 0 k)).trans ?_
    rw [show idx_main_v60 (ix4 b t 0 k) = ix3 b t k from
      funext fun a => Fin.ext (by match a with | ⟨0, _⟩ => rfl | ⟨1, _⟩ => rfl | ⟨2, _⟩ => rfl)]
    exact group3_apply u hu b t k

/-- The reference's result. -/
theorem result_apply (hu : ∀ i, u i ≠ ⊤ ∧ u i ≠ ⊥) (b : Fin 2) (t : Fin 8192) (e : Fin 512) :
    val_main_v70 (F := Ideal) u w s (ix3 b t e) = mixed u w s b t.val (groupOf e) (placeOf e) := by
  rw [val_main_v70_apply, val_main_v69_apply]
  unfold mixed
  refine congrArg₂ (fun x y : EReal => x * y) ?_ ?_
  · rw [val_main_v65_apply, show idx_main_v65 (ix3 b t e) = ix4 b t (groupOf e) (placeOf e) from
      funext fun a => Fin.ext (by
        have := b.isLt; have := t.isLt; have := e.isLt
        match a with
        | ⟨0, _⟩ => show ((b.val * 8192 + t.val) * 512 + e.val) / 4194304 = b.val; omega
        | ⟨1, _⟩ => show ((b.val * 8192 + t.val) * 512 + e.val) / 512 % 8192 = t.val; omega
        | ⟨2, _⟩ => show ((b.val * 8192 + t.val) * 512 + e.val) / 128 % 4 = e.val / 128; omega
        | ⟨3, _⟩ => show ((b.val * 8192 + t.val) * 512 + e.val) % 128 = e.val % 128; omega),
      val_main_v64_apply, show idx_main_v64 (ix4 b t (groupOf e) (placeOf e)) = ix4 (groupOf e) (placeOf e) b t from
        funext fun a => Fin.ext (by match a with | ⟨0, _⟩ => rfl | ⟨1, _⟩ => rfl | ⟨2, _⟩ => rfl | ⟨3, _⟩ => rfl), val_main_v63_apply]
    refine Finset.sum_congr rfl fun k _ => ?_
    rw [show ridx_main_v63 (ix4 (groupOf e) (placeOf e) b t) k = ix4 b t (groupOf e) k from
        funext fun a => Fin.ext (by match a with | ⟨0, _⟩ => rfl | ⟨1, _⟩ => rfl | ⟨2, _⟩ => rfl | ⟨3, _⟩ => rfl),
      show lidx_main_v63 (ix4 (groupOf e) (placeOf e) b t) k = ix3 (groupOf e) k (placeOf e) from
        funext fun a => Fin.ext (by match a with | ⟨0, _⟩ => rfl | ⟨1, _⟩ => rfl | ⟨2, _⟩ => rfl), stack_apply u hu, mul_comm, val_main_v62_apply]
    refine congrArg (fun i => _ * w i) (funext fun a => Fin.ext ?_)
    have := (groupOf e).isLt; have := k.isLt; have := (placeOf e).isLt
    match a with
    | ⟨0, _⟩ => rfl
    | ⟨1, _⟩ => show (((groupOf e).val * 128 + k.val) * 128 + (placeOf e).val) / 16384 % 4 = (groupOf e).val; omega
    | ⟨2, _⟩ => show (((groupOf e).val * 128 + k.val) * 128 + (placeOf e).val) / 128 % 128 = k.val; omega
    | ⟨3, _⟩ => show (((groupOf e).val * 128 + k.val) * 128 + (placeOf e).val) % 128 = (placeOf e).val; omega
  · rw [val_main_v68_apply, val_main_v67_apply, val_main_v66_apply]
    refine congrArg s (funext fun a => Fin.ext ?_)
    match a with
    | ⟨0, _⟩ => rfl
    | ⟨1, _⟩ => show e.val % 512 = 128 * (e.val / 128) + e.val % 128; omega

end Cert.Proof.PoolRef

end
-- ==== Proof.PoolEquation.lean ====
/-
  The pooling mixer and its reference compute the same array from memories that agree on the arguments, when every entry
  of the pooled channel is finite.
-/
module

public import proofs.«01_k».proof.Defs
public import proofs.«01_k».proof.Proof.PoolArray
public import proofs.«01_k».proof.Proof.PoolRef
public import proofs.«01_k».proof.Proof.Gen.PoolIdeal
public import proofs.«01_k».proof.Proof.Gen.PoolRefIdeal
public import proofs.«01_k».proof.Proof.Gen.Pre_finite

@[expose] public section

noncomputable section

namespace Cert.Proof

open Idealize.ShloMosaic Idealize.ShloMosaic.TcCoe Idealize.ShloMosaic.ValueIdx Idealize.SL.Sem

/-- The precondition says that every entry is neither of the infinities. -/
theorem finite_entries (u : FVec Ideal Cert.Pre_finite.S2x8192x512 .f32) (w : FVec Ideal Cert.Pre_finite.S1x4x128x128 .f32)
    (s : FVec Ideal Cert.Pre_finite.S1x512 .f32) (h : @Cert.Pre_finite.fn Cert.Pre_finite.Gen.facts Ideal _ u w s = fun _ => 1#1)
    (i : Cert.Pre_finite.S2x8192x512.Idx) : (u i : EReal) ≠ ⊤ ∧ (u i : EReal) ≠ ⊥ := by
  have htop : Ideal.ofBits .f32 0x7F800000#32 = ⊤ := by simp [Ideal.ofBits, Ideal.ieee]
  have h' : BitVec.ofBool (decide (max (u i : EReal) (-(u i : EReal)) < Ideal.ofBits .f32 0x7F800000#32)) = 1#1 := congrFun h i
  rw [htop] at h'
  have hlt : max (u i : EReal) (-(u i : EReal)) < ⊤ := by
    by_contra hn
    rw [decide_eq_false hn] at h'
    exact absurd h' (by decide)
  refine ⟨fun he => ?_, fun he => ?_⟩ <;> rw [he] at hlt <;> simp at hlt

theorem algebraic_pool : algebraic_PoolIdeal_PoolRefIdeal_pre_finite (hPoolIdeal := Cert.PoolIdeal.Gen.facts)
    (hPoolRefIdeal := Cert.PoolRefIdeal.Gen.facts) (hPre_finite := Cert.Pre_finite.Gen.facts) := by
  intro m ρ m' ρ' hfin hargs
  refine ⟨fun c => Pool.result m c, ?_, ?_⟩
  · refine (θ_run _ _ _).mono (fun r h c => ?_) (Cert.PoolIdeal.Value.run_blocks (F := Ideal) m ρ)
    exact ⟨(h c).1.trans (Pool.final m c), (h c).2⟩
  · refine (θ_run _ _ _).mono (fun r h c => ?_) (Cert.PoolRefIdeal.Value.run (F := Ideal) m' ρ')
    obtain ⟨h0, h1, h2⟩ := hargs c
    refine ⟨(h c).1.trans ?_, (h c).2⟩
    rw [Cert.PoolRefIdeal.Read.val_main_v70_eq, h0, h1, h2]
    funext i
    exact (congrArg _ (eq_ix3 i)).trans (PoolRef.result_apply _ _ _ (finite_entries _ _ _ (hfin c)) (i 0) (i 1) (i 2))

end Cert.Proof

end
-- ==== Proof.FfnSBlock.lean ====
/-
  One tile of the feed-forward kernel: what its body leaves in the block of 256 rows is, row by row, the feed-forward
  block of that row (`Rows.ffnRow`).
-/
module

public import proofs.«01_k».proof.Proof.Rows
public import proofs.«01_k».proof.Proof.Gen.FfnSIdeal.Skeleton
public import proofs.«01_k».proof.Proof.Gen.FfnSIdeal.Frame

@[expose] public section

noncomputable section

namespace Cert.Proof.FfnS

open Cert.FfnSIdeal Cert.FfnSIdeal.Gen Idealize.ShloMosaic Idealize.ShloMosaic.ValueIdx Cert.Proof.Rows

variable (x : FVec Ideal S256x1024 .f32) (wg wu : FVec Ideal S1024x2816 .bf16) (wd : FVec Ideal S2816x1024 .bf16)
  (g b : FVec Ideal S1x1024 .f32)

/-- The hidden layer of a tile. -/
theorem hidden_tile (r : Fin 256) (n : Fin 2816) :
    mulf (mulf (matmul dot_S256x1024_S1024x2816_S256x2816_1_0_0_1_n_n none (truncf .bf16 x bitsLt_bf16_f32 : FVec Ideal S256x1024 .bf16) wg (constant S256x2816 .f32 0x00000000#32))
        (logistic (matmul dot_S256x1024_S1024x2816_S256x2816_1_0_0_1_n_n none (truncf .bf16 x bitsLt_bf16_f32 : FVec Ideal S256x1024 .bf16) wg (constant S256x2816 .f32 0x00000000#32))))
        (matmul dot_S256x1024_S1024x2816_S256x2816_1_0_0_1_n_n none (truncf .bf16 x bitsLt_bf16_f32 : FVec Ideal S256x1024 .bf16) wu (constant S256x2816 .f32 0x00000000#32)) (ix2 r n)
      = hidden (fun k => x (ix2 r k)) (fun k j => wg (ix2 k j)) (fun k j => wu (ix2 k j)) n := by
  have e (w : FVec Ideal S1024x2816 .bf16) := matmul_rows dot_S256x1024_S1024x2816_S256x2816_1_0_0_1_n_n rfl none
    (truncf .bf16 x bitsLt_bf16_f32 : FVec Ideal S256x1024 .bf16) w r n
  rw [mulf_apply, mulf_apply, e wu]
  show _ * Ideal.logistic (matmul dot_S256x1024_S1024x2816_S256x2816_1_0_0_1_n_n none (truncf .bf16 x bitsLt_bf16_f32 : FVec Ideal S256x1024 .bf16) wg (constant S256x2816 .f32 0x00000000#32) (ix2 r n)) * _ = _
  rw [e wg]
  rfl

/-- The tile with its residual, less the rows' means. -/
theorem pay4_apply (r : Fin 256) (j : Fin 1024) :
    k0_pay4 (F := Ideal) x wg wu wd (ix2 r j)
      = center (residual (fun k => x (ix2 r k)) (rowMul (hidden (fun k => x (ix2 r k)) (fun k j => wg (ix2 k j)) (fun k j => wu (ix2 k j))) (fun k j => wd (ix2 k j)))) j := by
  unfold k0_pay4
  simp only [shapeCast_self]
  refine (center_tile _ _ _ _ _ _ r j).trans (congrArg (fun h => center h j) (funext fun k => ?_))
  rw [addf_apply, matmul_rows dot_S256x2816_S2816x1024_S256x1024_1_0_0_1_n_n rfl]
  refine congrArg₂ (· + ·) rfl (congrArg (fun h => rowMul h _ k) (funext fun n => ?_))
  exact hidden_tile x wg wu r n

/-- What the body stores, at an index. -/
theorem out_apply (r : Fin 256) (j : Fin 1024) :
    out0_6 (F := Ideal) x wg wu wd g b (ix2 r j)
      = ffnRow (fun k => x (ix2 r k)) (fun k j => wg (ix2 k j)) (fun k j => wu (ix2 k j)) (fun k j => wd (ix2 k j))
          (fun k => g (ix2 0 k)) (fun k => b (ix2 0 k)) j := by
  unfold out0_6
  rw [View.canon_unit_zero (by decide)]
  simp only [View.ld_unit_zero (S := S256x1024) (off := ![0, 0]) (by decide), View.ld_unit_zero (S := S1024x2816) (off := ![0, 0]) (by decide),
    View.ld_unit_zero (S := S2816x1024) (off := ![0, 0]) (by decide), View.ld_unit_zero (S := S1x1024) (off := ![0, 0]) (by decide)]
  unfold k0_pay1 k0_pay2 k0_pay3 k0_pay5
  simp only [shapeCast_self]
  refine (normed_tile _ g b _ _ _ _ _ _ r j).trans ?_
  refine congrArg (fun c => normed c _ _ j) (funext fun k => pay4_apply x wg wu wd r k)

end Cert.Proof.FfnS

end
-- ==== Proof.FfnSArray.lean ====
/-
  The feed-forward kernel's result array after the run: every row is the feed-forward block of that row of the
  argument (`FfnS.whole`). Each of the two grid points writes its own 256 rows.
-/
module

public import proofs.«01_k».proof.Proof.FfnSBlock
public import proofs.«01_k».proof.Proof.Reshapes
public import proofs.«01_k».proof.Proof.Gen.FfnSIdeal.Value

@[expose] public section

noncomputable section

namespace Cert.Proof.FfnS

open Cert.FfnSIdeal Cert.FfnSIdeal.Gen Cert.FfnSIdeal.Value Idealize.ShloMosaic Idealize.ShloMosaic.TcCoe Idealize.ShloMosaic.ValueIdx Idealize.SL.Sem Cert.Proof.Rows

/-- The feed-forward block of all rows. -/
def whole (x : (⟨3, ![128, 4, 1024]⟩ : Shape).Idx → EReal) (wg wu : (⟨3, ![1, 1024, 2816]⟩ : Shape).Idx → EReal)
    (wd : (⟨3, ![1, 2816, 1024]⟩ : Shape).Idx → EReal) (g b : (⟨2, ![1, 1024]⟩ : Shape).Idx → EReal)
    (i : (⟨2, ![512, 1024]⟩ : Shape).Idx) : EReal :=
  ffnRow (fun k => x (ix3 (groupOf (i 0)) (tokenOf (i 0)) k)) (fun k j => wg (ix3 0 k j)) (fun k j => wu (ix3 0 k j))
    (fun k j => wd (ix3 0 k j)) (fun k => g (ix2 0 k)) (fun k => b (ix2 0 k)) (i 1)

variable (m : (ℓ : Loc nD τ sig) → Buf (Elt Ideal) ℓ) (c : Dev nD)

/-! ### The windows' arrays at the region's entry -/

theorem entry_x (r : Fin 512) (k : Fin 1024) :
    V m c main_v0 (ix2 r k) = m ((c.tc : Thread nD τ).loc main_arg0) (ix3 (groupOf r) (tokenOf r) k) := by
  entry_read
  exact flattenS_apply (N := 1024) _ shapeCasts_S128x4x1024_S512x1024 r k

theorem entry_wg (k : Fin 1024) (j : Fin 2816) :
    V m c main_v2 (ix2 k j) = m ((c.tc : Thread nD τ).loc main_arg1) (ix3 0 k j) := by
  entry_read
  exact drop3_apply (M := 1024) (N := 2816) _ shapeCasts_S1x1024x2816_S1024x2816 k j

theorem entry_wu (k : Fin 1024) (j : Fin 2816) :
    V m c main_v4 (ix2 k j) = m ((c.tc : Thread nD τ).loc main_arg2) (ix3 0 k j) := by
  entry_read
  exact drop3_apply (M := 1024) (N := 2816) _ shapeCasts_S1x1024x2816_S1024x2816 k j

theorem entry_wd (k : Fin 2816) (j : Fin 1024) :
    V m c main_v6 (ix2 k j) = m ((c.tc : Thread nD τ).loc main_arg3) (ix3 0 k j) := by
  entry_read
  exact drop3_apply (M := 2816) (N := 1024) _ shapeCasts_S1x2816x1024_S2816x1024 k j

theorem entry_g (j : Fin 1024) : V m c main_v8 (ix2 0 j) = m ((c.tc : Thread nD τ).loc main_arg4) (ix2 0 j) := by
  entry_read
  exact rowVec_apply (N := 1024) _ shapeCasts_S1x1024_S1024 shapeCasts_S1024_S1x1024 j

theorem entry_b (j : Fin 1024) : V m c main_v10 (ix2 0 j) = m ((c.tc : Thread nD τ).loc main_arg5) (ix2 0 j) := by
  entry_read
  exact rowVec_apply (N := 1024) _ shapeCasts_S1x1024_S1024 shapeCasts_S1024_S1x1024 j

/-! ### The windows' blocks -/

/-- The block indices: the rows and the result move with the grid point, the weights stay. -/
theorem idx_facts : ∀ t : Fin cfg0.N, win0_0.index t 0 = t.val ∧ win0_0.index t 1 = 0
    ∧ (∀ a, win0_1.index t a = 0) ∧ (∀ a, win0_2.index t a = 0) ∧ (∀ a, win0_3.index t a = 0)
    ∧ (∀ a, win0_4.index t a = 0) ∧ (∀ a, win0_5.index t a = 0) ∧ win0_6.index t 0 = t.val ∧ win0_6.index t 1 = 0 :=
  (by decide +kernel : ∀ t : Fin grid0.N, win0_0.index t 0 = t.val ∧ win0_0.index t 1 = 0
    ∧ (∀ a, win0_1.index t a = 0) ∧ (∀ a, win0_2.index t a = 0) ∧ (∀ a, win0_3.index t a = 0)
    ∧ (∀ a, win0_4.index t a = 0) ∧ (∀ a, win0_5.index t a = 0) ∧ win0_6.index t 0 = t.val ∧ win0_6.index t 1 = 0)

/-- The flat row of row `r` of grid point `t`. -/
abbrev rowAt (t : Fin cfg0.N) (r : Fin 256) : Fin 512 := ⟨256 * t.val + r.val, by have := t.isLt; have : cfg0.N = 2 := N_0; omega⟩

theorem block_x (t : Fin cfg0.N) (r : Fin 256) (k : Fin 1024) :
    iblk m c 0 t (ix2 r k) = m ((c.tc : Thread nD τ).loc main_arg0) (ix3 (groupOf (rowAt t r)) (tokenOf (rowAt t r)) k) := by
  refine Eq.trans ?_ (entry_x m c (rowAt t r) k)
  refine congrArg (V m c main_v0) (?_ : (win0_0.rect t).emb (ix2 r k) = ix2 (rowAt t r) k)
  obtain ⟨e0, e1, -⟩ := idx_facts t
  refine Shape.idx_ext₂ ?_ ?_
  · rw [Pipeline.Window.rect_emb_val win0_0, e0]; show t.val * 256 + r.val = 256 * t.val + r.val; omega
  · rw [Pipeline.Window.rect_emb_val win0_0, e1]; show 0 * 1024 + k.val = k.val; omega

theorem block_wg (t : Fin cfg0.N) (k : Fin 1024) (j : Fin 2816) :
    iblk m c 1 t (ix2 k j) = m ((c.tc : Thread nD τ).loc main_arg1) (ix3 0 k j) := by
  refine Eq.trans ?_ (entry_wg m c k j)
  refine congrArg (V m c main_v2) (?_ : (win0_1.rect t).emb (ix2 k j) = ix2 k j)
  obtain ⟨-, -, e, -⟩ := idx_facts t
  exact funext fun a => Fin.ext (Pipeline.Window.rect_emb_val_of_index_zero win0_1 t a (e a) _)

theorem block_wu (t : Fin cfg0.N) (k : Fin 1024) (j : Fin 2816) :
    iblk m c 2 t (ix2 k j) = m ((c.tc : Thread nD τ).loc main_arg2) (ix3 0 k j) := by
  refine Eq.trans ?_ (entry_wu m c k j)
  refine congrArg (V m c main_v4) (?_ : (win0_2.rect t).emb (ix2 k j) = ix2 k j)
  obtain ⟨-, -, -, e, -⟩ := idx_facts t
  exact funext fun a => Fin.ext (Pipeline.Window.rect_emb_val_of_index_zero win0_2 t a (e a) _)

theorem block_wd (t : Fin cfg0.N) (k : Fin 2816) (j : Fin 1024) :
    iblk m c 3 t (ix2 k j) = m ((c.tc : Thread nD τ).loc main_arg3) (ix3 0 k j) := by
  refine Eq.trans ?_ (entry_wd m c k j)
  refine congrArg (V m c main_v6) (?_ : (win0_3.rect t).emb (ix2 k j) = ix2 k j)
  obtain ⟨-, -, -, -, e, -⟩ := idx_facts t
  exact funext fun a => Fin.ext (Pipeline.Window.rect_emb_val_of_index_zero win0_3 t a (e a) _)

theorem block_g (t : Fin cfg0.N) (j : Fin 1024) :
    iblk m c 4 t (ix2 0 j) = m ((c.tc : Thread nD τ).loc main_arg4) (ix2 0 j) := by
  refine Eq.trans ?_ (entry_g m c j)
  refine congrArg (V m c main_v8) (?_ : (win0_4.rect t).emb (ix2 0 j) = ix2 0 j)
  obtain ⟨-, -, -, -, -, e, -⟩ := idx_facts t
  exact funext fun a => Fin.ext (Pipeline.Window.rect_emb_val_of_index_zero win0_4 t a (e a) _)

theorem block_b (t : Fin cfg0.N) (j : Fin 1024) :
    iblk m c 5 t (ix2 0 j) = m ((c.tc : Thread nD τ).loc main_arg5) (ix2 0 j) := by
  refine Eq.trans ?_ (entry_b m c j)
  refine congrArg (V m c main_v10) (?_ : (win0_5.rect t).emb (ix2 0 j) = ix2 0 j)
  obtain ⟨-, -, -, -, -, -, e, -⟩ := idx_facts t
  exact funext fun a => Fin.ext (Pipeline.Window.rect_emb_val_of_index_zero win0_5 t a (e a) _)

/-! ### The result -/

/-- The result as a function of the launch contents. -/
abbrev result : (⟨2, ![512, 1024]⟩ : Shape).Idx → EReal :=
  whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- What a grid point writes back is its block of the result. -/
theorem flushed_eq (t : Fin cfg0.N) :
    (dats m 0 c).flushed 6 t = ((cfg0.win 6).blk t).view.read (Elt Ideal) (result m c) := by
  rw [flushed6]
  funext y
  obtain ⟨r, j, rfl⟩ : ∃ (r : Fin 256) (j : Fin 1024), y = ix2 r j := ⟨y 0, y 1, eq_ix2 y⟩
  have he : (win0_6.rect t).emb (ix2 r j) = ix2 (rowAt t r) j := by
    obtain ⟨-, -, -, -, -, -, -, e0, e1⟩ := idx_facts t
    refine Shape.idx_ext₂ ?_ ?_
    · rw [Pipeline.Window.rect_emb_val win0_6, e0]; show t.val * 256 + r.val = 256 * t.val + r.val; omega
    · rw [Pipeline.Window.rect_emb_val win0_6, e1]; show 0 * 1024 + j.val = j.val; omega
  show out0_6 (F := Ideal) (iblk m c 0 t) (iblk m c 1 t) (iblk m c 2 t) (iblk m c 3 t) (iblk m c 4 t) (iblk m c 5 t) (ix2 r j)
    = result m c ((win0_6.rect t).emb (ix2 r j))
  rw [he, out_apply]
  show _ = ffnRow _ _ _ _ _ _ j
  congr 1
  · exact funext fun k => block_x m c t r k
  · exact funext fun k => funext fun j => block_wg m c t k j
  · exact funext fun k => funext fun j => block_wu m c t k j
  · exact funext fun k => funext fun j => block_wd m c t k j
  · exact funext fun k => block_g m c t k
  · exact funext fun k => block_b m c t k

/-- An index lies in a grid point's block of the result when both coordinates do. -/
theorem mem_block (t : Fin cfg0.N) (i : S512x1024.Idx)
    (h0 : win0_6.index t 0 * 256 ≤ (i 0 : Nat) ∧ (i 0 : Nat) < win0_6.index t 0 * 256 + 256)
    (h1 : win0_6.index t 1 * 1024 ≤ (i 1 : Nat) ∧ (i 1 : Nat) < win0_6.index t 1 * 1024 + 1024) :
    i ∈ ((cfg0.win 6).blk t).view.set := by
  show i ∈ ((View.whole main_v11).slice (win0_6.rect t)).set
  rw [View.set_slice_whole, Rect.mem_set_unit]
  intro a
  match a with | ⟨0, _⟩ => exact h0 | ⟨1, _⟩ => exact h1

/-- After the last point the array holds the result: row `i` was written by point `i / 256`. -/
theorem final : (dats m 0 c).arrAt 6 cfg0.N = result m c :=
  (dats m 0 c).arrAt_eq_of_cover 6 (result m c) (fun t _ => flushed_eq m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_6 _, ?_⟩
    obtain ⟨-, -, -, -, -, -, -, e0, e1⟩ := idx_facts ⟨(i 0 : Nat) / 256, by omega⟩
    exact mem_block _ i (by rw [e0]; show (i 0 : Nat) / 256 * 256 ≤ (i 0 : Nat) ∧ (i 0 : Nat) < (i 0 : Nat) / 256 * 256 + 256; omega)
      (by rw [e1]; omega)

end Cert.Proof.FfnS

end
-- ==== Proof.FfnSRef.lean ====
/-
  The reference feed-forward block, read at an index: every row is the same function of that row (`Rows.ffnRow`).
-/
module

public import proofs.«01_k».proof.Proof.Rows
public import proofs.«01_k».proof.Proof.Reshapes
public import proofs.«01_k».proof.Proof.Gen.FfnSRefIdeal.Read

@[expose] public section

noncomputable section

namespace Cert.Proof.FfnSRef

open Cert.FfnSRefIdeal Cert.FfnSRefIdeal.Read Idealize.ShloMosaic Idealize.ShloMosaic.ValueIdx Cert.Proof.Rows
open scoped BigOperators

variable (x : (⟨3, ![128, 4, 1024]⟩ : Shape).Idx → EReal) (wg wu : (⟨3, ![1, 1024, 2816]⟩ : Shape).Idx → EReal)
    (wd : (⟨3, ![1, 2816, 1024]⟩ : Shape).Idx → EReal) (g b : (⟨2, ![1, 1024]⟩ : Shape).Idx → EReal)

theorem weight_g (k : Fin 1024) (j : Fin 2816) : val_main_v0 (F := Ideal) wg (ix2 k j) = wg (ix3 0 k j) := by
  rw [val_main_v0_apply]
  refine congrArg wg (funext fun a => Fin.ext ?_)
  match a with
  | ⟨0, _⟩ => rfl
  | ⟨1, _⟩ => show (k.val * 2816 + j.val) / 2816 % 1024 = k.val; omega
  | ⟨2, _⟩ => show (k.val * 2816 + j.val) % 2816 = j.val; omega

theorem weight_u (k : Fin 1024) (j : Fin 2816) : val_main_v3 (F := Ideal) wu (ix2 k j) = wu (ix3 0 k j) := weight_g wu k j

theorem weight_d (k : Fin 2816) (j : Fin 1024) : val_main_v6 (F := Ideal) wd (ix2 k j) = wd (ix3 0 k j) := by
  rw [val_main_v6_apply]
  refine congrArg wd (funext fun a => Fin.ext ?_)
  match a with
  | ⟨0, _⟩ => rfl
  | ⟨1, _⟩ => show (k.val * 1024 + j.val) / 1024 % 2816 = k.val; omega
  | ⟨2, _⟩ => show (k.val * 1024 + j.val) % 1024 = j.val; omega

/-- A dense layer of a row. -/
theorem gate_apply (b' : Fin 128) (s : Fin 4) (n : Fin 2816) :
    val_main_v1 (F := Ideal) x wg (ix3 b' s n) = rowMul (fun k => x (ix3 b' s k)) (fun k j => wg (ix3 0 k j)) n := by
  rw [val_main_v1_apply]
  refine Finset.sum_congr rfl fun k _ => ?_
  rw [show lidx_main_v1 (ix3 b' s n) k = ix3 b' s k from funext fun a => by match a with | ⟨0, _⟩ => rfl | ⟨1, _⟩ => rfl | ⟨2, _⟩ => rfl,
    show ridx_main_v1 (ix3 b' s n) k = ix2 k n from funext fun a => by match a with | ⟨0, _⟩ => rfl | ⟨1, _⟩ => rfl, weight_g]

theorem up_apply (b' : Fin 128) (s : Fin 4) (n : Fin 2816) :
    val_main_v4 (F := Ideal) x wu (ix3 b' s n) = rowMul (fun k => x (ix3 b' s k)) (fun k j => wu (ix3 0 k j)) n :=
  gate_apply x wu b' s n

/-- The hidden layer. -/
theorem hidden_apply (b' : Fin 128) (s : Fin 4) (n : Fin 2816) :
    val_main_v5 (F := Ideal) x wg wu (ix3 b' s n)
      = hidden (fun k => x (ix3 b' s k)) (fun k j => wg (ix3 0 k j)) (fun k j => wu (ix3 0 k j)) n := by
  rw [val_main_v5_apply, val_main_v2_apply, val_main_call0_v5_apply, val_main_call0_v4_apply, val_main_call0_v3_apply,
    val_main_call0_v2_apply, val_main_call0_v1_apply, val_main_call0_v0_apply, gate_apply, up_apply,
    val_main_call0_cst_apply, val_main_call0_cst_0_apply]
  show _ * Ideal.div (Ideal.ofBits .f32 0x3F800000#32) (Ideal.ofBits .f32 0x3F800000#32 + Ideal.exp (-_)) * _ = _
  rw [one_f32]
  rfl

/-- The residual sum of row `s` of batch `b'`. -/
abbrev summed (b' : Fin 128) (s : Fin 4) : Fin 1024 → EReal :=
  residual (fun k => x (ix3 b' s k)) (rowMul (hidden (fun k => x (ix3 b' s k)) (fun k j => wg (ix3 0 k j)) (fun k j => wu (ix3 0 k j)))
    (fun k j => wd (ix3 0 k j)))

theorem summed_apply (b' : Fin 128) (s : Fin 4) (j : Fin 1024) :
    val_main_v10 (F := Ideal) x wg wu wd (ix3 b' s j) = summed x wg wu wd b' s j := by
  rw [val_main_v10_apply, val_main_v9_apply, val_main_v8_apply, val_main_cst_apply, val_main_v7_apply]
  refine congrArg (_ + ·) (Finset.sum_congr rfl fun n _ => ?_)
  rw [show lidx_main_v7 (ix3 b' s j) n = ix3 b' s n from funext fun a => by match a with | ⟨0, _⟩ => rfl | ⟨1, _⟩ => rfl | ⟨2, _⟩ => rfl,
    show ridx_main_v7 (ix3 b' s j) n = ix2 n j from funext fun a => by match a with | ⟨0, _⟩ => rfl | ⟨1, _⟩ => rfl, weight_d, hidden_apply]

/-- The mean of a row. -/
theorem mean_apply (b' : Fin 128) (s : Fin 4) (z : Fin 1) :
    val_main_v16 (F := Ideal) x wg wu wd (ix3 b' s z) = mean (summed x wg wu wd b' s) := by
  rw [val_main_v16_apply, val_main_v15_apply, val_main_cst_1_apply, val_main_v14_apply, val_main_v13_apply, val_main_cst_0_apply]
  refine congrArg (fun h => Ideal.div h _) ?_
  show Ideal.ofBits .f32 0x00000000#32 + _ = _
  rw [Ideal.ofBits_zero_f32, zero_add]
  refine Finset.sum_congr rfl fun k _ => ?_
  rw [← summed_apply]
  refine congrArg _ (funext fun a => ?_)
  match a with | ⟨0, _⟩ => rfl | ⟨1, _⟩ => rfl | ⟨2, _⟩ => rfl

/-- A row less its mean. -/
theorem center_apply (b' : Fin 128) (s : Fin 4) (j : Fin 1024) :
    val_main_v25 (F := Ideal) x wg wu wd (ix3 b' s j) = center (summed x wg wu wd b' s) j := by
  rw [val_main_v25_apply, val_main_v24_apply, summed_apply]
  refine congrArg (_ - ·) ((congrArg _ ?_).trans (mean_apply x wg wu wd b' s 0))
  exact funext fun a => by match a with | ⟨0, _⟩ => rfl | ⟨1, _⟩ => rfl | ⟨2, _⟩ => rfl

/-- The mean of a row's squares. -/
theorem square_apply (b' : Fin 128) (s : Fin 4) (z : Fin 1) :
    val_main_v23 (F := Ideal) x wg wu wd (ix3 b' s z)
      = mean fun k => center (summed x wg wu wd b' s) k * center (summed x wg wu wd b' s) k := by
  rw [val_main_v23_apply, val_main_v22_apply, val_main_cst_3_apply, val_main_v21_apply, val_main_v20_apply, val_main_cst_2_apply]
  refine congrArg (fun h => Ideal.div h _) ?_
  show Ideal.ofBits .f32 0x00000000#32 + _ = _
  rw [Ideal.ofBits_zero_f32, zero_add]
  refine Finset.sum_congr rfl fun k _ => ?_
  have e : val_main_v18 (F := Ideal) x wg wu wd (ix3 b' s k) = center (summed x wg wu wd b' s) k := center_apply x wg wu wd b' s k
  rw [show idx_main_v20 (idx_main_v21 (ix3 b' s z)) k = ix3 b' s k from funext fun a => by match a with | ⟨0, _⟩ => rfl | ⟨1, _⟩ => rfl | ⟨2, _⟩ => rfl,
    val_main_v19_apply, e]
  rfl

/-- The scale and the shift of column `j`. -/
theorem scale_apply (b' : Fin 128) (s : Fin 4) (j : Fin 1024) : val_main_v32 (F := Ideal) g (ix3 b' s j) = g (ix2 0 j) := by
  rw [val_main_v32_apply, val_main_v31_apply, val_main_v11_apply]
  exact congrArg g (funext fun a => Fin.ext (by
    match a with | ⟨0, _⟩ => rfl | ⟨1, _⟩ => show j.val % 1024 = j.val; omega))

theorem shift_apply (b' : Fin 128) (s : Fin 4) (j : Fin 1024) : val_main_v35 (F := Ideal) b (ix3 b' s j) = b (ix2 0 j) :=
  scale_apply b b' s j

/-- The block of a row. -/
theorem row_apply (b' : Fin 128) (s : Fin 4) (j : Fin 1024) :
    val_main_v36 (F := Ideal) x wg wu wd g b (ix3 b' s j)
      = ffnRow (fun k => x (ix3 b' s k)) (fun k j => wg (ix3 0 k j)) (fun k j => wu (ix3 0 k j)) (fun k j => wd (ix3 0 k j))
          (fun k => g (ix2 0 k)) (fun k => b (ix2 0 k)) j := by
  rw [val_main_v36_apply, val_main_v33_apply, val_main_v30_apply, scale_apply, shift_apply, center_apply, val_main_v29_apply,
    val_main_v28_apply, val_main_v27_apply, val_main_v26_apply, val_main_cst_4_apply,
    show idx_main_v29 (ix3 b' s j) = ix3 b' s 0 from funext fun a => by match a with | ⟨0, _⟩ => rfl | ⟨1, _⟩ => rfl | ⟨2, _⟩ => rfl,
    square_apply]
  rfl

/-- The reference's result is the block of every row. -/
theorem whole_eq : val_main_v37 (F := Ideal) x wg wu wd g b = fun i =>
    ffnRow (fun k => x (ix3 (groupOf (i 0)) (tokenOf (i 0)) k)) (fun k j => wg (ix3 0 k j)) (fun k j => wu (ix3 0 k j))
      (fun k j => wd (ix3 0 k j)) (fun k => g (ix2 0 k)) (fun k => b (ix2 0 k)) (i 1) := by
  funext i
  obtain ⟨r, j, rfl⟩ : ∃ (r : Fin 512) (j : Fin 1024), i = ix2 r j := ⟨i 0, i 1, eq_ix2 i⟩
  rw [val_main_v37_apply, ← row_apply]
  refine congrArg _ (funext fun a => Fin.ext ?_)
  match a with
  | ⟨0, _⟩ => show (r.val * 1024 + j.val) / 4096 = r.val / 4; omega
  | ⟨1, _⟩ => show (r.val * 1024 + j.val) / 1024 % 4 = r.val % 4; omega
  | ⟨2, _⟩ => show (r.val * 1024 + j.val) % 1024 = j.val; omega

end Cert.Proof.FfnSRef

end
-- ==== Proof.FfnSEquation.lean ====
/-
  The feed-forward kernel and its reference end with the same array, from memories that agree on the arguments.
-/
module

public import proofs.«01_k».proof.Defs
public import proofs.«01_k».proof.Proof.FfnSArray
public import proofs.«01_k».proof.Proof.FfnSRef
public import proofs.«01_k».proof.Proof.Gen.FfnSIdeal
public import proofs.«01_k».proof.Proof.Gen.FfnSRefIdeal

@[expose] public section

noncomputable section

namespace Cert.Proof

open Idealize.ShloMosaic Idealize.ShloMosaic.TcCoe Idealize.SL.Sem

theorem algebraic_ffn_sample : algebraic_FfnSIdeal_FfnSRefIdeal (hFfnSIdeal := Cert.FfnSIdeal.Gen.facts) (hFfnSRefIdeal := Cert.FfnSRefIdeal.Gen.facts) := by
  intro m ρ m' ρ' _ hargs
  refine ⟨fun c => FfnS.result m c, ?_, ?_⟩
  · refine (θ_run _ _ _).mono (fun r h c => ?_) (Cert.FfnSIdeal.Value.run_blocks (F := Ideal) m ρ)
    exact ⟨(h c).1.trans (FfnS.final m c), (h c).2⟩
  · refine (θ_run _ _ _).mono (fun r h c => ?_) (Cert.FfnSRefIdeal.Value.run (F := Ideal) m' ρ')
    obtain ⟨h0, h1, h2, h3, h4, h5⟩ := hargs c
    refine ⟨(h c).1.trans ?_, (h c).2⟩
    rw [Cert.FfnSRefIdeal.Read.val_main_v37_eq, h0, h1, h2, h3, h4, h5]
    exact FfnSRef.whole_eq _ _ _ _ _ _

end Cert.Proof

end
-- ==== Proof.MergeSBlock.lean ====
/-
  One tile of the merge kernel: what its body leaves in the block of 256 rows is, row by row, the merge of that row's two
  branches with the output projection, the residual and the layer norm (`Rows.mergeRow`).
-/
module

public import proofs.«01_k».proof.Proof.Rows
public import proofs.«01_k».proof.Proof.Gen.MergeSIdeal.Skeleton
public import proofs.«01_k».proof.Proof.Gen.MergeSIdeal.Frame

@[expose] public section

noncomputable section

namespace Cert.Proof.MergeS

open Cert.MergeSIdeal Cert.MergeSIdeal.Gen Idealize.ShloMosaic Idealize.ShloMosaic.ValueIdx Cert.Proof.Rows

variable (x : FVec Ideal S256x1024 .f32) (p : FVec Ideal S256x512 .bf16) (a : FVec Ideal S256x1024 .f32)
  (ga gb : FVec Ideal S256x1024 .f32) (wp : FVec Ideal S512x1024 .bf16) (wa wo : FVec Ideal S1024x1024 .bf16)
  (g b : FVec Ideal S1x1024 .f32)

/-- The row sum the layer norm is taken of. -/
abbrev summed (r : Fin 256) : Fin 1024 → EReal :=
  residual (fun k => x (ix2 r k)) (rowMul (merged (fun k => p (ix2 r k)) (fun k => a (ix2 r k)) (fun k => ga (ix2 r k)) (fun k => gb (ix2 r k))
    (fun k j => wp (ix2 k j)) (fun k j => wa (ix2 k j))) (fun k j => wo (ix2 k j)))

/-- The merged branches through the output projection, with the residual. -/
theorem pay2_apply (r : Fin 256) (j : Fin 1024) :
    k0_pay2 (F := Ideal) p wp a wa ga gb x wo (ix2 r j) = summed x p a ga gb wp wa wo r j := by
  unfold k0_pay2
  simp only [shapeCast_self]
  rw [addf_apply, matmul_rows dot_S256x1024_S1024x1024_S256x1024_1_0_0_1_n_n rfl]
  refine congrArg₂ (· + ·) rfl (congrArg (fun h => rowMul h _ j) (funext fun n => ?_))
  have ep := matmul_rows dot_S256x512_S512x1024_S256x1024_1_0_0_1_n_n rfl none p wp r n
  have ea := matmul_rows dot_S256x1024_S1024x1024_S256x1024_1_0_0_1_n_n rfl none (truncf .bf16 a bitsLt_bf16_f32 : FVec Ideal S256x1024 .bf16) wa r n
  exact congrArg₂ (· + ·) (congrArg (Ideal.logistic (ga (ix2 r n)) * ·) ep) (congrArg (Ideal.logistic (gb (ix2 r n)) * ·) ea)

/-- What the body stores, at an index. -/
theorem out_apply (r : Fin 256) (j : Fin 1024) :
    out0_10 (F := Ideal) x p a ga gb wp wa wo g b (ix2 r j)
      = mergeRow (fun k => x (ix2 r k)) (fun k => p (ix2 r k)) (fun k => a (ix2 r k)) (fun k => ga (ix2 r k)) (fun k => gb (ix2 r k))
          (fun k j => wp (ix2 k j)) (fun k j => wa (ix2 k j)) (fun k j => wo (ix2 k j)) (fun k => g (ix2 0 k)) (fun k => b (ix2 0 k)) j := by
  unfold out0_10
  rw [View.canon_unit_zero (by decide)]
  simp only [View.ld_unit_zero (S := S256x1024) (off := ![0, 0]) (by decide), View.ld_unit_zero (S := S256x512) (off := ![0, 0]) (by decide),
    View.ld_unit_zero (S := S512x1024) (off := ![0, 0]) (by decide), View.ld_unit_zero (S := S1024x1024) (off := ![0, 0]) (by decide),
    View.ld_unit_zero (S := S1x1024) (off := ![0, 0]) (by decide)]
  unfold k0_pay1 k0_pay3 k0_pay4 k0_pay5
  simp only [shapeCast_self]
  refine (normed_tile _ g b _ _ _ _ _ _ r j).trans ?_
  refine congrArg (fun c => normed c _ _ j) (funext fun k => ?_)
  refine (center_tile _ _ _ _ _ _ r k).trans (congrArg (fun h => center h k) (funext fun n => ?_))
  exact pay2_apply x p a ga gb wp wa wo r n

end Cert.Proof.MergeS

end
-- ==== Proof.MergeSArray.lean ====
/-
  The merge kernel's result array after the run: every row is the merge of that row's branches (`MergeS.whole`). Each of
  the two grid points writes its own 256 rows.
-/
module

public import proofs.«01_k».proof.Proof.MergeSBlock
public import proofs.«01_k».proof.Proof.Reshapes
public import proofs.«01_k».proof.Proof.Gen.MergeSIdeal.Value

@[expose] public section

noncomputable section

namespace Cert.Proof.MergeS

open Cert.MergeSIdeal Cert.MergeSIdeal.Gen Cert.MergeSIdeal.Value Idealize.ShloMosaic Idealize.ShloMosaic.TcCoe Idealize.ShloMosaic.ValueIdx Idealize.SL.Sem Cert.Proof.Rows

/-- The merge of all rows. -/
def whole (x : (⟨3, ![128, 4, 1024]⟩ : Shape).Idx → EReal) (p : (⟨3, ![128, 4, 512]⟩ : Shape).Idx → EReal)
    (a ga gb : (⟨3, ![128, 4, 1024]⟩ : Shape).Idx → EReal) (wp : (⟨3, ![1, 512, 1024]⟩ : Shape).Idx → EReal)
    (wa wo : (⟨3, ![1, 1024, 1024]⟩ : Shape).Idx → EReal) (g b : (⟨2, ![1, 1024]⟩ : Shape).Idx → EReal)
    (i : (⟨2, ![512, 1024]⟩ : Shape).Idx) : EReal :=
  mergeRow (fun k => x (ix3 (groupOf (i 0)) (tokenOf (i 0)) k)) (fun k => p (ix3 (groupOf (i 0)) (tokenOf (i 0)) k))
    (fun k => a (ix3 (groupOf (i 0)) (tokenOf (i 0)) k)) (fun k => ga (ix3 (groupOf (i 0)) (tokenOf (i 0)) k))
    (fun k => gb (ix3 (groupOf (i 0)) (tokenOf (i 0)) k)) (fun k j => wp (ix3 0 k j)) (fun k j => wa (ix3 0 k j))
    (fun k j => wo (ix3 0 k j)) (fun k => g (ix2 0 k)) (fun k => b (ix2 0 k)) (i 1)

variable (m : (ℓ : Loc nD τ sig) → Buf (Elt Ideal) ℓ) (c : Dev nD)

/-! ### The windows' blocks -/

/-- The block indices: the rows and the result move with the grid point, the weights stay. -/
theorem idx_facts : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (∀ a, win0_5.index t a = 0) ∧ (∀ a, win0_6.index t a = 0) ∧ (∀ a, win0_7.index t a = 0) ∧ (∀ a, win0_8.index t a = 0) ∧ (∀ a, win0_9.index t a = 0)
    ∧ (win0_10.index t 0 = t.val ∧ win0_10.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (∀ a, win0_5.index t a = 0) ∧ (∀ a, win0_6.index t a = 0) ∧ (∀ a, win0_7.index t a = 0) ∧ (∀ a, win0_8.index t a = 0) ∧ (∀ a, win0_9.index t a = 0)
    ∧ (win0_10.index t 0 = t.val ∧ win0_10.index t 1 = 0))

/-- The flat row of row `r` of grid point `t`. -/
abbrev rowAt (t : Fin cfg0.N) (r : Fin 256) : Fin 512 := ⟨256 * t.val + r.val, by have := t.isLt; have : cfg0.N = 2 := N_0; omega⟩

theorem block_x (t : Fin cfg0.N) (r : Fin 256) (k : Fin 1024) :
    iblk m c 0 t (ix2 r k) = m ((c.tc : Thread nD τ).loc main_arg0) (ix3 (groupOf (rowAt t r)) (tokenOf (rowAt t r)) k) := by
  have he : (win0_0.rect t).emb (ix2 r k) = ix2 (rowAt t r) k := by
    obtain ⟨e0, e1⟩ := (idx_facts t).1
    refine Shape.idx_ext₂ ?_ ?_
    · rw [Pipeline.Window.rect_emb_val win0_0, e0]; show t.val * 256 + r.val = 256 * t.val + r.val; omega
    · rw [Pipeline.Window.rect_emb_val win0_0, e1]; show 0 * 1024 + k.val = k.val; omega
  refine (congrArg (V m c main_v0) he).trans ?_
  entry_read
  exact flattenS_apply (N := 1024) _ shapeCasts_S128x4x1024_S512x1024 (rowAt t r) k

theorem block_p (t : Fin cfg0.N) (r : Fin 256) (k : Fin 512) :
    iblk m c 1 t (ix2 r k) = m ((c.tc : Thread nD τ).loc main_arg1) (ix3 (groupOf (rowAt t r)) (tokenOf (rowAt t r)) k) := by
  have he : (win0_1.rect t).emb (ix2 r k) = ix2 (rowAt t r) k := by
    obtain ⟨e0, e1⟩ := (idx_facts t).2.1
    refine Shape.idx_ext₂ ?_ ?_
    · rw [Pipeline.Window.rect_emb_val win0_1, e0]; show t.val * 256 + r.val = 256 * t.val + r.val; omega
    · rw [Pipeline.Window.rect_emb_val win0_1, e1]; show 0 * 512 + k.val = k.val; omega
  refine (congrArg (V m c main_v2) he).trans ?_
  entry_read
  exact flattenS_apply (N := 512) _ shapeCasts_S128x4x512_S512x512 (rowAt t r) k

theorem block_a (t : Fin cfg0.N) (r : Fin 256) (k : Fin 1024) :
    iblk m c 2 t (ix2 r k) = m ((c.tc : Thread nD τ).loc main_arg2) (ix3 (groupOf (rowAt t r)) (tokenOf (rowAt t r)) k) := by
  have he : (win0_2.rect t).emb (ix2 r k) = ix2 (rowAt t r) k := by
    obtain ⟨e0, e1⟩ := (idx_facts t).2.2.1
    refine Shape.idx_ext₂ ?_ ?_
    · rw [Pipeline.Window.rect_emb_val win0_2, e0]; show t.val * 256 + r.val = 256 * t.val + r.val; omega
    · rw [Pipeline.Window.rect_emb_val win0_2, e1]; show 0 * 1024 + k.val = k.val; omega
  refine (congrArg (V m c main_v3) he).trans ?_
  entry_read
  exact flattenS_apply (N := 1024) _ shapeCasts_S128x4x1024_S512x1024 (rowAt t r) k

theorem block_ga (t : Fin cfg0.N) (r : Fin 256) (k : Fin 1024) :
    iblk m c 3 t (ix2 r k) = m ((c.tc : Thread nD τ).loc main_arg3) (ix3 (groupOf (rowAt t r)) (tokenOf (rowAt t r)) k) := by
  have he : (win0_3.rect t).emb (ix2 r k) = ix2 (rowAt t r) k := by
    obtain ⟨e0, e1⟩ := (idx_facts t).2.2.2.1
    refine Shape.idx_ext₂ ?_ ?_
    · rw [Pipeline.Window.rect_emb_val win0_3, e0]; show t.val * 256 + r.val = 256 * t.val + r.val; omega
    · rw [Pipeline.Window.rect_emb_val win0_3, e1]; show 0 * 1024 + k.val = k.val; omega
  refine (congrArg (V m c main_v4) he).trans ?_
  entry_read
  exact flattenS_apply (N := 1024) _ shapeCasts_S128x4x1024_S512x1024 (rowAt t r) k

theorem block_gb (t : Fin cfg0.N) (r : Fin 256) (k : Fin 1024) :
    iblk m c 4 t (ix2 r k) = m ((c.tc : Thread nD τ).loc main_arg4) (ix3 (groupOf (rowAt t r)) (tokenOf (rowAt t r)) k) := by
  have he : (win0_4.rect t).emb (ix2 r k) = ix2 (rowAt t r) k := by
    obtain ⟨e0, e1⟩ := (idx_facts t).2.2.2.2.1
    refine Shape.idx_ext₂ ?_ ?_
    · rw [Pipeline.Window.rect_emb_val win0_4, e0]; show t.val * 256 + r.val = 256 * t.val + r.val; omega
    · rw [Pipeline.Window.rect_emb_val win0_4, e1]; show 0 * 1024 + k.val = k.val; omega
  refine (congrArg (V m c main_v5) he).trans ?_
  entry_read
  exact flattenS_apply (N := 1024) _ shapeCasts_S128x4x1024_S512x1024 (rowAt t r) k

theorem block_wp (t : Fin cfg0.N) (k : Fin 512) (j : Fin 1024) :
    iblk m c 5 t (ix2 k j) = m ((c.tc : Thread nD τ).loc main_arg5) (ix3 0 k j) := by
  have he : (win0_5.rect t).emb (ix2 k j) = ix2 k j :=
    funext fun a => Fin.ext (Pipeline.Window.rect_emb_val_of_index_zero win0_5 t a ((idx_facts t).2.2.2.2.2.1 a) _)
  refine (congrArg (V m c main_v7) he).trans ?_
  entry_read
  exact drop3_apply (M := 512) (N := 1024) _ shapeCasts_S1x512x1024_S512x1024 k j

theorem block_wa (t : Fin cfg0.N) (k : Fin 1024) (j : Fin 1024) :
    iblk m c 6 t (ix2 k j) = m ((c.tc : Thread nD τ).loc main_arg6) (ix3 0 k j) := by
  have he : (win0_6.rect t).emb (ix2 k j) = ix2 k j :=
    funext fun a => Fin.ext (Pipeline.Window.rect_emb_val_of_index_zero win0_6 t a ((idx_facts t).2.2.2.2.2.2.1 a) _)
  refine (congrArg (V m c main_v9) he).trans ?_
  entry_read
  exact drop3_apply (M := 1024) (N := 1024) _ shapeCasts_S1x1024x1024_S1024x1024 k j

theorem block_wo (t : Fin cfg0.N) (k : Fin 1024) (j : Fin 1024) :
    iblk m c 7 t (ix2 k j) = m ((c.tc : Thread nD τ).loc main_arg7) (ix3 0 k j) := by
  have he : (win0_7.rect t).emb (ix2 k j) = ix2 k j :=
    funext fun a => Fin.ext (Pipeline.Window.rect_emb_val_of_index_zero win0_7 t a ((idx_facts t).2.2.2.2.2.2.2.1 a) _)
  refine (congrArg (V m c main_v11) he).trans ?_
  entry_read
  exact drop3_apply (M := 1024) (N := 1024) _ shapeCasts_S1x1024x1024_S1024x1024 k j

theorem block_g (t : Fin cfg0.N) (j : Fin 1024) : iblk m c 8 t (ix2 0 j) = m ((c.tc : Thread nD τ).loc main_arg8) (ix2 0 j) := by
  have he : (win0_8.rect t).emb (ix2 0 j) = ix2 0 j :=
    funext fun a => Fin.ext (Pipeline.Window.rect_emb_val_of_index_zero win0_8 t a ((idx_facts t).2.2.2.2.2.2.2.2.1 a) _)
  refine (congrArg (V m c main_v13) he).trans ?_
  entry_read
  exact rowVec_apply (N := 1024) _ shapeCasts_S1x1024_S1024 shapeCasts_S1024_S1x1024 j

theorem block_b (t : Fin cfg0.N) (j : Fin 1024) : iblk m c 9 t (ix2 0 j) = m ((c.tc : Thread nD τ).loc main_arg9) (ix2 0 j) := by
  have he : (win0_9.rect t).emb (ix2 0 j) = ix2 0 j :=
    funext fun a => Fin.ext (Pipeline.Window.rect_emb_val_of_index_zero win0_9 t a ((idx_facts t).2.2.2.2.2.2.2.2.2.1 a) _)
  refine (congrArg (V m c main_v15) he).trans ?_
  entry_read
  exact rowVec_apply (N := 1024) _ shapeCasts_S1x1024_S1024 shapeCasts_S1024_S1x1024 j

/-! ### The result -/

/-- The result as a function of the launch contents. -/
abbrev result : (⟨2, ![512, 1024]⟩ : Shape).Idx → EReal :=
  whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- What a grid point writes back is its block of the result. -/
theorem flushed_eq (t : Fin cfg0.N) :
    (dats m 0 c).flushed 10 t = ((cfg0.win 10).blk t).view.read (Elt Ideal) (result m c) := by
  rw [flushed10]
  funext y
  obtain ⟨r, j, rfl⟩ : ∃ (r : Fin 256) (j : Fin 1024), y = ix2 r j := ⟨y 0, y 1, eq_ix2 y⟩
  have he : (win0_10.rect t).emb (ix2 r j) = ix2 (rowAt t r) j := by
    obtain ⟨e0, e1⟩ := (idx_facts t).2.2.2.2.2.2.2.2.2.2
    refine Shape.idx_ext₂ ?_ ?_
    · rw [Pipeline.Window.rect_emb_val win0_10, e0]; show t.val * 256 + r.val = 256 * t.val + r.val; omega
    · rw [Pipeline.Window.rect_emb_val win0_10, e1]; show 0 * 1024 + j.val = j.val; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = result m c ((win0_10.rect t).emb (ix2 r j))
  rw [he, out_apply]
  show _ = mergeRow _ _ _ _ _ _ _ _ _ _ j
  congr 1
  · exact funext fun k => block_x m c t r k
  · exact funext fun k => block_p m c t r k
  · exact funext fun k => block_a m c t r k
  · exact funext fun k => block_ga m c t r k
  · exact funext fun k => block_gb m c t r k
  · exact funext fun k => funext fun j => block_wp m c t k j
  · exact funext fun k => funext fun j => block_wa m c t k j
  · exact funext fun k => funext fun j => block_wo m c t k j
  · exact funext fun k => block_g m c t k
  · exact funext fun k => block_b m c t k

/-- An index lies in a grid point's block of the result when both coordinates do. -/
theorem mem_block (t : Fin cfg0.N) (i : S512x1024.Idx)
    (h0 : win0_10.index t 0 * 256 ≤ (i 0 : Nat) ∧ (i 0 : Nat) < win0_10.index t 0 * 256 + 256)
    (h1 : win0_10.index t 1 * 1024 ≤ (i 1 : Nat) ∧ (i 1 : Nat) < win0_10.index t 1 * 1024 + 1024) :
    i ∈ ((cfg0.win 10).blk t).view.set := by
  show i ∈ ((View.whole main_v16).slice (win0_10.rect t)).set
  rw [View.set_slice_whole, Rect.mem_set_unit]
  intro a
  match a with | ⟨0, _⟩ => exact h0 | ⟨1, _⟩ => exact h1

/-- After the last point the array holds the result: row `i` was written by point `i / 256`. -/
theorem final : (dats m 0 c).arrAt 10 cfg0.N = result m c :=
  (dats m 0 c).arrAt_eq_of_cover 10 (result m c) (fun t _ => flushed_eq m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_10 _, ?_⟩
    obtain ⟨e0, e1⟩ := (idx_facts ⟨(i 0 : Nat) / 256, by omega⟩).2.2.2.2.2.2.2.2.2.2
    exact mem_block _ i (by rw [e0]; show (i 0 : Nat) / 256 * 256 ≤ (i 0 : Nat) ∧ (i 0 : Nat) < (i 0 : Nat) / 256 * 256 + 256; omega)
      (by rw [e1]; omega)

end Cert.Proof.MergeS

end
-- ==== Proof.MergeSRef.lean ====
/-
  The reference merge, read at an index: every row is the same function of that row (`Rows.mergeRow`).
-/
module

public import proofs.«01_k».proof.Proof.Rows
public import proofs.«01_k».proof.Proof.Reshapes
public import proofs.«01_k».proof.Proof.Gen.MergeSRefIdeal.Read

@[expose] public section

noncomputable section

namespace Cert.Proof.MergeSRef

open Cert.MergeSRefIdeal Cert.MergeSRefIdeal.Read Idealize.ShloMosaic Idealize.ShloMosaic.ValueIdx Cert.Proof.Rows
open scoped BigOperators

variable (x : (⟨3, ![128, 4, 1024]⟩ : Shape).Idx → EReal) (p : (⟨3, ![128, 4, 512]⟩ : Shape).Idx → EReal)
    (a ga gb : (⟨3, ![128, 4, 1024]⟩ : Shape).Idx → EReal) (wp : (⟨3, ![1, 512, 1024]⟩ : Shape).Idx → EReal)
    (wa wo : (⟨3, ![1, 1024, 1024]⟩ : Shape).Idx → EReal) (g b : (⟨2, ![1, 1024]⟩ : Shape).Idx → EReal)
    (b' : Fin 128) (s : Fin 4)

theorem weight_p (k : Fin 512) (j : Fin 1024) : val_main_v6 (F := Ideal) wp (ix2 k j) = wp (ix3 0 k j) := by
  rw [val_main_v6_apply]
  refine congrArg wp (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega

theorem weight_a (k : Fin 1024) (j : Fin 1024) : val_main_v15 (F := Ideal) wa (ix2 k j) = wa (ix3 0 k j) := by
  rw [val_main_v15_apply]
  refine congrArg wa (funext fun a => Fin.ext ?_)
  match a with
  | ⟨0, _⟩ => rfl
  | ⟨1, _⟩ => show (k.val * 1024 + j.val) / 1024 % 1024 = k.val; omega
  | ⟨2, _⟩ => show (k.val * 1024 + j.val) % 1024 = j.val; omega

theorem weight_o (k : Fin 1024) (j : Fin 1024) : val_main_v21 (F := Ideal) wo (ix2 k j) = wo (ix3 0 k j) := weight_a wo k j

/-- The host's sigmoid. -/
theorem sigmoid_apply (i : S128x4x1024.Idx) : val_main_v5 (F := Ideal) ga i = Ideal.logistic (ga i) := by
  rw [val_main_v5_apply, val_main_v4_apply, val_main_v3_apply, val_main_v2_apply, val_main_v1_apply, val_main_v0_apply,
    val_main_cst_apply, val_main_cst_0_apply]
  show Ideal.div (Ideal.ofBits .f32 0x3F800000#32) (Ideal.ofBits .f32 0x3F800000#32 + Ideal.exp (-_)) = _
  rw [one_f32]
  rfl

/-- The pool branch brought to the model's width, -/
theorem pool_apply (j : Fin 1024) :
    val_main_v7 (F := Ideal) p wp (ix3 b' s j) = rowMul (fun k => p (ix3 b' s k)) (fun k j => wp (ix3 0 k j)) j := by
  rw [val_main_v7_apply]
  refine Finset.sum_congr rfl fun k _ => ?_
  rw [show lidx_main_v7 (ix3 b' s j) k = ix3 b' s k from funext fun a => by match a with | ⟨0, _⟩ => rfl | ⟨1, _⟩ => rfl | ⟨2, _⟩ => rfl,
    show ridx_main_v7 (ix3 b' s j) k = ix2 k j from funext fun a => by match a with | ⟨0, _⟩ => rfl | ⟨1, _⟩ => rfl, weight_p]

/-- and the attention branch. -/
theorem attn_apply (j : Fin 1024) :
    val_main_v16 (F := Ideal) a wa (ix3 b' s j) = rowMul (fun k => a (ix3 b' s k)) (fun k j => wa (ix3 0 k j)) j := by
  rw [val_main_v16_apply]
  refine Finset.sum_congr rfl fun k _ => ?_
  rw [show lidx_main_v16 (ix3 b' s j) k = ix3 b' s k from funext fun a => by match a with | ⟨0, _⟩ => rfl | ⟨1, _⟩ => rfl | ⟨2, _⟩ => rfl,
    show ridx_main_v16 (ix3 b' s j) k = ix2 k j from funext fun a => by match a with | ⟨0, _⟩ => rfl | ⟨1, _⟩ => rfl, weight_a]

/-- The two branches, gated. -/
theorem merged_apply (j : Fin 1024) :
    val_main_v18 (F := Ideal) p a ga gb wp wa (ix3 b' s j)
      = merged (fun k => p (ix3 b' s k)) (fun k => a (ix3 b' s k)) (fun k => ga (ix3 b' s k)) (fun k => gb (ix3 b' s k))
          (fun k j => wp (ix3 0 k j)) (fun k j => wa (ix3 0 k j)) j := by
  have e : val_main_v14 (F := Ideal) gb (ix3 b' s j) = Ideal.logistic (gb (ix3 b' s j)) := sigmoid_apply gb _
  rw [val_main_v18_apply, val_main_v8_apply, val_main_v17_apply, sigmoid_apply, e, pool_apply, attn_apply]
  rfl

/-- The residual sum of row `s` of batch `b'`. -/
abbrev summed : Fin 1024 → EReal :=
  residual (fun k => x (ix3 b' s k)) (rowMul (merged (fun k => p (ix3 b' s k)) (fun k => a (ix3 b' s k)) (fun k => ga (ix3 b' s k))
    (fun k => gb (ix3 b' s k)) (fun k j => wp (ix3 0 k j)) (fun k j => wa (ix3 0 k j))) (fun k j => wo (ix3 0 k j)))

theorem summed_apply (j : Fin 1024) :
    val_main_v23 (F := Ideal) x p a ga gb wp wa wo (ix3 b' s j) = summed x p a ga gb wp wa wo b' s j := by
  rw [val_main_v23_apply, val_main_v20_apply, val_main_v19_apply, val_main_cst_3_apply, val_main_v22_apply]
  refine congrArg (_ + ·) (Finset.sum_congr rfl fun n _ => ?_)
  rw [show lidx_main_v22 (ix3 b' s j) n = ix3 b' s n from funext fun a => by match a with | ⟨0, _⟩ => rfl | ⟨1, _⟩ => rfl | ⟨2, _⟩ => rfl,
    show ridx_main_v22 (ix3 b' s j) n = ix2 n j from funext fun a => by match a with | ⟨0, _⟩ => rfl | ⟨1, _⟩ => rfl, weight_o, merged_apply]

/-- The mean of a row. -/
theorem mean_apply (z : Fin 1) : val_main_v29 (F := Ideal) x p a ga gb wp wa wo (ix3 b' s z) = mean (summed x p a ga gb wp wa wo b' s) := by
  rw [val_main_v29_apply, val_main_v28_apply, val_main_cst_5_apply, val_main_v27_apply, val_main_v26_apply, val_main_cst_4_apply]
  refine congrArg (fun h => Ideal.div h _) ?_
  show Ideal.ofBits .f32 0x00000000#32 + _ = _
  rw [Ideal.ofBits_zero_f32, zero_add]
  refine Finset.sum_congr rfl fun k _ => ?_
  rw [← summed_apply]
  refine congrArg _ (funext fun a => ?_)
  match a with | ⟨0, _⟩ => rfl | ⟨1, _⟩ => rfl | ⟨2, _⟩ => rfl

/-- A row less its mean. -/
theorem center_apply (j : Fin 1024) : val_main_v38 (F := Ideal) x p a ga gb wp wa wo (ix3 b' s j) = center (summed x p a ga gb wp wa wo b' s) j := by
  rw [val_main_v38_apply, val_main_v37_apply, summed_apply]
  refine congrArg (_ - ·) ((congrArg _ ?_).trans (mean_apply x p a ga gb wp wa wo b' s 0))
  exact funext fun a => by match a with | ⟨0, _⟩ => rfl | ⟨1, _⟩ => rfl | ⟨2, _⟩ => rfl

/-- The mean of a row's squares. -/
theorem square_apply (z : Fin 1) :
    val_main_v36 (F := Ideal) x p a ga gb wp wa wo (ix3 b' s z)
      = mean fun k => center (summed x p a ga gb wp wa wo b' s) k * center (summed x p a ga gb wp wa wo b' s) k := by
  rw [val_main_v36_apply, val_main_v35_apply, val_main_cst_7_apply, val_main_v34_apply, val_main_v33_apply, val_main_cst_6_apply]
  refine congrArg (fun h => Ideal.div h _) ?_
  show Ideal.ofBits .f32 0x00000000#32 + _ = _
  rw [Ideal.ofBits_zero_f32, zero_add]
  refine Finset.sum_congr rfl fun k _ => ?_
  have e : val_main_v31 (F := Ideal) x p a ga gb wp wa wo (ix3 b' s k) = center (summed x p a ga gb wp wa wo b' s) k := center_apply x p a ga gb wp wa wo b' s k
  rw [show idx_main_v33 (idx_main_v34 (ix3 b' s z)) k = ix3 b' s k from funext fun a => by match a with | ⟨0, _⟩ => rfl | ⟨1, _⟩ => rfl | ⟨2, _⟩ => rfl,
    val_main_v32_apply, e]
  rfl

/-- The scale and the shift of column `j`. -/
theorem scale_apply (j : Fin 1024) : val_main_v45 (F := Ideal) g (ix3 b' s j) = g (ix2 0 j) := by
  rw [val_main_v45_apply, val_main_v44_apply, val_main_v24_apply]
  exact congrArg g (funext fun a => Fin.ext (by
    match a with | ⟨0, _⟩ => rfl | ⟨1, _⟩ => show j.val % 1024 = j.val; omega))

theorem shift_apply (j : Fin 1024) : val_main_v48 (F := Ideal) b (ix3 b' s j) = b (ix2 0 j) := scale_apply b b' s j

/-- The merge of a row. -/
theorem row_apply (j : Fin 1024) :
    val_main_v49 (F := Ideal) x p a ga gb wp wa wo g b (ix3 b' s j)
      = mergeRow (fun k => x (ix3 b' s k)) (fun k => p (ix3 b' s k)) (fun k => a (ix3 b' s k)) (fun k => ga (ix3 b' s k))
          (fun k => gb (ix3 b' s k)) (fun k j => wp (ix3 0 k j)) (fun k j => wa (ix3 0 k j)) (fun k j => wo (ix3 0 k j))
          (fun k => g (ix2 0 k)) (fun k => b (ix2 0 k)) j := by
  rw [val_main_v49_apply, val_main_v46_apply, val_main_v43_apply, scale_apply, shift_apply, center_apply, val_main_v42_apply,
    val_main_v41_apply, val_main_v40_apply, val_main_v39_apply, val_main_cst_8_apply,
    show idx_main_v42 (ix3 b' s j) = ix3 b' s 0 from funext fun a => by match a with | ⟨0, _⟩ => rfl | ⟨1, _⟩ => rfl | ⟨2, _⟩ => rfl,
    square_apply]
  rfl

/-- The reference's result is the merge of every row. -/
theorem whole_eq : val_main_v50 (F := Ideal) x p a ga gb wp wa wo g b = fun i =>
    mergeRow (fun k => x (ix3 (groupOf (i 0)) (tokenOf (i 0)) k)) (fun k => p (ix3 (groupOf (i 0)) (tokenOf (i 0)) k))
      (fun k => a (ix3 (groupOf (i 0)) (tokenOf (i 0)) k)) (fun k => ga (ix3 (groupOf (i 0)) (tokenOf (i 0)) k))
      (fun k => gb (ix3 (groupOf (i 0)) (tokenOf (i 0)) k)) (fun k j => wp (ix3 0 k j)) (fun k j => wa (ix3 0 k j))
      (fun k j => wo (ix3 0 k j)) (fun k => g (ix2 0 k)) (fun k => b (ix2 0 k)) (i 1) := by
  funext i
  obtain ⟨r, j, rfl⟩ : ∃ (r : Fin 512) (j : Fin 1024), i = ix2 r j := ⟨i 0, i 1, eq_ix2 i⟩
  rw [val_main_v50_apply, ← row_apply]
  refine congrArg _ (funext fun a => Fin.ext ?_)
  match a with
  | ⟨0, _⟩ => show (r.val * 1024 + j.val) / 4096 = r.val / 4; omega
  | ⟨1, _⟩ => show (r.val * 1024 + j.val) / 1024 % 4 = r.val % 4; omega
  | ⟨2, _⟩ => show (r.val * 1024 + j.val) % 1024 = j.val; omega

end Cert.Proof.MergeSRef

end
-- ==== Proof.MergeSEquation.lean ====
/-
  The merge kernel and its reference end with the same array, from memories that agree on the arguments.
-/
module

public import proofs.«01_k».proof.Defs
public import proofs.«01_k».proof.Proof.MergeSArray
public import proofs.«01_k».proof.Proof.MergeSRef
public import proofs.«01_k».proof.Proof.Gen.MergeSIdeal
public import proofs.«01_k».proof.Proof.Gen.MergeSRefIdeal

@[expose] public section

noncomputable section

namespace Cert.Proof

open Idealize.ShloMosaic Idealize.ShloMosaic.TcCoe Idealize.SL.Sem

theorem algebraic_merge_sample : algebraic_MergeSIdeal_MergeSRefIdeal (hMergeSIdeal := Cert.MergeSIdeal.Gen.facts) (hMergeSRefIdeal := Cert.MergeSRefIdeal.Gen.facts) := by
  intro m ρ m' ρ' _ hargs
  refine ⟨fun c => MergeS.result m c, ?_, ?_⟩
  · refine (θ_run _ _ _).mono (fun r h c => ?_) (Cert.MergeSIdeal.Value.run_blocks (F := Ideal) m ρ)
    exact ⟨(h c).1.trans (MergeS.final m c), (h c).2⟩
  · refine (θ_run _ _ _).mono (fun r h c => ?_) (Cert.MergeSRefIdeal.Value.run (F := Ideal) m' ρ')
    obtain ⟨h0, h1, h2, h3, h4, h5, h6, h7, h8, h9⟩ := hargs c
    refine ⟨(h c).1.trans ?_, (h c).2⟩
    rw [Cert.MergeSRefIdeal.Read.val_main_v50_eq, h0, h1, h2, h3, h4, h5, h6, h7, h8, h9]
    exact MergeSRef.whole_eq _ _ _ _ _ _ _ _ _ _

end Cert.Proof

end
-- ==== Proof.ProjSBlock.lean ====
/-
  The projection kernel's body on a block of 256 rows, read at an index: what it stores into each of its eight results is
  the projection of that row of the block, with the rotary tables' rows of the block.
-/
module

public import proofs.«01_k».proof.Proof.Projection
public import proofs.«01_k».proof.Proof.Gen.ProjSIdeal.Frame

@[expose] public section

noncomputable section

namespace Cert.Proof.ProjS

open Cert.ProjSIdeal Cert.ProjSIdeal.Gen Idealize.ShloMosaic Idealize.ShloMosaic.ValueIdx Cert.Proof.Rows Cert.Proof.Projection
open scoped BigOperators

variable (x : FVec Ideal S256x1024 .f32) (w : FVec Ideal S1024x5632 .bf16) (c s : FVec Ideal S256x128 .f32)

/-- Column `n` of the projection of row `r`. -/
def col (r : Fin 256) (n : Fin 5632) : EReal := rowMul (fun k => x (ix2 r k)) (fun k j => w (ix2 k j)) n

/-! ### The tiles of the projection -/

/-- A tile of 512 columns of the projection, from column `o` on. -/
theorem chunk_apply (o : ℕ) (inb : ∀ a, (![0, o] : Fin 2 → Nat) a + S1024x512.size a ≤ S1024x5632.size a)
    (ho : o + 512 ≤ 5632) (r : Fin 256) (n : Fin 512) :
    matmul (φ₂ := .bf16) dot_S256x1024_S1024x512_S256x512_1_0_0_1_n_n none (truncf .bf16 x bitsLt_bf16_f32 : FVec Ideal S256x1024 .bf16)
      (View.ld (Val := Elt Ideal) (e' := .bf16) w (Rect.unit (s := S1024x5632) ![0, o] S1024x512.size inb) : FVec Ideal S1024x512 .bf16)
      (constant S256x512 .f32 0x00000000#32) (ix2 r n) = col x w r ⟨o + n.val, by omega⟩ := by
  refine (matmul_rows dot_S256x1024_S1024x512_S256x512_1_0_0_1_n_n rfl none _ _ r n).trans ?_
  exact Finset.sum_congr rfl fun k _ => congrArg (x (ix2 r k) * ·) (columns_apply w o inb ho k n)

theorem rows_eq : k0_pay5 (F := Ideal) (View.ld x r0_0) = (truncf .bf16 x bitsLt_bf16_f32 : FVec Ideal S256x1024 .bf16) := by
  unfold k0_pay5
  simp only [shapeCast_self, View.ld_unit_zero (S := S256x1024) (off := ![0, 0]) (by decide)]

theorem cos_eq : k0_pay6 (F := Ideal) (View.ld c r0_1) = c := by
  unfold k0_pay6
  simp only [shapeCast_self, View.ld_unit_zero (S := S256x128) (off := ![0, 0]) (by decide)]

theorem sin_eq : k0_pay7 (F := Ideal) (View.ld s r0_1) = s := by
  unfold k0_pay7
  simp only [shapeCast_self, View.ld_unit_zero (S := S256x128) (off := ![0, 0]) (by decide)]

/-- The tile that the body computes from a load of 512 columns. -/
theorem tile_apply (o : ℕ) (inb : ∀ a, (![0, o] : Fin 2 → Nat) a + S1024x512.size a ≤ S1024x5632.size a)
    (ho : o + 512 ≤ 5632) (r : Fin 256) (n : Fin 512) :
    k0_pay17 (F := Ideal) (k0_pay5 (View.ld x r0_0))
      (View.ld (Val := Elt Ideal) (e' := .bf16) w (Rect.unit (s := S1024x5632) ![0, o] S1024x512.size inb)) (ix2 r n)
      = col x w r ⟨o + n.val, by omega⟩ := by
  rw [rows_eq]
  unfold k0_pay17
  simp only [shapeCast_self]
  exact chunk_apply x w o inb ho r n

/-! ### The stores' places -/

theorem emb_head (o : ℕ) (inb : ∀ a, (![0, o] : Fin 2 → Nat) a + S256x128.size a ≤ S256x1024.size a) (ho : o + 128 ≤ 1024)
    (r : Fin 256) (d : Fin 128) :
    (Rect.unit (s := S256x1024) ![0, o] S256x128.size inb).emb (ix2 r d) = ix2 r ⟨o + d.val, by omega⟩ :=
  Shape.idx_ext₂ (by show 0 + 1 * r.val = r.val; omega) (by show o + 1 * d.val = o + d.val; omega)

theorem emb_half (o : ℕ) (inb : ∀ a, (![0, o] : Fin 2 → Nat) a + S256x512.size a ≤ S256x1024.size a) (ho : o + 512 ≤ 1024)
    (r : Fin 256) (d : Fin 512) :
    (Rect.unit (s := S256x1024) ![0, o] S256x512.size inb).emb (ix2 r d) = ix2 r ⟨o + d.val, by omega⟩ :=
  Shape.idx_ext₂ (by show 0 + 1 * r.val = r.val; omega) (by show o + 1 * d.val = o + d.val; omega)

/-! ### A head's store -/

/-- The rotated head of row `r` at column `j`, of the part that begins at column `o`. -/
def head (o : ℕ) (ho : o + 1024 ≤ 5632) (r : Fin 256) (j : Fin 1024) : EReal :=
  rotated (col x w r) o ho (fun d => c (ix2 r d)) (fun d => s (ix2 r d)) j

/-- A head cut out of a tile and rotated: the tile begins at column `e`, the head at `a` in the tile and at `p` in the result. -/
theorem head_piece (o : ℕ) (ho : o + 1024 ≤ 5632) (M : FVec Ideal S256x512 .f32) (e : ℕ) (he : e + 512 ≤ 5632)
    (hM : ∀ (r : Fin 256) (n : Fin 512), M (ix2 r n) = col x w r ⟨e + n.val, by omega⟩)
    (c' s' : FVec Ideal S256x128 .f32) (hc : c' = c) (hs : s' = s) (a p : ℕ) (hsl : S256x512.Slices ![0, a] S256x128)
    (hr : S256x128.Rotates 1 none) (ha : a + 128 ≤ 512) (hp : p + 128 ≤ 1024) (hd : 128 ∣ p) (hep : e + a = o + p)
    (r : Fin 256) (d : Fin 128) :
    addf (mulf (extractStridedSlice S256x128 ![0, a] M hsl : FVec Ideal S256x128 .f32) c')
      (mulf (dynamicRotate 1 64#32 none (extractStridedSlice S256x128 ![0, a] M hsl) hr : FVec Ideal S256x128 .f32) s') (ix2 r d)
      = head x w c s o ho r ⟨p + d.val, by omega⟩ := by
  subst hc hs
  refine (rotated_tile M c' s' a hsl hr ha r d).trans ?_
  obtain ⟨q, rfl⟩ := hd
  have hl : lane ⟨128 * q + d.val, by omega⟩ = d := Fin.ext (by show (128 * q + d.val) % 128 = d.val; omega)
  have hcol (d' : Fin 128) : col x w r (headCol o ho ⟨128 * q + d.val, by omega⟩ d') = M (ix2 r ⟨a + d'.val, by omega⟩) := by
    rw [hM]
    exact congrArg _ (Fin.ext (by show o + 128 * ((128 * q + d.val) / 128) + d'.val = e + (a + d'.val); omega))
  unfold head rotated
  rw [hl, hcol, hcol]

/-- A head's store into the keys is the head at the store's place. -/
theorem key_piece (o : ℕ) (ho : o + 1024 ≤ 5632) (M : FVec Ideal S256x512 .f32) (e : ℕ) (he : e + 512 ≤ 5632)
    (hM : ∀ (r : Fin 256) (n : Fin 512), M (ix2 r n) = col x w r ⟨e + n.val, by omega⟩)
    (a p : ℕ) (hsl : S256x512.Slices ![0, a] S256x128)
    (hr : S256x128.Rotates 1 none) (ha : a + 128 ≤ 512) (hp : p + 128 ≤ 1024) (hd : 128 ∣ p) (hep : e + a = o + p)
    (inb : ∀ a, (![0, p] : Fin 2 → Nat) a + S256x128.size a ≤ S256x1024.size a) (y : S256x128.Idx) :
    addf (mulf (extractStridedSlice S256x128 ![0, a] M hsl : FVec Ideal S256x128 .f32) (k0_pay6 (F := Ideal) (View.ld c r0_1)))
      (mulf (dynamicRotate 1 64#32 none (extractStridedSlice S256x128 ![0, a] M hsl) hr : FVec Ideal S256x128 .f32)
        (k0_pay7 (F := Ideal) (View.ld s r0_1))) y
      = (fun i : S256x1024.Idx => head x w c s o ho (i 0) (i 1)) ((Rect.unit (s := S256x1024) ![0, p] S256x128.size inb).emb y) := by
  obtain ⟨r, d, rfl⟩ : ∃ (r : Fin 256) (d : Fin 128), y = ix2 r d := ⟨y 0, y 1, eq_ix2 y⟩
  rw [emb_head p inb hp r d]
  exact head_piece x w c s o ho M e he hM _ _ (cos_eq c) (sin_eq s) a p hsl hr ha hp hd hep r d

/-! ### What the body stores -/

theorem u_apply (r : Fin 256) (j : Fin 512) :
    out0_4 (F := Ideal) x w c s (ix2 r j) = col x w r ⟨0 + j.val, by omega⟩ := by
  unfold out0_4
  rw [View.canon_unit_zero (by decide)]
  exact tile_apply x w 0 _ (by omega) r j

/-- The queries' scale is one. -/
theorem times_one (a : EReal) : a * Ideal.ofBits .f32 0x3F800000#32 = a := by
  rw [Ideal.ofBits_one_f32, mul_one]

theorem q_apply (r : Fin 256) (j : Fin 1024) :
    out0_5 (F := Ideal) x w c s (ix2 r j) = head x w c s 512 (by omega) r j := by
  unfold out0_5
  refine View.canon_apply_of_pieces (Val := Elt Ideal) (S := S256x1024) (e := .f32)
    (fun i => head x w c s 512 (by omega) (i 0) (i 1)) _ ?_ (ix2 r j) (cover0_5 _ _ _ _ _ _ _ _ _)
  intro p hp
  have ha := tile_apply x w 512 inb_S1024x5632_S1024x512_0_512 (by omega)
  have hb := tile_apply x w 1024 inb_S1024x5632_S1024x512_0_1024 (by omega)
  simp only [List.mem_cons, List.not_mem_nil, or_false] at hp
  rcases hp with rfl | rfl | rfl | rfl | rfl | rfl | rfl | rfl <;> intro (y : S256x128.Idx) <;>
    refine (times_one _).trans ?_
  · exact key_piece x w c s 512 (by omega) _ 1024 (by omega) hb 384 896 slices_S256x512_o0_384_S256x128 rotates_S256x128_d1 (by omega) (by omega) (by decide) (by omega) inb_S256x1024_S256x128_0_896 y
  · exact key_piece x w c s 512 (by omega) _ 1024 (by omega) hb 256 768 slices_S256x512_o0_256_S256x128 rotates_S256x128_d1 (by omega) (by omega) (by decide) (by omega) inb_S256x1024_S256x128_0_768 y
  · exact key_piece x w c s 512 (by omega) _ 1024 (by omega) hb 128 640 slices_S256x512_o0_128_S256x128 rotates_S256x128_d1 (by omega) (by omega) (by decide) (by omega) inb_S256x1024_S256x128_0_640 y
  · exact key_piece x w c s 512 (by omega) _ 1024 (by omega) hb 0 512 slices_S256x512_o0_0_S256x128 rotates_S256x128_d1 (by omega) (by omega) (by decide) (by omega) inb_S256x1024_S256x128_0_512 y
  · exact key_piece x w c s 512 (by omega) _ 512 (by omega) ha 384 384 slices_S256x512_o0_384_S256x128 rotates_S256x128_d1 (by omega) (by omega) (by decide) (by omega) inb_S256x1024_S256x128_0_384 y
  · exact key_piece x w c s 512 (by omega) _ 512 (by omega) ha 256 256 slices_S256x512_o0_256_S256x128 rotates_S256x128_d1 (by omega) (by omega) (by decide) (by omega) inb_S256x1024_S256x128_0_256 y
  · exact key_piece x w c s 512 (by omega) _ 512 (by omega) ha 128 128 slices_S256x512_o0_128_S256x128 rotates_S256x128_d1 (by omega) (by omega) (by decide) (by omega) inb_S256x1024_S256x128_0_128 y
  · exact key_piece x w c s 512 (by omega) _ 512 (by omega) ha 0 0 slices_S256x512_o0_0_S256x128 rotates_S256x128_d1 (by omega) (by omega) (by decide) (by omega) inb_S256x1024_S256x128_0_0 y

theorem k_apply (r : Fin 256) (j : Fin 1024) :
    out0_6 (F := Ideal) x w c s (ix2 r j) = head x w c s 1536 (by omega) r j := by
  unfold out0_6
  refine View.canon_apply_of_pieces (Val := Elt Ideal) (S := S256x1024) (e := .f32)
    (fun i => head x w c s 1536 (by omega) (i 0) (i 1)) _ ?_ (ix2 r j) (cover0_6 _ _ _ _ _ _ _ _ _)
  intro p hp
  have ha := tile_apply x w 1536 inb_S1024x5632_S1024x512_0_1536 (by omega)
  have hb := tile_apply x w 2048 inb_S1024x5632_S1024x512_0_2048 (by omega)
  simp only [List.mem_cons, List.not_mem_nil, or_false] at hp
  rcases hp with rfl | rfl | rfl | rfl | rfl | rfl | rfl | rfl <;> intro (y : S256x128.Idx)
  · exact key_piece x w c s 1536 (by omega) _ 2048 (by omega) hb 384 896 slices_S256x512_o0_384_S256x128 rotates_S256x128_d1 (by omega) (by omega) (by decide) (by omega) inb_S256x1024_S256x128_0_896 y
  · exact key_piece x w c s 1536 (by omega) _ 2048 (by omega) hb 256 768 slices_S256x512_o0_256_S256x128 rotates_S256x128_d1 (by omega) (by omega) (by decide) (by omega) inb_S256x1024_S256x128_0_768 y
  · exact key_piece x w c s 1536 (by omega) _ 2048 (by omega) hb 128 640 slices_S256x512_o0_128_S256x128 rotates_S256x128_d1 (by omega) (by omega) (by decide) (by omega) inb_S256x1024_S256x128_0_640 y
  · exact key_piece x w c s 1536 (by omega) _ 2048 (by omega) hb 0 512 slices_S256x512_o0_0_S256x128 rotates_S256x128_d1 (by omega) (by omega) (by decide) (by omega) inb_S256x1024_S256x128_0_512 y
  · exact key_piece x w c s 1536 (by omega) _ 1536 (by omega) ha 384 384 slices_S256x512_o0_384_S256x128 rotates_S256x128_d1 (by omega) (by omega) (by decide) (by omega) inb_S256x1024_S256x128_0_384 y
  · exact key_piece x w c s 1536 (by omega) _ 1536 (by omega) ha 256 256 slices_S256x512_o0_256_S256x128 rotates_S256x128_d1 (by omega) (by omega) (by decide) (by omega) inb_S256x1024_S256x128_0_256 y
  · exact key_piece x w c s 1536 (by omega) _ 1536 (by omega) ha 128 128 slices_S256x512_o0_128_S256x128 rotates_S256x128_d1 (by omega) (by omega) (by decide) (by omega) inb_S256x1024_S256x128_0_128 y
  · exact key_piece x w c s 1536 (by omega) _ 1536 (by omega) ha 0 0 slices_S256x512_o0_0_S256x128 rotates_S256x128_d1 (by omega) (by omega) (by decide) (by omega) inb_S256x1024_S256x128_0_0 y

theorem kb_apply (r : Fin 256) (j : Fin 1024) :
    out0_7 (F := Ideal) x w c s (ix2 r j) = head x w c s 1536 (by omega) r j := by
  unfold out0_7
  refine View.canon_apply_of_pieces (Val := Elt Ideal) (S := S256x1024) (e := .bf16)
    (fun i => head x w c s 1536 (by omega) (i 0) (i 1)) _ ?_ (ix2 r j) (cover0_7 _ _ _ _ _ _ _ _ _)
  intro p hp
  have ha := tile_apply x w 1536 inb_S1024x5632_S1024x512_0_1536 (by omega)
  have hb := tile_apply x w 2048 inb_S1024x5632_S1024x512_0_2048 (by omega)
  simp only [List.mem_cons, List.not_mem_nil, or_false] at hp
  rcases hp with rfl | rfl | rfl | rfl | rfl | rfl | rfl | rfl <;> intro (y : S256x128.Idx)
  · exact key_piece x w c s 1536 (by omega) _ 2048 (by omega) hb 384 896 slices_S256x512_o0_384_S256x128 rotates_S256x128_d1 (by omega) (by omega) (by decide) (by omega) inb_S256x1024_S256x128_0_896 y
  · exact key_piece x w c s 1536 (by omega) _ 2048 (by omega) hb 256 768 slices_S256x512_o0_256_S256x128 rotates_S256x128_d1 (by omega) (by omega) (by decide) (by omega) inb_S256x1024_S256x128_0_768 y
  · exact key_piece x w c s 1536 (by omega) _ 2048 (by omega) hb 128 640 slices_S256x512_o0_128_S256x128 rotates_S256x128_d1 (by omega) (by omega) (by decide) (by omega) inb_S256x1024_S256x128_0_640 y
  · exact key_piece x w c s 1536 (by omega) _ 2048 (by omega) hb 0 512 slices_S256x512_o0_0_S256x128 rotates_S256x128_d1 (by omega) (by omega) (by decide) (by omega) inb_S256x1024_S256x128_0_512 y
  · exact key_piece x w c s 1536 (by omega) _ 1536 (by omega) ha 384 384 slices_S256x512_o0_384_S256x128 rotates_S256x128_d1 (by omega) (by omega) (by decide) (by omega) inb_S256x1024_S256x128_0_384 y
  · exact key_piece x w c s 1536 (by omega) _ 1536 (by omega) ha 256 256 slices_S256x512_o0_256_S256x128 rotates_S256x128_d1 (by omega) (by omega) (by decide) (by omega) inb_S256x1024_S256x128_0_256 y
  · exact key_piece x w c s 1536 (by omega) _ 1536 (by omega) ha 128 128 slices_S256x512_o0_128_S256x128 rotates_S256x128_d1 (by omega) (by omega) (by decide) (by omega) inb_S256x1024_S256x128_0_128 y
  · exact key_piece x w c s 1536 (by omega) _ 1536 (by omega) ha 0 0 slices_S256x512_o0_0_S256x128 rotates_S256x128_d1 (by omega) (by omega) (by decide) (by omega) inb_S256x1024_S256x128_0_0 y

/-- A half's store of the plain product is the product at the store's place. -/
theorem half_piece (o : ℕ) (ho : o + 1024 ≤ 5632) (M : FVec Ideal S256x512 .f32) (p : ℕ) (hp : p + 512 ≤ 1024)
    (hM : ∀ (r : Fin 256) (n : Fin 512), M (ix2 r n) = col x w r ⟨o + p + n.val, by omega⟩)
    (inb : ∀ a, (![0, p] : Fin 2 → Nat) a + S256x512.size a ≤ S256x1024.size a) (y : S256x512.Idx) :
    M y = (fun i : S256x1024.Idx => col x w (i 0) ⟨o + (i 1).val, by have : (i 1).val < 1024 := (i 1).isLt; omega⟩)
      ((Rect.unit (s := S256x1024) ![0, p] S256x512.size inb).emb y) := by
  obtain ⟨r, d, rfl⟩ : ∃ (r : Fin 256) (d : Fin 512), y = ix2 r d := ⟨y 0, y 1, eq_ix2 y⟩
  rw [emb_half p inb hp r d, hM]
  exact congrArg (col x w r) (Fin.ext (Nat.add_assoc o p d.val) : (⟨o + p + d.val, _⟩ : Fin 5632) = ⟨o + (p + d.val), by omega⟩)

theorem v_apply (r : Fin 256) (j : Fin 1024) :
    out0_8 (F := Ideal) x w c s (ix2 r j) = col x w r ⟨2560 + j.val, by omega⟩ := by
  unfold out0_8
  refine View.canon_apply_of_pieces (Val := Elt Ideal) (S := S256x1024) (e := .f32)
    (fun i => col x w (i 0) ⟨2560 + (i 1).val, by have : (i 1).val < 1024 := (i 1).isLt; omega⟩) _ ?_ (ix2 r j)
    (cover0_8 _ _ _)
  intro p hp
  simp only [List.mem_cons, List.not_mem_nil, or_false] at hp
  rcases hp with rfl | rfl <;> intro (y : S256x512.Idx)
  · exact half_piece x w 2560 (by omega) _ 512 (by omega) (tile_apply x w 3072 inb_S1024x5632_S1024x512_0_3072 (by omega)) inb_S256x1024_S256x512_0_512 y
  · exact half_piece x w 2560 (by omega) _ 0 (by omega) (tile_apply x w 2560 inb_S1024x5632_S1024x512_0_2560 (by omega)) inb_S256x1024_S256x512_0_0 y

theorem vb_apply (r : Fin 256) (j : Fin 1024) :
    out0_9 (F := Ideal) x w c s (ix2 r j) = col x w r ⟨2560 + j.val, by omega⟩ := by
  unfold out0_9
  refine View.canon_apply_of_pieces (Val := Elt Ideal) (S := S256x1024) (e := .bf16)
    (fun i => col x w (i 0) ⟨2560 + (i 1).val, by have : (i 1).val < 1024 := (i 1).isLt; omega⟩) _ ?_ (ix2 r j)
    (cover0_9 _ _ _)
  intro p hp
  simp only [List.mem_cons, List.not_mem_nil, or_false] at hp
  rcases hp with rfl | rfl <;> intro (y : S256x512.Idx)
  · exact half_piece x w 2560 (by omega) _ 512 (by omega) (tile_apply x w 3072 inb_S1024x5632_S1024x512_0_3072 (by omega)) inb_S256x1024_S256x512_0_512 y
  · exact half_piece x w 2560 (by omega) _ 0 (by omega) (tile_apply x w 2560 inb_S1024x5632_S1024x512_0_2560 (by omega)) inb_S256x1024_S256x512_0_0 y

theorem ga_apply (r : Fin 256) (j : Fin 1024) :
    out0_10 (F := Ideal) x w c s (ix2 r j) = col x w r ⟨3584 + j.val, by omega⟩ := by
  unfold out0_10
  refine View.canon_apply_of_pieces (Val := Elt Ideal) (S := S256x1024) (e := .f32)
    (fun i => col x w (i 0) ⟨3584 + (i 1).val, by have : (i 1).val < 1024 := (i 1).isLt; omega⟩) _ ?_ (ix2 r j)
    (cover0_10 _ _ _)
  intro p hp
  simp only [List.mem_cons, List.not_mem_nil, or_false] at hp
  rcases hp with rfl | rfl <;> intro (y : S256x512.Idx)
  · exact half_piece x w 3584 (by omega) _ 512 (by omega) (tile_apply x w 4096 inb_S1024x5632_S1024x512_0_4096 (by omega)) inb_S256x1024_S256x512_0_512 y
  · exact half_piece x w 3584 (by omega) _ 0 (by omega) (tile_apply x w 3584 inb_S1024x5632_S1024x512_0_3584 (by omega)) inb_S256x1024_S256x512_0_0 y

theorem gb_apply (r : Fin 256) (j : Fin 1024) :
    out0_11 (F := Ideal) x w c s (ix2 r j) = col x w r ⟨4608 + j.val, by omega⟩ := by
  unfold out0_11
  refine View.canon_apply_of_pieces (Val := Elt Ideal) (S := S256x1024) (e := .f32)
    (fun i => col x w (i 0) ⟨4608 + (i 1).val, by have : (i 1).val < 1024 := (i 1).isLt; omega⟩) _ ?_ (ix2 r j)
    (cover0_11 _ _ _)
  intro p hp
  simp only [List.mem_cons, List.not_mem_nil, or_false] at hp
  rcases hp with rfl | rfl <;> intro (y : S256x512.Idx)
  · exact half_piece x w 4608 (by omega) _ 512 (by omega) (tile_apply x w 5120 inb_S1024x5632_S1024x512_0_5120 (by omega)) inb_S256x1024_S256x512_0_512 y
  · exact half_piece x w 4608 (by omega) _ 0 (by omega) (tile_apply x w 4608 inb_S1024x5632_S1024x512_0_4608 (by omega)) inb_S256x1024_S256x512_0_0 y

end Cert.Proof.ProjS

end
-- ==== Proof.ProjectionS.lean ====
/-
  The results of the input projection of the sampled tokens, as functions of the arguments: 128 sequences of four tokens,
  which stand at the positions 8192 to 8195.
-/
module

public import proofs.«01_k».proof.Proof.Projection

@[expose] public section

noncomputable section

namespace Cert.Proof.ProjectionS

open Idealize.ShloMosaic Idealize.ShloMosaic.ValueIdx Cert.Proof.Rows
open Cert.Proof.Projection hiding column turned part512 part1024 queries keys rowIn

variable (x : (⟨3, ![128, 4, 1024]⟩ : Shape).Idx → EReal) (w : (⟨3, ![1, 1024, 5632]⟩ : Shape).Idx → EReal)

/-- The position of a flat row: the sampled tokens follow the 8192 of the prompt. -/
def place (r : Fin 512) : ℕ := 8192 + r.val % 4

/-- Column `n` of the projection of flat row `r`. -/
def column (r : Fin 512) (n : Fin 5632) : EReal :=
  rowMul (fun k => x (ix3 (groupOf r) (tokenOf r) k)) (fun k n => w (ix3 0 k n)) n

/-- Column `j` of the rotated part that begins at column `o`, of flat row `r`. -/
def turned (o : ℕ) (ho : o + 1024 ≤ 5632) (r : Fin 512) (j : Fin 1024) : EReal :=
  rotated (column x w r) o ho (cosine (place r)) (signedSine (place r)) j

/-- 512 columns from column `o` on. -/
def part512 (o : ℕ) (ho : o + 512 ≤ 5632) (i : (⟨2, ![512, 512]⟩ : Shape).Idx) : EReal :=
  column x w (i 0) ⟨o + (i 1).val, by have : (i 1).val < 512 := (i 1).isLt; omega⟩

/-- 1024 columns from column `o` on. -/
def part1024 (o : ℕ) (ho : o + 1024 ≤ 5632) (i : (⟨2, ![512, 1024]⟩ : Shape).Idx) : EReal :=
  column x w (i 0) ⟨o + (i 1).val, by have : (i 1).val < 1024 := (i 1).isLt; omega⟩

/-- The rotated queries. -/
def queries (i : (⟨2, ![512, 1024]⟩ : Shape).Idx) : EReal := turned x w 512 (by omega) (i 0) (i 1)

/-- The rotated keys. -/
def keys (i : (⟨2, ![512, 1024]⟩ : Shape).Idx) : EReal := turned x w 1536 (by omega) (i 0) (i 1)

/-- Row `r` of block `b`. -/
def rowIn (b : Fin 2) (r : Fin 256) : Fin 512 := ⟨256 * b.val + r.val, by omega⟩

end Cert.Proof.ProjectionS

end
-- ==== Proof.ProjSTables.lean ====
/-
  The host's table of the positions of the sampled tokens and of their rotary angles.
-/
module

public import proofs.«01_k».proof.Proof.ProjSBlock
public import proofs.«01_k».proof.Proof.ProjectionS
public import proofs.«01_k».proof.Proof.Reshapes
public import proofs.«01_k».proof.Proof.Gen.ProjSIdeal.Frame

@[expose] public section

noncomputable section

namespace Cert.Proof.ProjS

open Cert.ProjSIdeal Cert.ProjSIdeal.Gen Idealize.ShloMosaic Idealize.ShloMosaic.TcCoe Idealize.ShloMosaic.ValueIdx Idealize.SL.Sem Cert.Proof.Rows
open Cert.Proof.Projection hiding column turned part512 part1024 queries keys rowIn
open Cert.Proof.ProjectionS
open scoped BigOperators

/-- The scalar 4 that the positions are taken modulo. -/
abbrev modulus : IVec S_ 32 := select (cmpi .eq (constantI S_ 32 4#32) (constantI S_ 32 0#32)) (constantI S_ 32 1#32) (constantI S_ 32 4#32)

/-- The remainder of the flat rows by the modulus, before its sign is settled. -/
abbrev remainder : IVec S512 32 := Host.remsi (iotaInDim S512 32 0) (broadcastInDim S512 ![] bcast_S_S512 modulus)

/-- The table of the positions, as the host computes it. -/
abbrev positions : IVec S512 32 :=
  addi (broadcastInDim S512 ![] bcast_S_S512 (constantI S_ 32 8192#32))
    (select
      (andi (cmpi .ne (cmpi .slt remainder (broadcastInDim S512 ![] bcast_S_S512 (constantI S_ 32 0#32)))
          (broadcastInDim S512 ![] bcast_S_S512 (cmpi .slt modulus (constantI S_ 32 0#32))))
        (cmpi .ne remainder (broadcastInDim S512 ![] bcast_S_S512 (constantI S_ 32 0#32))))
      (addi remainder (broadcastInDim S512 ![] bcast_S_S512 modulus)) remainder)

theorem positions_apply (r : Fin 512) : positions (ix1 r) = BitVec.ofNat 32 (place r) := by
  revert r
  decide +kernel

/-- The table of the angles, as the host computes it. -/
abbrev angles : FVec Ideal S512x64 .f32 :=
  mulf (broadcastInDim S512x64 ![0, 1] bcast_S512x1_S512x64_0_1
      (broadcastInDim S512x1 ![0] bcast_S512_S512x1_0 (sitofp .f32 positions : FVec Ideal S512 .f32)))
    (broadcastInDim S512x64 ![0, 1] bcast_S1x64_S512x64_0_1
      (broadcastInDim S1x64 ![1] bcast_S64_S1x64_1
        (Host.powf (broadcastInDim S64 ![] bcast_S_S64 (constant S_ .f32 0x461C4000#32 : FVec Ideal S_ .f32))
          (Host.divf (Host.negf (sitofp .f32 (iotaInDim S64 32 0) : FVec Ideal S64 .f32))
            (broadcastInDim S64 ![] bcast_S_S64 (constant S_ .f32 0x42800000#32))))))

theorem angles_apply (r : Fin 512) (d : Fin 64) : angles (ix2 r d) = angle (place r) d :=
  congrArg (fun b => (FloatOps.sitofp (F := Ideal) .f32 b : EReal) * frequency d) (positions_apply r)

theorem cos_angles (r : Fin 512) (d : Fin 128) : Host.cos angles (ix2 r (half d)) = cosine (place r) d := by
  unfold cosine
  rw [← angles_apply]
  generalize angles = a
  rfl

theorem sin_angles (r : Fin 512) (d : Fin 128) : Host.sin angles (ix2 r (half d)) = sine (place r) d := by
  unfold sine
  rw [← angles_apply]
  generalize angles = a
  rfl

theorem sines_apply (r : Fin 512) (d : Fin 128) :
    (if d.val < 64 then Host.negf (Host.sin angles) (ix2 r (half d)) else Host.sin angles (ix2 r (half d))) = signedSine (place r) d := by
  unfold signedSine
  rw [← sin_angles]
  generalize Host.sin angles = a
  rfl

end Cert.Proof.ProjS

end
-- ==== Proof.ProjSArray.lean ====
/-
  The projection kernel's eight result arrays after the run: the rows' columns of the projection, and the rotated
  queries and keys. Each of the two grid points writes its own 256 rows.
-/
module

public import proofs.«01_k».proof.Proof.ProjSBlock
public import proofs.«01_k».proof.Proof.ProjectionS
public import proofs.«01_k».proof.Proof.ProjSTables
public import proofs.«01_k».proof.Proof.Reshapes
public import proofs.«01_k».proof.Proof.Gen.ProjSIdeal.Frame

@[expose] public section

noncomputable section

namespace Cert.Proof.ProjS

open Cert.ProjSIdeal Cert.ProjSIdeal.Gen Idealize.ShloMosaic Idealize.ShloMosaic.TcCoe Idealize.ShloMosaic.ValueIdx Idealize.SL.Sem Cert.Proof.Rows
open Cert.Proof.Projection hiding column turned part512 part1024 queries keys rowIn
open Cert.Proof.ProjectionS
open scoped BigOperators

variable (m : (ℓ : Loc nD τ sig) → Buf (Elt Ideal) ℓ) (c : Dev nD)

/-! ### The tables -/

/-- Two tables of 64 lanes side by side. -/
theorem pair_apply (a b : FVec Ideal S512x64 .f32) (p : Fin 512) (d : Fin 128) :
    concatenate S512x128 1 [⟨S512x64, a⟩, ⟨S512x64, b⟩] concatenates_S512x64_S512x64_S512x128_d1 (ix2 p d)
      = if d.val < 64 then a (ix2 p (half d)) else b (ix2 p (half d)) := by
  split
  · next h =>
    exact concatenate_pair_apply_left (1 : Fin S512x128.rank) a b _ (ix2 p d) rfl (ix2 p (half d)) fun e => by
      match e with | ⟨0, _⟩ => rfl | ⟨1, _⟩ => show d.val % 64 = d.val; omega
  · next h =>
    refine concatenate_pair_apply_right (1 : Fin S512x128.rank) a b _ (ix2 p d) rfl rfl (ix2 p (half d)) (fun e he => ?_) ?_
    · match e with | ⟨0, _⟩ => rfl | ⟨1, _⟩ => exact absurd rfl he
    · show d.val % 64 + 64 = d.val; omega

theorem entry_cos (p : Fin 512) (d : Fin 128) : V m c main_v18 (ix2 p d) = cosine (place p) d := by
  unfold V V0
  simp only [hostOps0, hostOps0_1, hostOps0_2, List.flatten_cons, List.flatten_nil, List.append_nil, List.cons_append, List.nil_append]
  entry_read
  refine (pair_apply _ _ p d).trans ?_
  simp -implicitDefEqProofs only [StableHlo.TRef.ofBuf, StableHlo.TRef.toBuf, cast_eq, ite_self]
  exact cos_angles p d

theorem entry_sin (p : Fin 512) (d : Fin 128) : V m c main_v20 (ix2 p d) = signedSine (place p) d := by
  unfold V V0
  simp only [hostOps0, hostOps0_1, hostOps0_2, List.flatten_cons, List.flatten_nil, List.append_nil, List.cons_append, List.nil_append]
  entry_read
  refine (pair_apply _ _ p d).trans ?_
  simp -implicitDefEqProofs only [StableHlo.TRef.ofBuf, StableHlo.TRef.toBuf, cast_eq]
  exact sines_apply p d

theorem entry_x (r : Fin 512) (k : Fin 1024) :
    V m c main_v21 (ix2 r k) = m ((c.tc : Thread nD τ).loc main_arg0) (ix3 (groupOf r) (tokenOf r) k) := by
  entry_read
  exact flattenS_apply (N := 1024) _ shapeCasts_S128x4x1024_S512x1024 r k

theorem entry_w (k : Fin 1024) (n : Fin 5632) :
    V m c main_v23 (ix2 k n) = m ((c.tc : Thread nD τ).loc main_arg1) (ix3 0 k n) := by
  entry_read
  exact drop3_apply (M := 1024) (N := 5632) _ shapeCasts_S1x1024x5632_S1024x5632 k n

/-! ### The windows' blocks -/

/-- The input windows' block indices: the rows move with the grid point, and so do the tables; the weights stay. -/
theorem idx_in : ∀ t : Fin cfg0.N, win0_0.index t 0 = t.val ∧ win0_0.index t 1 = 0
    ∧ (∀ a, win0_1.index t a = 0) ∧ win0_2.index t 0 = t.val ∧ win0_2.index t 1 = 0
    ∧ win0_3.index t 0 = t.val ∧ win0_3.index t 1 = 0 :=
  (by decide +kernel : ∀ t : Fin grid0.N, win0_0.index t 0 = t.val ∧ win0_0.index t 1 = 0
    ∧ (∀ a, win0_1.index t a = 0) ∧ win0_2.index t 0 = t.val ∧ win0_2.index t 1 = 0
    ∧ win0_3.index t 0 = t.val ∧ win0_3.index t 1 = 0)

/-- The block that grid point `t` computes. -/
abbrev blockAt (t : Fin cfg0.N) : Fin 2 := ⟨t.val, by have := t.isLt; have : cfg0.N = 2 := N_0; omega⟩

theorem block_x (t : Fin cfg0.N) (r : Fin 256) (k : Fin 1024) :
    iblk m c 0 t (ix2 r k)
      = m ((c.tc : Thread nD τ).loc main_arg0) (ix3 (groupOf (rowIn (blockAt t) r)) (tokenOf (rowIn (blockAt t) r)) k) := by
  refine Eq.trans ?_ (entry_x m c (rowIn (blockAt t) r) k)
  refine congrArg (V m c main_v21) (?_ : (win0_0.rect t).emb (ix2 r k) = ix2 (rowIn (blockAt t) r) k)
  obtain ⟨e0, e1, -⟩ := idx_in t
  refine Shape.idx_ext₂ ?_ ?_
  · rw [Pipeline.Window.rect_emb_val win0_0, e0]; show t.val * 256 + r.val = 256 * t.val + r.val; omega
  · rw [Pipeline.Window.rect_emb_val win0_0, e1]; show 0 * 1024 + k.val = k.val; omega

theorem block_w (t : Fin cfg0.N) (k : Fin 1024) (n : Fin 5632) :
    iblk m c 1 t (ix2 k n) = m ((c.tc : Thread nD τ).loc main_arg1) (ix3 0 k n) := by
  refine Eq.trans ?_ (entry_w m c k n)
  refine congrArg (V m c main_v23) (?_ : (win0_1.rect t).emb (ix2 k n) = ix2 k n)
  obtain ⟨-, -, e, -⟩ := idx_in t
  exact funext fun a => Fin.ext (Pipeline.Window.rect_emb_val_of_index_zero win0_1 t a (e a) _)

theorem block_cos (t : Fin cfg0.N) (r : Fin 256) (d : Fin 128) :
    iblk m c 2 t (ix2 r d) = cosine (place (rowIn (blockAt t) r)) d := by
  refine Eq.trans ?_ (entry_cos m c (rowIn (blockAt t) r) d)
  refine congrArg (V m c main_v18) (?_ : (win0_2.rect t).emb (ix2 r d) = ix2 (rowIn (blockAt t) r) d)
  obtain ⟨-, -, -, e0, e1, -⟩ := idx_in t
  refine Shape.idx_ext₂ ?_ ?_
  · rw [Pipeline.Window.rect_emb_val win0_2, e0]; show t.val * 256 + r.val = 256 * t.val + r.val; omega
  · rw [Pipeline.Window.rect_emb_val win0_2, e1]; show 0 * 128 + d.val = d.val; omega

theorem block_sin (t : Fin cfg0.N) (r : Fin 256) (d : Fin 128) :
    iblk m c 3 t (ix2 r d) = signedSine (place (rowIn (blockAt t) r)) d := by
  refine Eq.trans ?_ (entry_sin m c (rowIn (blockAt t) r) d)
  refine congrArg (V m c main_v20) (?_ : (win0_3.rect t).emb (ix2 r d) = ix2 (rowIn (blockAt t) r) d)
  obtain ⟨-, -, -, -, -, e0, e1⟩ := idx_in t
  refine Shape.idx_ext₂ ?_ ?_
  · rw [Pipeline.Window.rect_emb_val win0_3, e0]; show t.val * 256 + r.val = 256 * t.val + r.val; omega
  · rw [Pipeline.Window.rect_emb_val win0_3, e1]; show 0 * 128 + d.val = d.val; omega

/-- A column of a grid point's tile is the column of its row. -/
theorem col_block (t : Fin cfg0.N) (r : Fin 256) (n : Fin 5632) :
    col (iblk m c 0 t) (iblk m c 1 t) r n
      = column (m ((c.tc : Thread nD τ).loc main_arg0)) (m ((c.tc : Thread nD τ).loc main_arg1)) (rowIn (blockAt t) r) n := by
  unfold col column
  congr 1
  · exact funext fun k => block_x m c t r k
  · exact funext fun k => funext fun n => block_w m c t k n

/-- Heads rotated alike from the same columns, cosines and sines agree. -/
theorem rotated_congr {y y' : Fin 5632 → EReal} {a a' b b' : Fin 128 → EReal} (o : ℕ) (ho : o + 1024 ≤ 5632) (j : Fin 1024)
    (hy : y = y') (ha : a = a') (hb : b = b') : rotated y o ho a b j = rotated y' o ho a' b' j := by
  rw [hy, ha, hb]

/-- A rotated head of a grid point's tile is the rotated head of its row. -/
theorem head_block (o : ℕ) (ho : o + 1024 ≤ 5632) (t : Fin cfg0.N) (r : Fin 256) (j : Fin 1024) :
    head (iblk m c 0 t) (iblk m c 1 t) (iblk m c 2 t) (iblk m c 3 t) o ho r j
      = turned (m ((c.tc : Thread nD τ).loc main_arg0)) (m ((c.tc : Thread nD τ).loc main_arg1)) o ho (rowIn (blockAt t) r) j := by
  unfold head turned
  exact rotated_congr o ho j (funext fun n => col_block m c t r n) (funext fun d => block_cos m c t r d)
    (funext fun d => block_sin m c t r d)

/-! ### Result 0 -/

theorem idx_u : ∀ t : Fin cfg0.N, win0_4.index t 0 = t.val ∧ win0_4.index t 1 = 0 :=
  (by decide +kernel : ∀ t : Fin grid0.N, win0_4.index t 0 = t.val ∧ win0_4.index t 1 = 0)

/-- What a grid point writes back is its block of the result. -/
theorem flushed_u (t : Fin cfg0.N) :
    (dats m 0 c).flushed 4 t = ((cfg0.win 4).blk t).view.read (Elt Ideal)
      (part512 (m ((c.tc : Thread nD τ).loc main_arg0)) (m ((c.tc : Thread nD τ).loc main_arg1)) 0 (by omega) : S512x512.Idx → EReal) := by
  show (cfg0.win 4).cut (grid0.coords t) ((dats m 0 c).after 4 t) = _
  rw [after0_4]
  funext y
  obtain ⟨r, j, rfl⟩ : ∃ (r : Fin 256) (j : Fin 512), y = ix2 r j := ⟨y 0, y 1, eq_ix2 y⟩
  have he : (win0_4.rect t).emb (ix2 r j) = ix2 (rowIn (blockAt t) r) j := by
    obtain ⟨e0, e1⟩ := idx_u t
    refine Shape.idx_ext₂ ?_ ?_
    · rw [Pipeline.Window.rect_emb_val win0_4, e0]; show t.val * 256 + r.val = 256 * t.val + r.val; omega
    · rw [Pipeline.Window.rect_emb_val win0_4, e1]; show 0 * 512 + j.val = j.val; omega
  show out0_4 (F := Ideal) (iblk m c 0 t) (iblk m c 1 t) (iblk m c 2 t) (iblk m c 3 t) (ix2 r j)
    = (part512 (m ((c.tc : Thread nD τ).loc main_arg0)) (m ((c.tc : Thread nD τ).loc main_arg1)) 0 (by omega) : S512x512.Idx → EReal) ((win0_4.rect t).emb (ix2 r j))
  rw [he, u_apply]
  exact col_block m c t r _

theorem mem_u (t : Fin cfg0.N) (i : S512x512.Idx)
    (h0 : win0_4.index t 0 * 256 ≤ (i 0 : Nat) ∧ (i 0 : Nat) < win0_4.index t 0 * 256 + 256)
    (h1 : win0_4.index t 1 * 512 ≤ (i 1 : Nat) ∧ (i 1 : Nat) < win0_4.index t 1 * 512 + 512) :
    i ∈ ((cfg0.win 4).blk t).view.set := by
  show i ∈ ((View.whole main_v24_0).slice (win0_4.rect t)).set
  rw [View.set_slice_whole, Rect.mem_set_unit]
  intro a
  match a with | ⟨0, _⟩ => exact h0 | ⟨1, _⟩ => exact h1

/-- After the last point the array holds the result: row `i` was written by point `i / 256`. -/
theorem final_u : (dats m 0 c).arrAt 4 cfg0.N = (part512 (m ((c.tc : Thread nD τ).loc main_arg0)) (m ((c.tc : Thread nD τ).loc main_arg1)) 0 (by omega) : S512x512.Idx → EReal) :=
  (dats m 0 c).arrAt_eq_of_cover 4 _ (fun t _ => flushed_u m c t) fun (i : S512x512.Idx) => by
    have h0 : (i 0 : Nat) < 512 := (i 0).isLt
    have h1 : (i 1 : Nat) < 512 := (i 1).isLt
    have hN : cfg0.N = 2 := N_0
    have hN' : grid0.N = 2 := N_0
    refine ⟨⟨(i 0 : Nat) / 256, by omega⟩, flush0_4 _, ?_⟩
    obtain ⟨e0, e1⟩ := idx_u ⟨(i 0 : Nat) / 256, by omega⟩
    exact mem_u _ i (by rw [e0]; show (i 0 : Nat) / 256 * 256 ≤ (i 0 : Nat) ∧ (i 0 : Nat) < (i 0 : Nat) / 256 * 256 + 256; omega)
      (by rw [e1]; omega)

/-! ### Result 1 -/

theorem idx_q : ∀ t : Fin cfg0.N, win0_5.index t 0 = t.val ∧ win0_5.index t 1 = 0 :=
  (by decide +kernel : ∀ t : Fin grid0.N, win0_5.index t 0 = t.val ∧ win0_5.index t 1 = 0)

/-- What a grid point writes back is its block of the result. -/
theorem flushed_q (t : Fin cfg0.N) :
    (dats m 0 c).flushed 5 t = ((cfg0.win 5).blk t).view.read (Elt Ideal)
      (queries (m ((c.tc : Thread nD τ).loc main_arg0)) (m ((c.tc : Thread nD τ).loc main_arg1)) : S512x1024.Idx → EReal) := by
  show (cfg0.win 5).cut (grid0.coords t) ((dats m 0 c).after 5 t) = _
  rw [after0_5]
  funext y
  obtain ⟨r, j, rfl⟩ : ∃ (r : Fin 256) (j : Fin 1024), y = ix2 r j := ⟨y 0, y 1, eq_ix2 y⟩
  have he : (win0_5.rect t).emb (ix2 r j) = ix2 (rowIn (blockAt t) r) j := by
    obtain ⟨e0, e1⟩ := idx_q t
    refine Shape.idx_ext₂ ?_ ?_
    · rw [Pipeline.Window.rect_emb_val win0_5, e0]; show t.val * 256 + r.val = 256 * t.val + r.val; omega
    · rw [Pipeline.Window.rect_emb_val win0_5, e1]; show 0 * 1024 + j.val = j.val; omega
  show out0_5 (F := Ideal) (iblk m c 0 t) (iblk m c 1 t) (iblk m c 2 t) (iblk m c 3 t) (ix2 r j)
    = (queries (m ((c.tc : Thread nD τ).loc main_arg0)) (m ((c.tc : Thread nD τ).loc main_arg1)) : S512x1024.Idx → EReal) ((win0_5.rect t).emb (ix2 r j))
  rw [he, q_apply]
  exact head_block m c 512 (by omega) t r j

theorem mem_q (t : Fin cfg0.N) (i : S512x1024.Idx)
    (h0 : win0_5.index t 0 * 256 ≤ (i 0 : Nat) ∧ (i 0 : Nat) < win0_5.index t 0 * 256 + 256)
    (h1 : win0_5.index t 1 * 1024 ≤ (i 1 : Nat) ∧ (i 1 : Nat) < win0_5.index t 1 * 1024 + 1024) :
    i ∈ ((cfg0.win 5).blk t).view.set := by
  show i ∈ ((View.whole main_v24_1).slice (win0_5.rect t)).set
  rw [View.set_slice_whole, Rect.mem_set_unit]
  intro a
  match a with | ⟨0, _⟩ => exact h0 | ⟨1, _⟩ => exact h1

/-- After the last point the array holds the result: row `i` was written by point `i / 256`. -/
theorem final_q : (dats m 0 c).arrAt 5 cfg0.N = (queries (m ((c.tc : Thread nD τ).loc main_arg0)) (m ((c.tc : Thread nD τ).loc main_arg1)) : S512x1024.Idx → EReal) :=
  (dats m 0 c).arrAt_eq_of_cover 5 _ (fun t _ => flushed_q m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_5 _, ?_⟩
    obtain ⟨e0, e1⟩ := idx_q ⟨(i 0 : Nat) / 256, by omega⟩
    exact mem_q _ i (by rw [e0]; show (i 0 : Nat) / 256 * 256 ≤ (i 0 : Nat) ∧ (i 0 : Nat) < (i 0 : Nat) / 256 * 256 + 256; omega)
      (by rw [e1]; omega)

/-! ### Result 2 -/

theorem idx_k : ∀ t : Fin cfg0.N, win0_6.index t 0 = t.val ∧ win0_6.index t 1 = 0 :=
  (by decide +kernel : ∀ t : Fin grid0.N, win0_6.index t 0 = t.val ∧ win0_6.index t 1 = 0)

/-- What a grid point writes back is its block of the result. -/
theorem flushed_k (t : Fin cfg0.N) :
    (dats m 0 c).flushed 6 t = ((cfg0.win 6).blk t).view.read (Elt Ideal)
      (keys (m ((c.tc : Thread nD τ).loc main_arg0)) (m ((c.tc : Thread nD τ).loc main_arg1)) : S512x1024.Idx → EReal) := by
  show (cfg0.win 6).cut (grid0.coords t) ((dats m 0 c).after 6 t) = _
  rw [after0_6]
  funext y
  obtain ⟨r, j, rfl⟩ : ∃ (r : Fin 256) (j : Fin 1024), y = ix2 r j := ⟨y 0, y 1, eq_ix2 y⟩
  have he : (win0_6.rect t).emb (ix2 r j) = ix2 (rowIn (blockAt t) r) j := by
    obtain ⟨e0, e1⟩ := idx_k t
    refine Shape.idx_ext₂ ?_ ?_
    · rw [Pipeline.Window.rect_emb_val win0_6, e0]; show t.val * 256 + r.val = 256 * t.val + r.val; omega
    · rw [Pipeline.Window.rect_emb_val win0_6, e1]; show 0 * 1024 + j.val = j.val; omega
  show out0_6 (F := Ideal) (iblk m c 0 t) (iblk m c 1 t) (iblk m c 2 t) (iblk m c 3 t) (ix2 r j)
    = (keys (m ((c.tc : Thread nD τ).loc main_arg0)) (m ((c.tc : Thread nD τ).loc main_arg1)) : S512x1024.Idx → EReal) ((win0_6.rect t).emb (ix2 r j))
  rw [he, k_apply]
  exact head_block m c 1536 (by omega) t r j

theorem mem_k (t : Fin cfg0.N) (i : S512x1024.Idx)
    (h0 : win0_6.index t 0 * 256 ≤ (i 0 : Nat) ∧ (i 0 : Nat) < win0_6.index t 0 * 256 + 256)
    (h1 : win0_6.index t 1 * 1024 ≤ (i 1 : Nat) ∧ (i 1 : Nat) < win0_6.index t 1 * 1024 + 1024) :
    i ∈ ((cfg0.win 6).blk t).view.set := by
  show i ∈ ((View.whole main_v24_2).slice (win0_6.rect t)).set
  rw [View.set_slice_whole, Rect.mem_set_unit]
  intro a
  match a with | ⟨0, _⟩ => exact h0 | ⟨1, _⟩ => exact h1

/-- After the last point the array holds the result: row `i` was written by point `i / 256`. -/
theorem final_k : (dats m 0 c).arrAt 6 cfg0.N = (keys (m ((c.tc : Thread nD τ).loc main_arg0)) (m ((c.tc : Thread nD τ).loc main_arg1)) : S512x1024.Idx → EReal) :=
  (dats m 0 c).arrAt_eq_of_cover 6 _ (fun t _ => flushed_k m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_6 _, ?_⟩
    obtain ⟨e0, e1⟩ := idx_k ⟨(i 0 : Nat) / 256, by omega⟩
    exact mem_k _ i (by rw [e0]; show (i 0 : Nat) / 256 * 256 ≤ (i 0 : Nat) ∧ (i 0 : Nat) < (i 0 : Nat) / 256 * 256 + 256; omega)
      (by rw [e1]; omega)

/-! ### Result 3 -/

theorem idx_kb : ∀ t : Fin cfg0.N, win0_7.index t 0 = t.val ∧ win0_7.index t 1 = 0 :=
  (by decide +kernel : ∀ t : Fin grid0.N, win0_7.index t 0 = t.val ∧ win0_7.index t 1 = 0)

/-- What a grid point writes back is its block of the result. -/
theorem flushed_kb (t : Fin cfg0.N) :
    (dats m 0 c).flushed 7 t = ((cfg0.win 7).blk t).view.read (Elt Ideal)
      (keys (m ((c.tc : Thread nD τ).loc main_arg0)) (m ((c.tc : Thread nD τ).loc main_arg1)) : S512x1024.Idx → EReal) := by
  show (cfg0.win 7).cut (grid0.coords t) ((dats m 0 c).after 7 t) = _
  rw [after0_7]
  funext y
  obtain ⟨r, j, rfl⟩ : ∃ (r : Fin 256) (j : Fin 1024), y = ix2 r j := ⟨y 0, y 1, eq_ix2 y⟩
  have he : (win0_7.rect t).emb (ix2 r j) = ix2 (rowIn (blockAt t) r) j := by
    obtain ⟨e0, e1⟩ := idx_kb t
    refine Shape.idx_ext₂ ?_ ?_
    · rw [Pipeline.Window.rect_emb_val win0_7, e0]; show t.val * 256 + r.val = 256 * t.val + r.val; omega
    · rw [Pipeline.Window.rect_emb_val win0_7, e1]; show 0 * 1024 + j.val = j.val; omega
  show out0_7 (F := Ideal) (iblk m c 0 t) (iblk m c 1 t) (iblk m c 2 t) (iblk m c 3 t) (ix2 r j)
    = (keys (m ((c.tc : Thread nD τ).loc main_arg0)) (m ((c.tc : Thread nD τ).loc main_arg1)) : S512x1024.Idx → EReal) ((win0_7.rect t).emb (ix2 r j))
  rw [he, kb_apply]
  exact head_block m c 1536 (by omega) t r j

theorem mem_kb (t : Fin cfg0.N) (i : S512x1024.Idx)
    (h0 : win0_7.index t 0 * 256 ≤ (i 0 : Nat) ∧ (i 0 : Nat) < win0_7.index t 0 * 256 + 256)
    (h1 : win0_7.index t 1 * 1024 ≤ (i 1 : Nat) ∧ (i 1 : Nat) < win0_7.index t 1 * 1024 + 1024) :
    i ∈ ((cfg0.win 7).blk t).view.set := by
  show i ∈ ((View.whole main_v24_3).slice (win0_7.rect t)).set
  rw [View.set_slice_whole, Rect.mem_set_unit]
  intro a
  match a with | ⟨0, _⟩ => exact h0 | ⟨1, _⟩ => exact h1

/-- After the last point the array holds the result: row `i` was written by point `i / 256`. -/
theorem final_kb : (dats m 0 c).arrAt 7 cfg0.N = (keys (m ((c.tc : Thread nD τ).loc main_arg0)) (m ((c.tc : Thread nD τ).loc main_arg1)) : S512x1024.Idx → EReal) :=
  (dats m 0 c).arrAt_eq_of_cover 7 _ (fun t _ => flushed_kb m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_7 _, ?_⟩
    obtain ⟨e0, e1⟩ := idx_kb ⟨(i 0 : Nat) / 256, by omega⟩
    exact mem_kb _ i (by rw [e0]; show (i 0 : Nat) / 256 * 256 ≤ (i 0 : Nat) ∧ (i 0 : Nat) < (i 0 : Nat) / 256 * 256 + 256; omega)
      (by rw [e1]; omega)

/-! ### Result 4 -/

theorem idx_v : ∀ t : Fin cfg0.N, win0_8.index t 0 = t.val ∧ win0_8.index t 1 = 0 :=
  (by decide +kernel : ∀ t : Fin grid0.N, win0_8.index t 0 = t.val ∧ win0_8.index t 1 = 0)

/-- What a grid point writes back is its block of the result. -/
theorem flushed_v (t : Fin cfg0.N) :
    (dats m 0 c).flushed 8 t = ((cfg0.win 8).blk t).view.read (Elt Ideal)
      (part1024 (m ((c.tc : Thread nD τ).loc main_arg0)) (m ((c.tc : Thread nD τ).loc main_arg1)) 2560 (by omega) : S512x1024.Idx → EReal) := by
  show (cfg0.win 8).cut (grid0.coords t) ((dats m 0 c).after 8 t) = _
  rw [after0_8]
  funext y
  obtain ⟨r, j, rfl⟩ : ∃ (r : Fin 256) (j : Fin 1024), y = ix2 r j := ⟨y 0, y 1, eq_ix2 y⟩
  have he : (win0_8.rect t).emb (ix2 r j) = ix2 (rowIn (blockAt t) r) j := by
    obtain ⟨e0, e1⟩ := idx_v t
    refine Shape.idx_ext₂ ?_ ?_
    · rw [Pipeline.Window.rect_emb_val win0_8, e0]; show t.val * 256 + r.val = 256 * t.val + r.val; omega
    · rw [Pipeline.Window.rect_emb_val win0_8, e1]; show 0 * 1024 + j.val = j.val; omega
  show out0_8 (F := Ideal) (iblk m c 0 t) (iblk m c 1 t) (iblk m c 2 t) (iblk m c 3 t) (ix2 r j)
    = (part1024 (m ((c.tc : Thread nD τ).loc main_arg0)) (m ((c.tc : Thread nD τ).loc main_arg1)) 2560 (by omega) : S512x1024.Idx → EReal) ((win0_8.rect t).emb (ix2 r j))
  rw [he, v_apply]
  exact col_block m c t r _

theorem mem_v (t : Fin cfg0.N) (i : S512x1024.Idx)
    (h0 : win0_8.index t 0 * 256 ≤ (i 0 : Nat) ∧ (i 0 : Nat) < win0_8.index t 0 * 256 + 256)
    (h1 : win0_8.index t 1 * 1024 ≤ (i 1 : Nat) ∧ (i 1 : Nat) < win0_8.index t 1 * 1024 + 1024) :
    i ∈ ((cfg0.win 8).blk t).view.set := by
  show i ∈ ((View.whole main_v24_4).slice (win0_8.rect t)).set
  rw [View.set_slice_whole, Rect.mem_set_unit]
  intro a
  match a with | ⟨0, _⟩ => exact h0 | ⟨1, _⟩ => exact h1

/-- After the last point the array holds the result: row `i` was written by point `i / 256`. -/
theorem final_v : (dats m 0 c).arrAt 8 cfg0.N = (part1024 (m ((c.tc : Thread nD τ).loc main_arg0)) (m ((c.tc : Thread nD τ).loc main_arg1)) 2560 (by omega) : S512x1024.Idx → EReal) :=
  (dats m 0 c).arrAt_eq_of_cover 8 _ (fun t _ => flushed_v m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_8 _, ?_⟩
    obtain ⟨e0, e1⟩ := idx_v ⟨(i 0 : Nat) / 256, by omega⟩
    exact mem_v _ i (by rw [e0]; show (i 0 : Nat) / 256 * 256 ≤ (i 0 : Nat) ∧ (i 0 : Nat) < (i 0 : Nat) / 256 * 256 + 256; omega)
      (by rw [e1]; omega)

/-! ### Result 5 -/

theorem idx_vb : ∀ t : Fin cfg0.N, win0_9.index t 0 = t.val ∧ win0_9.index t 1 = 0 :=
  (by decide +kernel : ∀ t : Fin grid0.N, win0_9.index t 0 = t.val ∧ win0_9.index t 1 = 0)

/-- What a grid point writes back is its block of the result. -/
theorem flushed_vb (t : Fin cfg0.N) :
    (dats m 0 c).flushed 9 t = ((cfg0.win 9).blk t).view.read (Elt Ideal)
      (part1024 (m ((c.tc : Thread nD τ).loc main_arg0)) (m ((c.tc : Thread nD τ).loc main_arg1)) 2560 (by omega) : S512x1024.Idx → EReal) := by
  show (cfg0.win 9).cut (grid0.coords t) ((dats m 0 c).after 9 t) = _
  rw [after0_9]
  funext y
  obtain ⟨r, j, rfl⟩ : ∃ (r : Fin 256) (j : Fin 1024), y = ix2 r j := ⟨y 0, y 1, eq_ix2 y⟩
  have he : (win0_9.rect t).emb (ix2 r j) = ix2 (rowIn (blockAt t) r) j := by
    obtain ⟨e0, e1⟩ := idx_vb t
    refine Shape.idx_ext₂ ?_ ?_
    · rw [Pipeline.Window.rect_emb_val win0_9, e0]; show t.val * 256 + r.val = 256 * t.val + r.val; omega
    · rw [Pipeline.Window.rect_emb_val win0_9, e1]; show 0 * 1024 + j.val = j.val; omega
  show out0_9 (F := Ideal) (iblk m c 0 t) (iblk m c 1 t) (iblk m c 2 t) (iblk m c 3 t) (ix2 r j)
    = (part1024 (m ((c.tc : Thread nD τ).loc main_arg0)) (m ((c.tc : Thread nD τ).loc main_arg1)) 2560 (by omega) : S512x1024.Idx → EReal) ((win0_9.rect t).emb (ix2 r j))
  rw [he, vb_apply]
  exact col_block m c t r _

theorem mem_vb (t : Fin cfg0.N) (i : S512x1024.Idx)
    (h0 : win0_9.index t 0 * 256 ≤ (i 0 : Nat) ∧ (i 0 : Nat) < win0_9.index t 0 * 256 + 256)
    (h1 : win0_9.index t 1 * 1024 ≤ (i 1 : Nat) ∧ (i 1 : Nat) < win0_9.index t 1 * 1024 + 1024) :
    i ∈ ((cfg0.win 9).blk t).view.set := by
  show i ∈ ((View.whole main_v24_5).slice (win0_9.rect t)).set
  rw [View.set_slice_whole, Rect.mem_set_unit]
  intro a
  match a with | ⟨0, _⟩ => exact h0 | ⟨1, _⟩ => exact h1

/-- After the last point the array holds the result: row `i` was written by point `i / 256`. -/
theorem final_vb : (dats m 0 c).arrAt 9 cfg0.N = (part1024 (m ((c.tc : Thread nD τ).loc main_arg0)) (m ((c.tc : Thread nD τ).loc main_arg1)) 2560 (by omega) : S512x1024.Idx → EReal) :=
  (dats m 0 c).arrAt_eq_of_cover 9 _ (fun t _ => flushed_vb m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_9 _, ?_⟩
    obtain ⟨e0, e1⟩ := idx_vb ⟨(i 0 : Nat) / 256, by omega⟩
    exact mem_vb _ i (by rw [e0]; show (i 0 : Nat) / 256 * 256 ≤ (i 0 : Nat) ∧ (i 0 : Nat) < (i 0 : Nat) / 256 * 256 + 256; omega)
      (by rw [e1]; omega)

/-! ### Result 6 -/

theorem idx_ga : ∀ t : Fin cfg0.N, win0_10.index t 0 = t.val ∧ win0_10.index t 1 = 0 :=
  (by decide +kernel : ∀ t : Fin grid0.N, win0_10.index t 0 = t.val ∧ win0_10.index t 1 = 0)

/-- What a grid point writes back is its block of the result. -/
theorem flushed_ga (t : Fin cfg0.N) :
    (dats m 0 c).flushed 10 t = ((cfg0.win 10).blk t).view.read (Elt Ideal)
      (part1024 (m ((c.tc : Thread nD τ).loc main_arg0)) (m ((c.tc : Thread nD τ).loc main_arg1)) 3584 (by omega) : S512x1024.Idx → EReal) := by
  show (cfg0.win 10).cut (grid0.coords t) ((dats m 0 c).after 10 t) = _
  rw [after0_10]
  funext y
  obtain ⟨r, j, rfl⟩ : ∃ (r : Fin 256) (j : Fin 1024), y = ix2 r j := ⟨y 0, y 1, eq_ix2 y⟩
  have he : (win0_10.rect t).emb (ix2 r j) = ix2 (rowIn (blockAt t) r) j := by
    obtain ⟨e0, e1⟩ := idx_ga t
    refine Shape.idx_ext₂ ?_ ?_
    · rw [Pipeline.Window.rect_emb_val win0_10, e0]; show t.val * 256 + r.val = 256 * t.val + r.val; omega
    · rw [Pipeline.Window.rect_emb_val win0_10, e1]; show 0 * 1024 + j.val = j.val; omega
  show out0_10 (F := Ideal) (iblk m c 0 t) (iblk m c 1 t) (iblk m c 2 t) (iblk m c 3 t) (ix2 r j)
    = (part1024 (m ((c.tc : Thread nD τ).loc main_arg0)) (m ((c.tc : Thread nD τ).loc main_arg1)) 3584 (by omega) : S512x1024.Idx → EReal) ((win0_10.rect t).emb (ix2 r j))
  rw [he, ga_apply]
  exact col_block m c t r _

theorem mem_ga (t : Fin cfg0.N) (i : S512x1024.Idx)
    (h0 : win0_10.index t 0 * 256 ≤ (i 0 : Nat) ∧ (i 0 : Nat) < win0_10.index t 0 * 256 + 256)
    (h1 : win0_10.index t 1 * 1024 ≤ (i 1 : Nat) ∧ (i 1 : Nat) < win0_10.index t 1 * 1024 + 1024) :
    i ∈ ((cfg0.win 10).blk t).view.set := by
  show i ∈ ((View.whole main_v24_6).slice (win0_10.rect t)).set
  rw [View.set_slice_whole, Rect.mem_set_unit]
  intro a
  match a with | ⟨0, _⟩ => exact h0 | ⟨1, _⟩ => exact h1

/-- After the last point the array holds the result: row `i` was written by point `i / 256`. -/
theorem final_ga : (dats m 0 c).arrAt 10 cfg0.N = (part1024 (m ((c.tc : Thread nD τ).loc main_arg0)) (m ((c.tc : Thread nD τ).loc main_arg1)) 3584 (by omega) : S512x1024.Idx → EReal) :=
  (dats m 0 c).arrAt_eq_of_cover 10 _ (fun t _ => flushed_ga m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_10 _, ?_⟩
    obtain ⟨e0, e1⟩ := idx_ga ⟨(i 0 : Nat) / 256, by omega⟩
    exact mem_ga _ i (by rw [e0]; show (i 0 : Nat) / 256 * 256 ≤ (i 0 : Nat) ∧ (i 0 : Nat) < (i 0 : Nat) / 256 * 256 + 256; omega)
      (by rw [e1]; omega)

/-! ### Result 7 -/

theorem idx_gb : ∀ t : Fin cfg0.N, win0_11.index t 0 = t.val ∧ win0_11.index t 1 = 0 :=
  (by decide +kernel : ∀ t : Fin grid0.N, win0_11.index t 0 = t.val ∧ win0_11.index t 1 = 0)

/-- What a grid point writes back is its block of the result. -/
theorem flushed_gb (t : Fin cfg0.N) :
    (dats m 0 c).flushed 11 t = ((cfg0.win 11).blk t).view.read (Elt Ideal)
      (part1024 (m ((c.tc : Thread nD τ).loc main_arg0)) (m ((c.tc : Thread nD τ).loc main_arg1)) 4608 (by omega) : S512x1024.Idx → EReal) := by
  show (cfg0.win 11).cut (grid0.coords t) ((dats m 0 c).after 11 t) = _
  rw [after0_11]
  funext y
  obtain ⟨r, j, rfl⟩ : ∃ (r : Fin 256) (j : Fin 1024), y = ix2 r j := ⟨y 0, y 1, eq_ix2 y⟩
  have he : (win0_11.rect t).emb (ix2 r j) = ix2 (rowIn (blockAt t) r) j := by
    obtain ⟨e0, e1⟩ := idx_gb t
    refine Shape.idx_ext₂ ?_ ?_
    · rw [Pipeline.Window.rect_emb_val win0_11, e0]; show t.val * 256 + r.val = 256 * t.val + r.val; omega
    · rw [Pipeline.Window.rect_emb_val win0_11, e1]; show 0 * 1024 + j.val = j.val; omega
  show out0_11 (F := Ideal) (iblk m c 0 t) (iblk m c 1 t) (iblk m c 2 t) (iblk m c 3 t) (ix2 r j)
    = (part1024 (m ((c.tc : Thread nD τ).loc main_arg0)) (m ((c.tc : Thread nD τ).loc main_arg1)) 4608 (by omega) : S512x1024.Idx → EReal) ((win0_11.rect t).emb (ix2 r j))
  rw [he, gb_apply]
  exact col_block m c t r _

theorem mem_gb (t : Fin cfg0.N) (i : S512x1024.Idx)
    (h0 : win0_11.index t 0 * 256 ≤ (i 0 : Nat) ∧ (i 0 : Nat) < win0_11.index t 0 * 256 + 256)
    (h1 : win0_11.index t 1 * 1024 ≤ (i 1 : Nat) ∧ (i 1 : Nat) < win0_11.index t 1 * 1024 + 1024) :
    i ∈ ((cfg0.win 11).blk t).view.set := by
  show i ∈ ((View.whole main_v24_7).slice (win0_11.rect t)).set
  rw [View.set_slice_whole, Rect.mem_set_unit]
  intro a
  match a with | ⟨0, _⟩ => exact h0 | ⟨1, _⟩ => exact h1

/-- After the last point the array holds the result: row `i` was written by point `i / 256`. -/
theorem final_gb : (dats m 0 c).arrAt 11 cfg0.N = (part1024 (m ((c.tc : Thread nD τ).loc main_arg0)) (m ((c.tc : Thread nD τ).loc main_arg1)) 4608 (by omega) : S512x1024.Idx → EReal) :=
  (dats m 0 c).arrAt_eq_of_cover 11 _ (fun t _ => flushed_gb m c t) fun (i : S512x1024.Idx) => by
    have h0 : (i 0 : Nat) < 512 := (i 0).isLt
    have h1 : (i 1 : Nat) < 1024 := (i 1).isLt
    have hN : cfg0.N = 2 := N_0
    have hN' : grid0.N = 2 := N_0
    refine ⟨⟨(i 0 : Nat) / 256, by omega⟩, flush0_11 _, ?_⟩
    obtain ⟨e0, e1⟩ := idx_gb ⟨(i 0 : Nat) / 256, by omega⟩
    exact mem_gb _ i (by rw [e0]; show (i 0 : Nat) / 256 * 256 ≤ (i 0 : Nat) ∧ (i 0 : Nat) < (i 0 : Nat) / 256 * 256 + 256; omega)
      (by rw [e1]; omega)

end Cert.Proof.ProjS

end
-- ==== Proof.ProjSRef.lean ====
/-
  The reference projection, read at an index: the columns of the projection, the rotated queries and keys, and the mean of
  each block of keys, as functions of the arguments (`Projection.queries`, `Projection.keys`, …).
-/
module

public import proofs.«01_k».proof.Proof.ProjectionS
public import proofs.«01_k».proof.Proof.Gen.ProjSRefIdeal.Read

@[expose] public section

noncomputable section

namespace Cert.Proof.ProjSRef

open Cert.ProjSRefIdeal Cert.ProjSRefIdeal.Read Idealize.ShloMosaic Idealize.ShloMosaic.ValueIdx Cert.Proof.Rows
open Cert.Proof.Projection hiding column turned part512 part1024 queries keys rowIn
open Cert.Proof.ProjectionS
open scoped BigOperators

variable (x : (⟨3, ![128, 4, 1024]⟩ : Shape).Idx → EReal) (w : (⟨3, ![1, 1024, 5632]⟩ : Shape).Idx → EReal)

theorem weight_apply (k : Fin 1024) (n : Fin 5632) : val_main_v3 (F := Ideal) w (ix2 k n) = w (ix3 0 k n) := by
  rw [val_main_v3_apply]
  refine congrArg w (funext fun a => Fin.ext ?_)
  match a with
  | ⟨0, _⟩ => rfl
  | ⟨1, _⟩ => show (k.val * 5632 + n.val) / 5632 % 1024 = k.val; omega
  | ⟨2, _⟩ => show (k.val * 5632 + n.val) % 5632 = n.val; omega

/-- The projection, at the sequence and the position of a flat row. -/
theorem column_apply (r : Fin 512) (n : Fin 5632) :
    val_main_v4 (F := Ideal) x w (ix3 (groupOf r) (tokenOf r) n) = column x w r n := by
  rw [val_main_v4_apply]
  show _ = ∑ k, x (ix3 (groupOf r) (tokenOf r) k) * w (ix3 0 k n)
  refine Finset.sum_congr rfl fun k _ => ?_
  rw [show lidx_main_v4 (ix3 (groupOf r) (tokenOf r) n) k = ix3 (groupOf r) (tokenOf r) k from
      funext fun a => by match a with | ⟨0, _⟩ => rfl | ⟨1, _⟩ => rfl | ⟨2, _⟩ => rfl,
    show ridx_main_v4 (ix3 (groupOf r) (tokenOf r) n) k = ix2 k n from
      funext fun a => by match a with | ⟨0, _⟩ => rfl | ⟨1, _⟩ => rfl, weight_apply]

/-! ### The parts that are not rotated -/

theorem u_eq : val_main_v73 (F := Ideal) x w = part512 x w 0 (by omega) := by
  funext i
  obtain ⟨r, j, rfl⟩ : ∃ (r : Fin 512) (j : Fin 512), i = ix2 r j := ⟨i 0, i 1, eq_ix2 i⟩
  rw [val_main_v73_apply, val_main_v5_apply]
  refine (congrArg (val_main_v4 (F := Ideal) x w) (funext fun a => Fin.ext ?_)).trans (column_apply x w r ⟨0 + j.val, by omega⟩)
  match a with
  | ⟨0, _⟩ => show (r.val * 512 + j.val) / 2048 = r.val / 4; omega
  | ⟨1, _⟩ => show (r.val * 512 + j.val) / 512 % 4 = r.val % 4; omega
  | ⟨2, _⟩ => show (r.val * 512 + j.val) % 512 = 0 + j.val; omega

theorem v_eq : val_main_v72 (F := Ideal) x w = part1024 x w 2560 (by omega) := by
  funext i
  obtain ⟨r, j, rfl⟩ : ∃ (r : Fin 512) (j : Fin 1024), i = ix2 r j := ⟨i 0, i 1, eq_ix2 i⟩
  rw [val_main_v72_apply, val_main_v8_apply]
  refine (congrArg (val_main_v4 (F := Ideal) x w) (funext fun a => Fin.ext ?_)).trans (column_apply x w r ⟨2560 + j.val, by omega⟩)
  match a with
  | ⟨0, _⟩ => show (r.val * 1024 + j.val) / 4096 = r.val / 4; omega
  | ⟨1, _⟩ => show (r.val * 1024 + j.val) / 1024 % 4 = r.val % 4; omega
  | ⟨2, _⟩ => show 2560 + (r.val * 1024 + j.val) % 1024 = 2560 + j.val; omega

theorem vb_eq : val_main_v76 (F := Ideal) x w = part1024 x w 2560 (by omega) := v_eq x w

theorem ga_eq : val_main_v77 (F := Ideal) x w = part1024 x w 3584 (by omega) := by
  funext i
  obtain ⟨r, j, rfl⟩ : ∃ (r : Fin 512) (j : Fin 1024), i = ix2 r j := ⟨i 0, i 1, eq_ix2 i⟩
  rw [val_main_v77_apply, val_main_v9_apply]
  refine (congrArg (val_main_v4 (F := Ideal) x w) (funext fun a => Fin.ext ?_)).trans (column_apply x w r ⟨3584 + j.val, by omega⟩)
  match a with
  | ⟨0, _⟩ => show (r.val * 1024 + j.val) / 4096 = r.val / 4; omega
  | ⟨1, _⟩ => show (r.val * 1024 + j.val) / 1024 % 4 = r.val % 4; omega
  | ⟨2, _⟩ => show 3584 + (r.val * 1024 + j.val) % 1024 = 3584 + j.val; omega

theorem gb_eq : val_main_v78 (F := Ideal) x w = part1024 x w 4608 (by omega) := by
  funext i
  obtain ⟨r, j, rfl⟩ : ∃ (r : Fin 512) (j : Fin 1024), i = ix2 r j := ⟨i 0, i 1, eq_ix2 i⟩
  rw [val_main_v78_apply, val_main_v10_apply]
  refine (congrArg (val_main_v4 (F := Ideal) x w) (funext fun a => Fin.ext ?_)).trans (column_apply x w r ⟨4608 + j.val, by omega⟩)
  match a with
  | ⟨0, _⟩ => show (r.val * 1024 + j.val) / 4096 = r.val / 4; omega
  | ⟨1, _⟩ => show (r.val * 1024 + j.val) / 1024 % 4 = r.val % 4; omega
  | ⟨2, _⟩ => show 4608 + (r.val * 1024 + j.val) % 1024 = 4608 + j.val; omega

/-! ### The rotation -/

/-- The positions of a sequence's sampled tokens. -/
theorem position (p : Fin 4) : val_main_v2 (F := Ideal) (ix1 p) = BitVec.ofNat 32 (8192 + p.val) := by
  revert p
  decide +kernel

theorem angle_q (p : Fin 4) (d : Fin 64) : val_main_v23 (F := Ideal) (ix2 p d) = angle (8192 + p.val) d :=
  congrArg (fun b => (FloatOps.sitofp (F := Ideal) .f32 b : EReal) * frequency d) (position p)

theorem angle_k (p : Fin 4) (d : Fin 64) : val_main_v53 (F := Ideal) (ix2 p d) = angle (8192 + p.val) d :=
  congrArg (fun b => (FloatOps.sitofp (F := Ideal) .f32 b : EReal) * frequency d) (position p)

/-- Column `128·h + d` of the queries' part. -/
theorem q_column (r : Fin 512) (h : Fin 8) (d : Fin 128) :
    val_main_v11 (F := Ideal) x w (ix4 (groupOf r) (tokenOf r) h d) = column x w r ⟨512 + 128 * h.val + d.val, by omega⟩ := by
  rw [val_main_v11_apply, val_main_v6_apply]
  refine (congrArg (val_main_v4 (F := Ideal) x w) (funext fun a => Fin.ext ?_)).trans (column_apply x w r _)
  match a with
  | ⟨0, _⟩ => show (((r.val / 4 * 4 + r.val % 4) * 8 + h.val) * 128 + d.val) / 4096 = r.val / 4; omega
  | ⟨1, _⟩ => show (((r.val / 4 * 4 + r.val % 4) * 8 + h.val) * 128 + d.val) / 1024 % 4 = r.val % 4; omega
  | ⟨2, _⟩ => show 512 + (((r.val / 4 * 4 + r.val % 4) * 8 + h.val) * 128 + d.val) % 1024 = 512 + 128 * h.val + d.val; omega

/-- Column `128·h + d` of the keys' part. -/
theorem k_column (r : Fin 512) (h : Fin 8) (d : Fin 128) :
    val_main_v41 (F := Ideal) x w (ix4 (groupOf r) (tokenOf r) h d) = column x w r ⟨1536 + 128 * h.val + d.val, by omega⟩ := by
  rw [val_main_v41_apply, val_main_v7_apply]
  refine (congrArg (val_main_v4 (F := Ideal) x w) (funext fun a => Fin.ext ?_)).trans (column_apply x w r _)
  match a with
  | ⟨0, _⟩ => show (((r.val / 4 * 4 + r.val % 4) * 8 + h.val) * 128 + d.val) / 4096 = r.val / 4; omega
  | ⟨1, _⟩ => show (((r.val / 4 * 4 + r.val % 4) * 8 + h.val) * 128 + d.val) / 1024 % 4 = r.val % 4; omega
  | ⟨2, _⟩ => show 1536 + (((r.val / 4 * 4 + r.val % 4) * 8 + h.val) * 128 + d.val) % 1024 = 1536 + 128 * h.val + d.val; omega

/-- The halves of a head side by side. -/
theorem pair_apply (a b : S128x4x8x64.Idx → EReal) (e : Fin 128) (p : Fin 4) (h : Fin 8) (d : Fin 128) :
    concatenate S128x4x8x128 3 [⟨S128x4x8x64, a⟩, ⟨S128x4x8x64, b⟩] Gen.facts.concatenates_S128x4x8x64_S128x4x8x64_S128x4x8x128_d3 (ix4 e p h d)
      = if d.val < 64 then a (ix4 e p h (half d)) else b (ix4 e p h (half d)) := by
  split
  · next hd =>
    exact concatenate_pair_apply_left (3 : Fin S128x4x8x128.rank) a b _ (ix4 e p h d) rfl (ix4 e p h (half d)) fun i => by
      match i with | ⟨0, _⟩ => rfl | ⟨1, _⟩ => rfl | ⟨2, _⟩ => rfl | ⟨3, _⟩ => show d.val % 64 = d.val; omega
  · next hd =>
    refine concatenate_pair_apply_right (3 : Fin S128x4x8x128.rank) a b _ (ix4 e p h d) rfl rfl (ix4 e p h (half d)) (fun i hi => ?_) ?_
    · match i with | ⟨0, _⟩ => rfl | ⟨1, _⟩ => rfl | ⟨2, _⟩ => rfl | ⟨3, _⟩ => exact absurd rfl hi
    · show d.val % 64 + 64 = d.val; omega

theorem low (e : Fin 128) (p : Fin 4) (h : Fin 8) (d : Fin 64) :
    idx_main_v28 (ix4 e p h d) = ix4 e p h ⟨d.val, by omega⟩ :=
  funext fun a => by match a with | ⟨0, _⟩ => rfl | ⟨1, _⟩ => rfl | ⟨2, _⟩ => rfl | ⟨3, _⟩ => rfl

theorem high (e : Fin 128) (p : Fin 4) (h : Fin 8) (d : Fin 64) :
    idx_main_v29 (ix4 e p h d) = ix4 e p h ⟨64 + d.val, by omega⟩ :=
  funext fun a => by match a with | ⟨0, _⟩ => rfl | ⟨1, _⟩ => rfl | ⟨2, _⟩ => rfl | ⟨3, _⟩ => rfl

/-! The factors of a head's halves. -/

theorem cosine_30 (e : Fin 128) (p : Fin 4) (h : Fin 8) (d : Fin 128) :
    val_main_v30 (F := Ideal) (ix4 e p h (half d)) = cosine (8192 + p.val) d :=
  congrArg (FloatOps.hostUnary (F := Ideal) (φ := .f32) .cos) (angle_q p (half d))

theorem sine_32 (e : Fin 128) (p : Fin 4) (h : Fin 8) (d : Fin 128) :
    val_main_v32 (F := Ideal) (ix4 e p h (half d)) = sine (8192 + p.val) d :=
  congrArg (FloatOps.hostUnary (F := Ideal) (φ := .f32) .sin) (angle_q p (half d))

theorem cosine_35 (e : Fin 128) (p : Fin 4) (h : Fin 8) (d : Fin 128) :
    val_main_v35 (F := Ideal) (ix4 e p h (half d)) = cosine (8192 + p.val) d :=
  congrArg (FloatOps.hostUnary (F := Ideal) (φ := .f32) .cos) (angle_q p (half d))

theorem sine_37 (e : Fin 128) (p : Fin 4) (h : Fin 8) (d : Fin 128) :
    val_main_v37 (F := Ideal) (ix4 e p h (half d)) = sine (8192 + p.val) d :=
  congrArg (FloatOps.hostUnary (F := Ideal) (φ := .f32) .sin) (angle_q p (half d))

theorem cosine_60 (e : Fin 128) (p : Fin 4) (h : Fin 8) (d : Fin 128) :
    val_main_v60 (F := Ideal) (ix4 e p h (half d)) = cosine (8192 + p.val) d :=
  congrArg (FloatOps.hostUnary (F := Ideal) (φ := .f32) .cos) (angle_k p (half d))

theorem sine_62 (e : Fin 128) (p : Fin 4) (h : Fin 8) (d : Fin 128) :
    val_main_v62 (F := Ideal) (ix4 e p h (half d)) = sine (8192 + p.val) d :=
  congrArg (FloatOps.hostUnary (F := Ideal) (φ := .f32) .sin) (angle_k p (half d))

theorem cosine_65 (e : Fin 128) (p : Fin 4) (h : Fin 8) (d : Fin 128) :
    val_main_v65 (F := Ideal) (ix4 e p h (half d)) = cosine (8192 + p.val) d :=
  congrArg (FloatOps.hostUnary (F := Ideal) (φ := .f32) .cos) (angle_k p (half d))

theorem sine_67 (e : Fin 128) (p : Fin 4) (h : Fin 8) (d : Fin 128) :
    val_main_v67 (F := Ideal) (ix4 e p h (half d)) = sine (8192 + p.val) d :=
  congrArg (FloatOps.hostUnary (F := Ideal) (φ := .f32) .sin) (angle_k p (half d))

theorem q_turned (r : Fin 512) (h : Fin 8) (d : Fin 128) :
    val_main_v40 (F := Ideal) x w (ix4 (groupOf r) (tokenOf r) h d) = turned x w 512 (by omega) r ⟨128 * h.val + d.val, by omega⟩ := by
  refine (pair_apply (val_main_v34 (F := Ideal) x w) (val_main_v39 (F := Ideal) x w) _ _ h d).trans ?_
  refine Eq.trans ?_ (rotated_halves (column x w r) 512 (by omega) (place r) h d _ _ rfl rfl)
  rw [val_main_v34_apply, val_main_v31_apply, val_main_v33_apply, val_main_v39_apply, val_main_v36_apply, val_main_v38_apply,
    val_main_v28_apply, val_main_v29_apply, low, high, q_column, q_column, cosine_30, sine_32, cosine_35, sine_37]
  rfl

theorem k_turned (r : Fin 512) (h : Fin 8) (d : Fin 128) :
    val_main_v70 (F := Ideal) x w (ix4 (groupOf r) (tokenOf r) h d) = turned x w 1536 (by omega) r ⟨128 * h.val + d.val, by omega⟩ := by
  refine (pair_apply (val_main_v64 (F := Ideal) x w) (val_main_v69 (F := Ideal) x w) _ _ h d).trans ?_
  refine Eq.trans ?_ (rotated_halves (column x w r) 1536 (by omega) (place r) h d _ _ rfl rfl)
  rw [val_main_v64_apply, val_main_v61_apply, val_main_v63_apply, val_main_v69_apply, val_main_v66_apply, val_main_v68_apply,
    val_main_v58_apply, val_main_v59_apply]
  rw [show idx_main_v58 (ix4 (groupOf r) (tokenOf r) h (half d)) = _ from low _ _ _ _,
    show idx_main_v59 (ix4 (groupOf r) (tokenOf r) h (half d)) = _ from high _ _ _ _]
  rw [k_column, k_column, cosine_60, sine_62, cosine_65, sine_67]
  rfl

/-- Where a flat row and a column lie in the heads. -/
theorem idx_heads (r : Fin 512) (j : Fin 1024) :
    idx_main_v71 (ix2 r j) = ix4 (groupOf r) (tokenOf r) (⟨j.val / 128, by omega⟩ : Fin 8) (⟨j.val % 128, by omega⟩ : Fin 128) :=
  funext fun a => Fin.ext (by
    match a with
    | ⟨0, _⟩ => show (r.val * 1024 + j.val) / 4096 = r.val / 4; omega
    | ⟨1, _⟩ => show (r.val * 1024 + j.val) / 1024 % 4 = r.val % 4; omega
    | ⟨2, _⟩ => show (r.val * 1024 + j.val) / 128 % 8 = j.val / 128; omega
    | ⟨3, _⟩ => show (r.val * 1024 + j.val) % 128 = j.val % 128; omega)

theorem k_eq : val_main_v71 (F := Ideal) x w = keys x w := by
  funext i
  obtain ⟨r, j, rfl⟩ : ∃ (r : Fin 512) (j : Fin 1024), i = ix2 r j := ⟨i 0, i 1, eq_ix2 i⟩
  rw [val_main_v71_apply, idx_heads, k_turned]
  exact congrArg (turned x w 1536 (by omega) r) (Fin.ext (Nat.div_add_mod j.val 128))

theorem kb_eq : val_main_v75 (F := Ideal) x w = keys x w := k_eq x w

theorem q_eq : val_main_v74 (F := Ideal) x w = queries x w := by
  funext i
  obtain ⟨r, j, rfl⟩ : ∃ (r : Fin 512) (j : Fin 1024), i = ix2 r j := ⟨i 0, i 1, eq_ix2 i⟩
  rw [val_main_v74_apply]
  rw [show idx_main_v74 (ix2 r j) = _ from idx_heads r j]
  rw [q_turned]
  exact congrArg (turned x w 512 (by omega) r) (Fin.ext (Nat.div_add_mod j.val 128))

end Cert.Proof.ProjSRef

end
-- ==== Proof.ProjSRun.lean ====
/-
  The arrays that the sampled tokens' projection leaves: the eight results of the call, and what the host makes
  of three of them after it, the keys and the values split into heads and the rows of the pooled channel kept for the next
  call, which it joins from the carried rows and the call's first result.
-/
module

public import proofs.«01_k».proof.Proof.ProjSArray
public import Idealize.ShloMosaic.Lib.StableHlo.Run
public import Idealize.ShloMosaic.Lib.Pipeline.FrameSuffix

@[expose] public section

noncomputable section

namespace Cert.Proof.ProjS

open Cert.ProjSIdeal Cert.ProjSIdeal.Gen Idealize.ShloMosaic Idealize.ShloMosaic.TcCoe Idealize.ShloMosaic.ValueIdx Idealize.SL.Sem
open Idealize.ShloMosaic.StableHlo Cert.Proof.ProjectionS

variable (m : (ℓ : Loc nD τ sig) → Buf (Elt Ideal) ℓ) (c : Dev nD)

/-- The sampled rows of the channel, a sample's four tokens together. -/
def tokens (u : FVec Ideal S512x512 .f32) : FVec Ideal S128x4x512 .f32 := shapeCast S128x4x512 u shapeCasts_S512x512_S128x4x512

/-- The rows of the sampled tokens, each split into its eight heads. -/
def heads (a : FVec Ideal S512x1024 .f32) : FVec Ideal S1x128x4x8x128 .f32 :=
  broadcastInDim S1x128x4x8x128 ![1, 2, 3, 4] bcast_S128x4x8x128_S1x128x4x8x128_1_2_3_4
    (shapeCast S128x4x8x128 (shapeCast S128x4x1024 a shapeCasts_S512x1024_S128x4x1024) shapeCasts_S128x4x1024_S128x4x8x128)

/-- The last fifteen of a sample's nineteen rows. -/
def keptRows (st : FVec Ideal S1x128x15x512 .f32) (u : FVec Ideal S128x4x512 .f32) : FVec Ideal S1x128x15x512 .f32 :=
  broadcastInDim S1x128x15x512 ![1, 2, 3] bcast_S128x15x512_S1x128x15x512_1_2_3
    (extractStridedSlice S128x15x512 ![0, 4, 0] (concatenate S128x19x512 1
      [⟨S128x15x512, shapeCast S128x15x512 st shapeCasts_S1x128x15x512_S128x15x512⟩, ⟨S128x4x512, u⟩]
      concatenates_S128x15x512_S128x4x512_S128x19x512_d1) slices_S128x19x512_S128x15x512_0_4_0)

section Host
variable (W : Valuation τ sig (Elt Ideal))

/-! The host operations after the call, from any contents. -/

theorem later_keys : after (List.flatten [hostOps1]) W (Proc.devRef .tc main_v29) = heads (W (Proc.devRef .tc main_v24_2)) := by
  simp only [hostOps1, List.flatten_cons, List.flatten_nil, List.append_nil, List.cons_append, List.nil_append]
  after_results <;> rfl

theorem later_values : after (List.flatten [hostOps1]) W (Proc.devRef .tc main_v31) = heads (W (Proc.devRef .tc main_v24_4)) := by
  simp only [hostOps1, List.flatten_cons, List.flatten_nil, List.append_nil, List.cons_append, List.nil_append]
  after_results <;> rfl

theorem later_rows : after (List.flatten [hostOps1]) W (Proc.devRef .tc main_v35)
    = keptRows (W (Proc.devRef .tc main_arg2)) (tokens (W (Proc.devRef .tc main_v24_0))) := by
  simp only [hostOps1, List.flatten_cons, List.flatten_nil, List.append_nil, List.cons_append, List.nil_append]
  after_results <;> rfl

end Host

/-- The carried rows are as launched when the call is left. -/
theorem carried_at_exit : Pipeline.withArrays spec0 c (V0 m c) (fun w => (dats m 0 c).arrAt w cfg0.N) (Proc.devRef .tc main_arg2)
    = m ((c.tc : Thread nD τ).loc main_arg2) :=
  (Pipeline.withArrays_of_ne _ c (V0 m c) _ main_arg2 (by exact (by decide : ∀ w, Pipeline.arrRef spec0 w ≠ main_arg2))).trans (V_main_arg2 m c)

/-! The contents of the call's arrays when the call is left. -/

theorem exit_u : Pipeline.withArrays spec0 c (V0 m c) (fun w => (dats m 0 c).arrAt w cfg0.N) (Proc.devRef .tc main_v24_0)
    = (part512 (m ((c.tc : Thread nD τ).loc main_arg0)) (m ((c.tc : Thread nD τ).loc main_arg1)) 0 (by omega) : S512x512.Idx → EReal) :=
  (Pipeline.withArrays_arr spec0 launch0.win.arr_inj c (V0 m c) _ 4).trans (final_u m c)

theorem exit_k : Pipeline.withArrays spec0 c (V0 m c) (fun w => (dats m 0 c).arrAt w cfg0.N) (Proc.devRef .tc main_v24_2)
    = (keys (m ((c.tc : Thread nD τ).loc main_arg0)) (m ((c.tc : Thread nD τ).loc main_arg1)) : S512x1024.Idx → EReal) :=
  (Pipeline.withArrays_arr spec0 launch0.win.arr_inj c (V0 m c) _ 6).trans (final_k m c)

theorem exit_v : Pipeline.withArrays spec0 c (V0 m c) (fun w => (dats m 0 c).arrAt w cfg0.N) (Proc.devRef .tc main_v24_4)
    = (part1024 (m ((c.tc : Thread nD τ).loc main_arg0)) (m ((c.tc : Thread nD τ).loc main_arg1)) 2560 (by omega) : S512x1024.Idx → EReal) :=
  (Pipeline.withArrays_arr spec0 launch0.win.arr_inj c (V0 m c) _ 8).trans (final_v m c)

theorem final_keys : Pipeline.afterTail₀ cfgs (dats m) 0 (V0 m) [hostOps1] c main_v29
    = heads (keys (m ((c.tc : Thread nD τ).loc main_arg0)) (m ((c.tc : Thread nD τ).loc main_arg1))) := by
  refine (later_keys _).trans ?_
  rw [exit_k]

theorem final_values : Pipeline.afterTail₀ cfgs (dats m) 0 (V0 m) [hostOps1] c main_v31
    = heads (part1024 (m ((c.tc : Thread nD τ).loc main_arg0)) (m ((c.tc : Thread nD τ).loc main_arg1)) 2560 (by omega)) := by
  refine (later_values _).trans ?_
  rw [exit_v]

theorem final_rows : Pipeline.afterTail₀ cfgs (dats m) 0 (V0 m) [hostOps1] c main_v35
    = keptRows (m ((c.tc : Thread nD τ).loc main_arg2))
        (tokens (part512 (m ((c.tc : Thread nD τ).loc main_arg0)) (m ((c.tc : Thread nD τ).loc main_arg1)) 0 (by omega))) := by
  refine (later_rows _).trans ?_
  rw [carried_at_exit, exit_u]

abbrev Post (r : PUnit × MemSt nD τ sig (Elt Ideal)) : Prop :=
  Pipeline.FramePost cfgs (dats m) 0 (Pipeline.afterTail₀ cfgs (dats m) 0 (V0 m) [hostOps1]) r

variable (r : PUnit × MemSt nD τ sig (Elt Ideal))

theorem post_u (h : Post m r) : r.2.mem ((c.tc : Thread nD τ).loc main_v24_0) = (dats m 0 c).arrAt 4 cfg0.N := (h c).1 4
theorem post_q (h : Post m r) : r.2.mem ((c.tc : Thread nD τ).loc main_v24_1) = (dats m 0 c).arrAt 5 cfg0.N := (h c).1 5
theorem post_k (h : Post m r) : r.2.mem ((c.tc : Thread nD τ).loc main_v24_2) = (dats m 0 c).arrAt 6 cfg0.N := (h c).1 6
theorem post_kb (h : Post m r) : r.2.mem ((c.tc : Thread nD τ).loc main_v24_3) = (dats m 0 c).arrAt 7 cfg0.N := (h c).1 7
theorem post_v (h : Post m r) : r.2.mem ((c.tc : Thread nD τ).loc main_v24_4) = (dats m 0 c).arrAt 8 cfg0.N := (h c).1 8
theorem post_vb (h : Post m r) : r.2.mem ((c.tc : Thread nD τ).loc main_v24_5) = (dats m 0 c).arrAt 9 cfg0.N := (h c).1 9
theorem post_ga (h : Post m r) : r.2.mem ((c.tc : Thread nD τ).loc main_v24_6) = (dats m 0 c).arrAt 10 cfg0.N := (h c).1 10
theorem post_gb (h : Post m r) : r.2.mem ((c.tc : Thread nD τ).loc main_v24_7) = (dats m 0 c).arrAt 11 cfg0.N := (h c).1 11

theorem post_keys (h : Post m r) : r.2.mem ((c.tc : Thread nD τ).loc main_v29)
    = heads (keys (m ((c.tc : Thread nD τ).loc main_arg0)) (m ((c.tc : Thread nD τ).loc main_arg1))) :=
  ((h c).2 main_v29 (Pipeline.mem_restRefs_of main_v29 (by decide) (by decide))).trans (final_keys m c)

theorem post_values (h : Post m r) : r.2.mem ((c.tc : Thread nD τ).loc main_v31)
    = heads (part1024 (m ((c.tc : Thread nD τ).loc main_arg0)) (m ((c.tc : Thread nD τ).loc main_arg1)) 2560 (by omega)) :=
  ((h c).2 main_v31 (Pipeline.mem_restRefs_of main_v31 (by decide) (by decide))).trans (final_values m c)

theorem post_rows (h : Post m r) : r.2.mem ((c.tc : Thread nD τ).loc main_v35)
    = keptRows (m ((c.tc : Thread nD τ).loc main_arg2))
        (tokens (part512 (m ((c.tc : Thread nD τ).loc main_arg0)) (m ((c.tc : Thread nD τ).loc main_arg1)) 0 (by omega))) :=
  ((h c).2 main_v35 (Pipeline.mem_restRefs_of main_v35 (by decide) (by decide))).trans (final_rows m c)

theorem post_arg0 (h : Post m r) : r.2.mem ((c.tc : Thread nD τ).loc main_arg0) = m ((c.tc : Thread nD τ).loc main_arg0) :=
  ((h c).2 main_arg0 (Pipeline.mem_restRefs_of main_arg0 (by decide) (by decide))).trans (W_main_arg0 m (dats m) c)
theorem post_arg1 (h : Post m r) : r.2.mem ((c.tc : Thread nD τ).loc main_arg1) = m ((c.tc : Thread nD τ).loc main_arg1) :=
  ((h c).2 main_arg1 (Pipeline.mem_restRefs_of main_arg1 (by decide) (by decide))).trans (W_main_arg1 m (dats m) c)
theorem post_arg2 (h : Post m r) : r.2.mem ((c.tc : Thread nD τ).loc main_arg2) = m ((c.tc : Thread nD τ).loc main_arg2) :=
  ((h c).2 main_arg2 (Pipeline.mem_restRefs_of main_arg2 (by decide) (by decide))).trans (W_main_arg2 m (dats m) c)

end Cert.Proof.ProjS

end
-- ==== Proof.ProjSEquation.lean ====
/-
  The projection kernel and its reference end with the same eleven arrays, from memories that agree on the arguments.
-/
module

public import proofs.«01_k».proof.Defs
public import proofs.«01_k».proof.Proof.ProjSArray
public import proofs.«01_k».proof.Proof.ProjSRef
public import proofs.«01_k».proof.Proof.ProjSRun
public import Idealize.ShloMosaic.Lib.Pointwise.Reshape
public import proofs.«01_k».proof.Proof.Gen.ProjSRefIdeal

@[expose] public section

noncomputable section

namespace Cert.Proof

open Idealize.ShloMosaic Idealize.ShloMosaic.TcCoe Idealize.SL.Sem ProjectionS

/-- Folding the batch into rows and back changes nothing. -/
theorem ProjSRef.tokens_eq (x : (⟨3, ![128, 4, 1024]⟩ : Shape).Idx → EReal) (w : (⟨3, ![1, 1024, 5632]⟩ : Shape).Idx → EReal) :
    ProjS.tokens (part512 x w 0 (by omega)) = Cert.ProjSRefIdeal.Read.val_main_v5 (F := Ideal) x w := by
  rw [← ProjSRef.u_eq]
  unfold ProjS.tokens Cert.ProjSRefIdeal.Read.val_main_v73
  exact shapeCast_shapeCast _ _ _

/-- The keys, split into heads. -/
theorem ProjSRef.heads_keys (x : (⟨3, ![128, 4, 1024]⟩ : Shape).Idx → EReal) (w : (⟨3, ![1, 1024, 5632]⟩ : Shape).Idx → EReal) :
    Cert.ProjSRefIdeal.Read.val_main_v79 (F := Ideal) x w = ProjS.heads (keys x w) := by
  rw [← ProjSRef.k_eq]
  unfold ProjS.heads Cert.ProjSRefIdeal.Read.val_main_v71
  rw [shapeCast_comp, shapeCast_shapeCast]
  rfl

/-- The values, split into heads. -/
theorem ProjSRef.heads_values (x : (⟨3, ![128, 4, 1024]⟩ : Shape).Idx → EReal) (w : (⟨3, ![1, 1024, 5632]⟩ : Shape).Idx → EReal) :
    Cert.ProjSRefIdeal.Read.val_main_v81 (F := Ideal) x w = ProjS.heads (part1024 x w 2560 (by omega)) := by
  rw [← ProjSRef.v_eq]
  unfold ProjS.heads Cert.ProjSRefIdeal.Read.val_main_v72
  rw [shapeCast_shapeCast]
  rfl

/-- The rows kept for the next call: the carried rows and the sampled rows, without the first four. -/
theorem ProjSRef.kept_eq (x : (⟨3, ![128, 4, 1024]⟩ : Shape).Idx → EReal) (w : (⟨3, ![1, 1024, 5632]⟩ : Shape).Idx → EReal)
    (st : (⟨4, ![1, 128, 15, 512]⟩ : Shape).Idx → EReal) :
    Cert.ProjSRefIdeal.Read.val_main_v85 (F := Ideal) x w st = ProjS.keptRows st (ProjS.tokens (part512 x w 0 (by omega))) := by
  rw [ProjSRef.tokens_eq]
  rfl

set_option maxHeartbeats 800000 in
theorem algebraic_proj_sample : algebraic_ProjSIdeal_ProjSRefIdeal (hProjSIdeal := Cert.ProjSIdeal.Gen.facts) (hProjSRefIdeal := Cert.ProjSRefIdeal.Gen.facts) := by
  intro m ρ m' ρ' _ hargs
  refine ⟨fun c => part512 (m ((c.tc : Thread _ _).loc Cert.ProjSIdeal.main_arg0)) (m ((c.tc : Thread _ _).loc Cert.ProjSIdeal.main_arg1)) 0 (by omega),
    fun c => queries (m ((c.tc : Thread _ _).loc Cert.ProjSIdeal.main_arg0)) (m ((c.tc : Thread _ _).loc Cert.ProjSIdeal.main_arg1)),
    fun c => keys (m ((c.tc : Thread _ _).loc Cert.ProjSIdeal.main_arg0)) (m ((c.tc : Thread _ _).loc Cert.ProjSIdeal.main_arg1)),
    fun c => keys (m ((c.tc : Thread _ _).loc Cert.ProjSIdeal.main_arg0)) (m ((c.tc : Thread _ _).loc Cert.ProjSIdeal.main_arg1)),
    fun c => part1024 (m ((c.tc : Thread _ _).loc Cert.ProjSIdeal.main_arg0)) (m ((c.tc : Thread _ _).loc Cert.ProjSIdeal.main_arg1)) 2560 (by omega),
    fun c => part1024 (m ((c.tc : Thread _ _).loc Cert.ProjSIdeal.main_arg0)) (m ((c.tc : Thread _ _).loc Cert.ProjSIdeal.main_arg1)) 2560 (by omega),
    fun c => part1024 (m ((c.tc : Thread _ _).loc Cert.ProjSIdeal.main_arg0)) (m ((c.tc : Thread _ _).loc Cert.ProjSIdeal.main_arg1)) 3584 (by omega),
    fun c => part1024 (m ((c.tc : Thread _ _).loc Cert.ProjSIdeal.main_arg0)) (m ((c.tc : Thread _ _).loc Cert.ProjSIdeal.main_arg1)) 4608 (by omega),
    fun c => ProjS.heads (keys (m ((c.tc : Thread _ _).loc Cert.ProjSIdeal.main_arg0)) (m ((c.tc : Thread _ _).loc Cert.ProjSIdeal.main_arg1))),
    fun c => ProjS.heads (part1024 (m ((c.tc : Thread _ _).loc Cert.ProjSIdeal.main_arg0)) (m ((c.tc : Thread _ _).loc Cert.ProjSIdeal.main_arg1)) 2560 (by omega)),
    fun c => ProjS.keptRows (m ((c.tc : Thread _ _).loc Cert.ProjSIdeal.main_arg2)) (ProjS.tokens (part512 (m ((c.tc : Thread _ _).loc Cert.ProjSIdeal.main_arg0)) (m ((c.tc : Thread _ _).loc Cert.ProjSIdeal.main_arg1)) 0 (by omega))), ?_, ?_⟩
  · refine (θ_run _ _ _).mono (fun r h c => ?_) (Cert.ProjSIdeal.Gen.run_main (F := Ideal) m ρ)
    exact ⟨(ProjS.post_u m c r h).trans (ProjS.final_u m c), (ProjS.post_q m c r h).trans (ProjS.final_q m c),
      (ProjS.post_k m c r h).trans (ProjS.final_k m c), (ProjS.post_kb m c r h).trans (ProjS.final_kb m c),
      (ProjS.post_v m c r h).trans (ProjS.final_v m c), (ProjS.post_vb m c r h).trans (ProjS.final_vb m c),
      (ProjS.post_ga m c r h).trans (ProjS.final_ga m c), (ProjS.post_gb m c r h).trans (ProjS.final_gb m c),
      ProjS.post_keys m c r h, ProjS.post_values m c r h, ProjS.post_rows m c r h, ProjS.post_arg0 m c r h, ProjS.post_arg1 m c r h, ProjS.post_arg2 m c r h⟩
  · refine (θ_run _ _ _).mono (fun r h c => ?_) (Cert.ProjSRefIdeal.Value.run (F := Ideal) m' ρ')
    obtain ⟨e0, e1, e2⟩ := hargs c
    obtain ⟨h0, h1, h2, h3, h4, h5, h6, h7, h8, h9, h10, h11⟩ := h c
    refine ⟨h0.trans ?_, h1.trans ?_, h2.trans ?_, h3.trans ?_, h4.trans ?_, h5.trans ?_, h6.trans ?_, h7.trans ?_, h8.trans ?_, h9.trans ?_,
      h10.trans ?_, h11⟩
    · rw [Cert.ProjSRefIdeal.Read.val_main_v73_eq, e0, e1]; exact ProjSRef.u_eq _ _
    · rw [Cert.ProjSRefIdeal.Read.val_main_v74_eq, e0, e1]; exact ProjSRef.q_eq _ _
    · rw [Cert.ProjSRefIdeal.Read.val_main_v71_eq, e0, e1]; exact ProjSRef.k_eq _ _
    · rw [Cert.ProjSRefIdeal.Read.val_main_v75_eq, e0, e1]; exact ProjSRef.kb_eq _ _
    · rw [Cert.ProjSRefIdeal.Read.val_main_v72_eq, e0, e1]; exact ProjSRef.v_eq _ _
    · rw [Cert.ProjSRefIdeal.Read.val_main_v76_eq, e0, e1]; exact ProjSRef.vb_eq _ _
    · rw [Cert.ProjSRefIdeal.Read.val_main_v77_eq, e0, e1]; exact ProjSRef.ga_eq _ _
    · rw [Cert.ProjSRefIdeal.Read.val_main_v78_eq, e0, e1]; exact ProjSRef.gb_eq _ _
    · rw [Cert.ProjSRefIdeal.Read.val_main_v79_eq, e0, e1]; exact ProjSRef.heads_keys _ _
    · refine (Cert.ProjSRefIdeal.Read.val_main_v81_eq (F := Ideal) (m' ((c.tc : Thread _ _).loc Cert.ProjSRefIdeal.main_arg0)) (m' ((c.tc : Thread _ _).loc Cert.ProjSRefIdeal.main_arg1))).trans ?_
      rw [e0, e1]
      exact ProjSRef.heads_values _ _
    · refine (Cert.ProjSRefIdeal.Read.val_main_v85_eq (F := Ideal) (m' ((c.tc : Thread _ _).loc Cert.ProjSRefIdeal.main_arg0)) (m' ((c.tc : Thread _ _).loc Cert.ProjSRefIdeal.main_arg1)) (m' ((c.tc : Thread _ _).loc Cert.ProjSRefIdeal.main_arg2))).trans ?_
      rw [e0, e1, e2]
      exact ProjSRef.kept_eq _ _ _

end Cert.Proof

end
-- ==== Proof.PoolSRows.lean ====
/-
  What the pooling mixer computes of one sampled token: the rows that end at it are the fifteen carried rows and the
  sampled tokens up to it. All four tokens lie past the longest window, so every window is full.
-/
module

public import proofs.«01_k».proof.Proof.PoolRows

@[expose] public section

noncomputable section

namespace Cert.Proof.PoolS

open Idealize.ShloMosaic Idealize.ShloMosaic.ValueIdx Cert.Proof.Rows Cert.Proof.Pool
open scoped BigOperators

abbrev Carried : Shape := ⟨4, ![1, 128, 15, 512]⟩
abbrev Tokens : Shape := ⟨3, ![128, 4, 512]⟩
abbrev Left : Shape := ⟨3, ![4, 128, 512]⟩

/-- A sample's channel: the carried rows are entries 1 to 15, the sampled tokens entries 16 to 19. -/
def ext (st : Carried.Idx → EReal) (u : Tokens.Idx → EReal) (b : Fin 128) (e : Fin 512) (n : ℕ) : EReal :=
  if h : 1 ≤ n ∧ n < 16 then st (ix4 0 b ⟨n - 1, by omega⟩ e)
  else if h' : 16 ≤ n ∧ n < 20 then u (ix3 b ⟨n - 16, by omega⟩ e) else 0

/-- What the mixer leaves at sampled token `t`, in channel `d` of group `g`. -/
def mixed (st : Carried.Idx → EReal) (u : Tokens.Idx → EReal) (w : Mixers.Idx → EReal) (s : Scales.Idx → EReal) (b : Fin 128)
    (t : ℕ) (g : Fin 4) (d : Fin 128) : EReal :=
  rowMul (fun c => pooledAt (ext st u b (chan g c)) (width g) (widthWord g) t (8192 + t)) (fun c d => w (ix4 0 g c d)) d
    * s (ix2 0 (chan g d))

/-- All of them, the tokens first. -/
def whole (st : Carried.Idx → EReal) (u : Tokens.Idx → EReal) (w : Mixers.Idx → EReal) (s : Scales.Idx → EReal) (i : Left.Idx) : EReal :=
  mixed st u w s (i 1) (i 0).val (groupOf (i 2)) (placeOf (i 2))

theorem ext_finite (st : Carried.Idx → EReal) (u : Tokens.Idx → EReal) (hst : ∀ i, st i ≠ ⊤ ∧ st i ≠ ⊥) (hu : ∀ i, u i ≠ ⊤ ∧ u i ≠ ⊥)
    (b : Fin 128) (e : Fin 512) (n : ℕ) : ext st u b e n ≠ ⊤ ∧ ext st u b e n ≠ ⊥ := by
  unfold ext
  split
  · exact hst _
  · split
    · exact hu _
    · exact ⟨EReal.zero_ne_top, EReal.zero_ne_bot⟩

/-- The width of a group's window as a float. -/
abbrev widthBits (g : Fin 4) : BitVec 32 := ![0x40000000#32, 0x40800000#32, 0x41000000#32, 0x41800000#32] g

/-- Past the prompt every window is full. -/
theorem count_full (g : Fin 4) (t : Fin 4) : Pool.count (widthWord g) (8192 + t.val) = Ideal.ofBits .f32 (widthBits g) := by
  unfold Pool.count
  have h : (BitVec.ofNat 32 (8192 + t.val + 1)).slt (widthWord g) = false := by
    fin_cases g <;> fin_cases t <;> decide
  rw [h]
  show (((widthWord g).toInt : ℝ) : EReal) = _
  fin_cases g
  · show (((2 : ℤ) : ℝ) : EReal) = Ideal.ofBits .f32 0x40000000#32
    simp [Ideal.ofBits, Ideal.ieee]; norm_num; rw [← EReal.coe_mul]; norm_num
  · show (((4 : ℤ) : ℝ) : EReal) = Ideal.ofBits .f32 0x40800000#32
    simp [Ideal.ofBits, Ideal.ieee]; norm_num; rw [← EReal.coe_mul]; norm_num
  · show (((8 : ℤ) : ℝ) : EReal) = Ideal.ofBits .f32 0x41000000#32
    simp [Ideal.ofBits, Ideal.ieee]; norm_num; rw [← EReal.coe_mul]; norm_num
  · show (((16 : ℤ) : ℝ) : EReal) = Ideal.ofBits .f32 0x41800000#32
    simp [Ideal.ofBits, Ideal.ieee]; norm_num; rw [← EReal.coe_mul]; norm_num

end Cert.Proof.PoolS

end
-- ==== Proof.PoolSBlock.lean ====
/-
  The block of the pooling mixer over the sampled tokens, read at an index: each token's part of each group is the mean
  of the rows that end at it less its own row, mixed and scaled.
-/
module

public import proofs.«01_k».proof.Proof.PoolSRows
public import proofs.«01_k».proof.Proof.Reshapes
public import proofs.«01_k».proof.Proof.Gen.PoolSIdeal.Frame
public import Idealize.ShloMosaic.Lib.Pipeline.Value
public import Idealize.ShloMosaic.Lib.ValueIdx
public import Idealize.ShloMosaic.Lib.Pointwise.ElementwiseCore

@[expose] public section

set_option maxRecDepth 16384

noncomputable section

namespace Cert.Proof.PoolS

open Cert.PoolSIdeal Cert.PoolSIdeal.Gen Idealize.ShloMosaic Idealize.ShloMosaic.ValueIdx Cert.Proof.Rows Cert.Proof.Pool
open scoped BigOperators

variable (x0 : FVec Ideal S15x128x512 .f32) (x1 : FVec Ideal S4x128x512 .f32) (x2 : FVec Ideal S4x128x128 .bf16) (x3 : FVec Ideal S1x512 .f32)

/-! ### The loads -/

/-- A sample's channel in the blocks: the carried rows are entries 1 to 15, the tokens entries 16 to 19. -/
def rows (b : Fin 128) (e : Fin 512) (n : ℕ) : EReal :=
  if h : 1 ≤ n ∧ n < 16 then x0 (ix3 ⟨n - 1, by omega⟩ b e)
  else if h' : 16 ≤ n ∧ n < 20 then x1 (ix3 ⟨n - 16, by omega⟩ b e) else 0

theorem load_carried (g : Fin 4) (a o : ℕ) (inb : ∀ k, (![a, 0, o] : Fin 3 → ℕ) k + S1x128x128.size k ≤ S15x128x512.size k)
    (ha : a < 15) (ho : o = 128 * g.val) (h : S1x128x128.ShapeCasts S128x128) (b k : Fin 128) :
    shapeCast S128x128 (View.ld (Val := Elt Ideal) (e' := .f32) x0 (Rect.unit (s := S15x128x512) ![a, 0, o] S1x128x128.size inb)) h (ix2 b k)
      = rows x0 x1 b (chan g k) (a + 1) := by
  subst ho
  refine (drop3_apply _ h b k).trans ?_
  unfold rows
  rw [dif_pos (by omega)]
  exact congrArg x0 (funext fun i => Fin.ext (match i with
    | ⟨0, _⟩ => rfl
    | ⟨1, _⟩ => (Nat.zero_add _).trans (Nat.one_mul _)
    | ⟨2, _⟩ => congrArg (128 * g.val + ·) (Nat.one_mul _)))

theorem load_token (g : Fin 4) (a o : ℕ) (inb : ∀ k, (![a, 0, o] : Fin 3 → ℕ) k + S1x128x128.size k ≤ S4x128x512.size k)
    (ha : a < 4) (ho : o = 128 * g.val) (h : S1x128x128.ShapeCasts S128x128) (b k : Fin 128) :
    shapeCast S128x128 (View.ld (Val := Elt Ideal) (e' := .f32) x1 (Rect.unit (s := S4x128x512) ![a, 0, o] S1x128x128.size inb)) h (ix2 b k)
      = rows x0 x1 b (chan g k) (16 + a) := by
  subst ho
  refine (drop3_apply _ h b k).trans ?_
  unfold rows
  rw [dif_neg (by omega), dif_pos (by omega)]
  refine congrArg x1 (funext fun i => Fin.ext (match i with
    | ⟨0, _⟩ => ?_
    | ⟨1, _⟩ => (Nat.zero_add _).trans (Nat.one_mul _)
    | ⟨2, _⟩ => congrArg (128 * g.val + ·) (Nat.one_mul _)))
  show a + 1 * 0 = 16 + a - 16
  omega

theorem load_mixer (g : Fin 4) (a : ℕ) (inb : ∀ k, (![a, 0, 0] : Fin 3 → ℕ) k + S1x128x128.size k ≤ S4x128x128.size k)
    (ha : a = g.val) (k d : Fin 128) :
    View.ld (Val := Elt Ideal) (e' := .bf16) x2 (Rect.unit (s := S4x128x128) ![a, 0, 0] S1x128x128.size inb) (ix3 0 k d) = x2 (ix3 g k d) := by
  subst ha
  exact congrArg x2 (funext fun i => Fin.ext (match i with
    | ⟨0, _⟩ => rfl
    | ⟨1, _⟩ => (Nat.zero_add _).trans (Nat.one_mul _)
    | ⟨2, _⟩ => (Nat.zero_add _).trans (Nat.one_mul _)))

theorem load_scale (g : Fin 4) (o : ℕ) (inb : ∀ k, (![0, o] : Fin 2 → ℕ) k + S1x128.size k ≤ S1x512.size k)
    (ho : o = 128 * g.val) (d : Fin 128) :
    View.ld (Val := Elt Ideal) (e' := .f32) x3 (Rect.unit (s := S1x512) ![0, o] S1x128.size inb) (ix2 0 d) = x3 (ix2 0 (chan g d)) := by
  subst ho
  exact congrArg x3 (funext fun i => Fin.ext (match i with
    | ⟨0, _⟩ => rfl
    | ⟨1, _⟩ => congrArg (128 * g.val + ·) (Nat.one_mul _)))

/-! ### A token's part of a group -/

/-- From the window's sums, the rows themselves, the mixer and the scale. -/
def group (n : BitVec 32) (S z : FVec Ideal S128x128 .f32) (W : FVec Ideal S1x128x128 .bf16) (s : FVec Ideal S1x128 .f32) :
    FVec Ideal S1x128x128 .bf16 :=
  shapeCast S1x128x128 (truncf .bf16 (mulf (matmul dot_S128x128_S128x128_S128x128_1_0_0_1_n_n none
    (truncf .bf16 (subf (divf S (broadcast S128x128 (Scalar.ofBits (F := Ideal) .f32 n))) z) bitsLt_bf16_f32)
    (shapeCast S128x128 W shapeCasts_S1x128x128_S128x128) (constant S128x128 .f32 0x00000000#32))
    (broadcastTo S128x128 (shapeCast S1x128 s shapeCasts_S1x128_S1x128) broadcasts_S1x128_S128x128)) bitsLt_bf16_f32)
    shapeCasts_S128x128_S1x128x128

theorem group_apply (n : BitVec 32) (S z : FVec Ideal S128x128 .f32) (W : FVec Ideal S1x128x128 .bf16) (s : FVec Ideal S1x128 .f32)
    (b d : Fin 128) :
    group n S z W s (ix3 0 b d)
      = rowMul (fun k => Ideal.div (S (ix2 b k)) (Ideal.ofBits .f32 n) - z (ix2 b k)) (fun k d => W (ix3 0 k d)) d * s (ix2 0 d) := by
  unfold group
  refine (shapeCast_apply _ _ (ix3 0 b d) (ix2 b d) (by
    rw [Shape.rowMajor_val_three, Shape.rowMajor_val_two]
    show b.val * 128 + d.val = (0 * 128 + b.val) * 128 + d.val
    omega)).trans ?_
  refine congrArg₂ (fun x y : EReal => x * y) ?_ ?_
  · refine (matmul_rows dot_S128x128_S128x128_S128x128_1_0_0_1_n_n rfl none _ _ b d).trans ?_
    exact congrArg₂ (fun x y => rowMul x y d) rfl (funext fun k => funext fun j => drop3_apply W _ k j)
  · refine (broadcastTo_apply _ broadcasts_S1x128_S128x128 (ix2 b d) (ix2 0 d) (fun a => match a with
      | ⟨0, _⟩ => rfl
      | ⟨1, _⟩ => rfl)).trans ?_
    exact shapeCast_apply s _ (ix2 0 d) (ix2 0 d) rfl

/-- A token's part of a group. -/
def part (g : Fin 4) (t : Fin 4) (b d : Fin 128) : EReal :=
  rowMul (fun k => pooledAt (rows x0 x1 b (chan g k)) (width g) (widthWord g) t.val (8192 + t.val)) (fun k d => x2 (ix3 g k d)) d
    * x3 (ix2 0 (chan g d))

theorem part_of (g : Fin 4) (t : Fin 4) (n : BitVec 32) (S z : FVec Ideal S128x128 .f32) (W : FVec Ideal S1x128x128 .bf16)
    (s : FVec Ideal S1x128 .f32) (b d : Fin 128) (hn : n = widthBits g)
    (hS : ∀ k, S (ix2 b k) = window (rows x0 x1 b (chan g k)) (width g) (16 + t.val))
    (hz : ∀ k, z (ix2 b k) = rows x0 x1 b (chan g k) (16 + t.val)) (hW : ∀ k d, W (ix3 0 k d) = x2 (ix3 g k d))
    (hs : ∀ d, s (ix2 0 d) = x3 (ix2 0 (chan g d))) : group n S z W s (ix3 0 b d) = part x0 x1 x2 x3 g t b d := by
  subst hn
  refine (group_apply _ S z W s b d).trans ?_
  unfold part pooledAt
  rw [count_full g t]
  simp only [hS, hz, hW, hs]

/-! ### The block's slabs -/

/-- What a token's column range reads of the writes to it, -/
theorem slab_hit (g t : Fin 4) (a o : ℕ) (ha : a = t.val) (ho : o = 128 * g.val)
    (inb : ∀ k, (![a, 0, o] : Fin 3 → ℕ) k + S1x128x128.size k ≤ S4x128x512.size k)
    (w : FVec Ideal S1x128x128 .bf16) (L : List (View.Piece (Elt Ideal) S4x128x512 .bf16)) (b d : Fin 128) :
    View.canon (Val := Elt Ideal) (s := S4x128x512) (e := .bf16) (⟨Rect.unit ![a, 0, o] S1x128x128.size inb, w⟩ :: L) (ix3 t b (chan g d)) = w (ix3 0 b d) := by
  subst ha ho
  have e : (Rect.unit (s := S4x128x512) ![t.val, 0, 128 * g.val] S1x128x128.size inb).emb (ix3 0 b d) = ix3 t b (chan g d) :=
    funext fun a => Fin.ext (match a with
      | ⟨0, _⟩ => rfl
      | ⟨1, _⟩ => (Nat.zero_add _).trans (Nat.one_mul _)
      | ⟨2, _⟩ => congrArg (128 * g.val + ·) (Nat.one_mul _))
  rw [← e]
  exact View.canon_cons_emb _ _ L _

/-- and of the writes to another. -/
theorem slab_miss (g t : Fin 4) (a o : ℕ) (h : t.val < a ∨ a < t.val ∨ 128 * g.val + 128 ≤ o ∨ o + 128 ≤ 128 * g.val)
    (inb : ∀ k, (![a, 0, o] : Fin 3 → ℕ) k + S1x128x128.size k ≤ S4x128x512.size k)
    (w : FVec Ideal S1x128x128 .bf16) (L : List (View.Piece (Elt Ideal) S4x128x512 .bf16)) (b d : Fin 128) :
    View.canon (Val := Elt Ideal) (s := S4x128x512) (e := .bf16) (⟨Rect.unit ![a, 0, o] S1x128x128.size inb, w⟩ :: L) (ix3 t b (chan g d))
      = View.canon L (ix3 t b (chan g d)) := by
  refine View.canon_cons_of_not_mem _ L fun hm => ?_
  have h0 : a ≤ t.val ∧ t.val < a + 1 := (Rect.mem_set_unit (inb := inb)).mp hm 0
  have h2 : o ≤ 128 * g.val + d.val ∧ 128 * g.val + d.val < o + 128 := (Rect.mem_set_unit (inb := inb)).mp hm 2
  omega

/-! ### The sixteen parts -/

theorem part00 (b d : Fin 128) :
    group 0x40000000#32 (addf (shapeCast S128x128 (View.ld (Val := Elt Ideal) (e' := .f32) x1 r0_0) shapeCasts_S1x128x128_S128x128) (shapeCast S128x128 (View.ld (Val := Elt Ideal) (e' := .f32) x0 r0_1) shapeCasts_S1x128x128_S128x128)) (shapeCast S128x128 (View.ld (Val := Elt Ideal) (e' := .f32) x1 r0_0) shapeCasts_S1x128x128_S128x128)
      (View.ld (Val := Elt Ideal) (e' := .bf16) x2 r0_2) (View.ld (Val := Elt Ideal) (e' := .f32) x3 r0_3) (ix3 0 b d) = part x0 x1 x2 x3 0 0 b d := by
  refine part_of x0 x1 x2 x3 0 0 _ _ _ _ _ b d rfl (fun k => ?_) (fun k => load_token x0 x1 0 0 0 _ (by decide) rfl _ b k)
    (fun k d => load_mixer x2 0 0 _ rfl k d) (fun d => load_scale x3 0 0 _ rfl d)
  refine sum_step (r := 0) (W := 1) (a := 15) ?_ (load_carried x0 x1 0 14 0 _ (by decide) rfl _ b k) rfl
  exact sum_one (r := 0) (load_token x0 x1 0 0 0 _ (by decide) rfl _ b k)

theorem part01 (b d : Fin 128) :
    group 0x40000000#32 (addf (shapeCast S128x128 (View.ld (Val := Elt Ideal) (e' := .f32) x1 r0_4) shapeCasts_S1x128x128_S128x128) (shapeCast S128x128 (View.ld (Val := Elt Ideal) (e' := .f32) x1 r0_0) shapeCasts_S1x128x128_S128x128)) (shapeCast S128x128 (View.ld (Val := Elt Ideal) (e' := .f32) x1 r0_4) shapeCasts_S1x128x128_S128x128)
      (View.ld (Val := Elt Ideal) (e' := .bf16) x2 r0_2) (View.ld (Val := Elt Ideal) (e' := .f32) x3 r0_3) (ix3 0 b d) = part x0 x1 x2 x3 0 1 b d := by
  refine part_of x0 x1 x2 x3 0 1 _ _ _ _ _ b d rfl (fun k => ?_) (fun k => load_token x0 x1 0 1 0 _ (by decide) rfl _ b k)
    (fun k d => load_mixer x2 0 0 _ rfl k d) (fun d => load_scale x3 0 0 _ rfl d)
  refine sum_step (r := 1) (W := 1) (a := 15) ?_ (load_token x0 x1 0 0 0 _ (by decide) rfl _ b k) rfl
  exact sum_one (r := 1) (load_token x0 x1 0 1 0 _ (by decide) rfl _ b k)

theorem part02 (b d : Fin 128) :
    group 0x40000000#32 (addf (shapeCast S128x128 (View.ld (Val := Elt Ideal) (e' := .f32) x1 r0_5) shapeCasts_S1x128x128_S128x128) (shapeCast S128x128 (View.ld (Val := Elt Ideal) (e' := .f32) x1 r0_4) shapeCasts_S1x128x128_S128x128)) (shapeCast S128x128 (View.ld (Val := Elt Ideal) (e' := .f32) x1 r0_5) shapeCasts_S1x128x128_S128x128)
      (View.ld (Val := Elt Ideal) (e' := .bf16) x2 r0_2) (View.ld (Val := Elt Ideal) (e' := .f32) x3 r0_3) (ix3 0 b d) = part x0 x1 x2 x3 0 2 b d := by
  refine part_of x0 x1 x2 x3 0 2 _ _ _ _ _ b d rfl (fun k => ?_) (fun k => load_token x0 x1 0 2 0 _ (by decide) rfl _ b k)
    (fun k d => load_mixer x2 0 0 _ rfl k d) (fun d => load_scale x3 0 0 _ rfl d)
  refine sum_step (r := 2) (W := 1) (a := 15) ?_ (load_token x0 x1 0 1 0 _ (by decide) rfl _ b k) rfl
  exact sum_one (r := 2) (load_token x0 x1 0 2 0 _ (by decide) rfl _ b k)

theorem part03 (b d : Fin 128) :
    group 0x40000000#32 (addf (shapeCast S128x128 (View.ld (Val := Elt Ideal) (e' := .f32) x1 r0_6) shapeCasts_S1x128x128_S128x128) (shapeCast S128x128 (View.ld (Val := Elt Ideal) (e' := .f32) x1 r0_5) shapeCasts_S1x128x128_S128x128)) (shapeCast S128x128 (View.ld (Val := Elt Ideal) (e' := .f32) x1 r0_6) shapeCasts_S1x128x128_S128x128)
      (View.ld (Val := Elt Ideal) (e' := .bf16) x2 r0_2) (View.ld (Val := Elt Ideal) (e' := .f32) x3 r0_3) (ix3 0 b d) = part x0 x1 x2 x3 0 3 b d := by
  refine part_of x0 x1 x2 x3 0 3 _ _ _ _ _ b d rfl (fun k => ?_) (fun k => load_token x0 x1 0 3 0 _ (by decide) rfl _ b k)
    (fun k d => load_mixer x2 0 0 _ rfl k d) (fun d => load_scale x3 0 0 _ rfl d)
  refine sum_step (r := 3) (W := 1) (a := 15) ?_ (load_token x0 x1 0 2 0 _ (by decide) rfl _ b k) rfl
  exact sum_one (r := 3) (load_token x0 x1 0 3 0 _ (by decide) rfl _ b k)

theorem part10 (b d : Fin 128) :
    group 0x40800000#32 (addf (addf (addf (shapeCast S128x128 (View.ld (Val := Elt Ideal) (e' := .f32) x1 r0_7) shapeCasts_S1x128x128_S128x128) (shapeCast S128x128 (View.ld (Val := Elt Ideal) (e' := .f32) x0 r0_8) shapeCasts_S1x128x128_S128x128)) (shapeCast S128x128 (View.ld (Val := Elt Ideal) (e' := .f32) x0 r0_9) shapeCasts_S1x128x128_S128x128)) (shapeCast S128x128 (View.ld (Val := Elt Ideal) (e' := .f32) x0 r0_10) shapeCasts_S1x128x128_S128x128)) (shapeCast S128x128 (View.ld (Val := Elt Ideal) (e' := .f32) x1 r0_7) shapeCasts_S1x128x128_S128x128)
      (View.ld (Val := Elt Ideal) (e' := .bf16) x2 r0_11) (View.ld (Val := Elt Ideal) (e' := .f32) x3 r0_12) (ix3 0 b d) = part x0 x1 x2 x3 1 0 b d := by
  refine part_of x0 x1 x2 x3 1 0 _ _ _ _ _ b d rfl (fun k => ?_) (fun k => load_token x0 x1 1 0 128 _ (by decide) rfl _ b k)
    (fun k d => load_mixer x2 1 1 _ rfl k d) (fun d => load_scale x3 1 128 _ rfl d)
  refine sum_step (r := 0) (W := 3) (a := 13) ?_ (load_carried x0 x1 1 12 128 _ (by decide) rfl _ b k) rfl
  refine sum_step (r := 0) (W := 2) (a := 14) ?_ (load_carried x0 x1 1 13 128 _ (by decide) rfl _ b k) rfl
  refine sum_step (r := 0) (W := 1) (a := 15) ?_ (load_carried x0 x1 1 14 128 _ (by decide) rfl _ b k) rfl
  exact sum_one (r := 0) (load_token x0 x1 1 0 128 _ (by decide) rfl _ b k)

theorem part11 (b d : Fin 128) :
    group 0x40800000#32 (addf (addf (addf (shapeCast S128x128 (View.ld (Val := Elt Ideal) (e' := .f32) x1 r0_13) shapeCasts_S1x128x128_S128x128) (shapeCast S128x128 (View.ld (Val := Elt Ideal) (e' := .f32) x1 r0_7) shapeCasts_S1x128x128_S128x128)) (shapeCast S128x128 (View.ld (Val := Elt Ideal) (e' := .f32) x0 r0_8) shapeCasts_S1x128x128_S128x128)) (shapeCast S128x128 (View.ld (Val := Elt Ideal) (e' := .f32) x0 r0_9) shapeCasts_S1x128x128_S128x128)) (shapeCast S128x128 (View.ld (Val := Elt Ideal) (e' := .f32) x1 r0_13) shapeCasts_S1x128x128_S128x128)
      (View.ld (Val := Elt Ideal) (e' := .bf16) x2 r0_11) (View.ld (Val := Elt Ideal) (e' := .f32) x3 r0_12) (ix3 0 b d) = part x0 x1 x2 x3 1 1 b d := by
  refine part_of x0 x1 x2 x3 1 1 _ _ _ _ _ b d rfl (fun k => ?_) (fun k => load_token x0 x1 1 1 128 _ (by decide) rfl _ b k)
    (fun k d => load_mixer x2 1 1 _ rfl k d) (fun d => load_scale x3 1 128 _ rfl d)
  refine sum_step (r := 1) (W := 3) (a := 13) ?_ (load_carried x0 x1 1 13 128 _ (by decide) rfl _ b k) rfl
  refine sum_step (r := 1) (W := 2) (a := 14) ?_ (load_carried x0 x1 1 14 128 _ (by decide) rfl _ b k) rfl
  refine sum_step (r := 1) (W := 1) (a := 15) ?_ (load_token x0 x1 1 0 128 _ (by decide) rfl _ b k) rfl
  exact sum_one (r := 1) (load_token x0 x1 1 1 128 _ (by decide) rfl _ b k)

theorem part12 (b d : Fin 128) :
    group 0x40800000#32 (addf (addf (addf (shapeCast S128x128 (View.ld (Val := Elt Ideal) (e' := .f32) x1 r0_14) shapeCasts_S1x128x128_S128x128) (shapeCast S128x128 (View.ld (Val := Elt Ideal) (e' := .f32) x1 r0_13) shapeCasts_S1x128x128_S128x128)) (shapeCast S128x128 (View.ld (Val := Elt Ideal) (e' := .f32) x1 r0_7) shapeCasts_S1x128x128_S128x128)) (shapeCast S128x128 (View.ld (Val := Elt Ideal) (e' := .f32) x0 r0_8) shapeCasts_S1x128x128_S128x128)) (shapeCast S128x128 (View.ld (Val := Elt Ideal) (e' := .f32) x1 r0_14) shapeCasts_S1x128x128_S128x128)
      (View.ld (Val := Elt Ideal) (e' := .bf16) x2 r0_11) (View.ld (Val := Elt Ideal) (e' := .f32) x3 r0_12) (ix3 0 b d) = part x0 x1 x2 x3 1 2 b d := by
  refine part_of x0 x1 x2 x3 1 2 _ _ _ _ _ b d rfl (fun k => ?_) (fun k => load_token x0 x1 1 2 128 _ (by decide) rfl _ b k)
    (fun k d => load_mixer x2 1 1 _ rfl k d) (fun d => load_scale x3 1 128 _ rfl d)
  refine sum_step (r := 2) (W := 3) (a := 13) ?_ (load_carried x0 x1 1 14 128 _ (by decide) rfl _ b k) rfl
  refine sum_step (r := 2) (W := 2) (a := 14) ?_ (load_token x0 x1 1 0 128 _ (by decide) rfl _ b k) rfl
  refine sum_step (r := 2) (W := 1) (a := 15) ?_ (load_token x0 x1 1 1 128 _ (by decide) rfl _ b k) rfl
  exact sum_one (r := 2) (load_token x0 x1 1 2 128 _ (by decide) rfl _ b k)

theorem part13 (b d : Fin 128) :
    group 0x40800000#32 (addf (addf (addf (shapeCast S128x128 (View.ld (Val := Elt Ideal) (e' := .f32) x1 r0_15) shapeCasts_S1x128x128_S128x128) (shapeCast S128x128 (View.ld (Val := Elt Ideal) (e' := .f32) x1 r0_14) shapeCasts_S1x128x128_S128x128)) (shapeCast S128x128 (View.ld (Val := Elt Ideal) (e' := .f32) x1 r0_13) shapeCasts_S1x128x128_S128x128)) (shapeCast S128x128 (View.ld (Val := Elt Ideal) (e' := .f32) x1 r0_7) shapeCasts_S1x128x128_S128x128)) (shapeCast S128x128 (View.ld (Val := Elt Ideal) (e' := .f32) x1 r0_15) shapeCasts_S1x128x128_S128x128)
      (View.ld (Val := Elt Ideal) (e' := .bf16) x2 r0_11) (View.ld (Val := Elt Ideal) (e' := .f32) x3 r0_12) (ix3 0 b d) = part x0 x1 x2 x3 1 3 b d := by
  refine part_of x0 x1 x2 x3 1 3 _ _ _ _ _ b d rfl (fun k => ?_) (fun k => load_token x0 x1 1 3 128 _ (by decide) rfl _ b k)
    (fun k d => load_mixer x2 1 1 _ rfl k d) (fun d => load_scale x3 1 128 _ rfl d)
  refine sum_step (r := 3) (W := 3) (a := 13) ?_ (load_token x0 x1 1 0 128 _ (by decide) rfl _ b k) rfl
  refine sum_step (r := 3) (W := 2) (a := 14) ?_ (load_token x0 x1 1 1 128 _ (by decide) rfl _ b k) rfl
  refine sum_step (r := 3) (W := 1) (a := 15) ?_ (load_token x0 x1 1 2 128 _ (by decide) rfl _ b k) rfl
  exact sum_one (r := 3) (load_token x0 x1 1 3 128 _ (by decide) rfl _ b k)

theorem part20 (b d : Fin 128) :
    group 0x41000000#32 (addf (addf (addf (addf (addf (addf (addf (shapeCast S128x128 (View.ld (Val := Elt Ideal) (e' := .f32) x1 r0_16) shapeCasts_S1x128x128_S128x128) (shapeCast S128x128 (View.ld (Val := Elt Ideal) (e' := .f32) x0 r0_17) shapeCasts_S1x128x128_S128x128)) (shapeCast S128x128 (View.ld (Val := Elt Ideal) (e' := .f32) x0 r0_18) shapeCasts_S1x128x128_S128x128)) (shapeCast S128x128 (View.ld (Val := Elt Ideal) (e' := .f32) x0 r0_19) shapeCasts_S1x128x128_S128x128)) (shapeCast S128x128 (View.ld (Val := Elt Ideal) (e' := .f32) x0 r0_20) shapeCasts_S1x128x128_S128x128)) (shapeCast S128x128 (View.ld (Val := Elt Ideal) (e' := .f32) x0 r0_21) shapeCasts_S1x128x128_S128x128)) (shapeCast S128x128 (View.ld (Val := Elt Ideal) (e' := .f32) x0 r0_22) shapeCasts_S1x128x128_S128x128)) (shapeCast S128x128 (View.ld (Val := Elt Ideal) (e' := .f32) x0 r0_23) shapeCasts_S1x128x128_S128x128)) (shapeCast S128x128 (View.ld (Val := Elt Ideal) (e' := .f32) x1 r0_16) shapeCasts_S1x128x128_S128x128)
      (View.ld (Val := Elt Ideal) (e' := .bf16) x2 r0_24) (View.ld (Val := Elt Ideal) (e' := .f32) x3 r0_25) (ix3 0 b d) = part x0 x1 x2 x3 2 0 b d := by
  refine part_of x0 x1 x2 x3 2 0 _ _ _ _ _ b d rfl (fun k => ?_) (fun k => load_token x0 x1 2 0 256 _ (by decide) rfl _ b k)
    (fun k d => load_mixer x2 2 2 _ rfl k d) (fun d => load_scale x3 2 256 _ rfl d)
  refine sum_step (r := 0) (W := 7) (a := 9) ?_ (load_carried x0 x1 2 8 256 _ (by decide) rfl _ b k) rfl
  refine sum_step (r := 0) (W := 6) (a := 10) ?_ (load_carried x0 x1 2 9 256 _ (by decide) rfl _ b k) rfl
  refine sum_step (r := 0) (W := 5) (a := 11) ?_ (load_carried x0 x1 2 10 256 _ (by decide) rfl _ b k) rfl
  refine sum_step (r := 0) (W := 4) (a := 12) ?_ (load_carried x0 x1 2 11 256 _ (by decide) rfl _ b k) rfl
  refine sum_step (r := 0) (W := 3) (a := 13) ?_ (load_carried x0 x1 2 12 256 _ (by decide) rfl _ b k) rfl
  refine sum_step (r := 0) (W := 2) (a := 14) ?_ (load_carried x0 x1 2 13 256 _ (by decide) rfl _ b k) rfl
  refine sum_step (r := 0) (W := 1) (a := 15) ?_ (load_carried x0 x1 2 14 256 _ (by decide) rfl _ b k) rfl
  exact sum_one (r := 0) (load_token x0 x1 2 0 256 _ (by decide) rfl _ b k)

theorem part21 (b d : Fin 128) :
    group 0x41000000#32 (addf (addf (addf (addf (addf (addf (addf (shapeCast S128x128 (View.ld (Val := Elt Ideal) (e' := .f32) x1 r0_26) shapeCasts_S1x128x128_S128x128) (shapeCast S128x128 (View.ld (Val := Elt Ideal) (e' := .f32) x1 r0_16) shapeCasts_S1x128x128_S128x128)) (shapeCast S128x128 (View.ld (Val := Elt Ideal) (e' := .f32) x0 r0_17) shapeCasts_S1x128x128_S128x128)) (shapeCast S128x128 (View.ld (Val := Elt Ideal) (e' := .f32) x0 r0_18) shapeCasts_S1x128x128_S128x128)) (shapeCast S128x128 (View.ld (Val := Elt Ideal) (e' := .f32) x0 r0_19) shapeCasts_S1x128x128_S128x128)) (shapeCast S128x128 (View.ld (Val := Elt Ideal) (e' := .f32) x0 r0_20) shapeCasts_S1x128x128_S128x128)) (shapeCast S128x128 (View.ld (Val := Elt Ideal) (e' := .f32) x0 r0_21) shapeCasts_S1x128x128_S128x128)) (shapeCast S128x128 (View.ld (Val := Elt Ideal) (e' := .f32) x0 r0_22) shapeCasts_S1x128x128_S128x128)) (shapeCast S128x128 (View.ld (Val := Elt Ideal) (e' := .f32) x1 r0_26) shapeCasts_S1x128x128_S128x128)
      (View.ld (Val := Elt Ideal) (e' := .bf16) x2 r0_24) (View.ld (Val := Elt Ideal) (e' := .f32) x3 r0_25) (ix3 0 b d) = part x0 x1 x2 x3 2 1 b d := by
  refine part_of x0 x1 x2 x3 2 1 _ _ _ _ _ b d rfl (fun k => ?_) (fun k => load_token x0 x1 2 1 256 _ (by decide) rfl _ b k)
    (fun k d => load_mixer x2 2 2 _ rfl k d) (fun d => load_scale x3 2 256 _ rfl d)
  refine sum_step (r := 1) (W := 7) (a := 9) ?_ (load_carried x0 x1 2 9 256 _ (by decide) rfl _ b k) rfl
  refine sum_step (r := 1) (W := 6) (a := 10) ?_ (load_carried x0 x1 2 10 256 _ (by decide) rfl _ b k) rfl
  refine sum_step (r := 1) (W := 5) (a := 11) ?_ (load_carried x0 x1 2 11 256 _ (by decide) rfl _ b k) rfl
  refine sum_step (r := 1) (W := 4) (a := 12) ?_ (load_carried x0 x1 2 12 256 _ (by decide) rfl _ b k) rfl
  refine sum_step (r := 1) (W := 3) (a := 13) ?_ (load_carried x0 x1 2 13 256 _ (by decide) rfl _ b k) rfl
  refine sum_step (r := 1) (W := 2) (a := 14) ?_ (load_carried x0 x1 2 14 256 _ (by decide) rfl _ b k) rfl
  refine sum_step (r := 1) (W := 1) (a := 15) ?_ (load_token x0 x1 2 0 256 _ (by decide) rfl _ b k) rfl
  exact sum_one (r := 1) (load_token x0 x1 2 1 256 _ (by decide) rfl _ b k)

theorem part22 (b d : Fin 128) :
    group 0x41000000#32 (addf (addf (addf (addf (addf (addf (addf (shapeCast S128x128 (View.ld (Val := Elt Ideal) (e' := .f32) x1 r0_27) shapeCasts_S1x128x128_S128x128) (shapeCast S128x128 (View.ld (Val := Elt Ideal) (e' := .f32) x1 r0_26) shapeCasts_S1x128x128_S128x128)) (shapeCast S128x128 (View.ld (Val := Elt Ideal) (e' := .f32) x1 r0_16) shapeCasts_S1x128x128_S128x128)) (shapeCast S128x128 (View.ld (Val := Elt Ideal) (e' := .f32) x0 r0_17) shapeCasts_S1x128x128_S128x128)) (shapeCast S128x128 (View.ld (Val := Elt Ideal) (e' := .f32) x0 r0_18) shapeCasts_S1x128x128_S128x128)) (shapeCast S128x128 (View.ld (Val := Elt Ideal) (e' := .f32) x0 r0_19) shapeCasts_S1x128x128_S128x128)) (shapeCast S128x128 (View.ld (Val := Elt Ideal) (e' := .f32) x0 r0_20) shapeCasts_S1x128x128_S128x128)) (shapeCast S128x128 (View.ld (Val := Elt Ideal) (e' := .f32) x0 r0_21) shapeCasts_S1x128x128_S128x128)) (shapeCast S128x128 (View.ld (Val := Elt Ideal) (e' := .f32) x1 r0_27) shapeCasts_S1x128x128_S128x128)
      (View.ld (Val := Elt Ideal) (e' := .bf16) x2 r0_24) (View.ld (Val := Elt Ideal) (e' := .f32) x3 r0_25) (ix3 0 b d) = part x0 x1 x2 x3 2 2 b d := by
  refine part_of x0 x1 x2 x3 2 2 _ _ _ _ _ b d rfl (fun k => ?_) (fun k => load_token x0 x1 2 2 256 _ (by decide) rfl _ b k)
    (fun k d => load_mixer x2 2 2 _ rfl k d) (fun d => load_scale x3 2 256 _ rfl d)
  refine sum_step (r := 2) (W := 7) (a := 9) ?_ (load_carried x0 x1 2 10 256 _ (by decide) rfl _ b k) rfl
  refine sum_step (r := 2) (W := 6) (a := 10) ?_ (load_carried x0 x1 2 11 256 _ (by decide) rfl _ b k) rfl
  refine sum_step (r := 2) (W := 5) (a := 11) ?_ (load_carried x0 x1 2 12 256 _ (by decide) rfl _ b k) rfl
  refine sum_step (r := 2) (W := 4) (a := 12) ?_ (load_carried x0 x1 2 13 256 _ (by decide) rfl _ b k) rfl
  refine sum_step (r := 2) (W := 3) (a := 13) ?_ (load_carried x0 x1 2 14 256 _ (by decide) rfl _ b k) rfl
  refine sum_step (r := 2) (W := 2) (a := 14) ?_ (load_token x0 x1 2 0 256 _ (by decide) rfl _ b k) rfl
  refine sum_step (r := 2) (W := 1) (a := 15) ?_ (load_token x0 x1 2 1 256 _ (by decide) rfl _ b k) rfl
  exact sum_one (r := 2) (load_token x0 x1 2 2 256 _ (by decide) rfl _ b k)

theorem part23 (b d : Fin 128) :
    group 0x41000000#32 (addf (addf (addf (addf (addf (addf (addf (shapeCast S128x128 (View.ld (Val := Elt Ideal) (e' := .f32) x1 r0_28) shapeCasts_S1x128x128_S128x128) (shapeCast S128x128 (View.ld (Val := Elt Ideal) (e' := .f32) x1 r0_27) shapeCasts_S1x128x128_S128x128)) (shapeCast S128x128 (View.ld (Val := Elt Ideal) (e' := .f32) x1 r0_26) shapeCasts_S1x128x128_S128x128)) (shapeCast S128x128 (View.ld (Val := Elt Ideal) (e' := .f32) x1 r0_16) shapeCasts_S1x128x128_S128x128)) (shapeCast S128x128 (View.ld (Val := Elt Ideal) (e' := .f32) x0 r0_17) shapeCasts_S1x128x128_S128x128)) (shapeCast S128x128 (View.ld (Val := Elt Ideal) (e' := .f32) x0 r0_18) shapeCasts_S1x128x128_S128x128)) (shapeCast S128x128 (View.ld (Val := Elt Ideal) (e' := .f32) x0 r0_19) shapeCasts_S1x128x128_S128x128)) (shapeCast S128x128 (View.ld (Val := Elt Ideal) (e' := .f32) x0 r0_20) shapeCasts_S1x128x128_S128x128)) (shapeCast S128x128 (View.ld (Val := Elt Ideal) (e' := .f32) x1 r0_28) shapeCasts_S1x128x128_S128x128)
      (View.ld (Val := Elt Ideal) (e' := .bf16) x2 r0_24) (View.ld (Val := Elt Ideal) (e' := .f32) x3 r0_25) (ix3 0 b d) = part x0 x1 x2 x3 2 3 b d := by
  refine part_of x0 x1 x2 x3 2 3 _ _ _ _ _ b d rfl (fun k => ?_) (fun k => load_token x0 x1 2 3 256 _ (by decide) rfl _ b k)
    (fun k d => load_mixer x2 2 2 _ rfl k d) (fun d => load_scale x3 2 256 _ rfl d)
  refine sum_step (r := 3) (W := 7) (a := 9) ?_ (load_carried x0 x1 2 11 256 _ (by decide) rfl _ b k) rfl
  refine sum_step (r := 3) (W := 6) (a := 10) ?_ (load_carried x0 x1 2 12 256 _ (by decide) rfl _ b k) rfl
  refine sum_step (r := 3) (W := 5) (a := 11) ?_ (load_carried x0 x1 2 13 256 _ (by decide) rfl _ b k) rfl
  refine sum_step (r := 3) (W := 4) (a := 12) ?_ (load_carried x0 x1 2 14 256 _ (by decide) rfl _ b k) rfl
  refine sum_step (r := 3) (W := 3) (a := 13) ?_ (load_token x0 x1 2 0 256 _ (by decide) rfl _ b k) rfl
  refine sum_step (r := 3) (W := 2) (a := 14) ?_ (load_token x0 x1 2 1 256 _ (by decide) rfl _ b k) rfl
  refine sum_step (r := 3) (W := 1) (a := 15) ?_ (load_token x0 x1 2 2 256 _ (by decide) rfl _ b k) rfl
  exact sum_one (r := 3) (load_token x0 x1 2 3 256 _ (by decide) rfl _ b k)

theorem part30 (b d : Fin 128) :
    group 0x41800000#32 (addf (addf (addf (addf (addf (addf (addf (addf (addf (addf (addf (addf (addf (addf (addf (shapeCast S128x128 (View.ld (Val := Elt Ideal) (e' := .f32) x1 r0_29) shapeCasts_S1x128x128_S128x128) (shapeCast S128x128 (View.ld (Val := Elt Ideal) (e' := .f32) x0 r0_30) shapeCasts_S1x128x128_S128x128)) (shapeCast S128x128 (View.ld (Val := Elt Ideal) (e' := .f32) x0 r0_31) shapeCasts_S1x128x128_S128x128)) (shapeCast S128x128 (View.ld (Val := Elt Ideal) (e' := .f32) x0 r0_32) shapeCasts_S1x128x128_S128x128)) (shapeCast S128x128 (View.ld (Val := Elt Ideal) (e' := .f32) x0 r0_33) shapeCasts_S1x128x128_S128x128)) (shapeCast S128x128 (View.ld (Val := Elt Ideal) (e' := .f32) x0 r0_34) shapeCasts_S1x128x128_S128x128)) (shapeCast S128x128 (View.ld (Val := Elt Ideal) (e' := .f32) x0 r0_35) shapeCasts_S1x128x128_S128x128)) (shapeCast S128x128 (View.ld (Val := Elt Ideal) (e' := .f32) x0 r0_36) shapeCasts_S1x128x128_S128x128)) (shapeCast S128x128 (View.ld (Val := Elt Ideal) (e' := .f32) x0 r0_37) shapeCasts_S1x128x128_S128x128)) (shapeCast S128x128 (View.ld (Val := Elt Ideal) (e' := .f32) x0 r0_38) shapeCasts_S1x128x128_S128x128)) (shapeCast S128x128 (View.ld (Val := Elt Ideal) (e' := .f32) x0 r0_39) shapeCasts_S1x128x128_S128x128)) (shapeCast S128x128 (View.ld (Val := Elt Ideal) (e' := .f32) x0 r0_40) shapeCasts_S1x128x128_S128x128)) (shapeCast S128x128 (View.ld (Val := Elt Ideal) (e' := .f32) x0 r0_41) shapeCasts_S1x128x128_S128x128)) (shapeCast S128x128 (View.ld (Val := Elt Ideal) (e' := .f32) x0 r0_42) shapeCasts_S1x128x128_S128x128)) (shapeCast S128x128 (View.ld (Val := Elt Ideal) (e' := .f32) x0 r0_43) shapeCasts_S1x128x128_S128x128)) (shapeCast S128x128 (View.ld (Val := Elt Ideal) (e' := .f32) x0 r0_44) shapeCasts_S1x128x128_S128x128)) (shapeCast S128x128 (View.ld (Val := Elt Ideal) (e' := .f32) x1 r0_29) shapeCasts_S1x128x128_S128x128)
      (View.ld (Val := Elt Ideal) (e' := .bf16) x2 r0_45) (View.ld (Val := Elt Ideal) (e' := .f32) x3 r0_46) (ix3 0 b d) = part x0 x1 x2 x3 3 0 b d := by
  refine part_of x0 x1 x2 x3 3 0 _ _ _ _ _ b d rfl (fun k => ?_) (fun k => load_token x0 x1 3 0 384 _ (by decide) rfl _ b k)
    (fun k d => load_mixer x2 3 3 _ rfl k d) (fun d => load_scale x3 3 384 _ rfl d)
  refine sum_step (r := 0) (W := 15) (a := 1) ?_ (load_carried x0 x1 3 0 384 _ (by decide) rfl _ b k) rfl
  refine sum_step (r := 0) (W := 14) (a := 2) ?_ (load_carried x0 x1 3 1 384 _ (by decide) rfl _ b k) rfl
  refine sum_step (r := 0) (W := 13) (a := 3) ?_ (load_carried x0 x1 3 2 384 _ (by decide) rfl _ b k) rfl
  refine sum_step (r := 0) (W := 12) (a := 4) ?_ (load_carried x0 x1 3 3 384 _ (by decide) rfl _ b k) rfl
  refine sum_step (r := 0) (W := 11) (a := 5) ?_ (load_carried x0 x1 3 4 384 _ (by decide) rfl _ b k) rfl
  refine sum_step (r := 0) (W := 10) (a := 6) ?_ (load_carried x0 x1 3 5 384 _ (by decide) rfl _ b k) rfl
  refine sum_step (r := 0) (W := 9) (a := 7) ?_ (load_carried x0 x1 3 6 384 _ (by decide) rfl _ b k) rfl
  refine sum_step (r := 0) (W := 8) (a := 8) ?_ (load_carried x0 x1 3 7 384 _ (by decide) rfl _ b k) rfl
  refine sum_step (r := 0) (W := 7) (a := 9) ?_ (load_carried x0 x1 3 8 384 _ (by decide) rfl _ b k) rfl
  refine sum_step (r := 0) (W := 6) (a := 10) ?_ (load_carried x0 x1 3 9 384 _ (by decide) rfl _ b k) rfl
  refine sum_step (r := 0) (W := 5) (a := 11) ?_ (load_carried x0 x1 3 10 384 _ (by decide) rfl _ b k) rfl
  refine sum_step (r := 0) (W := 4) (a := 12) ?_ (load_carried x0 x1 3 11 384 _ (by decide) rfl _ b k) rfl
  refine sum_step (r := 0) (W := 3) (a := 13) ?_ (load_carried x0 x1 3 12 384 _ (by decide) rfl _ b k) rfl
  refine sum_step (r := 0) (W := 2) (a := 14) ?_ (load_carried x0 x1 3 13 384 _ (by decide) rfl _ b k) rfl
  refine sum_step (r := 0) (W := 1) (a := 15) ?_ (load_carried x0 x1 3 14 384 _ (by decide) rfl _ b k) rfl
  exact sum_one (r := 0) (load_token x0 x1 3 0 384 _ (by decide) rfl _ b k)

theorem part31 (b d : Fin 128) :
    group 0x41800000#32 (addf (addf (addf (addf (addf (addf (addf (addf (addf (addf (addf (addf (addf (addf (addf (shapeCast S128x128 (View.ld (Val := Elt Ideal) (e' := .f32) x1 r0_47) shapeCasts_S1x128x128_S128x128) (shapeCast S128x128 (View.ld (Val := Elt Ideal) (e' := .f32) x1 r0_29) shapeCasts_S1x128x128_S128x128)) (shapeCast S128x128 (View.ld (Val := Elt Ideal) (e' := .f32) x0 r0_30) shapeCasts_S1x128x128_S128x128)) (shapeCast S128x128 (View.ld (Val := Elt Ideal) (e' := .f32) x0 r0_31) shapeCasts_S1x128x128_S128x128)) (shapeCast S128x128 (View.ld (Val := Elt Ideal) (e' := .f32) x0 r0_32) shapeCasts_S1x128x128_S128x128)) (shapeCast S128x128 (View.ld (Val := Elt Ideal) (e' := .f32) x0 r0_33) shapeCasts_S1x128x128_S128x128)) (shapeCast S128x128 (View.ld (Val := Elt Ideal) (e' := .f32) x0 r0_34) shapeCasts_S1x128x128_S128x128)) (shapeCast S128x128 (View.ld (Val := Elt Ideal) (e' := .f32) x0 r0_35) shapeCasts_S1x128x128_S128x128)) (shapeCast S128x128 (View.ld (Val := Elt Ideal) (e' := .f32) x0 r0_36) shapeCasts_S1x128x128_S128x128)) (shapeCast S128x128 (View.ld (Val := Elt Ideal) (e' := .f32) x0 r0_37) shapeCasts_S1x128x128_S128x128)) (shapeCast S128x128 (View.ld (Val := Elt Ideal) (e' := .f32) x0 r0_38) shapeCasts_S1x128x128_S128x128)) (shapeCast S128x128 (View.ld (Val := Elt Ideal) (e' := .f32) x0 r0_39) shapeCasts_S1x128x128_S128x128)) (shapeCast S128x128 (View.ld (Val := Elt Ideal) (e' := .f32) x0 r0_40) shapeCasts_S1x128x128_S128x128)) (shapeCast S128x128 (View.ld (Val := Elt Ideal) (e' := .f32) x0 r0_41) shapeCasts_S1x128x128_S128x128)) (shapeCast S128x128 (View.ld (Val := Elt Ideal) (e' := .f32) x0 r0_42) shapeCasts_S1x128x128_S128x128)) (shapeCast S128x128 (View.ld (Val := Elt Ideal) (e' := .f32) x0 r0_43) shapeCasts_S1x128x128_S128x128)) (shapeCast S128x128 (View.ld (Val := Elt Ideal) (e' := .f32) x1 r0_47) shapeCasts_S1x128x128_S128x128)
      (View.ld (Val := Elt Ideal) (e' := .bf16) x2 r0_45) (View.ld (Val := Elt Ideal) (e' := .f32) x3 r0_46) (ix3 0 b d) = part x0 x1 x2 x3 3 1 b d := by
  refine part_of x0 x1 x2 x3 3 1 _ _ _ _ _ b d rfl (fun k => ?_) (fun k => load_token x0 x1 3 1 384 _ (by decide) rfl _ b k)
    (fun k d => load_mixer x2 3 3 _ rfl k d) (fun d => load_scale x3 3 384 _ rfl d)
  refine sum_step (r := 1) (W := 15) (a := 1) ?_ (load_carried x0 x1 3 1 384 _ (by decide) rfl _ b k) rfl
  refine sum_step (r := 1) (W := 14) (a := 2) ?_ (load_carried x0 x1 3 2 384 _ (by decide) rfl _ b k) rfl
  refine sum_step (r := 1) (W := 13) (a := 3) ?_ (load_carried x0 x1 3 3 384 _ (by decide) rfl _ b k) rfl
  refine sum_step (r := 1) (W := 12) (a := 4) ?_ (load_carried x0 x1 3 4 384 _ (by decide) rfl _ b k) rfl
  refine sum_step (r := 1) (W := 11) (a := 5) ?_ (load_carried x0 x1 3 5 384 _ (by decide) rfl _ b k) rfl
  refine sum_step (r := 1) (W := 10) (a := 6) ?_ (load_carried x0 x1 3 6 384 _ (by decide) rfl _ b k) rfl
  refine sum_step (r := 1) (W := 9) (a := 7) ?_ (load_carried x0 x1 3 7 384 _ (by decide) rfl _ b k) rfl
  refine sum_step (r := 1) (W := 8) (a := 8) ?_ (load_carried x0 x1 3 8 384 _ (by decide) rfl _ b k) rfl
  refine sum_step (r := 1) (W := 7) (a := 9) ?_ (load_carried x0 x1 3 9 384 _ (by decide) rfl _ b k) rfl
  refine sum_step (r := 1) (W := 6) (a := 10) ?_ (load_carried x0 x1 3 10 384 _ (by decide) rfl _ b k) rfl
  refine sum_step (r := 1) (W := 5) (a := 11) ?_ (load_carried x0 x1 3 11 384 _ (by decide) rfl _ b k) rfl
  refine sum_step (r := 1) (W := 4) (a := 12) ?_ (load_carried x0 x1 3 12 384 _ (by decide) rfl _ b k) rfl
  refine sum_step (r := 1) (W := 3) (a := 13) ?_ (load_carried x0 x1 3 13 384 _ (by decide) rfl _ b k) rfl
  refine sum_step (r := 1) (W := 2) (a := 14) ?_ (load_carried x0 x1 3 14 384 _ (by decide) rfl _ b k) rfl
  refine sum_step (r := 1) (W := 1) (a := 15) ?_ (load_token x0 x1 3 0 384 _ (by decide) rfl _ b k) rfl
  exact sum_one (r := 1) (load_token x0 x1 3 1 384 _ (by decide) rfl _ b k)

theorem part32 (b d : Fin 128) :
    group 0x41800000#32 (addf (addf (addf (addf (addf (addf (addf (addf (addf (addf (addf (addf (addf (addf (addf (shapeCast S128x128 (View.ld (Val := Elt Ideal) (e' := .f32) x1 r0_48) shapeCasts_S1x128x128_S128x128) (shapeCast S128x128 (View.ld (Val := Elt Ideal) (e' := .f32) x1 r0_47) shapeCasts_S1x128x128_S128x128)) (shapeCast S128x128 (View.ld (Val := Elt Ideal) (e' := .f32) x1 r0_29) shapeCasts_S1x128x128_S128x128)) (shapeCast S128x128 (View.ld (Val := Elt Ideal) (e' := .f32) x0 r0_30) shapeCasts_S1x128x128_S128x128)) (shapeCast S128x128 (View.ld (Val := Elt Ideal) (e' := .f32) x0 r0_31) shapeCasts_S1x128x128_S128x128)) (shapeCast S128x128 (View.ld (Val := Elt Ideal) (e' := .f32) x0 r0_32) shapeCasts_S1x128x128_S128x128)) (shapeCast S128x128 (View.ld (Val := Elt Ideal) (e' := .f32) x0 r0_33) shapeCasts_S1x128x128_S128x128)) (shapeCast S128x128 (View.ld (Val := Elt Ideal) (e' := .f32) x0 r0_34) shapeCasts_S1x128x128_S128x128)) (shapeCast S128x128 (View.ld (Val := Elt Ideal) (e' := .f32) x0 r0_35) shapeCasts_S1x128x128_S128x128)) (shapeCast S128x128 (View.ld (Val := Elt Ideal) (e' := .f32) x0 r0_36) shapeCasts_S1x128x128_S128x128)) (shapeCast S128x128 (View.ld (Val := Elt Ideal) (e' := .f32) x0 r0_37) shapeCasts_S1x128x128_S128x128)) (shapeCast S128x128 (View.ld (Val := Elt Ideal) (e' := .f32) x0 r0_38) shapeCasts_S1x128x128_S128x128)) (shapeCast S128x128 (View.ld (Val := Elt Ideal) (e' := .f32) x0 r0_39) shapeCasts_S1x128x128_S128x128)) (shapeCast S128x128 (View.ld (Val := Elt Ideal) (e' := .f32) x0 r0_40) shapeCasts_S1x128x128_S128x128)) (shapeCast S128x128 (View.ld (Val := Elt Ideal) (e' := .f32) x0 r0_41) shapeCasts_S1x128x128_S128x128)) (shapeCast S128x128 (View.ld (Val := Elt Ideal) (e' := .f32) x0 r0_42) shapeCasts_S1x128x128_S128x128)) (shapeCast S128x128 (View.ld (Val := Elt Ideal) (e' := .f32) x1 r0_48) shapeCasts_S1x128x128_S128x128)
      (View.ld (Val := Elt Ideal) (e' := .bf16) x2 r0_45) (View.ld (Val := Elt Ideal) (e' := .f32) x3 r0_46) (ix3 0 b d) = part x0 x1 x2 x3 3 2 b d := by
  refine part_of x0 x1 x2 x3 3 2 _ _ _ _ _ b d rfl (fun k => ?_) (fun k => load_token x0 x1 3 2 384 _ (by decide) rfl _ b k)
    (fun k d => load_mixer x2 3 3 _ rfl k d) (fun d => load_scale x3 3 384 _ rfl d)
  refine sum_step (r := 2) (W := 15) (a := 1) ?_ (load_carried x0 x1 3 2 384 _ (by decide) rfl _ b k) rfl
  refine sum_step (r := 2) (W := 14) (a := 2) ?_ (load_carried x0 x1 3 3 384 _ (by decide) rfl _ b k) rfl
  refine sum_step (r := 2) (W := 13) (a := 3) ?_ (load_carried x0 x1 3 4 384 _ (by decide) rfl _ b k) rfl
  refine sum_step (r := 2) (W := 12) (a := 4) ?_ (load_carried x0 x1 3 5 384 _ (by decide) rfl _ b k) rfl
  refine sum_step (r := 2) (W := 11) (a := 5) ?_ (load_carried x0 x1 3 6 384 _ (by decide) rfl _ b k) rfl
  refine sum_step (r := 2) (W := 10) (a := 6) ?_ (load_carried x0 x1 3 7 384 _ (by decide) rfl _ b k) rfl
  refine sum_step (r := 2) (W := 9) (a := 7) ?_ (load_carried x0 x1 3 8 384 _ (by decide) rfl _ b k) rfl
  refine sum_step (r := 2) (W := 8) (a := 8) ?_ (load_carried x0 x1 3 9 384 _ (by decide) rfl _ b k) rfl
  refine sum_step (r := 2) (W := 7) (a := 9) ?_ (load_carried x0 x1 3 10 384 _ (by decide) rfl _ b k) rfl
  refine sum_step (r := 2) (W := 6) (a := 10) ?_ (load_carried x0 x1 3 11 384 _ (by decide) rfl _ b k) rfl
  refine sum_step (r := 2) (W := 5) (a := 11) ?_ (load_carried x0 x1 3 12 384 _ (by decide) rfl _ b k) rfl
  refine sum_step (r := 2) (W := 4) (a := 12) ?_ (load_carried x0 x1 3 13 384 _ (by decide) rfl _ b k) rfl
  refine sum_step (r := 2) (W := 3) (a := 13) ?_ (load_carried x0 x1 3 14 384 _ (by decide) rfl _ b k) rfl
  refine sum_step (r := 2) (W := 2) (a := 14) ?_ (load_token x0 x1 3 0 384 _ (by decide) rfl _ b k) rfl
  refine sum_step (r := 2) (W := 1) (a := 15) ?_ (load_token x0 x1 3 1 384 _ (by decide) rfl _ b k) rfl
  exact sum_one (r := 2) (load_token x0 x1 3 2 384 _ (by decide) rfl _ b k)

theorem part33 (b d : Fin 128) :
    group 0x41800000#32 (addf (addf (addf (addf (addf (addf (addf (addf (addf (addf (addf (addf (addf (addf (addf (shapeCast S128x128 (View.ld (Val := Elt Ideal) (e' := .f32) x1 r0_49) shapeCasts_S1x128x128_S128x128) (shapeCast S128x128 (View.ld (Val := Elt Ideal) (e' := .f32) x1 r0_48) shapeCasts_S1x128x128_S128x128)) (shapeCast S128x128 (View.ld (Val := Elt Ideal) (e' := .f32) x1 r0_47) shapeCasts_S1x128x128_S128x128)) (shapeCast S128x128 (View.ld (Val := Elt Ideal) (e' := .f32) x1 r0_29) shapeCasts_S1x128x128_S128x128)) (shapeCast S128x128 (View.ld (Val := Elt Ideal) (e' := .f32) x0 r0_30) shapeCasts_S1x128x128_S128x128)) (shapeCast S128x128 (View.ld (Val := Elt Ideal) (e' := .f32) x0 r0_31) shapeCasts_S1x128x128_S128x128)) (shapeCast S128x128 (View.ld (Val := Elt Ideal) (e' := .f32) x0 r0_32) shapeCasts_S1x128x128_S128x128)) (shapeCast S128x128 (View.ld (Val := Elt Ideal) (e' := .f32) x0 r0_33) shapeCasts_S1x128x128_S128x128)) (shapeCast S128x128 (View.ld (Val := Elt Ideal) (e' := .f32) x0 r0_34) shapeCasts_S1x128x128_S128x128)) (shapeCast S128x128 (View.ld (Val := Elt Ideal) (e' := .f32) x0 r0_35) shapeCasts_S1x128x128_S128x128)) (shapeCast S128x128 (View.ld (Val := Elt Ideal) (e' := .f32) x0 r0_36) shapeCasts_S1x128x128_S128x128)) (shapeCast S128x128 (View.ld (Val := Elt Ideal) (e' := .f32) x0 r0_37) shapeCasts_S1x128x128_S128x128)) (shapeCast S128x128 (View.ld (Val := Elt Ideal) (e' := .f32) x0 r0_38) shapeCasts_S1x128x128_S128x128)) (shapeCast S128x128 (View.ld (Val := Elt Ideal) (e' := .f32) x0 r0_39) shapeCasts_S1x128x128_S128x128)) (shapeCast S128x128 (View.ld (Val := Elt Ideal) (e' := .f32) x0 r0_40) shapeCasts_S1x128x128_S128x128)) (shapeCast S128x128 (View.ld (Val := Elt Ideal) (e' := .f32) x0 r0_41) shapeCasts_S1x128x128_S128x128)) (shapeCast S128x128 (View.ld (Val := Elt Ideal) (e' := .f32) x1 r0_49) shapeCasts_S1x128x128_S128x128)
      (View.ld (Val := Elt Ideal) (e' := .bf16) x2 r0_45) (View.ld (Val := Elt Ideal) (e' := .f32) x3 r0_46) (ix3 0 b d) = part x0 x1 x2 x3 3 3 b d := by
  refine part_of x0 x1 x2 x3 3 3 _ _ _ _ _ b d rfl (fun k => ?_) (fun k => load_token x0 x1 3 3 384 _ (by decide) rfl _ b k)
    (fun k d => load_mixer x2 3 3 _ rfl k d) (fun d => load_scale x3 3 384 _ rfl d)
  refine sum_step (r := 3) (W := 15) (a := 1) ?_ (load_carried x0 x1 3 3 384 _ (by decide) rfl _ b k) rfl
  refine sum_step (r := 3) (W := 14) (a := 2) ?_ (load_carried x0 x1 3 4 384 _ (by decide) rfl _ b k) rfl
  refine sum_step (r := 3) (W := 13) (a := 3) ?_ (load_carried x0 x1 3 5 384 _ (by decide) rfl _ b k) rfl
  refine sum_step (r := 3) (W := 12) (a := 4) ?_ (load_carried x0 x1 3 6 384 _ (by decide) rfl _ b k) rfl
  refine sum_step (r := 3) (W := 11) (a := 5) ?_ (load_carried x0 x1 3 7 384 _ (by decide) rfl _ b k) rfl
  refine sum_step (r := 3) (W := 10) (a := 6) ?_ (load_carried x0 x1 3 8 384 _ (by decide) rfl _ b k) rfl
  refine sum_step (r := 3) (W := 9) (a := 7) ?_ (load_carried x0 x1 3 9 384 _ (by decide) rfl _ b k) rfl
  refine sum_step (r := 3) (W := 8) (a := 8) ?_ (load_carried x0 x1 3 10 384 _ (by decide) rfl _ b k) rfl
  refine sum_step (r := 3) (W := 7) (a := 9) ?_ (load_carried x0 x1 3 11 384 _ (by decide) rfl _ b k) rfl
  refine sum_step (r := 3) (W := 6) (a := 10) ?_ (load_carried x0 x1 3 12 384 _ (by decide) rfl _ b k) rfl
  refine sum_step (r := 3) (W := 5) (a := 11) ?_ (load_carried x0 x1 3 13 384 _ (by decide) rfl _ b k) rfl
  refine sum_step (r := 3) (W := 4) (a := 12) ?_ (load_carried x0 x1 3 14 384 _ (by decide) rfl _ b k) rfl
  refine sum_step (r := 3) (W := 3) (a := 13) ?_ (load_token x0 x1 3 0 384 _ (by decide) rfl _ b k) rfl
  refine sum_step (r := 3) (W := 2) (a := 14) ?_ (load_token x0 x1 3 1 384 _ (by decide) rfl _ b k) rfl
  refine sum_step (r := 3) (W := 1) (a := 15) ?_ (load_token x0 x1 3 2 384 _ (by decide) rfl _ b k) rfl
  exact sum_one (r := 3) (load_token x0 x1 3 3 384 _ (by decide) rfl _ b k)

/-- What the body leaves of token `t`, in channel `d` of group `g`. -/
theorem out_apply (g t : Fin 4) (b d : Fin 128) :
    out0_4 (F := Ideal) x0 x1 x2 x3 (ix3 t b (chan g d)) = part x0 x1 x2 x3 g t b d := by
  unfold out0_4
  fin_cases g <;> fin_cases t
  · refine (slab_miss 0 0 3 384 (by decide) _ _ _ b d).trans ?_
    refine (slab_miss 0 0 2 384 (by decide) _ _ _ b d).trans ?_
    refine (slab_miss 0 0 1 384 (by decide) _ _ _ b d).trans ?_
    refine (slab_miss 0 0 0 384 (by decide) _ _ _ b d).trans ?_
    refine (slab_miss 0 0 3 256 (by decide) _ _ _ b d).trans ?_
    refine (slab_miss 0 0 2 256 (by decide) _ _ _ b d).trans ?_
    refine (slab_miss 0 0 1 256 (by decide) _ _ _ b d).trans ?_
    refine (slab_miss 0 0 0 256 (by decide) _ _ _ b d).trans ?_
    refine (slab_miss 0 0 3 128 (by decide) _ _ _ b d).trans ?_
    refine (slab_miss 0 0 2 128 (by decide) _ _ _ b d).trans ?_
    refine (slab_miss 0 0 1 128 (by decide) _ _ _ b d).trans ?_
    refine (slab_miss 0 0 0 128 (by decide) _ _ _ b d).trans ?_
    refine (slab_miss 0 0 3 0 (by decide) _ _ _ b d).trans ?_
    refine (slab_miss 0 0 2 0 (by decide) _ _ _ b d).trans ?_
    refine (slab_miss 0 0 1 0 (by decide) _ _ _ b d).trans ?_
    exact (slab_hit 0 0 0 0 rfl rfl _ _ _ b d).trans (part00 x0 x1 x2 x3 b d)
  · refine (slab_miss 0 1 3 384 (by decide) _ _ _ b d).trans ?_
    refine (slab_miss 0 1 2 384 (by decide) _ _ _ b d).trans ?_
    refine (slab_miss 0 1 1 384 (by decide) _ _ _ b d).trans ?_
    refine (slab_miss 0 1 0 384 (by decide) _ _ _ b d).trans ?_
    refine (slab_miss 0 1 3 256 (by decide) _ _ _ b d).trans ?_
    refine (slab_miss 0 1 2 256 (by decide) _ _ _ b d).trans ?_
    refine (slab_miss 0 1 1 256 (by decide) _ _ _ b d).trans ?_
    refine (slab_miss 0 1 0 256 (by decide) _ _ _ b d).trans ?_
    refine (slab_miss 0 1 3 128 (by decide) _ _ _ b d).trans ?_
    refine (slab_miss 0 1 2 128 (by decide) _ _ _ b d).trans ?_
    refine (slab_miss 0 1 1 128 (by decide) _ _ _ b d).trans ?_
    refine (slab_miss 0 1 0 128 (by decide) _ _ _ b d).trans ?_
    refine (slab_miss 0 1 3 0 (by decide) _ _ _ b d).trans ?_
    refine (slab_miss 0 1 2 0 (by decide) _ _ _ b d).trans ?_
    exact (slab_hit 0 1 1 0 rfl rfl _ _ _ b d).trans (part01 x0 x1 x2 x3 b d)
  · refine (slab_miss 0 2 3 384 (by decide) _ _ _ b d).trans ?_
    refine (slab_miss 0 2 2 384 (by decide) _ _ _ b d).trans ?_
    refine (slab_miss 0 2 1 384 (by decide) _ _ _ b d).trans ?_
    refine (slab_miss 0 2 0 384 (by decide) _ _ _ b d).trans ?_
    refine (slab_miss 0 2 3 256 (by decide) _ _ _ b d).trans ?_
    refine (slab_miss 0 2 2 256 (by decide) _ _ _ b d).trans ?_
    refine (slab_miss 0 2 1 256 (by decide) _ _ _ b d).trans ?_
    refine (slab_miss 0 2 0 256 (by decide) _ _ _ b d).trans ?_
    refine (slab_miss 0 2 3 128 (by decide) _ _ _ b d).trans ?_
    refine (slab_miss 0 2 2 128 (by decide) _ _ _ b d).trans ?_
    refine (slab_miss 0 2 1 128 (by decide) _ _ _ b d).trans ?_
    refine (slab_miss 0 2 0 128 (by decide) _ _ _ b d).trans ?_
    refine (slab_miss 0 2 3 0 (by decide) _ _ _ b d).trans ?_
    exact (slab_hit 0 2 2 0 rfl rfl _ _ _ b d).trans (part02 x0 x1 x2 x3 b d)
  · refine (slab_miss 0 3 3 384 (by decide) _ _ _ b d).trans ?_
    refine (slab_miss 0 3 2 384 (by decide) _ _ _ b d).trans ?_
    refine (slab_miss 0 3 1 384 (by decide) _ _ _ b d).trans ?_
    refine (slab_miss 0 3 0 384 (by decide) _ _ _ b d).trans ?_
    refine (slab_miss 0 3 3 256 (by decide) _ _ _ b d).trans ?_
    refine (slab_miss 0 3 2 256 (by decide) _ _ _ b d).trans ?_
    refine (slab_miss 0 3 1 256 (by decide) _ _ _ b d).trans ?_
    refine (slab_miss 0 3 0 256 (by decide) _ _ _ b d).trans ?_
    refine (slab_miss 0 3 3 128 (by decide) _ _ _ b d).trans ?_
    refine (slab_miss 0 3 2 128 (by decide) _ _ _ b d).trans ?_
    refine (slab_miss 0 3 1 128 (by decide) _ _ _ b d).trans ?_
    refine (slab_miss 0 3 0 128 (by decide) _ _ _ b d).trans ?_
    exact (slab_hit 0 3 3 0 rfl rfl _ _ _ b d).trans (part03 x0 x1 x2 x3 b d)
  · refine (slab_miss 1 0 3 384 (by decide) _ _ _ b d).trans ?_
    refine (slab_miss 1 0 2 384 (by decide) _ _ _ b d).trans ?_
    refine (slab_miss 1 0 1 384 (by decide) _ _ _ b d).trans ?_
    refine (slab_miss 1 0 0 384 (by decide) _ _ _ b d).trans ?_
    refine (slab_miss 1 0 3 256 (by decide) _ _ _ b d).trans ?_
    refine (slab_miss 1 0 2 256 (by decide) _ _ _ b d).trans ?_
    refine (slab_miss 1 0 1 256 (by decide) _ _ _ b d).trans ?_
    refine (slab_miss 1 0 0 256 (by decide) _ _ _ b d).trans ?_
    refine (slab_miss 1 0 3 128 (by decide) _ _ _ b d).trans ?_
    refine (slab_miss 1 0 2 128 (by decide) _ _ _ b d).trans ?_
    refine (slab_miss 1 0 1 128 (by decide) _ _ _ b d).trans ?_
    exact (slab_hit 1 0 0 128 rfl rfl _ _ _ b d).trans (part10 x0 x1 x2 x3 b d)
  · refine (slab_miss 1 1 3 384 (by decide) _ _ _ b d).trans ?_
    refine (slab_miss 1 1 2 384 (by decide) _ _ _ b d).trans ?_
    refine (slab_miss 1 1 1 384 (by decide) _ _ _ b d).trans ?_
    refine (slab_miss 1 1 0 384 (by decide) _ _ _ b d).trans ?_
    refine (slab_miss 1 1 3 256 (by decide) _ _ _ b d).trans ?_
    refine (slab_miss 1 1 2 256 (by decide) _ _ _ b d).trans ?_
    refine (slab_miss 1 1 1 256 (by decide) _ _ _ b d).trans ?_
    refine (slab_miss 1 1 0 256 (by decide) _ _ _ b d).trans ?_
    refine (slab_miss 1 1 3 128 (by decide) _ _ _ b d).trans ?_
    refine (slab_miss 1 1 2 128 (by decide) _ _ _ b d).trans ?_
    exact (slab_hit 1 1 1 128 rfl rfl _ _ _ b d).trans (part11 x0 x1 x2 x3 b d)
  · refine (slab_miss 1 2 3 384 (by decide) _ _ _ b d).trans ?_
    refine (slab_miss 1 2 2 384 (by decide) _ _ _ b d).trans ?_
    refine (slab_miss 1 2 1 384 (by decide) _ _ _ b d).trans ?_
    refine (slab_miss 1 2 0 384 (by decide) _ _ _ b d).trans ?_
    refine (slab_miss 1 2 3 256 (by decide) _ _ _ b d).trans ?_
    refine (slab_miss 1 2 2 256 (by decide) _ _ _ b d).trans ?_
    refine (slab_miss 1 2 1 256 (by decide) _ _ _ b d).trans ?_
    refine (slab_miss 1 2 0 256 (by decide) _ _ _ b d).trans ?_
    refine (slab_miss 1 2 3 128 (by decide) _ _ _ b d).trans ?_
    exact (slab_hit 1 2 2 128 rfl rfl _ _ _ b d).trans (part12 x0 x1 x2 x3 b d)
  · refine (slab_miss 1 3 3 384 (by decide) _ _ _ b d).trans ?_
    refine (slab_miss 1 3 2 384 (by decide) _ _ _ b d).trans ?_
    refine (slab_miss 1 3 1 384 (by decide) _ _ _ b d).trans ?_
    refine (slab_miss 1 3 0 384 (by decide) _ _ _ b d).trans ?_
    refine (slab_miss 1 3 3 256 (by decide) _ _ _ b d).trans ?_
    refine (slab_miss 1 3 2 256 (by decide) _ _ _ b d).trans ?_
    refine (slab_miss 1 3 1 256 (by decide) _ _ _ b d).trans ?_
    refine (slab_miss 1 3 0 256 (by decide) _ _ _ b d).trans ?_
    exact (slab_hit 1 3 3 128 rfl rfl _ _ _ b d).trans (part13 x0 x1 x2 x3 b d)
  · refine (slab_miss 2 0 3 384 (by decide) _ _ _ b d).trans ?_
    refine (slab_miss 2 0 2 384 (by decide) _ _ _ b d).trans ?_
    refine (slab_miss 2 0 1 384 (by decide) _ _ _ b d).trans ?_
    refine (slab_miss 2 0 0 384 (by decide) _ _ _ b d).trans ?_
    refine (slab_miss 2 0 3 256 (by decide) _ _ _ b d).trans ?_
    refine (slab_miss 2 0 2 256 (by decide) _ _ _ b d).trans ?_
    refine (slab_miss 2 0 1 256 (by decide) _ _ _ b d).trans ?_
    exact (slab_hit 2 0 0 256 rfl rfl _ _ _ b d).trans (part20 x0 x1 x2 x3 b d)
  · refine (slab_miss 2 1 3 384 (by decide) _ _ _ b d).trans ?_
    refine (slab_miss 2 1 2 384 (by decide) _ _ _ b d).trans ?_
    refine (slab_miss 2 1 1 384 (by decide) _ _ _ b d).trans ?_
    refine (slab_miss 2 1 0 384 (by decide) _ _ _ b d).trans ?_
    refine (slab_miss 2 1 3 256 (by decide) _ _ _ b d).trans ?_
    refine (slab_miss 2 1 2 256 (by decide) _ _ _ b d).trans ?_
    exact (slab_hit 2 1 1 256 rfl rfl _ _ _ b d).trans (part21 x0 x1 x2 x3 b d)
  · refine (slab_miss 2 2 3 384 (by decide) _ _ _ b d).trans ?_
    refine (slab_miss 2 2 2 384 (by decide) _ _ _ b d).trans ?_
    refine (slab_miss 2 2 1 384 (by decide) _ _ _ b d).trans ?_
    refine (slab_miss 2 2 0 384 (by decide) _ _ _ b d).trans ?_
    refine (slab_miss 2 2 3 256 (by decide) _ _ _ b d).trans ?_
    exact (slab_hit 2 2 2 256 rfl rfl _ _ _ b d).trans (part22 x0 x1 x2 x3 b d)
  · refine (slab_miss 2 3 3 384 (by decide) _ _ _ b d).trans ?_
    refine (slab_miss 2 3 2 384 (by decide) _ _ _ b d).trans ?_
    refine (slab_miss 2 3 1 384 (by decide) _ _ _ b d).trans ?_
    refine (slab_miss 2 3 0 384 (by decide) _ _ _ b d).trans ?_
    exact (slab_hit 2 3 3 256 rfl rfl _ _ _ b d).trans (part23 x0 x1 x2 x3 b d)
  · refine (slab_miss 3 0 3 384 (by decide) _ _ _ b d).trans ?_
    refine (slab_miss 3 0 2 384 (by decide) _ _ _ b d).trans ?_
    refine (slab_miss 3 0 1 384 (by decide) _ _ _ b d).trans ?_
    exact (slab_hit 3 0 0 384 rfl rfl _ _ _ b d).trans (part30 x0 x1 x2 x3 b d)
  · refine (slab_miss 3 1 3 384 (by decide) _ _ _ b d).trans ?_
    refine (slab_miss 3 1 2 384 (by decide) _ _ _ b d).trans ?_
    exact (slab_hit 3 1 1 384 rfl rfl _ _ _ b d).trans (part31 x0 x1 x2 x3 b d)
  · refine (slab_miss 3 2 3 384 (by decide) _ _ _ b d).trans ?_
    exact (slab_hit 3 2 2 384 rfl rfl _ _ _ b d).trans (part32 x0 x1 x2 x3 b d)
  · exact (slab_hit 3 3 3 384 rfl rfl _ _ _ b d).trans (part33 x0 x1 x2 x3 b d)

end Cert.Proof.PoolS

end
-- ==== Proof.PoolSArray.lean ====
/-
  The arrays the sampled tokens' pooling mixer leaves: the one grid point writes the mixed pools of the four tokens
  (`PoolS.whole`), and the rows of the channel kept for the next call are as the host operations before it left them.
-/
module

public import proofs.«01_k».proof.Proof.PoolSBlock
public import proofs.«01_k».proof.Proof.Gen.PoolSIdeal.Value

@[expose] public section

set_option maxRecDepth 16384

noncomputable section

namespace Cert.Proof.PoolS

open Cert.PoolSIdeal Cert.PoolSIdeal.Gen Cert.PoolSIdeal.Value Idealize.ShloMosaic Idealize.ShloMosaic.TcCoe Idealize.ShloMosaic.ValueIdx Idealize.SL.Sem Cert.Proof.Rows Cert.Proof.Pool
open scoped BigOperators

variable (m : (ℓ : Loc nD τ sig) → Buf (Elt Ideal) ℓ) (c : Dev nD)

/-! ### The windows' arrays at the region's entry -/

theorem entry_carried (n : Fin 15) (b : Fin 128) (e : Fin 512) :
    V m c main_v4 (ix3 n b e) = m ((c.tc : Thread nD τ).loc main_arg0) (ix4 0 b n e) := by
  entry_read
  refine (transpose_apply (s := S128x15x512) (t := S15x128x512) [1, 0, 2] _ transposes_S128x15x512_S15x128x512_1_0_2 (ix3 n b e) (ix3 b n e)
    (fun a => match a with | ⟨0, _⟩ => rfl | ⟨1, _⟩ => rfl | ⟨2, _⟩ => rfl)).trans ?_
  exact shapeCast_apply (s := S1x128x15x512) _ shapeCasts_S1x128x15x512_S128x15x512 (ix3 b n e) (ix4 0 b n e) (by
    rw [Shape.rowMajor_val_three, Shape.rowMajor_val_four]
    show ((0 * 128 + b.val) * 15 + n.val) * 512 + e.val = (b.val * 15 + n.val) * 512 + e.val
    omega)

theorem entry_tokens (t : Fin 4) (b : Fin 128) (e : Fin 512) :
    V m c main_v5 (ix3 t b e) = m ((c.tc : Thread nD τ).loc main_arg1) (ix3 b t e) := by
  entry_read
  exact transpose_apply (s := S128x4x512) (t := S4x128x512) [1, 0, 2] _ transposes_S128x4x512_S4x128x512_1_0_2 (ix3 t b e) (ix3 b t e)
    (fun a => match a with | ⟨0, _⟩ => rfl | ⟨1, _⟩ => rfl | ⟨2, _⟩ => rfl)

theorem entry_w (g : Fin 4) (k d : Fin 128) : V m c main_v7 (ix3 g k d) = m ((c.tc : Thread nD τ).loc main_arg2) (ix4 0 g k d) := by
  entry_read
  exact shapeCast_apply (s := S1x4x128x128) _ shapeCasts_S1x4x128x128_S4x128x128 (ix3 g k d) (ix4 0 g k d) (by
    rw [Shape.rowMajor_val_three, Shape.rowMajor_val_four]
    show ((0 * 4 + g.val) * 128 + k.val) * 128 + d.val = (g.val * 128 + k.val) * 128 + d.val
    omega)

theorem entry_s (e : Fin 512) : V m c main_v9 (ix2 0 e) = m ((c.tc : Thread nD τ).loc main_arg3) (ix2 0 e) := by
  entry_read
  exact rowVec_apply (N := 512) _ shapeCasts_S1x512_S512 shapeCasts_S512_S1x512 e

/-- The last fifteen of a sample's nineteen rows. -/
def kept (st : FVec Ideal S1x128x15x512 .f32) (u : FVec Ideal S128x4x512 .f32) : FVec Ideal S128x15x512 .f32 :=
  extractStridedSlice S128x15x512 ![0, 4, 0] (concatenate S128x19x512 1
    [⟨S128x15x512, shapeCast S128x15x512 st shapeCasts_S1x128x15x512_S128x15x512⟩, ⟨S128x4x512, u⟩]
    concatenates_S128x15x512_S128x4x512_S128x19x512_d1) slices_S128x19x512_S128x15x512_0_4_0

theorem entry_kept : V m c main_v2 = kept (m ((c.tc : Thread nD τ).loc main_arg0)) (m ((c.tc : Thread nD τ).loc main_arg1)) := by
  entry_read
  rfl

/-! ### The windows' blocks are the whole arrays -/

theorem idx_facts : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0))

theorem block_carried (t : Fin cfg0.N) (n : Fin 15) (b : Fin 128) (e : Fin 512) :
    iblk m c 0 t (ix3 n b e) = m ((c.tc : Thread nD τ).loc main_arg0) (ix4 0 b n e) := by
  refine Eq.trans ?_ (entry_carried m c n b e)
  refine congrArg (V m c main_v4) (?_ : (win0_0.rect t).emb (ix3 n b e) = ix3 n b e)
  obtain ⟨h, -⟩ := idx_facts t
  refine funext fun a => Fin.ext (match a with | ⟨0, _⟩ => ?_ | ⟨1, _⟩ => ?_ | ⟨2, _⟩ => ?_)
  · refine (Pipeline.Window.rect_emb_val win0_0 t _ 0).trans ?_; rw [h]; show 0 * 15 + n.val = n.val; omega
  · refine (Pipeline.Window.rect_emb_val win0_0 t _ 1).trans ?_; rw [h]; show 0 * 128 + b.val = b.val; omega
  · refine (Pipeline.Window.rect_emb_val win0_0 t _ 2).trans ?_; rw [h]; show 0 * 512 + e.val = e.val; omega

theorem block_tokens (t : Fin cfg0.N) (n : Fin 4) (b : Fin 128) (e : Fin 512) :
    iblk m c 1 t (ix3 n b e) = m ((c.tc : Thread nD τ).loc main_arg1) (ix3 b n e) := by
  refine Eq.trans ?_ (entry_tokens m c n b e)
  refine congrArg (V m c main_v5) (?_ : (win0_1.rect t).emb (ix3 n b e) = ix3 n b e)
  obtain ⟨-, h, -⟩ := idx_facts t
  refine funext fun a => Fin.ext (match a with | ⟨0, _⟩ => ?_ | ⟨1, _⟩ => ?_ | ⟨2, _⟩ => ?_)
  · refine (Pipeline.Window.rect_emb_val win0_1 t _ 0).trans ?_; rw [h]; show 0 * 4 + n.val = n.val; omega
  · refine (Pipeline.Window.rect_emb_val win0_1 t _ 1).trans ?_; rw [h]; show 0 * 128 + b.val = b.val; omega
  · refine (Pipeline.Window.rect_emb_val win0_1 t _ 2).trans ?_; rw [h]; show 0 * 512 + e.val = e.val; omega

theorem block_w (t : Fin cfg0.N) (g : Fin 4) (k d : Fin 128) :
    iblk m c 2 t (ix3 g k d) = m ((c.tc : Thread nD τ).loc main_arg2) (ix4 0 g k d) := by
  refine Eq.trans ?_ (entry_w m c g k d)
  refine congrArg (V m c main_v7) (?_ : (win0_2.rect t).emb (ix3 g k d) = ix3 g k d)
  obtain ⟨-, -, h, -⟩ := idx_facts t
  refine funext fun a => Fin.ext (match a with | ⟨0, _⟩ => ?_ | ⟨1, _⟩ => ?_ | ⟨2, _⟩ => ?_)
  · refine (Pipeline.Window.rect_emb_val win0_2 t _ 0).trans ?_; rw [h]; show 0 * 4 + g.val = g.val; omega
  · refine (Pipeline.Window.rect_emb_val win0_2 t _ 1).trans ?_; rw [h]; show 0 * 128 + k.val = k.val; omega
  · refine (Pipeline.Window.rect_emb_val win0_2 t _ 2).trans ?_; rw [h]; show 0 * 128 + d.val = d.val; omega

theorem block_s (t : Fin cfg0.N) (e : Fin 512) :
    iblk m c 3 t (ix2 0 e) = m ((c.tc : Thread nD τ).loc main_arg3) (ix2 0 e) := by
  refine Eq.trans ?_ (entry_s m c e)
  refine congrArg (V m c main_v9) (?_ : (win0_3.rect t).emb (ix2 0 e) = ix2 0 e)
  obtain ⟨-, -, -, h, -⟩ := idx_facts t
  refine Shape.idx_ext₂ ?_ ?_
  · rw [Pipeline.Window.rect_emb_val win0_3, h]; show 0 * 1 + 0 = 0; omega
  · rw [Pipeline.Window.rect_emb_val win0_3, h]; show 0 * 512 + e.val = e.val; omega

/-- The blocks hold a sample's channel. -/
theorem rows_eq (t : Fin cfg0.N) (b : Fin 128) (e : Fin 512) :
    rows (iblk m c 0 t) (iblk m c 1 t) b e
      = ext (m ((c.tc : Thread nD τ).loc main_arg0)) (m ((c.tc : Thread nD τ).loc main_arg1)) b e := by
  funext n
  unfold rows ext
  by_cases h : 1 ≤ n ∧ n < 16
  · rw [dif_pos h, dif_pos h, block_carried]
  · rw [dif_neg h, dif_neg h]
    by_cases h' : 16 ≤ n ∧ n < 20
    · rw [dif_pos h', dif_pos h', block_tokens]
    · rw [dif_neg h', dif_neg h']

theorem part_eq (t : Fin cfg0.N) (g n : Fin 4) (b d : Fin 128) :
    part (iblk m c 0 t) (iblk m c 1 t) (iblk m c 2 t) (iblk m c 3 t) g n b d
      = mixed (m ((c.tc : Thread nD τ).loc main_arg0)) (m ((c.tc : Thread nD τ).loc main_arg1)) (m ((c.tc : Thread nD τ).loc main_arg2))
        (m ((c.tc : Thread nD τ).loc main_arg3)) b n.val g d := by
  unfold part mixed
  rw [block_s]
  refine congrArg (· * _) (congrArg₂ (fun x y => rowMul x y d) (funext fun k => ?_) (funext fun k => funext fun j => block_w m c t g k j))
  rw [rows_eq]

/-! ### The result -/

abbrev result : Left.Idx → EReal :=
  whole (m ((c.tc : Thread nD τ).loc main_arg0)) (m ((c.tc : Thread nD τ).loc main_arg1)) (m ((c.tc : Thread nD τ).loc main_arg2))
    (m ((c.tc : Thread nD τ).loc main_arg3))

/-- What the grid point writes back is the result. -/
theorem flushed_eq (t : Fin cfg0.N) :
    (dats m 0 c).flushed 4 t = ((cfg0.win 4).blk t).view.read (Elt Ideal) (result m c) := by
  rw [flushed4]
  funext y
  obtain ⟨n, b, e, rfl⟩ : ∃ (n : Fin 4) (b : Fin 128) (e : Fin 512), y = ix3 n b e := ⟨y 0, y 1, y 2, eq_ix3 y⟩
  have he : (win0_4.rect t).emb (ix3 n b e) = ix3 n b e := by
    obtain ⟨-, -, -, -, h⟩ := idx_facts t
    refine funext fun a => Fin.ext (match a with | ⟨0, _⟩ => ?_ | ⟨1, _⟩ => ?_ | ⟨2, _⟩ => ?_)
    · refine (Pipeline.Window.rect_emb_val win0_4 t _ 0).trans ?_; rw [h]; show 0 * 4 + n.val = n.val; omega
    · refine (Pipeline.Window.rect_emb_val win0_4 t _ 1).trans ?_; rw [h]; show 0 * 128 + b.val = b.val; omega
    · refine (Pipeline.Window.rect_emb_val win0_4 t _ 2).trans ?_; rw [h]; show 0 * 512 + e.val = e.val; omega
  have hc : out0_4 (F := Ideal) (iblk m c 0 t) (iblk m c 1 t) (iblk m c 2 t) (iblk m c 3 t) (ix3 n b e) = result m c (ix3 n b e) := by
    refine Eq.trans (congrArg _ (congrArg (ix3 n b) (chan_eq e).symm)) ?_
    exact (out_apply _ _ _ _ (groupOf e) n b (placeOf e)).trans (part_eq m c t _ n b _)
  show out0_4 (F := Ideal) (iblk m c 0 t) (iblk m c 1 t) (iblk m c 2 t) (iblk m c 3 t) (ix3 n b e) = result m c ((win0_4.rect t).emb (ix3 n b e))
  rw [he]
  exact hc

theorem mem_block (t : Fin cfg0.N) (i : S4x128x512.Idx) : i ∈ ((cfg0.win 4).blk t).view.set := by
  show i ∈ ((View.whole main_v10).slice (win0_4.rect t)).set
  rw [View.set_slice_whole, Rect.mem_set_unit]
  obtain ⟨-, -, -, -, h⟩ := idx_facts t
  have h0 : (i 0 : Nat) < 4 := (i 0).isLt
  have h1 : (i 1 : Nat) < 128 := (i 1).isLt
  have h2 : (i 2 : Nat) < 512 := (i 2).isLt
  intro a
  match a with
  | ⟨0, _⟩ => show win0_4.index t 0 * 4 ≤ (i 0 : Nat) ∧ (i 0 : Nat) < win0_4.index t 0 * 4 + 4; rw [h]; omega
  | ⟨1, _⟩ => show win0_4.index t 1 * 128 ≤ (i 1 : Nat) ∧ (i 1 : Nat) < win0_4.index t 1 * 128 + 128; rw [h]; omega
  | ⟨2, _⟩ => show win0_4.index t 2 * 512 ≤ (i 2 : Nat) ∧ (i 2 : Nat) < win0_4.index t 2 * 512 + 512; rw [h]; omega

/-- After the grid point the array holds the result. -/
theorem final : (dats m 0 c).arrAt 4 cfg0.N = result m c :=
  (dats m 0 c).arrAt_eq_of_cover 4 (result m c) (fun t _ => flushed_eq m c t) fun (i : S4x128x512.Idx) =>
    have h : 0 < cfg0.N := by decide
    ⟨⟨0, h⟩, flush0_4 _, mem_block _ i⟩

/-- The run leaves the result, the rows kept, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_v2) = kept (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final m c),
      ((h c).2 main_v2 (Pipeline.mem_restRefs_of main_v2 (by decide) (by decide))).trans (entry_kept m c),
      kept_main_arg0 m r h c, kept_main_arg1 m r h c, kept_main_arg2 m r h c, kept_main_arg3 m r h c⟩)
    (run_main m ρ)

end Cert.Proof.PoolS

end
-- ==== Proof.PoolSRef.lean ====
/-
  The reference pooling mixer of the sampled tokens, read at an index: the running sums of the nineteen rows, their
  differences as window sums, the groups stacked, mixed and scaled. For finite rows it is the function the kernel computes.
-/
module

public import proofs.«01_k».proof.Proof.PoolSums
public import proofs.«01_k».proof.Proof.PoolSRows
public import proofs.«01_k».proof.Proof.Gen.PoolSRefIdeal.Read
public import Idealize.ShloMosaic.Lib.KernelVsHost

@[expose] public section

noncomputable section

namespace Cert.Proof.PoolSRef

open Cert.PoolSRefIdeal Cert.PoolSRefIdeal.Gen Cert.PoolSRefIdeal.Read Idealize.ShloMosaic Idealize.ShloMosaic.ValueIdx Cert.Proof.Rows
open Cert.Proof.Pool hiding ext ext_finite
open Cert.Proof.PoolS (ext ext_finite Carried Tokens)
open scoped BigOperators

variable (st : Carried.Idx → EReal) (u : Tokens.Idx → EReal) (w : Mixers.Idx → EReal) (s : Scales.Idx → EReal)

/-- The carried rows and the tokens. -/
theorem joined_apply (b : Fin 128) (p : Fin 19) (e : Fin 512) : val_main_v4 (F := Ideal) st u (ix3 b p e) = ext st u b e (p.val + 1) := by
  unfold val_main_v4 ext
  by_cases h : p.val < 15
  · rw [dif_pos (by omega)]
    refine (concatenate_pair_apply_left 1 _ _ concatenates_S128x15x512_S128x4x512_S128x19x512_d1 (ix3 b p e) rfl (ix3 b ⟨p.val, h⟩ e)
      (fun a => match a with | ⟨0, _⟩ => rfl | ⟨1, _⟩ => rfl | ⟨2, _⟩ => rfl)).trans ?_
    exact shapeCast_apply (s := S1x128x15x512) _ shapeCasts_S1x128x15x512_S128x15x512 (ix3 b ⟨p.val, h⟩ e) (ix4 0 b ⟨p.val, h⟩ e) (by
      rw [Shape.rowMajor_val_three, Shape.rowMajor_val_four]
      show ((0 * 128 + b.val) * 15 + p.val) * 512 + e.val = (b.val * 15 + p.val) * 512 + e.val
      omega)
  · rw [dif_neg (by omega), dif_pos (by omega)]
    refine (concatenate_pair_apply_right 1 _ _ concatenates_S128x15x512_S128x4x512_S128x19x512_d1 (ix3 b p e) rfl rfl (ix3 b ⟨p.val - 15, by omega⟩ e)
      (fun a ha => match a with | ⟨0, _⟩ => rfl | ⟨1, _⟩ => absurd rfl ha | ⟨2, _⟩ => rfl) ?_).trans ?_
    · show p.val - 15 + 15 = p.val; omega
    · congr 2

/-- The running sum of the first `k` entries. -/
theorem run_apply (b : Fin 128) (k : Fin 19) (e : Fin 512) :
    val_main_v5 (F := Ideal) st u (ix3 b k e) = ∑ p ∈ Finset.range (k.val + 1), ext st u b e (p + 1) := by
  unfold val_main_v5
  refine (windowAdd_eq _ _ _ _ _ _ _ _ _).trans ?_
  refine running (A := 128) (C := 512) (M := 18) (N := 19) (by norm_num) (val_main_v4 (F := Ideal) st u) _
    reduceWindows_S128x19x512_S128x19x512_w1s1p0_0_w19s1p18_0_w1s1p0_0 h_S_ ?_ (fun p => ext st u b e (p + 1)) b e
    (fun p => joined_apply st u b p e) k
  rw [val_main_call0_call0_v0_apply, val_main_call0_call0_cst_apply]
  exact Ideal.ofBits_zero_f32

theorem runs_apply (b : Fin 128) (k : Fin 20) (e : Fin 512) :
    val_main_v6 (F := Ideal) st u (ix3 b k e) = ∑ p ∈ Finset.range k.val, ext st u b e (p + 1) := by
  unfold val_main_v6
  by_cases h : k.val = 0
  · refine (pad_apply_of_not_inside _ _ _ _ _ pads_S128x19x512_S128x20x512_000_100_000 h_S_ (ix3 b k e) 1 (fun hin => ?_)).trans ?_
    · have h1 : 1 ≤ k.val := hin.1
      omega
    · rw [h, Finset.range_zero, Finset.sum_empty, val_main_call1_v0_apply, val_main_c_0_apply]
      show ((((0#32 : BitVec 32).toInt : ℤ) : ℝ) : EReal) = 0
      simp
  · refine (pad_apply_of_inside _ _ _ _ _ pads_S128x19x512_S128x20x512_000_100_000 h_S_ (ix3 b k e) (ix3 b ⟨k.val - 1, by omega⟩ e)
      (fun a => ?_)).trans ?_
    · match a with
      | ⟨0, _⟩ => show b.val = 0 + b.val * 1; omega
      | ⟨1, _⟩ => show k.val = 1 + (k.val - 1) * 1; omega
      | ⟨2, _⟩ => show e.val = 0 + e.val * 1; omega
    · rw [run_apply]
      show ∑ p ∈ Finset.range (k.val - 1 + 1), _ = _
      rw [show k.val - 1 + 1 = k.val by omega]

variable (hst : ∀ i, st i ≠ ⊤ ∧ st i ≠ ⊥) (hu : ∀ i, u i ≠ ⊤ ∧ u i ≠ ⊥)
include hst hu

/-- A window's sum as the difference of two running sums. -/
theorem diff_apply (b : Fin 128) (t : Fin 4) (e : Fin 512) (W : ℕ) (hW : W ≤ 16)
    (i j : S128x20x512.Idx) (hi : i = ix3 b ⟨16 + t.val, by omega⟩ e) (hj : j = ix3 b ⟨16 - W + t.val, by omega⟩ e) :
    FloatOps.subf (F := Ideal) (φ := .f32) (val_main_v6 (F := Ideal) st u i) (val_main_v6 (F := Ideal) st u j)
      = window (ext st u b e) W (16 + t.val) := by
  rw [hi, hj, runs_apply, runs_apply]
  rw [show (⟨16 - W + t.val, by omega⟩ : Fin 20).val = 16 + t.val - W by show 16 - W + t.val = _; omega]
  exact sub_runs (ext st u b e) (ext_finite st u hst hu b e) W (16 + t.val) (by omega)

theorem group0_apply (b : Fin 128) (t : Fin 4) (k : Fin 128) :
    val_main_v19 (F := Ideal) st u (ix3 b t k) = pooledAt (ext st u b (chan 0 k)) (width 0) (widthWord 0) t.val (8192 + t.val) := by
  rw [val_main_v19_apply, val_main_v17_apply, val_main_v9_apply, val_main_v7_apply, val_main_v8_apply, val_main_v18_apply,
    diff_apply st u hst hu b t (chan 0 k) 2 (by omega) (idx_main_v7 (ix3 b t k)) (idx_main_v8 (ix3 b t k))
      (funext fun a => Fin.ext (by match a with | ⟨0, _⟩ => rfl | ⟨1, _⟩ => rfl | ⟨2, _⟩ => exact (Nat.zero_add _).symm))
      (funext fun a => Fin.ext (by match a with | ⟨0, _⟩ => rfl | ⟨1, _⟩ => rfl | ⟨2, _⟩ => exact (Nat.zero_add _).symm)),
    show idx_main_v18 (ix3 b t k) = ix3 b ⟨15 + t.val, by omega⟩ (chan 0 k) from
      funext fun a => Fin.ext (by match a with | ⟨0, _⟩ => rfl | ⟨1, _⟩ => rfl | ⟨2, _⟩ => exact (Nat.zero_add _).symm), joined_apply]
  rw [show (⟨15 + t.val, by omega⟩ : Fin 19).val + 1 = 16 + t.val by show 15 + t.val + 1 = _; omega]
  rw [val_main_v16_apply, val_main_v15_apply, val_main_v14_apply, val_main_v13_apply, val_main_v12_apply, val_main_v11_apply, val_main_v10_apply, val_main_v2_apply, val_main_v1_apply, val_main_v0_apply]
  unfold pooledAt Pool.count
  refine congrArg (fun x => Ideal.div _ (FloatOps.sitofp (F := Ideal) .f32 x) - _) ?_
  show (if (8192#32 + BitVec.ofNat 32 t.val + 1#32).slt 2#32 then 8192#32 + BitVec.ofNat 32 t.val + 1#32 else 2#32) = _
  rw [← BitVec.ofNat_add, ← BitVec.ofNat_add]
  rfl

theorem group1_apply (b : Fin 128) (t : Fin 4) (k : Fin 128) :
    val_main_v32 (F := Ideal) st u (ix3 b t k) = pooledAt (ext st u b (chan 1 k)) (width 1) (widthWord 1) t.val (8192 + t.val) := by
  rw [val_main_v32_apply, val_main_v30_apply, val_main_v22_apply, val_main_v20_apply, val_main_v21_apply, val_main_v31_apply,
    diff_apply st u hst hu b t (chan 1 k) 4 (by omega) (idx_main_v20 (ix3 b t k)) (idx_main_v21 (ix3 b t k))
      (funext fun a => Fin.ext (by match a with | ⟨0, _⟩ => rfl | ⟨1, _⟩ => rfl | ⟨2, _⟩ => rfl))
      (funext fun a => Fin.ext (by match a with | ⟨0, _⟩ => rfl | ⟨1, _⟩ => rfl | ⟨2, _⟩ => rfl)),
    show idx_main_v31 (ix3 b t k) = ix3 b ⟨15 + t.val, by omega⟩ (chan 1 k) from
      funext fun a => Fin.ext (by match a with | ⟨0, _⟩ => rfl | ⟨1, _⟩ => rfl | ⟨2, _⟩ => rfl), joined_apply]
  rw [show (⟨15 + t.val, by omega⟩ : Fin 19).val + 1 = 16 + t.val by show 15 + t.val + 1 = _; omega]
  rw [val_main_v29_apply, val_main_v28_apply, val_main_v27_apply, val_main_v26_apply, val_main_v25_apply, val_main_v24_apply, val_main_v23_apply, val_main_v2_apply, val_main_v1_apply, val_main_v0_apply]
  unfold pooledAt Pool.count
  refine congrArg (fun x => Ideal.div _ (FloatOps.sitofp (F := Ideal) .f32 x) - _) ?_
  show (if (8192#32 + BitVec.ofNat 32 t.val + 1#32).slt 4#32 then 8192#32 + BitVec.ofNat 32 t.val + 1#32 else 4#32) = _
  rw [← BitVec.ofNat_add, ← BitVec.ofNat_add]
  rfl

theorem group2_apply (b : Fin 128) (t : Fin 4) (k : Fin 128) :
    val_main_v45 (F := Ideal) st u (ix3 b t k) = pooledAt (ext st u b (chan 2 k)) (width 2) (widthWord 2) t.val (8192 + t.val) := by
  rw [val_main_v45_apply, val_main_v43_apply, val_main_v35_apply, val_main_v33_apply, val_main_v34_apply, val_main_v44_apply,
    diff_apply st u hst hu b t (chan 2 k) 8 (by omega) (idx_main_v33 (ix3 b t k)) (idx_main_v34 (ix3 b t k))
      (funext fun a => Fin.ext (by match a with | ⟨0, _⟩ => rfl | ⟨1, _⟩ => rfl | ⟨2, _⟩ => rfl))
      (funext fun a => Fin.ext (by match a with | ⟨0, _⟩ => rfl | ⟨1, _⟩ => rfl | ⟨2, _⟩ => rfl)),
    show idx_main_v44 (ix3 b t k) = ix3 b ⟨15 + t.val, by omega⟩ (chan 2 k) from
      funext fun a => Fin.ext (by match a with | ⟨0, _⟩ => rfl | ⟨1, _⟩ => rfl | ⟨2, _⟩ => rfl), joined_apply]
  rw [show (⟨15 + t.val, by omega⟩ : Fin 19).val + 1 = 16 + t.val by show 15 + t.val + 1 = _; omega]
  rw [val_main_v42_apply, val_main_v41_apply, val_main_v40_apply, val_main_v39_apply, val_main_v38_apply, val_main_v37_apply, val_main_v36_apply, val_main_v2_apply, val_main_v1_apply, val_main_v0_apply]
  unfold pooledAt Pool.count
  refine congrArg (fun x => Ideal.div _ (FloatOps.sitofp (F := Ideal) .f32 x) - _) ?_
  show (if (8192#32 + BitVec.ofNat 32 t.val + 1#32).slt 8#32 then 8192#32 + BitVec.ofNat 32 t.val + 1#32 else 8#32) = _
  rw [← BitVec.ofNat_add, ← BitVec.ofNat_add]
  rfl

theorem group3_apply (b : Fin 128) (t : Fin 4) (k : Fin 128) :
    val_main_v58 (F := Ideal) st u (ix3 b t k) = pooledAt (ext st u b (chan 3 k)) (width 3) (widthWord 3) t.val (8192 + t.val) := by
  rw [val_main_v58_apply, val_main_v56_apply, val_main_v48_apply, val_main_v46_apply, val_main_v47_apply, val_main_v57_apply,
    diff_apply st u hst hu b t (chan 3 k) 16 (by omega) (idx_main_v46 (ix3 b t k)) (idx_main_v47 (ix3 b t k))
      (funext fun a => Fin.ext (by match a with | ⟨0, _⟩ => rfl | ⟨1, _⟩ => rfl | ⟨2, _⟩ => rfl))
      (funext fun a => Fin.ext (by match a with | ⟨0, _⟩ => rfl | ⟨1, _⟩ => exact (Nat.zero_add _).symm | ⟨2, _⟩ => rfl)),
    show idx_main_v57 (ix3 b t k) = ix3 b ⟨15 + t.val, by omega⟩ (chan 3 k) from
      funext fun a => Fin.ext (by match a with | ⟨0, _⟩ => rfl | ⟨1, _⟩ => rfl | ⟨2, _⟩ => rfl), joined_apply]
  rw [show (⟨15 + t.val, by omega⟩ : Fin 19).val + 1 = 16 + t.val by show 15 + t.val + 1 = _; omega]
  rw [val_main_v55_apply, val_main_v54_apply, val_main_v53_apply, val_main_v52_apply, val_main_v51_apply, val_main_v50_apply, val_main_v49_apply, val_main_v2_apply, val_main_v1_apply, val_main_v0_apply]
  unfold pooledAt Pool.count
  refine congrArg (fun x => Ideal.div _ (FloatOps.sitofp (F := Ideal) .f32 x) - _) ?_
  show (if (8192#32 + BitVec.ofNat 32 t.val + 1#32).slt 16#32 then 8192#32 + BitVec.ofNat 32 t.val + 1#32 else 16#32) = _
  rw [← BitVec.ofNat_add, ← BitVec.ofNat_add]
  rfl

/-- The stacked groups. -/
theorem stack_apply (b : Fin 128) (t : Fin 4) (g : Fin 4) (k : Fin 128) :
    val_main_v63 (F := Ideal) st u (ix4 b t g k) = pooledAt (ext st u b (chan g k)) (width g) (widthWord g) t.val (8192 + t.val) := by
  unfold val_main_v63
  refine Eq.trans (stack4 _ _ _ _ _ b t g k) ?_
  fin_cases g
  · refine (val_main_v59_apply (F := Ideal) st u (ix4 b t 0 k)).trans ?_
    rw [show idx_main_v59 (ix4 b t 0 k) = ix3 b t k from
      funext fun a => Fin.ext (by match a with | ⟨0, _⟩ => rfl | ⟨1, _⟩ => rfl | ⟨2, _⟩ => rfl)]
    exact group0_apply st u hst hu b t k
  · refine (val_main_v60_apply (F := Ideal) st u (ix4 b t 0 k)).trans ?_
    rw [show idx_main_v60 (ix4 b t 0 k) = ix3 b t k from
      funext fun a => Fin.ext (by match a with | ⟨0, _⟩ => rfl | ⟨1, _⟩ => rfl | ⟨2, _⟩ => rfl)]
    exact group1_apply st u hst hu b t k
  · refine (val_main_v61_apply (F := Ideal) st u (ix4 b t 0 k)).trans ?_
    rw [show idx_main_v61 (ix4 b t 0 k) = ix3 b t k from
      funext fun a => Fin.ext (by match a with | ⟨0, _⟩ => rfl | ⟨1, _⟩ => rfl | ⟨2, _⟩ => rfl)]
    exact group2_apply st u hst hu b t k
  · refine (val_main_v62_apply (F := Ideal) st u (ix4 b t 0 k)).trans ?_
    rw [show idx_main_v62 (ix4 b t 0 k) = ix3 b t k from
      funext fun a => Fin.ext (by match a with | ⟨0, _⟩ => rfl | ⟨1, _⟩ => rfl | ⟨2, _⟩ => rfl)]
    exact group3_apply st u hst hu b t k

/-- The reference's result. -/
theorem result_apply (t : Fin 4) (b : Fin 128) (e : Fin 512) :
    val_main_v73 (F := Ideal) st u w s (ix3 t b e) = PoolS.whole st u w s (ix3 t b e) := by
  rw [val_main_v73_apply, show idx_main_v73 (ix3 t b e) = ix3 b t e from
    funext fun a => Fin.ext (by match a with | ⟨0, _⟩ => rfl | ⟨1, _⟩ => rfl | ⟨2, _⟩ => rfl), val_main_v72_apply, val_main_v71_apply]
  show _ = PoolS.mixed st u w s b t.val (groupOf e) (placeOf e)
  unfold PoolS.mixed
  refine congrArg₂ (fun x y : EReal => x * y) ?_ ?_
  · rw [val_main_v67_apply, show idx_main_v67 (ix3 b t e) = ix4 b t (groupOf e) (placeOf e) from
      funext fun a => Fin.ext (by
        have := b.isLt; have := t.isLt; have := e.isLt
        match a with
        | ⟨0, _⟩ => show ((b.val * 4 + t.val) * 512 + e.val) / 2048 = b.val; omega
        | ⟨1, _⟩ => show ((b.val * 4 + t.val) * 512 + e.val) / 512 % 4 = t.val; omega
        | ⟨2, _⟩ => show ((b.val * 4 + t.val) * 512 + e.val) / 128 % 4 = e.val / 128; omega
        | ⟨3, _⟩ => show ((b.val * 4 + t.val) * 512 + e.val) % 128 = e.val % 128; omega),
      val_main_v66_apply, show idx_main_v66 (ix4 b t (groupOf e) (placeOf e)) = ix4 (groupOf e) (placeOf e) b t from
        funext fun a => Fin.ext (by match a with | ⟨0, _⟩ => rfl | ⟨1, _⟩ => rfl | ⟨2, _⟩ => rfl | ⟨3, _⟩ => rfl), val_main_v65_apply]
    refine Finset.sum_congr rfl fun k _ => ?_
    rw [show ridx_main_v65 (ix4 (groupOf e) (placeOf e) b t) k = ix4 b t (groupOf e) k from
        funext fun a => Fin.ext (by match a with | ⟨0, _⟩ => rfl | ⟨1, _⟩ => rfl | ⟨2, _⟩ => rfl | ⟨3, _⟩ => rfl),
      show lidx_main_v65 (ix4 (groupOf e) (placeOf e) b t) k = ix3 (groupOf e) k (placeOf e) from
        funext fun a => Fin.ext (by match a with | ⟨0, _⟩ => rfl | ⟨1, _⟩ => rfl | ⟨2, _⟩ => rfl), stack_apply st u hst hu, mul_comm, val_main_v64_apply]
    refine congrArg (fun i => _ * w i) (funext fun a => Fin.ext ?_)
    have := (groupOf e).isLt; have := k.isLt; have := (placeOf e).isLt
    match a with
    | ⟨0, _⟩ => rfl
    | ⟨1, _⟩ => show (((groupOf e).val * 128 + k.val) * 128 + (placeOf e).val) / 16384 % 4 = (groupOf e).val; omega
    | ⟨2, _⟩ => show (((groupOf e).val * 128 + k.val) * 128 + (placeOf e).val) / 128 % 128 = k.val; omega
    | ⟨3, _⟩ => show (((groupOf e).val * 128 + k.val) * 128 + (placeOf e).val) % 128 = (placeOf e).val; omega
  · rw [val_main_v70_apply, val_main_v69_apply, val_main_v68_apply]
    refine congrArg s (funext fun a => Fin.ext ?_)
    match a with
    | ⟨0, _⟩ => rfl
    | ⟨1, _⟩ => show e.val % 512 = 128 * (e.val / 128) + e.val % 128; omega

end Cert.Proof.PoolSRef

end
-- ==== Proof.PoolSEquation.lean ====
/-
  The sampled tokens' pooling mixer and its reference compute the same arrays from memories that agree on the arguments,
  when every row of the channel, carried or sampled, is finite.
-/
module

public import proofs.«01_k».proof.Defs
public import proofs.«01_k».proof.Proof.PoolSArray
public import proofs.«01_k».proof.Proof.PoolSRef
public import proofs.«01_k».proof.Proof.Gen.PoolSIdeal
public import proofs.«01_k».proof.Proof.Gen.PoolSRefIdeal
public import proofs.«01_k».proof.Proof.Gen.Pre_finite_rows

@[expose] public section

noncomputable section

namespace Cert.Proof

open Idealize.ShloMosaic Idealize.ShloMosaic.TcCoe Idealize.ShloMosaic.ValueIdx Idealize.SL.Sem

/-- The precondition says that no row of the channel holds either of the infinities. -/
theorem finite_joined (st : FVec Ideal Cert.Pre_finite_rows.S1x128x15x512 .f32) (u : FVec Ideal Cert.Pre_finite_rows.S128x4x512 .f32)
    (w : FVec Ideal Cert.Pre_finite_rows.S1x4x128x128 .f32) (s : FVec Ideal Cert.Pre_finite_rows.S1x512 .f32)
    (h : @Cert.Pre_finite_rows.fn Cert.Pre_finite_rows.Gen.facts Ideal _ st u w s = fun _ => 1#1) (b : Fin 128) (p : Fin 19) (e : Fin 512) :
    PoolS.ext st u b e (p.val + 1) ≠ ⊤ ∧ PoolS.ext st u b e (p.val + 1) ≠ ⊥ := by
  have htop : Ideal.ofBits .f32 0x7F800000#32 = ⊤ := by simp [Ideal.ofBits, Ideal.ieee]
  have h' : BitVec.ofBool (decide (max (Cert.PoolSRefIdeal.Read.val_main_v4 (F := Ideal) st u (ix3 b p e) : EReal)
      (-(Cert.PoolSRefIdeal.Read.val_main_v4 (F := Ideal) st u (ix3 b p e) : EReal)) < Ideal.ofBits .f32 0x7F800000#32)) = 1#1 := congrFun h (ix3 b p e)
  rw [htop, PoolSRef.joined_apply] at h'
  have hlt : max (PoolS.ext st u b e (p.val + 1)) (-(PoolS.ext st u b e (p.val + 1))) < ⊤ := by
    by_contra hn
    rw [decide_eq_false hn] at h'
    exact absurd h' (by decide)
  refine ⟨fun he => ?_, fun he => ?_⟩ <;> rw [he] at hlt <;> simp at hlt

theorem finite_rows_carried (st : FVec Ideal Cert.Pre_finite_rows.S1x128x15x512 .f32) (u : FVec Ideal Cert.Pre_finite_rows.S128x4x512 .f32)
    (w : FVec Ideal Cert.Pre_finite_rows.S1x4x128x128 .f32) (s : FVec Ideal Cert.Pre_finite_rows.S1x512 .f32)
    (h : @Cert.Pre_finite_rows.fn Cert.Pre_finite_rows.Gen.facts Ideal _ st u w s = fun _ => 1#1)
    (i : Cert.Pre_finite_rows.S1x128x15x512.Idx) : (st i : EReal) ≠ ⊤ ∧ (st i : EReal) ≠ ⊥ := by
  obtain ⟨z, b, n, e, rfl⟩ : ∃ (z : Fin 1) (b : Fin 128) (n : Fin 15) (e : Fin 512), i = ix4 z b n e := ⟨i 0, i 1, i 2, i 3, eq_ix4 i⟩
  obtain rfl : z = 0 := Subsingleton.elim _ _
  have := finite_joined st u w s h b ⟨n.val, by omega⟩ e
  unfold PoolS.ext at this
  rw [dif_pos (by show 1 ≤ n.val + 1 ∧ n.val + 1 < 16; omega)] at this
  exact this

theorem finite_rows_tokens (st : FVec Ideal Cert.Pre_finite_rows.S1x128x15x512 .f32) (u : FVec Ideal Cert.Pre_finite_rows.S128x4x512 .f32)
    (w : FVec Ideal Cert.Pre_finite_rows.S1x4x128x128 .f32) (s : FVec Ideal Cert.Pre_finite_rows.S1x512 .f32)
    (h : @Cert.Pre_finite_rows.fn Cert.Pre_finite_rows.Gen.facts Ideal _ st u w s = fun _ => 1#1)
    (i : Cert.Pre_finite_rows.S128x4x512.Idx) : (u i : EReal) ≠ ⊤ ∧ (u i : EReal) ≠ ⊥ := by
  obtain ⟨b, t, e, rfl⟩ : ∃ (b : Fin 128) (t : Fin 4) (e : Fin 512), i = ix3 b t e := ⟨i 0, i 1, i 2, eq_ix3 i⟩
  have := finite_joined st u w s h b ⟨15 + t.val, by omega⟩ e
  have ht : (⟨15 + t.val + 1 - 16, by omega⟩ : Fin 4) = t := Fin.ext (by show 15 + t.val + 1 - 16 = t.val; omega)
  unfold PoolS.ext at this
  rw [dif_neg (by show ¬(1 ≤ 15 + t.val + 1 ∧ 15 + t.val + 1 < 16); omega),
    dif_pos (by show 16 ≤ 15 + t.val + 1 ∧ 15 + t.val + 1 < 20; omega)] at this
  rw [show (⟨(⟨15 + t.val, by omega⟩ : Fin 19).val + 1 - 16, by show 15 + t.val + 1 - 16 < 4; omega⟩ : Fin 4) = t from ht] at this
  exact this

theorem algebraic_pool_sample : algebraic_PoolSIdeal_PoolSRefIdeal_pre_finite_rows (hPoolSIdeal := Cert.PoolSIdeal.Gen.facts)
    (hPoolSRefIdeal := Cert.PoolSRefIdeal.Gen.facts) (hPre_finite_rows := Cert.Pre_finite_rows.Gen.facts) := by
  intro m ρ m' ρ' hfin hargs
  refine ⟨fun c => PoolS.result m c, fun c => PoolS.kept (m ((c.tc : Thread Cert.PoolSIdeal.nD Cert.PoolSIdeal.τ).loc Cert.PoolSIdeal.main_arg0))
    (m ((c.tc : Thread Cert.PoolSIdeal.nD Cert.PoolSIdeal.τ).loc Cert.PoolSIdeal.main_arg1)), ?_, ?_⟩
  · exact PoolS.run m ρ
  · refine (θ_run _ _ _).mono (fun r h c => ?_) (Cert.PoolSRefIdeal.Value.run (F := Ideal) m' ρ')
    obtain ⟨h0, h1, h2, h3⟩ := hargs c
    refine ⟨(h c).1.trans ?_, (h c).2.1.trans ?_, (h c).2.2⟩
    · rw [Cert.PoolSRefIdeal.Read.val_main_v73_eq, h0, h1, h2, h3]
      funext i
      exact (congrArg _ (eq_ix3 i)).trans ((PoolSRef.result_apply _ _ _ _ (finite_rows_carried _ _ _ _ (hfin c)) (finite_rows_tokens _ _ _ _ (hfin c))
        (i 0) (i 1) (i 2)).trans (congrArg _ (eq_ix3 i).symm))
    · rw [Cert.PoolSRefIdeal.Read.val_main_v74_eq, h0, h1]
      rfl

end Cert.Proof

end
-- ==== Proof.lean ====
module

public import proofs.«01_k».proof.Defs
public import proofs.«01_k».proof.Proof.Gen.Topk
public import proofs.«01_k».proof.Proof.Gen.Topk.Skeleton
public import proofs.«01_k».proof.Proof.Gen.Topk.Launch
public import proofs.«01_k».proof.Proof.Gen.Topk.Points
public import proofs.«01_k».proof.Proof.Gen.Topk.Frame
public import proofs.«01_k».proof.Proof.Gen.TopkIdeal
public import proofs.«01_k».proof.Proof.Gen.TopkIdeal.Skeleton
public import proofs.«01_k».proof.Proof.Gen.TopkIdeal.Launch
public import proofs.«01_k».proof.Proof.Gen.TopkIdeal.Points
public import proofs.«01_k».proof.Proof.Gen.TopkIdeal.Frame
public import proofs.«01_k».proof.Proof.Gen.TopkRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSRefIdeal
public import proofs.«01_k».proof.Proof.Gen.MergeS
public import proofs.«01_k».proof.Proof.Gen.MergeS.Skeleton
public import proofs.«01_k».proof.Proof.Gen.MergeS.Launch
public import proofs.«01_k».proof.Proof.Gen.MergeS.Points
public import proofs.«01_k».proof.Proof.Gen.MergeS.Frame
public import proofs.«01_k».proof.Proof.Gen.MergeSIdeal
public import proofs.«01_k».proof.Proof.Gen.MergeSIdeal.Skeleton
public import proofs.«01_k».proof.Proof.Gen.MergeSIdeal.Launch
public import proofs.«01_k».proof.Proof.Gen.MergeSIdeal.Points
public import proofs.«01_k».proof.Proof.Gen.MergeSIdeal.Frame
public import proofs.«01_k».proof.Proof.Gen.MergeSRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.PoolS
public import proofs.«01_k».proof.Proof.Gen.PoolS.Skeleton
public import proofs.«01_k».proof.Proof.Gen.PoolS.Launch
public import proofs.«01_k».proof.Proof.Gen.PoolS.Points
public import proofs.«01_k».proof.Proof.Gen.PoolS.Frame
public import proofs.«01_k».proof.Proof.Gen.PoolSIdeal
public import proofs.«01_k».proof.Proof.Gen.PoolSIdeal.Skeleton
public import proofs.«01_k».proof.Proof.Gen.PoolSIdeal.Launch
public import proofs.«01_k».proof.Proof.Gen.PoolSIdeal.Points
public import proofs.«01_k».proof.Proof.Gen.PoolSIdeal.Frame
public import proofs.«01_k».proof.Proof.Gen.PoolSRefIdeal
public import proofs.«01_k».proof.Proof.Gen.Pre_finite
public import proofs.«01_k».proof.Proof.Gen.Pre_finite_rows
public import proofs.«01_k».proof.Proof.Gen.On_selected
public import proofs.«01_k».proof.Proof.Gen.TopkIdeal.Value
public import proofs.«01_k».proof.Proof.Gen.TopkRefIdeal.Run
public import proofs.«01_k».proof.Proof.Gen.TopkRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.ProjRefIdeal.Run
public import proofs.«01_k».proof.Proof.Gen.ProjRefIdeal.Read
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.MergeSIdeal.Value
public import proofs.«01_k».proof.Proof.Gen.MergeSRefIdeal.Run
public import proofs.«01_k».proof.Proof.Gen.MergeSRefIdeal.Read
public import proofs.«01_k».proof.Proof.Gen.ProjSRefIdeal.Run
public import proofs.«01_k».proof.Proof.Gen.ProjSRefIdeal.Read
public import proofs.«01_k».proof.Proof.Gen.PoolSIdeal.Value
public import proofs.«01_k».proof.Proof.Gen.PoolSRefIdeal.Run
public import proofs.«01_k».proof.Proof.Gen.PoolSRefIdeal.Read
public import proofs.«01_k».proof.Proof.TopkEquation
public import proofs.«01_k».proof.Proof.FfnEquation
public import proofs.«01_k».proof.Proof.MergeEquation
public import proofs.«01_k».proof.Proof.ProjEquation
public import proofs.«01_k».proof.Proof.PoolEquation
public import proofs.«01_k».proof.Proof.FfnSEquation
public import proofs.«01_k».proof.Proof.MergeSEquation
public import proofs.«01_k».proof.Proof.ProjSEquation
public import proofs.«01_k».proof.Proof.PoolSEquation
public import Idealize.ShloMosaic.Adequacy
public import Idealize.ShloMosaic.Init

@[expose] public section

noncomputable section

namespace Cert.Proof

open Idealize.ShloMosaic Idealize.SL.Sem Cert.Topk

theorem claim : Cert.Claim := ⟨Cert.Topk.Gen.facts, Cert.TopkIdeal.Gen.facts, Cert.TopkRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Pool.Gen.facts, Cert.PoolIdeal.Gen.facts, Cert.PoolRefIdeal.Gen.facts, Cert.FfnS.Gen.facts, Cert.FfnSIdeal.Gen.facts, Cert.FfnSRefIdeal.Gen.facts, Cert.MergeS.Gen.facts, Cert.MergeSIdeal.Gen.facts, Cert.MergeSRefIdeal.Gen.facts, Cert.ProjS.Gen.facts, Cert.ProjSIdeal.Gen.facts, Cert.ProjSRefIdeal.Gen.facts, Cert.PoolS.Gen.facts, Cert.PoolSIdeal.Gen.facts, Cert.PoolSRefIdeal.Gen.facts, Cert.Pre_finite.Gen.facts, Cert.Pre_finite_rows.Gen.facts, Cert.On_selected.Gen.facts,
  fun m ρ _ => Cert.Topk.Gen.frame m ρ,
  fun m ρ _ => Cert.TopkIdeal.Gen.frame m ρ,
  fun m ρ _ => (θ_run _ _ _).mono (fun r h => ⟨fun c => (h c).2, sem_eq_zero_of_no_sems (by decide) r.2⟩) (Cert.TopkRefIdeal.Value.run m ρ),
  fun m ρ _ => Cert.Ffn.Gen.frame m ρ,
  fun m ρ _ => Cert.FfnIdeal.Gen.frame m ρ,
  fun m ρ _ => (θ_run _ _ _).mono (fun r h => ⟨fun c => (h c).2, sem_eq_zero_of_no_sems (by decide) r.2⟩) (Cert.FfnRefIdeal.Value.run m ρ),
  fun m ρ _ => Cert.Merge.Gen.frame m ρ,
  fun m ρ _ => Cert.MergeIdeal.Gen.frame m ρ,
  fun m ρ _ => (θ_run _ _ _).mono (fun r h => ⟨fun c => (h c).2, sem_eq_zero_of_no_sems (by decide) r.2⟩) (Cert.MergeRefIdeal.Value.run m ρ),
  fun m ρ _ => Cert.Proj.Gen.frame m ρ,
  fun m ρ _ => Cert.ProjIdeal.Gen.frame m ρ,
  fun m ρ _ => (θ_run _ _ _).mono (fun r h => ⟨fun c => (h c).2.2.2.2.2.2.2.2.2.2.2.2, sem_eq_zero_of_no_sems (by decide) r.2⟩) (Cert.ProjRefIdeal.Value.run m ρ),
  fun m ρ _ => Cert.Pool.Gen.frame m ρ,
  fun m ρ _ => Cert.PoolIdeal.Gen.frame m ρ,
  fun m ρ _ => Cert.PoolIdeal.Gen.frame m ρ,
  fun m ρ _ => (θ_run _ _ _).mono (fun r h => ⟨fun c => (h c).2, sem_eq_zero_of_no_sems (by decide) r.2⟩) (Cert.PoolRefIdeal.Value.run m ρ),
  fun m ρ _ => (θ_run _ _ _).mono (fun r h => ⟨fun c => (h c).2, sem_eq_zero_of_no_sems (by decide) r.2⟩) (Cert.PoolRefIdeal.Value.run m ρ),
  fun m ρ _ => Cert.FfnS.Gen.frame m ρ,
  fun m ρ _ => Cert.FfnSIdeal.Gen.frame m ρ,
  fun m ρ _ => (θ_run _ _ _).mono (fun r h => ⟨fun c => (h c).2, sem_eq_zero_of_no_sems (by decide) r.2⟩) (Cert.FfnSRefIdeal.Value.run m ρ),
  fun m ρ _ => Cert.MergeS.Gen.frame m ρ,
  fun m ρ _ => Cert.MergeSIdeal.Gen.frame m ρ,
  fun m ρ _ => (θ_run _ _ _).mono (fun r h => ⟨fun c => (h c).2, sem_eq_zero_of_no_sems (by decide) r.2⟩) (Cert.MergeSRefIdeal.Value.run m ρ),
  fun m ρ _ => Cert.ProjS.Gen.frame m ρ,
  fun m ρ _ => Cert.ProjSIdeal.Gen.frame m ρ,
  fun m ρ _ => (θ_run _ _ _).mono (fun r h => ⟨fun c => (h c).2.2.2.2.2.2.2.2.2.2.2, sem_eq_zero_of_no_sems (by decide) r.2⟩) (Cert.ProjSRefIdeal.Value.run m ρ),
  fun m ρ _ => Cert.PoolS.Gen.frame m ρ,
  fun m ρ _ => Cert.PoolSIdeal.Gen.frame m ρ,
  fun m ρ _ => Cert.PoolSIdeal.Gen.frame m ρ,
  fun m ρ _ => (θ_run _ _ _).mono (fun r h => ⟨fun c => (h c).2.2, sem_eq_zero_of_no_sems (by decide) r.2⟩) (Cert.PoolSRefIdeal.Value.run m ρ),
  fun m ρ _ => (θ_run _ _ _).mono (fun r h => ⟨fun c => (h c).2.2, sem_eq_zero_of_no_sems (by decide) r.2⟩) (Cert.PoolSRefIdeal.Value.run m ρ),
  trivial, algebraic_topk, trivial, algebraic_ffn, trivial, algebraic_merge, trivial, algebraic_proj, trivial, algebraic_pool, trivial, algebraic_ffn_sample,
  trivial, algebraic_merge_sample, trivial, algebraic_proj_sample, trivial, algebraic_pool_sample⟩

end Cert.Proof

end
